-- ==== Defs.lean ====
def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadKernelIdeal_fin [hPre_fin : Cert.Pre_fin.Facts] (m : (ℓ : Loc Cert.HeadKernelIdeal.nD Cert.HeadKernelIdeal.τ Cert.HeadKernelIdeal.sig) → Buf (Elt Ideal) ℓ) : Prop :=
  ∀ c : Dev Cert.HeadKernelIdeal.nD,
    (Cert.Pre_fin.fn (F := Ideal) (m ((c.tc : Thread Cert.HeadKernelIdeal.nD Cert.HeadKernelIdeal.τ).loc Cert.HeadKernelIdeal.main_arg0)) (m ((c.tc : Thread Cert.HeadKernelIdeal.nD Cert.HeadKernelIdeal.τ).loc Cert.HeadKernelIdeal.main_arg1)) (m ((c.tc : Thread Cert.HeadKernelIdeal.nD Cert.HeadKernelIdeal.τ).loc Cert.HeadKernelIdeal.main_arg2))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_fin [hPre_fin : Cert.Pre_fin.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_fin.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_fin_ffn [hPre_fin_ffn : Cert.Pre_fin_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_fin_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_fin_ffn [hPre_fin_ffn : Cert.Pre_fin_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_fin_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_MixerKernel (m : (ℓ : Loc Cert.MixerKernel.nD Cert.MixerKernel.τ Cert.MixerKernel.sig) → Buf (Elt Bits) ℓ) : Prop :=
  True

def Pre_MixerKernelIdeal (m : (ℓ : Loc Cert.MixerKernelIdeal.nD Cert.MixerKernelIdeal.τ Cert.MixerKernelIdeal.sig) → Buf (Elt Ideal) ℓ) : Prop :=
  True

def Pre_MixerKernelIdeal_fin_mixer [hPre_fin_mixer : Cert.Pre_fin_mixer.Facts] (m : (ℓ : Loc Cert.MixerKernelIdeal.nD Cert.MixerKernelIdeal.τ Cert.MixerKernelIdeal.sig) → Buf (Elt Ideal) ℓ) : Prop :=
  ∀ c : Dev Cert.MixerKernelIdeal.nD,
    (Cert.Pre_fin_mixer.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14)) (m ((c.tc : Thread Cert.MixerKernelIdeal.nD Cert.MixerKernelIdeal.τ).loc Cert.MixerKernelIdeal.main_arg15))) = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_fin_mixer [hPre_fin_mixer : Cert.Pre_fin_mixer.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_fin_mixer.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10)) (m ((c.tc : Thread Cert.MixerReferenceIdeal.nD Cert.MixerReferenceIdeal.τ).loc Cert.MixerReferenceIdeal.main_arg11)) (m ((c.tc : Thread Cert.MixerReferenceIdeal.nD Cert.MixerReferenceIdeal.τ).loc Cert.MixerReferenceIdeal.main_arg12)) (m ((c.tc : Thread Cert.MixerReferenceIdeal.nD Cert.MixerReferenceIdeal.τ).loc Cert.MixerReferenceIdeal.main_arg13)) (m ((c.tc : Thread Cert.MixerReferenceIdeal.nD Cert.MixerReferenceIdeal.τ).loc Cert.MixerReferenceIdeal.main_arg14)) (m ((c.tc : Thread Cert.MixerReferenceIdeal.nD Cert.MixerReferenceIdeal.τ).loc Cert.MixerReferenceIdeal.main_arg15))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ r.2.sem = fun _ => 0)

def quiescent_HeadKernelIdeal_pre_fin [hHeadKernelIdeal : Cert.HeadKernelIdeal.Facts] [hPre_fin : Cert.Pre_fin.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal_fin m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def quiescent_HeadReferenceIdeal_pre_fin [hHeadReferenceIdeal : Cert.HeadReferenceIdeal.Facts] [hPre_fin : Cert.Pre_fin.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_fin m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_fin_ffn [hFfnKernelIdeal : Cert.FfnKernelIdeal.Facts] [hPre_fin_ffn : Cert.Pre_fin_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_fin_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_fin_ffn [hFfnReferenceIdeal : Cert.FfnReferenceIdeal.Facts] [hPre_fin_ffn : Cert.Pre_fin_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_fin_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MixerKernel [hMixerKernel : Cert.MixerKernel.Facts] : Prop :=
  ∀ (m : (ℓ : Loc Cert.MixerKernel.nD Cert.MixerKernel.τ Cert.MixerKernel.sig) → Buf (Elt Bits) ℓ) (g : Dev Cert.MixerKernel.nD → PrngReg), Pre_MixerKernel m →
    θ_run (Cert.MixerKernel.defs (F := Bits)) (onTc (τ := Cert.MixerKernel.τ) (Cert.MixerKernel.main (F := Bits))) ⟨m, fun _ => 0, g⟩ (fun r => (∀ c : Dev Cert.MixerKernel.nD,
      r.2.mem ((c.tc : Thread Cert.MixerKernel.nD Cert.MixerKernel.τ).loc Cert.MixerKernel.main_arg0) = m ((c.tc : Thread Cert.MixerKernel.nD Cert.MixerKernel.τ).loc Cert.MixerKernel.main_arg0)
      ∧ r.2.mem ((c.tc : Thread Cert.MixerKernel.nD Cert.MixerKernel.τ).loc Cert.MixerKernel.main_arg1) = m ((c.tc : Thread Cert.MixerKernel.nD Cert.MixerKernel.τ).loc Cert.MixerKernel.main_arg1)
      ∧ r.2.mem ((c.tc : Thread Cert.MixerKernel.nD Cert.MixerKernel.τ).loc Cert.MixerKernel.main_arg2) = m ((c.tc : Thread Cert.MixerKernel.nD Cert.MixerKernel.τ).loc Cert.MixerKernel.main_arg2)
      ∧ r.2.mem ((c.tc : Thread Cert.MixerKernel.nD Cert.MixerKernel.τ).loc Cert.MixerKernel.main_arg3) = m ((c.tc : Thread Cert.MixerKernel.nD Cert.MixerKernel.τ).loc Cert.MixerKernel.main_arg3)
      ∧ r.2.mem ((c.tc : Thread Cert.MixerKernel.nD Cert.MixerKernel.τ).loc Cert.MixerKernel.main_arg4) = m ((c.tc : Thread Cert.MixerKernel.nD Cert.MixerKernel.τ).loc Cert.MixerKernel.main_arg4)
      ∧ r.2.mem ((c.tc : Thread Cert.MixerKernel.nD Cert.MixerKernel.τ).loc Cert.MixerKernel.main_arg5) = m ((c.tc : Thread Cert.MixerKernel.nD Cert.MixerKernel.τ).loc Cert.MixerKernel.main_arg5)
      ∧ r.2.mem ((c.tc : Thread Cert.MixerKernel.nD Cert.MixerKernel.τ).loc Cert.MixerKernel.main_arg6) = m ((c.tc : Thread Cert.MixerKernel.nD Cert.MixerKernel.τ).loc Cert.MixerKernel.main_arg6)
      ∧ r.2.mem ((c.tc : Thread Cert.MixerKernel.nD Cert.MixerKernel.τ).loc Cert.MixerKernel.main_arg7) = m ((c.tc : Thread Cert.MixerKernel.nD Cert.MixerKernel.τ).loc Cert.MixerKernel.main_arg7)
      ∧ r.2.mem ((c.tc : Thread Cert.MixerKernel.nD Cert.MixerKernel.τ).loc Cert.MixerKernel.main_arg8) = m ((c.tc : Thread Cert.MixerKernel.nD Cert.MixerKernel.τ).loc Cert.MixerKernel.main_arg8)
      ∧ r.2.mem ((c.tc : Thread Cert.MixerKernel.nD Cert.MixerKernel.τ).loc Cert.MixerKernel.main_arg9) = m ((c.tc : Thread Cert.MixerKernel.nD Cert.MixerKernel.τ).loc Cert.MixerKernel.main_arg9)
      ∧ r.2.mem ((c.tc : Thread Cert.MixerKernel.nD Cert.MixerKernel.τ).loc Cert.MixerKernel.main_arg10) = m ((c.tc : Thread Cert.MixerKernel.nD Cert.MixerKernel.τ).loc Cert.MixerKernel.main_arg10)
      ∧ r.2.mem ((c.tc : Thread Cert.MixerKernel.nD Cert.MixerKernel.τ).loc Cert.MixerKernel.main_arg11) = m ((c.tc : Thread Cert.MixerKernel.nD Cert.MixerKernel.τ).loc Cert.MixerKernel.main_arg11)
      ∧ r.2.mem ((c.tc : Thread Cert.MixerKernel.nD Cert.MixerKernel.τ).loc Cert.MixerKernel.main_arg12) = m ((c.tc : Thread Cert.MixerKernel.nD Cert.MixerKernel.τ).loc Cert.MixerKernel.main_arg12)
      ∧ r.2.mem ((c.tc : Thread Cert.MixerKernel.nD Cert.MixerKernel.τ).loc Cert.MixerKernel.main_arg13) = m ((c.tc : Thread Cert.MixerKernel.nD Cert.MixerKernel.τ).loc Cert.MixerKernel.main_arg13)
      ∧ r.2.mem ((c.tc : Thread Cert.MixerKernel.nD Cert.MixerKernel.τ).loc Cert.MixerKernel.main_arg14) = m ((c.tc : Thread Cert.MixerKernel.nD Cert.MixerKernel.τ).loc Cert.MixerKernel.main_arg14)
      ∧ r.2.mem ((c.tc : Thread Cert.MixerKernel.nD Cert.MixerKernel.τ).loc Cert.MixerKernel.main_arg15) = m ((c.tc : Thread Cert.MixerKernel.nD Cert.MixerKernel.τ).loc Cert.MixerKernel.main_arg15))
      ∧ r.2.sem = fun _ => 0)

def quiescent_MixerKernelIdeal [hMixerKernelIdeal : Cert.MixerKernelIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
      ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
      ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
      ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
      ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
      ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
      ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13)
      ∧ r.2.mem ((c.tc : Thread Cert.MixerKernelIdeal.nD Cert.MixerKernelIdeal.τ).loc Cert.MixerKernelIdeal.main_arg14) = m ((c.tc : Thread Cert.MixerKernelIdeal.nD Cert.MixerKernelIdeal.τ).loc Cert.MixerKernelIdeal.main_arg14)
      ∧ r.2.mem ((c.tc : Thread Cert.MixerKernelIdeal.nD Cert.MixerKernelIdeal.τ).loc Cert.MixerKernelIdeal.main_arg15) = m ((c.tc : Thread Cert.MixerKernelIdeal.nD Cert.MixerKernelIdeal.τ).loc Cert.MixerKernelIdeal.main_arg15))
      ∧ r.2.sem = fun _ => 0)

def quiescent_MixerKernelIdeal_pre_fin_mixer [hMixerKernelIdeal : Cert.MixerKernelIdeal.Facts] [hPre_fin_mixer : Cert.Pre_fin_mixer.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal_fin_mixer m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
      ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
      ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
      ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
      ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
      ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
      ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13)
      ∧ r.2.mem ((c.tc : Thread Cert.MixerKernelIdeal.nD Cert.MixerKernelIdeal.τ).loc Cert.MixerKernelIdeal.main_arg14) = m ((c.tc : Thread Cert.MixerKernelIdeal.nD Cert.MixerKernelIdeal.τ).loc Cert.MixerKernelIdeal.main_arg14)
      ∧ r.2.mem ((c.tc : Thread Cert.MixerKernelIdeal.nD Cert.MixerKernelIdeal.τ).loc Cert.MixerKernelIdeal.main_arg15) = m ((c.tc : Thread Cert.MixerKernelIdeal.nD Cert.MixerKernelIdeal.τ).loc Cert.MixerKernelIdeal.main_arg15))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13)
      ∧ r.2.mem ((c.tc : Thread Cert.MixerReferenceIdeal.nD Cert.MixerReferenceIdeal.τ).loc Cert.MixerReferenceIdeal.main_arg14) = m ((c.tc : Thread Cert.MixerReferenceIdeal.nD Cert.MixerReferenceIdeal.τ).loc Cert.MixerReferenceIdeal.main_arg14)
      ∧ r.2.mem ((c.tc : Thread Cert.MixerReferenceIdeal.nD Cert.MixerReferenceIdeal.τ).loc Cert.MixerReferenceIdeal.main_arg15) = m ((c.tc : Thread Cert.MixerReferenceIdeal.nD Cert.MixerReferenceIdeal.τ).loc Cert.MixerReferenceIdeal.main_arg15))
      ∧ r.2.sem = fun _ => 0)

def quiescent_MixerReferenceIdeal_pre_fin_mixer [hMixerReferenceIdeal : Cert.MixerReferenceIdeal.Facts] [hPre_fin_mixer : Cert.Pre_fin_mixer.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_fin_mixer m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13)
      ∧ r.2.mem ((c.tc : Thread Cert.MixerReferenceIdeal.nD Cert.MixerReferenceIdeal.τ).loc Cert.MixerReferenceIdeal.main_arg14) = m ((c.tc : Thread Cert.MixerReferenceIdeal.nD Cert.MixerReferenceIdeal.τ).loc Cert.MixerReferenceIdeal.main_arg14)
      ∧ r.2.mem ((c.tc : Thread Cert.MixerReferenceIdeal.nD Cert.MixerReferenceIdeal.τ).loc Cert.MixerReferenceIdeal.main_arg15) = m ((c.tc : Thread Cert.MixerReferenceIdeal.nD Cert.MixerReferenceIdeal.τ).loc Cert.MixerReferenceIdeal.main_arg15))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def preserves_HeadKernel_HeadKernelIdeal : Prop :=
  True

def algebraic_HeadKernelIdeal_HeadReferenceIdeal_pre_fin [hHeadKernelIdeal : Cert.HeadKernelIdeal.Facts] [hHeadReferenceIdeal : Cert.HeadReferenceIdeal.Facts] [hPre_fin : Cert.Pre_fin.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal_fin m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)) →
    ∃ (v0 : (c : Dev Cert.HeadKernelIdeal.nD) → Buf (Elt Ideal) ((c.tc : Thread Cert.HeadKernelIdeal.nD Cert.HeadKernelIdeal.τ).loc Cert.HeadKernelIdeal.main_v3_0)) (v1 : (c : Dev Cert.HeadKernelIdeal.nD) → Buf (Elt Ideal) ((c.tc : Thread Cert.HeadKernelIdeal.nD Cert.HeadKernelIdeal.τ).loc Cert.HeadKernelIdeal.main_v3_1)) (v2 : (c : Dev Cert.HeadKernelIdeal.nD) → Buf (Elt Ideal) ((c.tc : Thread Cert.HeadKernelIdeal.nD Cert.HeadKernelIdeal.τ).loc Cert.HeadKernelIdeal.main_v3_2)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v3_0) = v0 c
          ∧ r.2.mem ((c.tc : Thread Cert.HeadKernelIdeal.nD Cert.HeadKernelIdeal.τ).loc Cert.HeadKernelIdeal.main_v3_1) = v1 c
          ∧ r.2.mem ((c.tc : Thread Cert.HeadKernelIdeal.nD Cert.HeadKernelIdeal.τ).loc Cert.HeadKernelIdeal.main_v3_2) = v2 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v51) = v0 c
          ∧ r.2.mem ((c.tc : Thread Cert.HeadReferenceIdeal.nD Cert.HeadReferenceIdeal.τ).loc Cert.HeadReferenceIdeal.main_v52) = v1 c
          ∧ r.2.mem ((c.tc : Thread Cert.HeadReferenceIdeal.nD Cert.HeadReferenceIdeal.τ).loc Cert.HeadReferenceIdeal.main_v53) = v2 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2))

def preserves_FfnKernel_FfnKernelIdeal : Prop :=
  True

def algebraic_FfnKernelIdeal_FfnReferenceIdeal_pre_fin_ffn [hFfnKernelIdeal : Cert.FfnKernelIdeal.Facts] [hFfnReferenceIdeal : Cert.FfnReferenceIdeal.Facts] [hPre_fin_ffn : Cert.Pre_fin_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_fin_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v47_0)) (v1 : (c : Dev Cert.FfnKernelIdeal.nD) → Buf (Elt Ideal) ((c.tc : Thread Cert.FfnKernelIdeal.nD Cert.FfnKernelIdeal.τ).loc Cert.FfnKernelIdeal.main_v47_1)) (v2 : (c : Dev Cert.FfnKernelIdeal.nD) → Buf (Elt Ideal) ((c.tc : Thread Cert.FfnKernelIdeal.nD Cert.FfnKernelIdeal.τ).loc Cert.FfnKernelIdeal.main_v47_2)) (v3 : (c : Dev Cert.FfnKernelIdeal.nD) → Buf (Elt Ideal) ((c.tc : Thread Cert.FfnKernelIdeal.nD Cert.FfnKernelIdeal.τ).loc Cert.FfnKernelIdeal.main_v47_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v47_0) = v0 c
          ∧ r.2.mem ((c.tc : Thread Cert.FfnKernelIdeal.nD Cert.FfnKernelIdeal.τ).loc Cert.FfnKernelIdeal.main_v47_1) = v1 c
          ∧ r.2.mem ((c.tc : Thread Cert.FfnKernelIdeal.nD Cert.FfnKernelIdeal.τ).loc Cert.FfnKernelIdeal.main_v47_2) = v2 c
          ∧ r.2.mem ((c.tc : Thread Cert.FfnKernelIdeal.nD Cert.FfnKernelIdeal.τ).loc Cert.FfnKernelIdeal.main_v47_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v53) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v58) = v2 c
          ∧ r.2.mem ((c.tc : Thread Cert.FfnReferenceIdeal.nD Cert.FfnReferenceIdeal.τ).loc Cert.FfnReferenceIdeal.main_v59) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MixerKernel_MixerKernelIdeal : Prop :=
  True

def algebraic_MixerKernelIdeal_MixerReferenceIdeal_pre_fin_mixer [hMixerKernelIdeal : Cert.MixerKernelIdeal.Facts] [hMixerReferenceIdeal : Cert.MixerReferenceIdeal.Facts] [hPre_fin_mixer : Cert.Pre_fin_mixer.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerKernelIdeal_fin_mixer m →
    (∀ c : Dev Cert.MixerKernelIdeal.nD,
      m' ((c.tc : Thread Cert.MixerReferenceIdeal.nD Cert.MixerReferenceIdeal.τ).loc Cert.MixerReferenceIdeal.main_arg0) = m ((c.tc : Thread Cert.MixerKernelIdeal.nD Cert.MixerKernelIdeal.τ).loc Cert.MixerKernelIdeal.main_arg0)
      ∧ m' ((c.tc : Thread Cert.MixerReferenceIdeal.nD Cert.MixerReferenceIdeal.τ).loc Cert.MixerReferenceIdeal.main_arg1) = m ((c.tc : Thread Cert.MixerKernelIdeal.nD Cert.MixerKernelIdeal.τ).loc Cert.MixerKernelIdeal.main_arg1)
      ∧ m' ((c.tc : Thread Cert.MixerReferenceIdeal.nD Cert.MixerReferenceIdeal.τ).loc Cert.MixerReferenceIdeal.main_arg2) = m ((c.tc : Thread Cert.MixerKernelIdeal.nD Cert.MixerKernelIdeal.τ).loc Cert.MixerKernelIdeal.main_arg2)
      ∧ m' ((c.tc : Thread Cert.MixerReferenceIdeal.nD Cert.MixerReferenceIdeal.τ).loc Cert.MixerReferenceIdeal.main_arg3) = m ((c.tc : Thread Cert.MixerKernelIdeal.nD Cert.MixerKernelIdeal.τ).loc Cert.MixerKernelIdeal.main_arg3)
      ∧ m' ((c.tc : Thread Cert.MixerReferenceIdeal.nD Cert.MixerReferenceIdeal.τ).loc Cert.MixerReferenceIdeal.main_arg4) = m ((c.tc : Thread Cert.MixerKernelIdeal.nD Cert.MixerKernelIdeal.τ).loc Cert.MixerKernelIdeal.main_arg4)
      ∧ m' ((c.tc : Thread Cert.MixerReferenceIdeal.nD Cert.MixerReferenceIdeal.τ).loc Cert.MixerReferenceIdeal.main_arg5) = m ((c.tc : Thread Cert.MixerKernelIdeal.nD Cert.MixerKernelIdeal.τ).loc Cert.MixerKernelIdeal.main_arg5)
      ∧ m' ((c.tc : Thread Cert.MixerReferenceIdeal.nD Cert.MixerReferenceIdeal.τ).loc Cert.MixerReferenceIdeal.main_arg6) = m ((c.tc : Thread Cert.MixerKernelIdeal.nD Cert.MixerKernelIdeal.τ).loc Cert.MixerKernelIdeal.main_arg6)
      ∧ m' ((c.tc : Thread Cert.MixerReferenceIdeal.nD Cert.MixerReferenceIdeal.τ).loc Cert.MixerReferenceIdeal.main_arg7) = m ((c.tc : Thread Cert.MixerKernelIdeal.nD Cert.MixerKernelIdeal.τ).loc Cert.MixerKernelIdeal.main_arg7)
      ∧ m' ((c.tc : Thread Cert.MixerReferenceIdeal.nD Cert.MixerReferenceIdeal.τ).loc Cert.MixerReferenceIdeal.main_arg8) = m ((c.tc : Thread Cert.MixerKernelIdeal.nD Cert.MixerKernelIdeal.τ).loc Cert.MixerKernelIdeal.main_arg8)
      ∧ m' ((c.tc : Thread Cert.MixerReferenceIdeal.nD Cert.MixerReferenceIdeal.τ).loc Cert.MixerReferenceIdeal.main_arg9) = m ((c.tc : Thread Cert.MixerKernelIdeal.nD Cert.MixerKernelIdeal.τ).loc Cert.MixerKernelIdeal.main_arg9)
      ∧ m' ((c.tc : Thread Cert.MixerReferenceIdeal.nD Cert.MixerReferenceIdeal.τ).loc Cert.MixerReferenceIdeal.main_arg10) = m ((c.tc : Thread Cert.MixerKernelIdeal.nD Cert.MixerKernelIdeal.τ).loc Cert.MixerKernelIdeal.main_arg10)
      ∧ m' ((c.tc : Thread Cert.MixerReferenceIdeal.nD Cert.MixerReferenceIdeal.τ).loc Cert.MixerReferenceIdeal.main_arg11) = m ((c.tc : Thread Cert.MixerKernelIdeal.nD Cert.MixerKernelIdeal.τ).loc Cert.MixerKernelIdeal.main_arg11)
      ∧ m' ((c.tc : Thread Cert.MixerReferenceIdeal.nD Cert.MixerReferenceIdeal.τ).loc Cert.MixerReferenceIdeal.main_arg12) = m ((c.tc : Thread Cert.MixerKernelIdeal.nD Cert.MixerKernelIdeal.τ).loc Cert.MixerKernelIdeal.main_arg12)
      ∧ m' ((c.tc : Thread Cert.MixerReferenceIdeal.nD Cert.MixerReferenceIdeal.τ).loc Cert.MixerReferenceIdeal.main_arg13) = m ((c.tc : Thread Cert.MixerKernelIdeal.nD Cert.MixerKernelIdeal.τ).loc Cert.MixerKernelIdeal.main_arg13)
      ∧ m' ((c.tc : Thread Cert.MixerReferenceIdeal.nD Cert.MixerReferenceIdeal.τ).loc Cert.MixerReferenceIdeal.main_arg14) = m ((c.tc : Thread Cert.MixerKernelIdeal.nD Cert.MixerKernelIdeal.τ).loc Cert.MixerKernelIdeal.main_arg14)
      ∧ m' ((c.tc : Thread Cert.MixerReferenceIdeal.nD Cert.MixerReferenceIdeal.τ).loc Cert.MixerReferenceIdeal.main_arg15) = m ((c.tc : Thread Cert.MixerKernelIdeal.nD Cert.MixerKernelIdeal.τ).loc Cert.MixerKernelIdeal.main_arg15)) →
    ∃ (v0 : (c : Dev Cert.MixerKernelIdeal.nD) → Buf (Elt Ideal) ((c.tc : Thread Cert.MixerKernelIdeal.nD Cert.MixerKernelIdeal.τ).loc Cert.MixerKernelIdeal.main_v148_2)) (v1 : (c : Dev Cert.MixerKernelIdeal.nD) → Buf (Elt Ideal) ((c.tc : Thread Cert.MixerKernelIdeal.nD Cert.MixerKernelIdeal.τ).loc Cert.MixerKernelIdeal.main_v148_3)) (v2 : (c : Dev Cert.MixerKernelIdeal.nD) → Buf (Elt Ideal) ((c.tc : Thread Cert.MixerKernelIdeal.nD Cert.MixerKernelIdeal.τ).loc Cert.MixerKernelIdeal.main_v148_4)) (v3 : (c : Dev Cert.MixerKernelIdeal.nD) → Buf (Elt Ideal) ((c.tc : Thread Cert.MixerKernelIdeal.nD Cert.MixerKernelIdeal.τ).loc Cert.MixerKernelIdeal.main_v148_7)) (v4 : (c : Dev Cert.MixerKernelIdeal.nD) → Buf (Elt Ideal) ((c.tc : Thread Cert.MixerKernelIdeal.nD Cert.MixerKernelIdeal.τ).loc Cert.MixerKernelIdeal.main_v148_8)) (v5 : (c : Dev Cert.MixerKernelIdeal.nD) → Buf (Elt Ideal) ((c.tc : Thread Cert.MixerKernelIdeal.nD Cert.MixerKernelIdeal.τ).loc Cert.MixerKernelIdeal.main_v148_9)) (v6 : (c : Dev Cert.MixerKernelIdeal.nD) → Buf (Elt Ideal) ((c.tc : Thread Cert.MixerKernelIdeal.nD Cert.MixerKernelIdeal.τ).loc Cert.MixerKernelIdeal.main_v148_10)) (v7 : (c : Dev Cert.MixerKernelIdeal.nD) → Buf (Elt Ideal) ((c.tc : Thread Cert.MixerKernelIdeal.nD Cert.MixerKernelIdeal.τ).loc Cert.MixerKernelIdeal.main_v148_11)) (v8 : (c : Dev Cert.MixerKernelIdeal.nD) → Buf (Elt Ideal) ((c.tc : Thread Cert.MixerKernelIdeal.nD Cert.MixerKernelIdeal.τ).loc Cert.MixerKernelIdeal.main_v148_12)) (v9 : (c : Dev Cert.MixerKernelIdeal.nD) → Buf (Elt Ideal) ((c.tc : Thread Cert.MixerKernelIdeal.nD Cert.MixerKernelIdeal.τ).loc Cert.MixerKernelIdeal.main_v148_13)) (v10 : (c : Dev Cert.MixerKernelIdeal.nD) → Buf (Elt Ideal) ((c.tc : Thread Cert.MixerKernelIdeal.nD Cert.MixerKernelIdeal.τ).loc Cert.MixerKernelIdeal.main_v148_14)) (v11 : (c : Dev Cert.MixerKernelIdeal.nD) → Buf (Elt Ideal) ((c.tc : Thread Cert.MixerKernelIdeal.nD Cert.MixerKernelIdeal.τ).loc Cert.MixerKernelIdeal.main_v148_15)),
      θ_run (Cert.MixerKernelIdeal.defs (F := Ideal)) (onTc (τ := Cert.MixerKernelIdeal.τ) (Cert.MixerKernelIdeal.main (F := Ideal))) ⟨m, fun _ => 0, g⟩ (fun r => ∀ c : Dev Cert.MixerKernelIdeal.nD,
          r.2.mem ((c.tc : Thread Cert.MixerKernelIdeal.nD Cert.MixerKernelIdeal.τ).loc Cert.MixerKernelIdeal.main_v148_2) = v0 c
          ∧ r.2.mem ((c.tc : Thread Cert.MixerKernelIdeal.nD Cert.MixerKernelIdeal.τ).loc Cert.MixerKernelIdeal.main_v148_3) = v1 c
          ∧ r.2.mem ((c.tc : Thread Cert.MixerKernelIdeal.nD Cert.MixerKernelIdeal.τ).loc Cert.MixerKernelIdeal.main_v148_4) = v2 c
          ∧ r.2.mem ((c.tc : Thread Cert.MixerKernelIdeal.nD Cert.MixerKernelIdeal.τ).loc Cert.MixerKernelIdeal.main_v148_7) = v3 c
          ∧ r.2.mem ((c.tc : Thread Cert.MixerKernelIdeal.nD Cert.MixerKernelIdeal.τ).loc Cert.MixerKernelIdeal.main_v148_8) = v4 c
          ∧ r.2.mem ((c.tc : Thread Cert.MixerKernelIdeal.nD Cert.MixerKernelIdeal.τ).loc Cert.MixerKernelIdeal.main_v148_9) = v5 c
          ∧ r.2.mem ((c.tc : Thread Cert.MixerKernelIdeal.nD Cert.MixerKernelIdeal.τ).loc Cert.MixerKernelIdeal.main_v148_10) = v6 c
          ∧ r.2.mem ((c.tc : Thread Cert.MixerKernelIdeal.nD Cert.MixerKernelIdeal.τ).loc Cert.MixerKernelIdeal.main_v148_11) = v7 c
          ∧ r.2.mem ((c.tc : Thread Cert.MixerKernelIdeal.nD Cert.MixerKernelIdeal.τ).loc Cert.MixerKernelIdeal.main_v148_12) = v8 c
          ∧ r.2.mem ((c.tc : Thread Cert.MixerKernelIdeal.nD Cert.MixerKernelIdeal.τ).loc Cert.MixerKernelIdeal.main_v148_13) = v9 c
          ∧ r.2.mem ((c.tc : Thread Cert.MixerKernelIdeal.nD Cert.MixerKernelIdeal.τ).loc Cert.MixerKernelIdeal.main_v148_14) = v10 c
          ∧ r.2.mem ((c.tc : Thread Cert.MixerKernelIdeal.nD Cert.MixerKernelIdeal.τ).loc Cert.MixerKernelIdeal.main_v148_15) = v11 c
          ∧ r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
          ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
          ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
          ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
          ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
          ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
          ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
          ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
          ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
          ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
          ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
          ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
          ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
          ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13)
          ∧ r.2.mem ((c.tc : Thread Cert.MixerKernelIdeal.nD Cert.MixerKernelIdeal.τ).loc Cert.MixerKernelIdeal.main_arg14) = m ((c.tc : Thread Cert.MixerKernelIdeal.nD Cert.MixerKernelIdeal.τ).loc Cert.MixerKernelIdeal.main_arg14)
          ∧ r.2.mem ((c.tc : Thread Cert.MixerKernelIdeal.nD Cert.MixerKernelIdeal.τ).loc Cert.MixerKernelIdeal.main_arg15) = m ((c.tc : Thread Cert.MixerKernelIdeal.nD Cert.MixerKernelIdeal.τ).loc Cert.MixerKernelIdeal.main_arg15))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v275) = v0 c
          ∧ r.2.mem ((c.tc : Thread Cert.MixerReferenceIdeal.nD Cert.MixerReferenceIdeal.τ).loc Cert.MixerReferenceIdeal.main_v277) = v1 c
          ∧ r.2.mem ((c.tc : Thread Cert.MixerReferenceIdeal.nD Cert.MixerReferenceIdeal.τ).loc Cert.MixerReferenceIdeal.main_v279) = v2 c
          ∧ r.2.mem ((c.tc : Thread Cert.MixerReferenceIdeal.nD Cert.MixerReferenceIdeal.τ).loc Cert.MixerReferenceIdeal.main_v280) = v3 c
          ∧ r.2.mem ((c.tc : Thread Cert.MixerReferenceIdeal.nD Cert.MixerReferenceIdeal.τ).loc Cert.MixerReferenceIdeal.main_v281) = v4 c
          ∧ r.2.mem ((c.tc : Thread Cert.MixerReferenceIdeal.nD Cert.MixerReferenceIdeal.τ).loc Cert.MixerReferenceIdeal.main_v282) = v5 c
          ∧ r.2.mem ((c.tc : Thread Cert.MixerReferenceIdeal.nD Cert.MixerReferenceIdeal.τ).loc Cert.MixerReferenceIdeal.main_v283) = v6 c
          ∧ r.2.mem ((c.tc : Thread Cert.MixerReferenceIdeal.nD Cert.MixerReferenceIdeal.τ).loc Cert.MixerReferenceIdeal.main_v284) = v7 c
          ∧ r.2.mem ((c.tc : Thread Cert.MixerReferenceIdeal.nD Cert.MixerReferenceIdeal.τ).loc Cert.MixerReferenceIdeal.main_v229) = v8 c
          ∧ r.2.mem ((c.tc : Thread Cert.MixerReferenceIdeal.nD Cert.MixerReferenceIdeal.τ).loc Cert.MixerReferenceIdeal.main_v286) = v9 c
          ∧ r.2.mem ((c.tc : Thread Cert.MixerReferenceIdeal.nD Cert.MixerReferenceIdeal.τ).loc Cert.MixerReferenceIdeal.main_v216) = v10 c
          ∧ r.2.mem ((c.tc : Thread Cert.MixerReferenceIdeal.nD Cert.MixerReferenceIdeal.τ).loc Cert.MixerReferenceIdeal.main_v287) = v11 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11)
          ∧ r.2.mem ((c.tc : Thread Cert.MixerReferenceIdeal.nD Cert.MixerReferenceIdeal.τ).loc Cert.MixerReferenceIdeal.main_arg12) = m' ((c.tc : Thread Cert.MixerReferenceIdeal.nD Cert.MixerReferenceIdeal.τ).loc Cert.MixerReferenceIdeal.main_arg12)
          ∧ r.2.mem ((c.tc : Thread Cert.MixerReferenceIdeal.nD Cert.MixerReferenceIdeal.τ).loc Cert.MixerReferenceIdeal.main_arg13) = m' ((c.tc : Thread Cert.MixerReferenceIdeal.nD Cert.MixerReferenceIdeal.τ).loc Cert.MixerReferenceIdeal.main_arg13)
          ∧ r.2.mem ((c.tc : Thread Cert.MixerReferenceIdeal.nD Cert.MixerReferenceIdeal.τ).loc Cert.MixerReferenceIdeal.main_arg14) = m' ((c.tc : Thread Cert.MixerReferenceIdeal.nD Cert.MixerReferenceIdeal.τ).loc Cert.MixerReferenceIdeal.main_arg14)
          ∧ r.2.mem ((c.tc : Thread Cert.MixerReferenceIdeal.nD Cert.MixerReferenceIdeal.τ).loc Cert.MixerReferenceIdeal.main_arg15) = m' ((c.tc : Thread Cert.MixerReferenceIdeal.nD Cert.MixerReferenceIdeal.τ).loc Cert.MixerReferenceIdeal.main_arg15))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)) →
    ∃ (v0 : (c : Dev Cert.FwdKernelIdeal.nD) → Buf (Elt Ideal) ((c.tc : Thread Cert.FwdKernelIdeal.nD Cert.FwdKernelIdeal.τ).loc Cert.FwdKernelIdeal.main_v6_0)) (v1 : (c : Dev Cert.FwdKernelIdeal.nD) → Buf (Elt Ideal) ((c.tc : Thread Cert.FwdKernelIdeal.nD Cert.FwdKernelIdeal.τ).loc Cert.FwdKernelIdeal.main_v6_1)) (v2 : (c : Dev Cert.FwdKernelIdeal.nD) → Buf (Elt Ideal) ((c.tc : Thread Cert.FwdKernelIdeal.nD Cert.FwdKernelIdeal.τ).loc Cert.FwdKernelIdeal.main_v6_2)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v6_0) = v0 c
          ∧ r.2.mem ((c.tc : Thread Cert.FwdKernelIdeal.nD Cert.FwdKernelIdeal.τ).loc Cert.FwdKernelIdeal.main_v6_1) = v1 c
          ∧ r.2.mem ((c.tc : Thread Cert.FwdKernelIdeal.nD Cert.FwdKernelIdeal.τ).loc Cert.FwdKernelIdeal.main_v6_2) = v2 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v26) = v0 c
          ∧ r.2.mem ((c.tc : Thread Cert.FwdReferenceIdeal.nD Cert.FwdReferenceIdeal.τ).loc Cert.FwdReferenceIdeal.main_v28) = v1 c
          ∧ r.2.mem ((c.tc : Thread Cert.FwdReferenceIdeal.nD Cert.FwdReferenceIdeal.τ).loc Cert.FwdReferenceIdeal.main_v30) = v2 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v0)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v0) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v3) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def Claim : Prop :=
  ∃ (hHeadKernel : Cert.HeadKernel.Facts) (hHeadKernelIdeal : Cert.HeadKernelIdeal.Facts) (hHeadReferenceIdeal : Cert.HeadReferenceIdeal.Facts) (hFfnKernel : Cert.FfnKernel.Facts) (hFfnKernelIdeal : Cert.FfnKernelIdeal.Facts) (hFfnReferenceIdeal : Cert.FfnReferenceIdeal.Facts) (hMixerKernel : Cert.MixerKernel.Facts) (hMixerKernelIdeal : Cert.MixerKernelIdeal.Facts) (hMixerReferenceIdeal : Cert.MixerReferenceIdeal.Facts) (hFwdKernel : Cert.FwdKernel.Facts) (hFwdKernelIdeal : Cert.FwdKernelIdeal.Facts) (hFwdReferenceIdeal : Cert.FwdReferenceIdeal.Facts) (hWgradKernel : Cert.WgradKernel.Facts) (hWgradKernelIdeal : Cert.WgradKernelIdeal.Facts) (hWgradReferenceIdeal : Cert.WgradReferenceIdeal.Facts) (hPre_fin : Cert.Pre_fin.Facts) (hPre_fin_ffn : Cert.Pre_fin_ffn.Facts) (hPre_fin_mixer : Cert.Pre_fin_mixer.Facts),
    quiescent_HeadKernel (hHeadKernel := hHeadKernel)
    ∧ quiescent_HeadKernelIdeal (hHeadKernelIdeal := hHeadKernelIdeal)
    ∧ quiescent_HeadKernelIdeal_pre_fin (hHeadKernelIdeal := hHeadKernelIdeal) (hPre_fin := hPre_fin)
    ∧ quiescent_HeadReferenceIdeal (hHeadReferenceIdeal := hHeadReferenceIdeal)
    ∧ quiescent_HeadReferenceIdeal_pre_fin (hHeadReferenceIdeal := hHeadReferenceIdeal) (hPre_fin := hPre_fin)
    ∧ quiescent_FfnKernel (hFfnKernel := hFfnKernel)
    ∧ quiescent_FfnKernelIdeal (hFfnKernelIdeal := hFfnKernelIdeal)
    ∧ quiescent_FfnKernelIdeal_pre_fin_ffn (hFfnKernelIdeal := hFfnKernelIdeal) (hPre_fin_ffn := hPre_fin_ffn)
    ∧ quiescent_FfnReferenceIdeal (hFfnReferenceIdeal := hFfnReferenceIdeal)
    ∧ quiescent_FfnReferenceIdeal_pre_fin_ffn (hFfnReferenceIdeal := hFfnReferenceIdeal) (hPre_fin_ffn := hPre_fin_ffn)
    ∧ quiescent_MixerKernel (hMixerKernel := hMixerKernel)
    ∧ quiescent_MixerKernelIdeal (hMixerKernelIdeal := hMixerKernelIdeal)
    ∧ quiescent_MixerKernelIdeal_pre_fin_mixer (hMixerKernelIdeal := hMixerKernelIdeal) (hPre_fin_mixer := hPre_fin_mixer)
    ∧ quiescent_MixerReferenceIdeal (hMixerReferenceIdeal := hMixerReferenceIdeal)
    ∧ quiescent_MixerReferenceIdeal_pre_fin_mixer (hMixerReferenceIdeal := hMixerReferenceIdeal) (hPre_fin_mixer := hPre_fin_mixer)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ preserves_HeadKernel_HeadKernelIdeal
    ∧ algebraic_HeadKernelIdeal_HeadReferenceIdeal_pre_fin (hHeadKernelIdeal := hHeadKernelIdeal) (hHeadReferenceIdeal := hHeadReferenceIdeal) (hPre_fin := hPre_fin)
    ∧ preserves_FfnKernel_FfnKernelIdeal
    ∧ algebraic_FfnKernelIdeal_FfnReferenceIdeal_pre_fin_ffn (hFfnKernelIdeal := hFfnKernelIdeal) (hFfnReferenceIdeal := hFfnReferenceIdeal) (hPre_fin_ffn := hPre_fin_ffn)
    ∧ preserves_MixerKernel_MixerKernelIdeal
    ∧ algebraic_MixerKernelIdeal_MixerReferenceIdeal_pre_fin_mixer (hMixerKernelIdeal := hMixerKernelIdeal) (hMixerReferenceIdeal := hMixerReferenceIdeal) (hPre_fin_mixer := hPre_fin_mixer)
    ∧ preserves_FwdKernel_FwdKernelIdeal
    ∧ algebraic_FwdKernelIdeal_FwdReferenceIdeal (hFwdKernelIdeal := hFwdKernelIdeal) (hFwdReferenceIdeal := hFwdReferenceIdeal)
    ∧ preserves_WgradKernel_WgradKernelIdeal
    ∧ algebraic_WgradKernelIdeal_WgradReferenceIdeal (hWgradKernelIdeal := hWgradKernelIdeal) (hWgradReferenceIdeal := hWgradReferenceIdeal)
-- ==== Pre_fin.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S2x2048x1024 .f32) (main_arg2 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_fin_ffn.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2x2048x1024 .f32 := Host.absf main_arg4
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  main_v23

def fn {F : FTy → Type} [FloatOps F] (main_arg0 : FVec F S2x2048x1024 .f32) (main_arg1 : FVec F S1024 .f32) (main_arg2 : FVec F S1024x5632 .f32) (main_arg3 : FVec F S2816x1024 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_fin_mixer.lean ====
abbrev S2x2048x1024 : Shape := ⟨3, ![2, 2048, 1024]⟩
abbrev S1024 : Shape := ⟨1, ![1024]⟩
abbrev S1024x1792 : Shape := ⟨2, ![1024, 1792]⟩
abbrev S31x384 : Shape := ⟨2, ![31, 384]⟩
abbrev S384 : Shape := ⟨1, ![384]⟩
abbrev S384x384 : Shape := ⟨2, ![384, 384]⟩
abbrev S4x128x128 : Shape := ⟨3, ![4, 128, 128]⟩
abbrev S4x128 : Shape := ⟨2, ![4, 128]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1792 : S_.BroadcastsInDim S1024x1792 (![] : Fin 0 → Fin S1024x1792.rank)
  reducesTo_S1024x1792_S_d0_1 : S1024x1792.ReducesTo [0, 1] S_
  bcast_S_S31x384 : S_.BroadcastsInDim S31x384 (![] : Fin 0 → Fin S31x384.rank)
  reducesTo_S31x384_S_d0_1 : S31x384.ReducesTo [0, 1] S_
  bcast_S_S384 : S_.BroadcastsInDim S384 (![] : Fin 0 → Fin S384.rank)
  reducesTo_S384_S_d0 : S384.ReducesTo [0] S_
  bcast_S_S384x384 : S_.BroadcastsInDim S384x384 (![] : Fin 0 → Fin S384x384.rank)
  reducesTo_S384x384_S_d0_1 : S384x384.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S384x384 .f32) (main_arg14 : FVec F S1024x1024 .f32) (main_arg15 : FVec F S2x2048x1024 .f32) (main_v33 : IVec S_ 1) : IVec S_ 1 :=
  let main_v34 : FVec F S384x384 .f32 := Host.absf main_arg7
  let main_cst_12 : FVec F S_ .f32 := constant S_ .f32 0x7F800000#32
  let main_v35 : FVec F S384x384 .f32 := broadcastInDim S384x384 ![] bcast_S_S384x384 main_cst_12
  let main_v36 : IVec S384x384 1 := cmpf .olt main_v34 main_v35
  let main_c_13 : IVec S_ 1 := constantI S_ 1 1#1
  let main_v37 : IVec S_ 1 := (fun x v => Host.reduce IntOp.andi x v reducesTo_S384x384_S_d0_1 h_S_) main_v36 main_c_13
  let main_v38 : IVec S_ 1 := andi main_v33 main_v37
  let main_v39 : FVec F S1024x1024 .f32 := Host.absf main_arg14
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S2x2048x1024 .f32 := Host.absf main_arg15
  let main_cst_16 : FVec F S_ .f32 := constant S_ .f32 0x7F800000#32
  let main_v45 : FVec F S2x2048x1024 .f32 := broadcastInDim S2x2048x1024 ![] bcast_S_S2x2048x1024 main_cst_16
  let main_v46 : IVec S2x2048x1024 1 := cmpf .olt main_v44 main_v45
  let main_c_17 : IVec S_ 1 := constantI S_ 1 1#1
  let main_v47 : IVec S_ 1 := (fun x v => Host.reduce IntOp.andi x v reducesTo_S2x2048x1024_S_d0_1_2 h_S_) main_v46 main_c_17
  let main_v48 : IVec S_ 1 := andi main_v43 main_v47
  main_v48

def fn_part1 {F : FTy → Type} [FloatOps F] (main_arg4 : FVec F S384 .f32) (main_arg5 : FVec F S384 .f32) (main_arg6 : FVec F S384 .f32) (main_arg7 : FVec F S384x384 .f32) (main_arg14 : FVec F S1024x1024 .f32) (main_arg15 : FVec F S2x2048x1024 .f32) (main_v13 : IVec S_ 1) (main_v16 : IVec S31x384 1) : IVec S_ 1 :=
  let main_c_5 : IVec S_ 1 := constantI S_ 1 1#1
  let main_v17 : IVec S_ 1 := (fun x v => Host.reduce IntOp.andi x v reducesTo_S31x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg14 main_arg15 main_v33

def fn {F : FTy → Type} [FloatOps F] (main_arg0 : FVec F S2x2048x1024 .f32) (main_arg1 : FVec F S1024 .f32) (main_arg2 : FVec F S1024x1792 .f32) (main_arg3 : FVec F S31x384 .f32) (main_arg4 : FVec F S384 .f32) (main_arg5 : FVec F S384 .f32) (main_arg6 : FVec F S384 .f32) (main_arg7 : FVec F S384x384 .f32) (main_arg8 : FVec F S384 .f32) (main_arg9 : FVec F S384 .f32) (main_arg10 : FVec F S4x128x128 .f32) (main_arg11 : FVec F S4x128 .f32) (main_arg12 : FVec F S4x64x64 .f32) (main_arg13 : FVec F S256 .f32) (main_arg14 : FVec F S1024x1024 .f32) (main_arg15 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1792 .f32 := Host.absf main_arg2
  let main_cst_2 : FVec F S_ .f32 := constant S_ .f32 0x7F800000#32
  let main_v10 : FVec F S1024x1792 .f32 := broadcastInDim S1024x1792 ![] bcast_S_S1024x1792 main_cst_2
  let main_v11 : IVec S1024x1792 1 := cmpf .olt main_v9 main_v10
  let main_c_3 : IVec S_ 1 := constantI S_ 1 1#1
  let main_v12 : IVec S_ 1 := (fun x v => Host.reduce IntOp.andi x v reducesTo_S1024x1792_S_d0_1 h_S_) main_v11 main_c_3
  let main_v13 : IVec S_ 1 := andi main_v8 main_v12
  let main_v14 : FVec F S31x384 .f32 := Host.absf main_arg3
  let main_cst_4 : FVec F S_ .f32 := constant S_ .f32 0x7F800000#32
  let main_v15 : FVec F S31x384 .f32 := broadcastInDim S31x384 ![] bcast_S_S31x384 main_cst_4
  let main_v16 : IVec S31x384 1 := cmpf .olt main_v14 main_v15
  fn_part1 (F := F) main_arg4 main_arg5 main_arg6 main_arg7 main_arg14 main_arg15 main_v13 main_v16
-- ==== HeadKernel.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 9
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1, .f32⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v54 : BitVec 1 := Scalar.cmpi .eq arg0 c7_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadReferenceIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1 : Shape := ⟨2, ![1, 1]⟩
abbrev S4096x1024 : Shape := ⟨2, ![4096, 1024]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S1x1, .f32⟩
  | .hbm, ⟨72, _⟩ => ⟨S4096x1024, .f32⟩
  | .hbm, ⟨73, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== FfnKernel.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x2816x1024 : Shape := ⟨3, ![1, 2816, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S512x1024 : Shape := ⟨2, ![512, 1024]⟩
abbrev S2x512x1408 : Shape := ⟨3, ![2, 512, 1408]⟩
abbrev S1408x1024 : Shape := ⟨2, ![1408, 1024]⟩
abbrev S512x1408 : Shape := ⟨2, ![512, 1408]⟩
abbrev S1x512x1408 : Shape := ⟨3, ![1, 512, 1408]⟩
abbrev S1x1408x1024 : Shape := ⟨3, ![1, 1408, 1024]⟩
abbrev S512 : Shape := ⟨1, ![512]⟩
abbrev S512x1 : Shape := ⟨2, ![512, 1]⟩

abbrev nBuf : Space → Nat
  | .hbm => 64
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S5632x1024, .f32⟩
  | .hbm, ⟨6, _⟩ => ⟨S5632x1024, .bf16⟩
  | .hbm, ⟨7, _⟩ => ⟨S2x2816x1024, .bf16⟩
  | .hbm, ⟨8, _⟩ => ⟨S2816x1024, .bf16⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1x2816x1024, .bf16⟩
  | .hbm, ⟨29, _⟩ => ⟨S2816x1024, .bf16⟩
  | .hbm, ⟨30, _⟩ => ⟨S4096x2816, .f32⟩
  | .hbm, ⟨31, _⟩ => ⟨S1x2816x1024, .bf16⟩
  | .hbm, ⟨32, _⟩ => ⟨S2816x1024, .bf16⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .bf16⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .bf16⟩
  | .hbm, ⟨56, _⟩ => ⟨S1x4096x2816, .bf16⟩
  | .hbm, ⟨57, _⟩ => ⟨S1x4096x2816, .bf16⟩
  | .hbm, ⟨58, _⟩ => ⟨S2x4096x2816, .bf16⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S2x4096x2816, .bf16⟩
  | .hbm, ⟨63, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x512x1408, .bf16⟩
  | .local _ .vmem, ⟨5, _⟩ => ⟨S2x512x1408, .bf16⟩
  | .local _ .vmem, ⟨6, _⟩ => ⟨S1x1024, .f32⟩
  | .local _ .vmem, ⟨7, _⟩ => ⟨S2x2816x1024, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S2x512x1408, .bf16⟩
  | .local _ .vmem, ⟨14, _⟩ => ⟨S2x512x1408, .bf16⟩
  | .local _ .vmem, ⟨15, _⟩ => ⟨S1x1024, .f32⟩
  | .local _ .vmem, ⟨16, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev main_v47_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1408_i32 : BitVec 32 := 1408#32
  let v7 : BitVec 32 := Scalar.muli arg1 c1408_i32
  v7
def k0_off1 (i : grid0.Coords) : Fin 2 → Nat :=
  let arg1 : BitVec 32 := BitVec.ofNat 32 (i 1).val
  let c1408_i32 : BitVec 32 := 1408#32
  let v7 : BitVec 32 := Scalar.muli arg1 c1408_i32
  let v8 : BitVec 32 := v7
  let v10 : Index := Scalar.indexCast v8
  let c0_3 : Index := 0#32
  ![v10.toNat, 0]
def k0_off2 (i : grid0.Coords) : Fin 3 → Nat :=
  let c0_19 : Index := 0#32
  let arg1 : BitVec 32 := BitVec.ofNat 32 (i 1).val
  let c1408_i32 : BitVec 32 := 1408#32
  let v7 : BitVec 32 := Scalar.muli arg1 c1408_i32
  let v8 : BitVec 32 := v7
  let v34 : Index := Scalar.indexCast v8
  let c0_20 : Index := 0#32
  ![0, v34.toNat, 0]
def k0_off3 (i : grid0.Coords) : Fin 3 → Nat :=
  let c1_22 : Index := 1#32
  let arg1 : BitVec 32 := BitVec.ofNat 32 (i 1).val
  let c1408_i32 : BitVec 32 := 1408#32
  let v7 : BitVec 32 := Scalar.muli arg1 c1408_i32
  let v8 : BitVec 32 := v7
  let v38 : Index := Scalar.indexCast v8
  let c0_23 : Index := 0#32
  ![1, v38.toNat, 0]
def k0_cond3 (i : grid0.Coords) : BitVec 1 :=
  let arg1 : BitVec 32 := BitVec.ofNat 32 (i 1).val
  let c1_i32 : BitVec 32 := 1#32
  let v47 : BitVec 1 := Scalar.cmpi .eq arg1 c1_i32
  let v48 : BitVec 32 := Scalar.extui v47
  let c0_i32_27 : BitVec 32 := 0#32
  let v49 : BitVec 1 := Scalar.cmpi .ne v48 c0_i32_27
  v49

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnReferenceIdeal.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048x5632 : Shape := ⟨3, ![2, 2048, 5632]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2x2816 : Shape := ⟨3, ![4096, 2, 2816]⟩
abbrev S2x4096x2816 : Shape := ⟨3, ![2, 4096, 2816]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S_, .f32⟩
  | .hbm, ⟨6, _⟩ => ⟨S2x2048x5632, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x5632, .f32⟩
  | .hbm, ⟨28, _⟩ => ⟨S2x2048x5632, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x5632, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1, .f32⟩
  | .hbm, ⟨73, _⟩ => ⟨S_, .f32⟩
  | .hbm, ⟨74, _⟩ => ⟨S2x2048x1, .f32⟩
  | .hbm, ⟨75, _⟩ => ⟨S2x2048x1, .f32⟩
  | .hbm, ⟨76, _⟩ => ⟨S_, .f32⟩
  | .hbm, ⟨77, _⟩ => ⟨S2x2048, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | .hbm, ⟨86, _⟩ => ⟨S4096x2x2816, .f32⟩
  | .hbm, ⟨87, _⟩ => ⟨S2x4096x2816, .f32⟩
  | .hbm, ⟨88, _⟩ => ⟨S2x4096x2816, .bf16⟩
  | .hbm, ⟨89, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== MixerKernel.lean ====
abbrev S2x2048x1024 : Shape := ⟨3, ![2, 2048, 1024]⟩
abbrev S1024 : Shape := ⟨1, ![1024]⟩
abbrev S1024x1792 : Shape := ⟨2, ![1024, 1792]⟩
abbrev S31x384 : Shape := ⟨2, ![31, 384]⟩
abbrev S384 : Shape := ⟨1, ![384]⟩
abbrev S384x384 : Shape := ⟨2, ![384, 384]⟩
abbrev S4x128x128 : Shape := ⟨3, ![4, 128, 128]⟩
abbrev S4x128 : Shape := ⟨2, ![4, 128]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩
abbrev S128x128 : Shape := ⟨2, ![128, 128]⟩
abbrev S1x128x128 : Shape := ⟨3, ![1, 128, 128]⟩
abbrev S1x1024 : Shape := ⟨2, ![1, 1024]⟩
abbrev S1x384 : Shape := ⟨2, ![1, 384]⟩
abbrev S128x4 : Shape := ⟨2, ![128, 4]⟩
abbrev S128x4x96 : Shape := ⟨3, ![128, 4, 96]⟩
abbrev S128x384 : Shape := ⟨2, ![128, 384]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S1792x1024 : Shape := ⟨2, ![1792, 1024]⟩
abbrev S4096x1024 : Shape := ⟨2, ![4096, 1024]⟩
abbrev S2x2048 : Shape := ⟨2, ![2, 2048]⟩
abbrev S2x2048x1 : Shape := ⟨3, ![2, 2048, 1]⟩
abbrev S1x1x1024 : Shape := ⟨3, ![1, 1, 1024]⟩
abbrev S2x2048x1792 : Shape := ⟨3, ![2, 2048, 1792]⟩
abbrev S2x2048x768 : Shape := ⟨3, ![2, 2048, 768]⟩
abbrev S2x2048x384 : Shape := ⟨3, ![2, 2048, 384]⟩
abbrev S2x2078x384 : Shape := ⟨3, ![2, 2078, 384]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2x2048x31x384 : Shape := ⟨4, ![2, 2048, 31, 384]⟩
abbrev S384x2x2048 : Shape := ⟨3, ![384, 2, 2048]⟩
abbrev S1x1x384 : Shape := ⟨3, ![1, 1, 384]⟩
abbrev S4096x384 : Shape := ⟨2, ![4096, 384]⟩
abbrev S2x2048x256 : Shape := ⟨3, ![2, 2048, 256]⟩
abbrev S2x1x256 : Shape := ⟨3, ![2, 1, 256]⟩
abbrev S2x2049x256 : Shape := ⟨3, ![2, 2049, 256]⟩
abbrev S2x2049x64 : Shape := ⟨3, ![2, 2049, 64]⟩
abbrev S2x2048x64 : Shape := ⟨3, ![2, 2048, 64]⟩
abbrev S2x1x64 : Shape := ⟨3, ![2, 1, 64]⟩
abbrev S2x2047x64 : Shape := ⟨3, ![2, 2047, 64]⟩
abbrev S1x2048x1 : Shape := ⟨3, ![1, 2048, 1]⟩
abbrev S2x3x64 : Shape := ⟨3, ![2, 3, 64]⟩
abbrev S2x2045x64 : Shape := ⟨3, ![2, 2045, 64]⟩
abbrev S2x7x64 : Shape := ⟨3, ![2, 7, 64]⟩
abbrev S2x2041x64 : Shape := ⟨3, ![2, 2041, 64]⟩
abbrev S2x15x64 : Shape := ⟨3, ![2, 15, 64]⟩
abbrev S2x2033x64 : Shape := ⟨3, ![2, 2033, 64]⟩
abbrev S2x2048x1x64 : Shape := ⟨4, ![2, 2048, 1, 64]⟩
abbrev S2x2048x4x64 : Shape := ⟨4, ![2, 2048, 4, 64]⟩
abbrev S4096x256 : Shape := ⟨2, ![4096, 256]⟩
abbrev S4096x1792 : Shape := ⟨2, ![4096, 1792]⟩
abbrev S256x1024 : Shape := ⟨2, ![256, 1024]⟩
abbrev S256x1792 : Shape := ⟨2, ![256, 1792]⟩
abbrev S256x384 : Shape := ⟨2, ![256, 384]⟩
abbrev S288x384 : Shape := ⟨2, ![288, 384]⟩
abbrev S288x256 : Shape := ⟨2, ![288, 256]⟩
abbrev S32x384 : Shape := ⟨2, ![32, 384]⟩
abbrev S32x256 : Shape := ⟨2, ![32, 256]⟩
abbrev S256x1 : Shape := ⟨2, ![256, 1]⟩
abbrev S280x256 : Shape := ⟨2, ![280, 256]⟩
abbrev S272x256 : Shape := ⟨2, ![272, 256]⟩
abbrev S264x256 : Shape := ⟨2, ![264, 256]⟩
abbrev S280x384 : Shape := ⟨2, ![280, 384]⟩
abbrev S272x384 : Shape := ⟨2, ![272, 384]⟩
abbrev S256x768 : Shape := ⟨2, ![256, 768]⟩
abbrev S1x128 : Shape := ⟨2, ![1, 128]⟩
abbrev S128 : Shape := ⟨1, ![128]⟩
abbrev S128x1 : Shape := ⟨2, ![128, 1]⟩

abbrev nBuf : Space → Nat
  | .hbm => 216
  | .vmem => 50
  | .smem => 0
  | _ => 0

abbrev hbmTy0_0 (i : Nat) : BufTy := match i % 128 with
  | 0 => ⟨S2x2048x1024, .f32⟩
  | 1 => ⟨S1024, .f32⟩
  | 2 => ⟨S1024x1792, .f32⟩
  | 3 => ⟨S31x384, .f32⟩
  | 4 => ⟨S384, .f32⟩
  | 5 => ⟨S384, .f32⟩
  | 6 => ⟨S384, .f32⟩
  | 7 => ⟨S384x384, .f32⟩
  | 8 => ⟨S384, .f32⟩
  | 9 => ⟨S384, .f32⟩
  | 10 => ⟨S4x128x128, .f32⟩
  | 11 => ⟨S4x128, .f32⟩
  | 12 => ⟨S4x64x64, .f32⟩
  | 13 => ⟨S256, .f32⟩
  | 14 => ⟨S1024x1024, .f32⟩
  | 15 => ⟨S2x2048x1024, .f32⟩
  | 16 => ⟨S_, .i1⟩
  | 17 => ⟨S128x128, .i1⟩
  | 18 => ⟨S128x128, .i32⟩
  | 19 => ⟨S_, .i32⟩
  | 20 => ⟨S128x128, .i32⟩
  | 21 => ⟨S128x128, .i32⟩
  | 22 => ⟨S128x128, .i32⟩
  | 23 => ⟨S128x128, .i1⟩
  | 24 => ⟨S_, .i1⟩
  | 25 => ⟨S128x128, .i1⟩
  | 26 => ⟨S128x128, .i1⟩
  | 27 => ⟨S1x128x128, .i1⟩
  | 28 => ⟨S_, .f32⟩
  | 29 => ⟨S_, .f32⟩
  | 30 => ⟨S4x128x128, .i1⟩
  | 31 => ⟨S4x128x128, .f32⟩
  | 32 => ⟨S4x128x128, .f32⟩
  | 33 => ⟨S4x128x128, .bf16⟩
  | 34 => ⟨S1x1024, .f32⟩
  | 35 => ⟨S1x384, .f32⟩
  | 36 => ⟨S1x384, .f32⟩
  | 37 => ⟨S1x384, .f32⟩
  | 38 => ⟨S1x384, .f32⟩
  | 39 => ⟨S1x384, .f32⟩
  | 40 => ⟨S4x128x128, .bf16⟩
  | 41 => ⟨S128x4, .f32⟩
  | 42 => ⟨S128x4x96, .f32⟩
  | 43 => ⟨S128x384, .f32⟩
  | 44 => ⟨S4x4, .i32⟩
  | 45 => ⟨S4x4, .i32⟩
  | 46 => ⟨S_, .i32⟩
  | 47 => ⟨S4x4, .i32⟩
  | 48 => ⟨S4x4, .i32⟩
  | 49 => ⟨S4x4, .i1⟩
  | 50 => ⟨S4x4, .f32⟩
  | 51 => ⟨S4x1x4x1, .f32⟩
  | 52 => ⟨S4x64x1x64, .f32⟩
  | 53 => ⟨S4x64x4x64, .f32⟩
  | 54 => ⟨S4x64x4x64, .f32⟩
  | 55 => ⟨S4x64x4x64, .f32⟩
  | 56 => ⟨S256x256, .f32⟩
  | 57 => ⟨S256x256, .bf16⟩
  | 58 => ⟨S1x256, .f32⟩
  | 59 => ⟨S1792x1024, .f32⟩
  | 60 => ⟨S1792x1024, .bf16⟩
  | 61 => ⟨S1024x1024, .bf16⟩
  | 62 => ⟨S384x384, .bf16⟩
  | 63 => ⟨S4096x1024, .f32⟩
  | 64 => ⟨S2x2048x1024, .f32⟩
  | 65 => ⟨S_, .f32⟩
  | 66 => ⟨S2x2048, .f32⟩
  | 67 => ⟨S2x2048x1, .f32⟩
  | 68 => ⟨S_, .f32⟩
  | 69 => ⟨S2x2048x1, .f32⟩
  | 70 => ⟨S2x2048x1, .f32⟩
  | 71 => ⟨S_, .f32⟩
  | 72 => ⟨S2x2048x1, .f32⟩
  | 73 => ⟨S2x2048x1, .f32⟩
  | 74 => ⟨S2x2048x1, .f32⟩
  | 75 => ⟨S2x2048x1024, .f32⟩
  | 76 => ⟨S2x2048x1024, .f32⟩
  | 77 => ⟨S1x1x1024, .f32⟩
  | 78 => ⟨S2x2048x1024, .f32⟩
  | 79 => ⟨S2x2048x1024, .f32⟩
  | 80 => ⟨S2x2048x1792, .f32⟩
  | 81 => ⟨S2x2048x768, .f32⟩
  | 82 => ⟨S2x2048x384, .f32⟩
  | 83 => ⟨S2x2048x384, .f32⟩
  | 84 => ⟨S2x2048x384, .f32⟩
  | 85 => ⟨S2x2048x384, .f32⟩
  | 86 => ⟨S_, .f32⟩
  | 87 => ⟨S2x2048x384, .f32⟩
  | 88 => ⟨S2x2048x384, .f32⟩
  | 89 => ⟨S_, .f32⟩
  | 90 => ⟨S2x2048x384, .f32⟩
  | 91 => ⟨S2x2048x384, .f32⟩
  | 92 => ⟨S2x2048x384, .f32⟩
  | 93 => ⟨S_, .i32⟩
  | 94 => ⟨S_, .f32⟩
  | 95 => ⟨S2x2078x384, .f32⟩
  | 96 => ⟨S2048, .i32⟩
  | 97 => ⟨S2048x1, .i32⟩
  | 98 => ⟨S31, .i32⟩
  | 99 => ⟨S1x31, .i32⟩
  | 100 => ⟨S2048x31, .i32⟩
  | 101 => ⟨S2048x31, .i32⟩
  | 102 => ⟨S2048x31, .i32⟩
  | 103 => ⟨S2048x31x1, .i32⟩
  | 104 => ⟨S2x2048x31x384, .f32⟩
  | 105 => ⟨S384x2x2048, .f32⟩
  | 106 => ⟨S2x2048x384, .f32⟩
  | 107 => ⟨S1x1x384, .f32⟩
  | 108 => ⟨S2x2048x384, .f32⟩
  | 109 => ⟨S2x2048x384, .f32⟩
  | 110 => ⟨S4096x384, .f32⟩
  | 111 => ⟨S2x2048x256, .f32⟩
  | 112 => ⟨S_, .f32⟩
  | 113 => ⟨S2x1x256, .f32⟩
  | 114 => ⟨S_, .f32⟩
  | 115 => ⟨S_, .f32⟩
  | 116 => ⟨S2x2048x256, .f32⟩
  | 117 => ⟨S2x2049x256, .f32⟩
  | 118 => ⟨S2048, .f32⟩
  | 119 => ⟨S2048x1, .f32⟩
  | 120 => ⟨S2x2049x64, .f32⟩
  | 121 => ⟨S2x2048x64, .f32⟩
  | 122 => ⟨S_, .f32⟩
  | 123 => ⟨S2x1x64, .f32⟩
  | 124 => ⟨S2x2047x64, .f32⟩
  | 125 => ⟨S2x2048x64, .f32⟩
  | 126 => ⟨S_, .f32⟩
  | 127 => ⟨S2048x1, .f32⟩
  | _ => ⟨S2x2048x1024, .f32⟩

abbrev hbmTy0_1 (i : Nat) : BufTy := match i % 128 with
  | 0 => ⟨S2048x1, .f32⟩
  | 1 => ⟨S_, .f32⟩
  | 2 => ⟨S2048x1, .f32⟩
  | 3 => ⟨S2048x1, .f32⟩
  | 4 => ⟨S2x2048x64, .f32⟩
  | 5 => ⟨S1x2048x1, .f32⟩
  | 6 => ⟨S2x2048x64, .f32⟩
  | 7 => ⟨S2x2048x64, .f32⟩
  | 8 => ⟨S2x2048x64, .f32⟩
  | 9 => ⟨S2x2048x64, .f32⟩
  | 10 => ⟨S2x2049x64, .f32⟩
  | 11 => ⟨S2x2048x64, .f32⟩
  | 12 => ⟨S_, .f32⟩
  | 13 => ⟨S2x3x64, .f32⟩
  | 14 => ⟨S2x2045x64, .f32⟩
  | 15 => ⟨S2x2048x64, .f32⟩
  | 16 => ⟨S_, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2x2048x64, .f32⟩
  | 23 => ⟨S1x2048x1, .f32⟩
  | 24 => ⟨S2x2048x64, .f32⟩
  | 25 => ⟨S2x2048x64, .f32⟩
  | 26 => ⟨S2x2048x64, .f32⟩
  | 27 => ⟨S2x2048x64, .f32⟩
  | 28 => ⟨S2x2049x64, .f32⟩
  | 29 => ⟨S2x2048x64, .f32⟩
  | 30 => ⟨S_, .f32⟩
  | 31 => ⟨S2x7x64, .f32⟩
  | 32 => ⟨S2x2041x64, .f32⟩
  | 33 => ⟨S2x2048x64, .f32⟩
  | 34 => ⟨S_, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S2x2048x64, .f32⟩
  | 41 => ⟨S1x2048x1, .f32⟩
  | 42 => ⟨S2x2048x64, .f32⟩
  | 43 => ⟨S2x2048x64, .f32⟩
  | 44 => ⟨S2x2048x64, .f32⟩
  | 45 => ⟨S2x2048x64, .f32⟩
  | 46 => ⟨S2x2049x64, .f32⟩
  | 47 => ⟨S2x2048x64, .f32⟩
  | 48 => ⟨S_, .f32⟩
  | 49 => ⟨S2x15x64, .f32⟩
  | 50 => ⟨S2x2033x64, .f32⟩
  | 51 => ⟨S2x2048x64, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2x2048x64, .f32⟩
  | 59 => ⟨S1x2048x1, .f32⟩
  | 60 => ⟨S2x2048x64, .f32⟩
  | 61 => ⟨S2x2048x64, .f32⟩
  | 62 => ⟨S2x2048x64, .f32⟩
  | 63 => ⟨S2x2048x64, .f32⟩
  | 64 => ⟨S2x2048x1x64, .f32⟩
  | 65 => ⟨S2x2048x1x64, .f32⟩
  | 66 => ⟨S2x2048x1x64, .f32⟩
  | 67 => ⟨S2x2048x1x64, .f32⟩
  | 68 => ⟨S2x2048x4x64, .f32⟩
  | 69 => ⟨S4096x256, .f32⟩
  | 70 => ⟨S4096x1792, .f32⟩
  | 71 => ⟨S4096x1024, .f32⟩
  | 72 => ⟨S4096x1024, .f32⟩
  | 73 => ⟨S4096x1792, .bf16⟩
  | 74 => ⟨S4096x1024, .bf16⟩
  | 75 => ⟨S4096x384, .bf16⟩
  | 76 => ⟨S4096x384, .bf16⟩
  | 77 => ⟨S1x1024, .f32⟩
  | 78 => ⟨S31x384, .f32⟩
  | 79 => ⟨S1x384, .f32⟩
  | 80 => ⟨S1x384, .f32⟩
  | 81 => ⟨S1x384, .f32⟩
  | 82 => ⟨S1x384, .f32⟩
  | 83 => ⟨S1x384, .f32⟩
  | 84 => ⟨S4x128x128, .f32⟩
  | 85 => ⟨S128x128, .f32⟩
  | 86 => ⟨S256x256, .f32⟩
  | 87 => ⟨S1x256, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1792, .f32⟩
  | .local _ .vmem, ⟨5, _⟩ => ⟨S256x1792, .f32⟩
  | .local _ .vmem, ⟨6, _⟩ => ⟨S256x384, .f32⟩
  | .local _ .vmem, ⟨7, _⟩ => ⟨S256x384, .f32⟩
  | .local _ .vmem, ⟨8, _⟩ => ⟨S256x256, .f32⟩
  | .local _ .vmem, ⟨9, _⟩ => ⟨S256x256, .f32⟩
  | .local _ .vmem, ⟨10, _⟩ => ⟨S1x1024, .f32⟩
  | .local _ .vmem, ⟨11, _⟩ => ⟨S1792x1024, .bf16⟩
  | .local _ .vmem, ⟨12, _⟩ => ⟨S31x384, .f32⟩
  | .local _ .vmem, ⟨13, _⟩ => ⟨S1x384, .f32⟩
  | .local _ .vmem, ⟨14, _⟩ => ⟨S1x384, .f32⟩
  | .local _ .vmem, ⟨15, _⟩ => ⟨S384x384, .bf16⟩
  | .local _ .vmem, ⟨16, _⟩ => ⟨S1x384, .f32⟩
  | .local _ .vmem, ⟨17, _⟩ => ⟨S1x384, .f32⟩
  | .local _ .vmem, ⟨18, _⟩ => ⟨S4x128x128, .bf16⟩
  | .local _ .vmem, ⟨19, _⟩ => ⟨S4x128x128, .bf16⟩
  | .local _ .vmem, ⟨20, _⟩ => ⟨S128x384, .f32⟩
  | .local _ .vmem, ⟨21, _⟩ => ⟨S256x256, .bf16⟩
  | .local _ .vmem, ⟨22, _⟩ => ⟨S1x256, .f32⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S256x1792, .bf16⟩
  | .local _ .vmem, ⟨27, _⟩ => ⟨S256x1792, .bf16⟩
  | .local _ .vmem, ⟨28, _⟩ => ⟨S256x1024, .bf16⟩
  | .local _ .vmem, ⟨29, _⟩ => ⟨S256x1024, .bf16⟩
  | .local _ .vmem, ⟨30, _⟩ => ⟨S256x384, .bf16⟩
  | .local _ .vmem, ⟨31, _⟩ => ⟨S256x384, .bf16⟩
  | .local _ .vmem, ⟨32, _⟩ => ⟨S256x384, .bf16⟩
  | .local _ .vmem, ⟨33, _⟩ => ⟨S256x384, .bf16⟩
  | .local _ .vmem, ⟨34, _⟩ => ⟨S1x1024, .f32⟩
  | .local _ .vmem, ⟨35, _⟩ => ⟨S31x384, .f32⟩
  | .local _ .vmem, ⟨36, _⟩ => ⟨S1x384, .f32⟩
  | .local _ .vmem, ⟨37, _⟩ => ⟨S1x384, .f32⟩
  | .local _ .vmem, ⟨38, _⟩ => ⟨S1x384, .f32⟩
  | .local _ .vmem, ⟨39, _⟩ => ⟨S1x384, .f32⟩
  | .local _ .vmem, ⟨40, _⟩ => ⟨S1x384, .f32⟩
  | .local _ .vmem, ⟨41, _⟩ => ⟨S4x128x128, .f32⟩
  | .local _ .vmem, ⟨42, _⟩ => ⟨S128x128, .f32⟩
  | .local _ .vmem, ⟨43, _⟩ => ⟨S256x256, .f32⟩
  | .local _ .vmem, ⟨44, _⟩ => ⟨S1x256, .f32⟩
  | .local _ .vmem, ⟨45, _⟩ => ⟨S288x384, .f32⟩
  | .local _ .vmem, ⟨46, _⟩ => ⟨S288x256, .f32⟩
  | .local _ .vmem, ⟨47, _⟩ => ⟨S288x256, .f32⟩
  | .local _ .vmem, ⟨48, _⟩ => ⟨S288x256, .f32⟩
  | .local _ .vmem, ⟨49, _⟩ => ⟨S288x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_1 : Ref sig .tc := ⟨.hbm, 65, rfl⟩
abbrev main_v35 : Ref sig .tc := ⟨.hbm, 66, rfl⟩
abbrev main_v36 : Ref sig .tc := ⟨.hbm, 67, rfl⟩
abbrev main_cst_2 : Ref sig .tc := ⟨.hbm, 68, rfl⟩
abbrev main_v37 : Ref sig .tc := ⟨.hbm, 69, rfl⟩
abbrev main_v38 : Ref sig .tc := ⟨.hbm, 70, rfl⟩
abbrev main_cst_3 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_4 : Ref sig .tc := ⟨.hbm, 86, rfl⟩
abbrev main_v53 : Ref sig .tc := ⟨.hbm, 87, rfl⟩
abbrev main_v54 : Ref sig .tc := ⟨.hbm, 88, rfl⟩
abbrev main_cst_5 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_6 : Ref sig .tc := ⟨.hbm, 93, rfl⟩
abbrev main_call2_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_7 : Ref sig .tc := ⟨.hbm, 112, rfl⟩
abbrev main_v75 : Ref sig .tc := ⟨.hbm, 113, rfl⟩
abbrev main_call3_call0_cst : Ref sig .tc := ⟨.hbm, 114, rfl⟩
abbrev main_call3_call0_v0 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_8 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_9 : Ref sig .tc := ⟨.hbm, 126, rfl⟩
abbrev main_v85 : Ref sig .tc := ⟨.hbm, 127, rfl⟩
abbrev main_v86 : Ref sig .tc := ⟨.hbm, 128, rfl⟩
abbrev main_cst_10 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_11 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_12 : Ref sig .tc := ⟨.hbm, 144, rfl⟩
abbrev main_v100 : Ref sig .tc := ⟨.hbm, 145, rfl⟩
abbrev main_v101 : Ref sig .tc := ⟨.hbm, 146, rfl⟩
abbrev main_cst_13 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_14 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_15 : Ref sig .tc := ⟨.hbm, 162, rfl⟩
abbrev main_v115 : Ref sig .tc := ⟨.hbm, 163, rfl⟩
abbrev main_v116 : Ref sig .tc := ⟨.hbm, 164, rfl⟩
abbrev main_cst_16 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_17 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_18 : Ref sig .tc := ⟨.hbm, 180, rfl⟩
abbrev main_v130 : Ref sig .tc := ⟨.hbm, 181, rfl⟩
abbrev main_v131 : Ref sig .tc := ⟨.hbm, 182, rfl⟩
abbrev main_cst_19 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148_0 : Ref sig .tc := ⟨.hbm, 200, rfl⟩
abbrev main_v148_1 : Ref sig .tc := ⟨.hbm, 201, rfl⟩
abbrev main_v148_2 : Ref sig .tc := ⟨.hbm, 202, rfl⟩
abbrev main_v148_3 : Ref sig .tc := ⟨.hbm, 203, rfl⟩
abbrev main_v148_4 : Ref sig .tc := ⟨.hbm, 204, rfl⟩
abbrev main_v148_5 : Ref sig .tc := ⟨.hbm, 205, rfl⟩
abbrev main_v148_6 : Ref sig .tc := ⟨.hbm, 206, rfl⟩
abbrev main_v148_7 : Ref sig .tc := ⟨.hbm, 207, rfl⟩
abbrev main_v148_8 : Ref sig .tc := ⟨.hbm, 208, rfl⟩
abbrev main_v148_9 : Ref sig .tc := ⟨.hbm, 209, rfl⟩
abbrev main_v148_10 : Ref sig .tc := ⟨.hbm, 210, rfl⟩
abbrev main_v148_11 : Ref sig .tc := ⟨.hbm, 211, rfl⟩
abbrev main_v148_12 : Ref sig .tc := ⟨.hbm, 212, rfl⟩
abbrev main_v148_13 : Ref sig .tc := ⟨.hbm, 213, rfl⟩
abbrev main_v148_14 : Ref sig .tc := ⟨.hbm, 214, rfl⟩
abbrev main_v148_15 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg27_0 : Ref sig .tc := ⟨.vmem, 37, rfl⟩
abbrev cc0_stg28_0 : Ref sig .tc := ⟨.vmem, 38, rfl⟩
abbrev cc0_stg29_0 : Ref sig .tc := ⟨.vmem, 39, rfl⟩
abbrev cc0_stg30_0 : Ref sig .tc := ⟨.vmem, 40, rfl⟩
abbrev cc0_stg31_0 : Ref sig .tc := ⟨.vmem, 41, rfl⟩
abbrev cc0_stg32_0 : Ref sig .tc := ⟨.vmem, 42, rfl⟩
abbrev cc0_stg33_0 : Ref sig .tc := ⟨.vmem, 43, rfl⟩
abbrev cc0_stg34_0 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_scratch3 : Ref sig .tc := ⟨.vmem, 48, rfl⟩
abbrev cc0_scratch4 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem25_0 : DmaSem sig := 35
abbrev cc0_sem26_0 : DmaSem sig := 36
abbrev cc0_sem27_0 : DmaSem sig := 37
abbrev cc0_sem28_0 : DmaSem sig := 38
abbrev cc0_sem29_0 : DmaSem sig := 39
abbrev cc0_sem30_0 : DmaSem sig := 40
abbrev cc0_sem31_0 : DmaSem sig := 41
abbrev cc0_sem32_0 : DmaSem sig := 42
abbrev cc0_sem33_0 : DmaSem sig := 43
abbrev cc0_sem34_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S31x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1792 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x384 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x384 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S31x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x384 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x384 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x384 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S4x128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S128x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S256x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== MixerReferenceIdeal.lean ====
abbrev S2x2048x1024 : Shape := ⟨3, ![2, 2048, 1024]⟩
abbrev S1024 : Shape := ⟨1, ![1024]⟩
abbrev S1024x1792 : Shape := ⟨2, ![1024, 1792]⟩
abbrev S31x384 : Shape := ⟨2, ![31, 384]⟩
abbrev S384 : Shape := ⟨1, ![384]⟩
abbrev S384x384 : Shape := ⟨2, ![384, 384]⟩
abbrev S4x128x128 : Shape := ⟨3, ![4, 128, 128]⟩
abbrev S4x128 : Shape := ⟨2, ![4, 128]⟩
abbrev S4x64x64 : Shape := ⟨3, ![4, 64, 64]⟩
abbrev S256 : Shape := ⟨1, ![256]⟩
abbrev S1024x1024 : Shape := ⟨2, ![1024, 1024]⟩
abbrev S_ : Shape := ⟨0, ![]⟩
abbrev S2x2048x384 : Shape := ⟨3, ![2, 2048, 384]⟩
abbrev S256x256 : Shape := ⟨2, ![256, 256]⟩
abbrev S2x2048 : Shape := ⟨2, ![2, 2048]⟩
abbrev S2x2048x1 : Shape := ⟨3, ![2, 2048, 1]⟩
abbrev S1x1x1024 : Shape := ⟨3, ![1, 1, 1024]⟩
abbrev S2x2048x1792 : Shape := ⟨3, ![2, 2048, 1792]⟩
abbrev S2x2048x768 : Shape := ⟨3, ![2, 2048, 768]⟩
abbrev S31x2048x2048 : Shape := ⟨3, ![31, 2048, 2048]⟩
abbrev S2x384x31x2048 : Shape := ⟨4, ![2, 384, 31, 2048]⟩
abbrev S2x2048x31x384 : Shape := ⟨4, ![2, 2048, 31, 384]⟩
abbrev S384x2x2048 : Shape := ⟨3, ![384, 2, 2048]⟩
abbrev S1x1x384 : Shape := ⟨3, ![1, 1, 384]⟩
abbrev S2x16x128x4x96 : Shape := ⟨5, ![2, 16, 128, 4, 96]⟩
abbrev S128x128 : Shape := ⟨2, ![128, 128]⟩
abbrev S1x128x128 : Shape := ⟨3, ![1, 128, 128]⟩
abbrev S4x2x16x96x128 : Shape := ⟨5, ![4, 2, 16, 96, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x2048x256 : Shape := ⟨3, ![2, 2048, 256]⟩
abbrev S2x1x256 : Shape := ⟨3, ![2, 1, 256]⟩
abbrev S2x2049x256 : Shape := ⟨3, ![2, 2049, 256]⟩
abbrev S2048 : Shape := ⟨1, ![2048]⟩
abbrev S2048x1 : Shape := ⟨2, ![2048, 1]⟩
abbrev S2x2049x64 : Shape := ⟨3, ![2, 2049, 64]⟩
abbrev S2x2048x64 : Shape := ⟨3, ![2, 2048, 64]⟩
abbrev S2x1x64 : Shape := ⟨3, ![2, 1, 64]⟩
abbrev S2x2047x64 : Shape := ⟨3, ![2, 2047, 64]⟩
abbrev S1x2048x1 : Shape := ⟨3, ![1, 2048, 1]⟩
abbrev S2x3x64 : Shape := ⟨3, ![2, 3, 64]⟩
abbrev S2x2045x64 : Shape := ⟨3, ![2, 2045, 64]⟩
abbrev S2x7x64 : Shape := ⟨3, ![2, 7, 64]⟩
abbrev S2x2041x64 : Shape := ⟨3, ![2, 2041, 64]⟩
abbrev S2x15x64 : Shape := ⟨3, ![2, 15, 64]⟩
abbrev S2x2033x64 : Shape := ⟨3, ![2, 2033, 64]⟩
abbrev S2x2048x1x64 : Shape := ⟨4, ![2, 2048, 1, 64]⟩
abbrev S2x2048x4x64 : Shape := ⟨4, ![2, 2048, 4, 64]⟩
abbrev S4x64x2x2048 : Shape := ⟨4, ![4, 64, 2, 2048]⟩
abbrev S1x1x256 : Shape := ⟨3, ![1, 1, 256]⟩
abbrev S4096x1024 : Shape := ⟨2, ![4096, 1024]⟩
abbrev S4096x384 : Shape := ⟨2, ![4096, 384]⟩
abbrev S1x384 : Shape := ⟨2, ![1, 384]⟩
abbrev S1x256 : Shape := ⟨2, ![1, 256]⟩

abbrev nBuf : Space → Nat
  | .hbm => 395
  | .vmem => 0
  | .smem => 0
  | _ => 0

abbrev hbmTy0_0 (i : Nat) : BufTy := match i % 128 with
  | 0 => ⟨S2x2048x1024, .f32⟩
  | 1 => ⟨S1024, .f32⟩
  | 2 => ⟨S1024x1792, .f32⟩
  | 3 => ⟨S31x384, .f32⟩
  | 4 => ⟨S384, .f32⟩
  | 5 => ⟨S384, .f32⟩
  | 6 => ⟨S384, .f32⟩
  | 7 => ⟨S384x384, .f32⟩
  | 8 => ⟨S384, .f32⟩
  | 9 => ⟨S384, .f32⟩
  | 10 => ⟨S4x128x128, .f32⟩
  | 11 => ⟨S4x128, .f32⟩
  | 12 => ⟨S4x64x64, .f32⟩
  | 13 => ⟨S256, .f32⟩
  | 14 => ⟨S1024x1024, .f32⟩
  | 15 => ⟨S2x2048x1024, .f32⟩
  | 16 => ⟨S_, .f32⟩
  | 17 => ⟨S2x2048x384, .f32⟩
  | 18 => ⟨S_, .f32⟩
  | 19 => ⟨S256x256, .f32⟩
  | 20 => ⟨S2x2048x1024, .f32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S_, .f32⟩
  | 28 => ⟨S2x2048x1, .f32⟩
  | 29 => ⟨S2x2048x1, .f32⟩
  | 30 => ⟨S2x2048x1, .f32⟩
  | 31 => ⟨S2x2048x1024, .f32⟩
  | 32 => ⟨S2x2048x1024, .f32⟩
  | 33 => ⟨S1x1x1024, .f32⟩
  | 34 => ⟨S2x2048x1024, .f32⟩
  | 35 => ⟨S2x2048x1024, .f32⟩
  | 36 => ⟨S2x2048x1792, .f32⟩
  | 37 => ⟨S2x2048x768, .f32⟩
  | 38 => ⟨S2x2048x384, .f32⟩
  | 39 => ⟨S2x2048x384, .f32⟩
  | 40 => ⟨S2x2048x384, .f32⟩
  | 41 => ⟨S2x2048x384, .f32⟩
  | 42 => ⟨S_, .f32⟩
  | 43 => ⟨S2x2048x384, .f32⟩
  | 44 => ⟨S2x2048x384, .f32⟩
  | 45 => ⟨S_, .f32⟩
  | 46 => ⟨S2x2048x384, .f32⟩
  | 47 => ⟨S2x2048x384, .f32⟩
  | 48 => ⟨S2x2048x384, .f32⟩
  | 49 => ⟨S31x2048x2048, .i32⟩
  | 50 => ⟨S31x2048x2048, .i32⟩
  | 51 => ⟨S31x2048x2048, .i32⟩
  | 52 => ⟨S_, .i32⟩
  | 53 => ⟨S31x2048x2048, .i32⟩
  | 54 => ⟨S31x2048x2048, .i32⟩
  | 55 => ⟨S31x2048x2048, .i32⟩
  | 56 => ⟨S31x2048x2048, .i1⟩
  | 57 => ⟨S31x2048x2048, .f32⟩
  | 58 => ⟨S2x384x31x2048, .f32⟩
  | 59 => ⟨S2x2048x31x384, .f32⟩
  | 60 => ⟨S384x2x2048, .f32⟩
  | 61 => ⟨S2x2048x384, .f32⟩
  | 62 => ⟨S1x1x384, .f32⟩
  | 63 => ⟨S2x2048x384, .f32⟩
  | 64 => ⟨S2x2048x384, .f32⟩
  | 65 => ⟨S_, .f32⟩
  | 66 => ⟨S2x2048, .f32⟩
  | 67 => ⟨S2x2048x1, .f32⟩
  | 68 => ⟨S_, .f32⟩
  | 69 => ⟨S2x2048x1, .f32⟩
  | 70 => ⟨S2x2048x1, .f32⟩
  | 71 => ⟨S2x2048x384, .f32⟩
  | 72 => ⟨S2x2048x384, .f32⟩
  | 73 => ⟨S2x2048x384, .f32⟩
  | 74 => ⟨S_, .f32⟩
  | 75 => ⟨S2x2048, .f32⟩
  | 76 => ⟨S2x2048x1, .f32⟩
  | 77 => ⟨S_, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S2x2048x1, .f32⟩
  | 84 => ⟨S2x2048x1, .f32⟩
  | 85 => ⟨S_, .f32⟩
  | 86 => ⟨S2x2048x1, .f32⟩
  | 87 => ⟨S2x2048x1, .f32⟩
  | 88 => ⟨S2x2048x384, .f32⟩
  | 89 => ⟨S2x2048x384, .f32⟩
  | 90 => ⟨S1x1x384, .f32⟩
  | 91 => ⟨S2x2048x384, .f32⟩
  | 92 => ⟨S2x2048x384, .f32⟩
  | 93 => ⟨S1x1x384, .f32⟩
  | 94 => ⟨S2x2048x384, .f32⟩
  | 95 => ⟨S2x2048x384, .f32⟩
  | 96 => ⟨S2x2048x384, .f32⟩
  | 97 => ⟨S2x2048x384, .f32⟩
  | 98 => ⟨S_, .f32⟩
  | 99 => ⟨S2x2048x384, .f32⟩
  | 100 => ⟨S2x2048x384, .f32⟩
  | 101 => ⟨S_, .f32⟩
  | 102 => ⟨S2x2048x384, .f32⟩
  | 103 => ⟨S2x2048x384, .f32⟩
  | 104 => ⟨S_, .f32⟩
  | 105 => ⟨S2x2048x384, .f32⟩
  | 106 => ⟨S2x2048x384, .f32⟩
  | 107 => ⟨S2x2048x384, .f32⟩
  | 108 => ⟨S2x2048x384, .f32⟩
  | 109 => ⟨S2x2048x384, .f32⟩
  | 110 => ⟨S2x2048x384, .f32⟩
  | 111 => ⟨S2x2048x768, .f32⟩
  | 112 => ⟨S2x2048x768, .f32⟩
  | 113 => ⟨S2x2048x768, .f32⟩
  | 114 => ⟨S_, .f32⟩
  | 115 => ⟨S2x2048x768, .f32⟩
  | 116 => ⟨S2x2048x768, .f32⟩
  | 117 => ⟨S2x2048x768, .f32⟩
  | 118 => ⟨S_, .f32⟩
  | 119 => ⟨S2x2048x768, .f32⟩
  | 120 => ⟨S2x2048x768, .f32⟩
  | 121 => ⟨S2x2048x768, .f32⟩
  | 122 => ⟨S_, .f32⟩
  | 123 => ⟨S2x2048x768, .f32⟩
  | 124 => ⟨S2x2048x768, .f32⟩
  | 125 => ⟨S_, .f32⟩
  | 126 => ⟨S2x2048x768, .f32⟩
  | 127 => ⟨S2x2048x768, .f32⟩
  | _ => ⟨S2x2048x1024, .f32⟩

abbrev hbmTy0_1 (i : Nat) : BufTy := match i % 128 with
  | 0 => ⟨S2x2048x768, .f32⟩
  | 1 => ⟨S2x2048x384, .f32⟩
  | 2 => ⟨S2x2048x384, .f32⟩
  | 3 => ⟨S_, .f32⟩
  | 4 => ⟨S2x2048, .f32⟩
  | 5 => ⟨S2x2048x1, .f32⟩
  | 6 => ⟨S_, .f32⟩
  | 7 => ⟨S2x2048x1, .f32⟩
  | 8 => ⟨S2x2048x1, .f32⟩
  | 9 => ⟨S2x2048x384, .f32⟩
  | 10 => ⟨S2x2048x384, .f32⟩
  | 11 => ⟨S2x2048x384, .f32⟩
  | 12 => ⟨S_, .f32⟩
  | 13 => ⟨S2x2048, .f32⟩
  | 14 => ⟨S2x2048x1, .f32⟩
  | 15 => ⟨S_, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1, .f32⟩
  | 22 => ⟨S2x2048x384, .f32⟩
  | 23 => ⟨S2x2048x384, .f32⟩
  | 24 => ⟨S1x1x384, .f32⟩
  | 25 => ⟨S2x2048x384, .f32⟩
  | 26 => ⟨S2x2048x384, .f32⟩
  | 27 => ⟨S1x1x384, .f32⟩
  | 28 => ⟨S2x2048x384, .f32⟩
  | 29 => ⟨S2x2048x384, .f32⟩
  | 30 => ⟨S2x16x128x4x96, .f32⟩
  | 31 => ⟨S_, .i1⟩
  | 32 => ⟨S128x128, .i1⟩
  | 33 => ⟨S128x128, .i32⟩
  | 34 => ⟨S_, .i32⟩
  | 35 => ⟨S128x128, .i32⟩
  | 36 => ⟨S128x128, .i32⟩
  | 37 => ⟨S128x128, .i32⟩
  | 38 => ⟨S128x128, .i1⟩
  | 39 => ⟨S_, .i1⟩
  | 40 => ⟨S128x128, .i1⟩
  | 41 => ⟨S128x128, .i1⟩
  | 42 => ⟨S1x128x128, .i1⟩
  | 43 => ⟨S_, .f32⟩
  | 44 => ⟨S4x128x128, .f32⟩
  | 45 => ⟨S4x128x128, .i1⟩
  | 46 => ⟨S4x128x128, .f32⟩
  | 47 => ⟨S_, .f32⟩
  | 48 => ⟨S4x128x128, .f32⟩
  | 49 => ⟨S4x2x16x96x128, .f32⟩
  | 50 => ⟨S2x16x128x4x96, .f32⟩
  | 51 => ⟨S128x4, .f32⟩
  | 52 => ⟨S128x4x1, .f32⟩
  | 53 => ⟨S1x1x128x4x1, .f32⟩
  | 54 => ⟨S2x16x128x4x96, .f32⟩
  | 55 => ⟨S2x16x128x4x96, .f32⟩
  | 56 => ⟨S2x2048x384, .f32⟩
  | 57 => ⟨S2x2048x384, .f32⟩
  | 58 => ⟨S2x2048x256, .f32⟩
  | 59 => ⟨S_, .f32⟩
  | 60 => ⟨S2x1x256, .f32⟩
  | 61 => ⟨S_, .f32⟩
  | 62 => ⟨S_, .f32⟩
  | 63 => ⟨S2x2048x256, .f32⟩
  | 64 => ⟨S2x2049x256, .f32⟩
  | 65 => ⟨S2048, .f32⟩
  | 66 => ⟨S2048x1, .f32⟩
  | 67 => ⟨S2x2049x64, .f32⟩
  | 68 => ⟨S2x2048x64, .f32⟩
  | 69 => ⟨S_, .f32⟩
  | 70 => ⟨S2x1x64, .f32⟩
  | 71 => ⟨S2x2047x64, .f32⟩
  | 72 => ⟨S2x2048x64, .f32⟩
  | 73 => ⟨S_, .f32⟩
  | 74 => ⟨S2048x1, .f32⟩
  | 75 => ⟨S2048x1, .f32⟩
  | 76 => ⟨S_, .f32⟩
  | 77 => ⟨S2048x1, .f32⟩
  | 78 => ⟨S2048x1, .f32⟩
  | 79 => ⟨S2x2048x64, .f32⟩
  | 80 => ⟨S1x2048x1, .f32⟩
  | 81 => ⟨S2x2048x64, .f32⟩
  | 82 => ⟨S2x2048x64, .f32⟩
  | 83 => ⟨S2x2048x64, .f32⟩
  | 84 => ⟨S2x2048x64, .f32⟩
  | 85 => ⟨S2x2049x64, .f32⟩
  | 86 => ⟨S2x2048x64, .f32⟩
  | 87 => ⟨S_, .f32⟩
  | 88 => ⟨S2x3x64, .f32⟩
  | 89 => ⟨S2x2045x64, .f32⟩
  | 90 => ⟨S2x2048x64, .f32⟩
  | 91 => ⟨S_, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S2x2048x64, .f32⟩
  | 98 => ⟨S1x2048x1, .f32⟩
  | 99 => ⟨S2x2048x64, .f32⟩
  | 100 => ⟨S2x2048x64, .f32⟩
  | 101 => ⟨S2x2048x64, .f32⟩
  | 102 => ⟨S2x2048x64, .f32⟩
  | 103 => ⟨S2x2049x64, .f32⟩
  | 104 => ⟨S2x2048x64, .f32⟩
  | 105 => ⟨S_, .f32⟩
  | 106 => ⟨S2x7x64, .f32⟩
  | 107 => ⟨S2x2041x64, .f32⟩
  | 108 => ⟨S2x2048x64, .f32⟩
  | 109 => ⟨S_, .f32⟩
  | 110 => ⟨S2048x1, .f32⟩
  | 111 => ⟨S2048x1, .f32⟩
  | 112 => ⟨S_, .f32⟩
  | 113 => ⟨S2048x1, .f32⟩
  | 114 => ⟨S2048x1, .f32⟩
  | 115 => ⟨S2x2048x64, .f32⟩
  | 116 => ⟨S1x2048x1, .f32⟩
  | 117 => ⟨S2x2048x64, .f32⟩
  | 118 => ⟨S2x2048x64, .f32⟩
  | 119 => ⟨S2x2048x64, .f32⟩
  | 120 => ⟨S2x2048x64, .f32⟩
  | 121 => ⟨S2x2049x64, .f32⟩
  | 122 => ⟨S2x2048x64, .f32⟩
  | 123 => ⟨S_, .f32⟩
  | 124 => ⟨S2x15x64, .f32⟩
  | 125 => ⟨S2x2033x64, .f32⟩
  | 126 => ⟨S2x2048x64, .f32⟩
  | 127 => ⟨S_, .f32⟩
  | _ => ⟨S2x2048x1024, .f32⟩

abbrev hbmTy0_2 (i : Nat) : BufTy := match i % 128 with
  | 0 => ⟨S2048x1, .f32⟩
  | 1 => ⟨S2048x1, .f32⟩
  | 2 => ⟨S_, .f32⟩
  | 3 => ⟨S2048x1, .f32⟩
  | 4 => ⟨S2048x1, .f32⟩
  | 5 => ⟨S2x2048x64, .f32⟩
  | 6 => ⟨S1x2048x1, .f32⟩
  | 7 => ⟨S2x2048x64, .f32⟩
  | 8 => ⟨S2x2048x64, .f32⟩
  | 9 => ⟨S2x2048x64, .f32⟩
  | 10 => ⟨S2x2048x64, .f32⟩
  | 11 => ⟨S2x2048x1x64, .f32⟩
  | 12 => ⟨S2x2048x1x64, .f32⟩
  | 13 => ⟨S2x2048x1x64, .f32⟩
  | 14 => ⟨S2x2048x1x64, .f32⟩
  | 15 => ⟨S2x2048x4x64, .f32⟩
  | 16 => ⟨S4x64x2x2048, .f32⟩
  | 17 => ⟨S2x2048x4x64, .f32⟩
  | 18 => ⟨S2x2048x256, .f32⟩
  | 19 => ⟨S2x2048x256, .f32⟩
  | 20 => ⟨S2x2048x256, .f32⟩
  | 21 => ⟨S2x2048x256, .f32⟩
  | 22 => ⟨S1x1x256, .f32⟩
  | 23 => ⟨S2x2048x256, .f32⟩
  | 24 => ⟨S2x2048x256, .f32⟩
  | 25 => ⟨S2x2048x1024, .f32⟩
  | 26 => ⟨S2x2048x1024, .f32⟩
  | 27 => ⟨S2x2048x1024, .f32⟩
  | 28 => ⟨S2x2048x1024, .f32⟩
  | 29 => ⟨S2x2048x384, .f32⟩
  | 30 => ⟨S2x2048x384, .f32⟩
  | 31 => ⟨S2x2048x256, .f32⟩
  | 32 => ⟨S2x2048x256, .f32⟩
  | 33 => ⟨S_, .f32⟩
  | 34 => ⟨S256, .f32⟩
  | 35 => ⟨S1x1x256, .f32⟩
  | 36 => ⟨S2x2048x256, .f32⟩
  | 37 => ⟨S2x2048x256, .f32⟩
  | 38 => ⟨S_, .f32⟩
  | 39 => ⟨S256, .f32⟩
  | 40 => ⟨S256x256, .f32⟩
  | 41 => ⟨S256x256, .f32⟩
  | 42 => ⟨S2x2048x384, .f32⟩
  | 43 => ⟨S2x16x128x4x96, .f32⟩
  | 44 => ⟨S_, .f32⟩
  | 45 => ⟨S128x4, .f32⟩
  | 46 => ⟨S1x1x128x4x1, .f32⟩
  | 47 => ⟨S_, .f32⟩
  | 48 => ⟨S128x4, .f32⟩
  | 49 => ⟨S128x4x1, .f32⟩
  | 50 => ⟨S_, .f32⟩
  | 51 => ⟨S128x4, .f32⟩
  | 52 => ⟨S4x128, .f32⟩
  | 53 => ⟨S4x2x16x96x128, .f32⟩
  | 54 => ⟨S4x128x128, .f32⟩
  | 55 => ⟨S4x2x16x96x128, .f32⟩
  | 56 => ⟨S2x16x128x4x96, .f32⟩
  | 57 => ⟨S_, .f32⟩
  | 58 => ⟨S4x128x128, .f32⟩
  | 59 => ⟨S4x128x128, .f32⟩
  | 60 => ⟨S2x2048x384, .f32⟩
  | 61 => ⟨S_, .f32⟩
  | 62 => ⟨S384, .f32⟩
  | 63 => ⟨S1x1x384, .f32⟩
  | 64 => ⟨S_, .f32⟩
  | 65 => ⟨S384, .f32⟩
  | 66 => ⟨S2x2048x384, .f32⟩
  | 67 => ⟨S_, .f32⟩
  | 68 => ⟨S384, .f32⟩
  | 69 => ⟨S1x1x384, .f32⟩
  | 70 => ⟨S_, .f32⟩
  | 71 => ⟨S384, .f32⟩
  | 72 => ⟨S2x2048x384, .f32⟩
  | 73 => ⟨S2x2048x384, .f32⟩
  | 74 => ⟨S2x2048x384, .f32⟩
  | 75 => ⟨S2x2048x384, .f32⟩
  | 76 => ⟨S2x2048x384, .f32⟩
  | 77 => ⟨S_, .f32⟩
  | 78 => ⟨S384, .f32⟩
  | 79 => ⟨S1x1x384, .f32⟩
  | 80 => ⟨S_, .f32⟩
  | 81 => ⟨S384, .f32⟩
  | 82 => ⟨S2x2048x384, .f32⟩
  | 83 => ⟨S_, .f32⟩
  | 84 => ⟨S384, .f32⟩
  | 85 => ⟨S1x1x384, .f32⟩
  | 86 => ⟨S2x2048x384, .f32⟩
  | 87 => ⟨S2x2048x384, .f32⟩
  | 88 => ⟨S_, .f32⟩
  | 89 => ⟨S384, .f32⟩
  | 90 => ⟨S2x2048x384, .f32⟩
  | 91 => ⟨S_, .f32⟩
  | 92 => ⟨S2x2048, .f32⟩
  | 93 => ⟨S2x2048x1, .f32⟩
  | 94 => ⟨S2x2048x384, .f32⟩
  | 95 => ⟨S2x2048x384, .f32⟩
  | 96 => ⟨S2x2048x1, .f32⟩
  | 97 => ⟨S_, .f32⟩
  | 98 => ⟨S2x2048x1, .f32⟩
  | 99 => ⟨S2x2048x1, .f32⟩
  | 100 => ⟨S_, .f32⟩
  | 101 => ⟨S2x2048, .f32⟩
  | 102 => ⟨S2x2048x384, .f32⟩
  | 103 => ⟨S2x2048x384, .f32⟩
  | 104 => ⟨S2x2048x384, .f32⟩
  | 105 => ⟨S2x2048x384, .f32⟩
  | 106 => ⟨S2x2048x384, .f32⟩
  | 107 => ⟨S2x2048x384, .f32⟩
  | 108 => ⟨S_, .f32⟩
  | 109 => ⟨S2x2048, .f32⟩
  | 110 => ⟨S2x2048x1, .f32⟩
  | 111 => ⟨S_, .f32⟩
  | 112 => ⟨S2x2048x1, .f32⟩
  | 113 => ⟨S2x2048x1, .f32⟩
  | 114 => ⟨S_, .f32⟩
  | 115 => ⟨S2x2048, .f32⟩
  | 116 => ⟨S2x2048x384, .f32⟩
  | 117 => ⟨S2x2048x384, .f32⟩
  | 118 => ⟨S_, .f32⟩
  | 119 => ⟨S384, .f32⟩
  | 120 => ⟨S1x1x384, .f32⟩
  | 121 => ⟨S_, .f32⟩
  | 122 => ⟨S384, .f32⟩
  | 123 => ⟨S4096x1024, .f32⟩
  | 124 => ⟨S4096x1024, .bf16⟩
  | 125 => ⟨S4096x384, .f32⟩
  | 126 => ⟨S4096x384, .bf16⟩
  | 127 => ⟨S4096x384, .f32⟩
  | _ => ⟨S2x2048x1024, .f32⟩

abbrev hbmTy0_3 (i : Nat) : BufTy := match i % 128 with
  | 0 => ⟨S4096x384, .bf16⟩
  | 1 => ⟨S1x384, .f32⟩
  | 2 => ⟨S1x384, .f32⟩
  | 3 => ⟨S1x384, .f32⟩
  | 4 => ⟨S1x384, .f32⟩
  | 5 => ⟨S1x384, .f32⟩
  | 6 => ⟨S128x4, .f32⟩
  | 7 => ⟨S_, .i32⟩
  | 8 => ⟨S_, .f32⟩
  | 9 => ⟨S128x128, .f32⟩
  | 10 => ⟨S1x256, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_cst_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_v66_2 : Ref sig .tc := ⟨.hbm, 103, rfl⟩
abbrev main_call0_cst_1 : Ref sig .tc := ⟨.hbm, 104, rfl⟩
abbrev main_call0_v6 : Ref sig .tc := ⟨.hbm, 105, rfl⟩
abbrev main_call0_v7 : Ref sig .tc := ⟨.hbm, 106, rfl⟩
abbrev main_v66_1 : Ref sig .tc := ⟨.hbm, 107, rfl⟩
abbrev main_v66_0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_12 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_13 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_14 : Ref sig .tc := ⟨.hbm, 122, rfl⟩
abbrev main_v78 : Ref sig .tc := ⟨.hbm, 123, rfl⟩
abbrev main_v79 : Ref sig .tc := ⟨.hbm, 124, rfl⟩
abbrev main_cst_15 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_16 : Ref sig .tc := ⟨.hbm, 131, rfl⟩
abbrev main_v85 : Ref sig .tc := ⟨.hbm, 132, rfl⟩
abbrev main_v86 : Ref sig .tc := ⟨.hbm, 133, rfl⟩
abbrev main_cst_17 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_18 : Ref sig .tc := ⟨.hbm, 140, rfl⟩
abbrev main_v92 : Ref sig .tc := ⟨.hbm, 141, rfl⟩
abbrev main_v93 : Ref sig .tc := ⟨.hbm, 142, rfl⟩
abbrev main_cst_19 : Ref sig .tc := ⟨.hbm, 143, rfl⟩
abbrev main_v94 : Ref sig .tc := ⟨.hbm, 144, rfl⟩
abbrev main_v95 : Ref sig .tc := ⟨.hbm, 145, rfl⟩
abbrev main_cst_20 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_21 : Ref sig .tc := ⟨.hbm, 159, rfl⟩
abbrev main_v108 : Ref sig .tc := ⟨.hbm, 160, rfl⟩
abbrev main_call1_v0 : Ref sig .tc := ⟨.hbm, 161, rfl⟩
abbrev main_call1_c : Ref sig .tc := ⟨.hbm, 162, rfl⟩
abbrev main_call1_v1 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_call1_c_0 : Ref sig .tc := ⟨.hbm, 167, rfl⟩
abbrev main_call1_v5 : Ref sig .tc := ⟨.hbm, 168, rfl⟩
abbrev main_v109 : Ref sig .tc := ⟨.hbm, 169, rfl⟩
abbrev main_v110 : Ref sig .tc := ⟨.hbm, 170, rfl⟩
abbrev main_cst_22 : Ref sig .tc := ⟨.hbm, 171, rfl⟩
abbrev main_v111 : Ref sig .tc := ⟨.hbm, 172, rfl⟩
abbrev main_v112_1 : Ref sig .tc := ⟨.hbm, 173, rfl⟩
abbrev main_v112_0 : Ref sig .tc := ⟨.hbm, 174, rfl⟩
abbrev main_call2_cst : Ref sig .tc := ⟨.hbm, 175, rfl⟩
abbrev main_v112_2 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_23 : Ref sig .tc := ⟨.hbm, 187, rfl⟩
abbrev main_v123 : Ref sig .tc := ⟨.hbm, 188, rfl⟩
abbrev main_call3_call0_cst : Ref sig .tc := ⟨.hbm, 189, rfl⟩
abbrev main_call3_call0_v0 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_24 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_25 : Ref sig .tc := ⟨.hbm, 201, rfl⟩
abbrev main_v133 : Ref sig .tc := ⟨.hbm, 202, rfl⟩
abbrev main_v134 : Ref sig .tc := ⟨.hbm, 203, rfl⟩
abbrev main_cst_26 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_cst_27 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_28 : Ref sig .tc := ⟨.hbm, 219, rfl⟩
abbrev main_v148 : Ref sig .tc := ⟨.hbm, 220, rfl⟩
abbrev main_v149 : Ref sig .tc := ⟨.hbm, 221, rfl⟩
abbrev main_cst_29 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_cst_30 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_31 : Ref sig .tc := ⟨.hbm, 237, rfl⟩
abbrev main_v163 : Ref sig .tc := ⟨.hbm, 238, rfl⟩
abbrev main_v164 : Ref sig .tc := ⟨.hbm, 239, rfl⟩
abbrev main_cst_32 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_cst_33 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_cst_34 : Ref sig .tc := ⟨.hbm, 255, rfl⟩
abbrev main_v178 : Ref sig .tc := ⟨.hbm, 256, rfl⟩
abbrev main_v179 : Ref sig .tc := ⟨.hbm, 257, rfl⟩
abbrev main_cst_35 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_cst_36 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_cst_37 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_cst_38 : Ref sig .tc := ⟨.hbm, 300, rfl⟩
abbrev main_v219 : Ref sig .tc := ⟨.hbm, 301, rfl⟩
abbrev main_v220 : Ref sig .tc := ⟨.hbm, 302, rfl⟩
abbrev main_cst_39 : Ref sig .tc := ⟨.hbm, 303, rfl⟩
abbrev main_v221 : Ref sig .tc := ⟨.hbm, 304, rfl⟩
abbrev main_v222 : Ref sig .tc := ⟨.hbm, 305, rfl⟩
abbrev main_cst_40 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_call4_cst : Ref sig .tc := ⟨.hbm, 313, rfl⟩
abbrev main_call4_v0 : Ref sig .tc := ⟨.hbm, 314, rfl⟩
abbrev main_v229 : Ref sig .tc := ⟨.hbm, 315, rfl⟩
abbrev main_v230 : Ref sig .tc := ⟨.hbm, 316, rfl⟩
abbrev main_cst_41 : Ref sig .tc := ⟨.hbm, 317, rfl⟩
abbrev main_v231 : Ref sig .tc := ⟨.hbm, 318, rfl⟩
abbrev main_v232 : Ref sig .tc := ⟨.hbm, 319, rfl⟩
abbrev main_cst_42 : Ref sig .tc := ⟨.hbm, 320, rfl⟩
abbrev main_v233 : Ref sig .tc := ⟨.hbm, 321, rfl⟩
abbrev main_v234 : Ref sig .tc := ⟨.hbm, 322, rfl⟩
abbrev main_cst_43 : Ref sig .tc := ⟨.hbm, 323, rfl⟩
abbrev main_v235 : Ref sig .tc := ⟨.hbm, 324, rfl⟩
abbrev main_v236 : Ref sig .tc := ⟨.hbm, 325, rfl⟩
abbrev main_cst_44 : Ref sig .tc := ⟨.hbm, 326, rfl⟩
abbrev main_v237 : Ref sig .tc := ⟨.hbm, 327, rfl⟩
abbrev main_v238 : Ref sig .tc := ⟨.hbm, 328, rfl⟩
abbrev main_call5_v0 : Ref sig .tc := ⟨.hbm, 329, rfl⟩
abbrev main_call5_v1 : Ref sig .tc := ⟨.hbm, 330, rfl⟩
abbrev main_call5_v2 : Ref sig .tc := ⟨.hbm, 331, rfl⟩
abbrev main_v239 : Ref sig .tc := ⟨.hbm, 332, rfl⟩
abbrev main_cst_45 : Ref sig .tc := ⟨.hbm, 333, rfl⟩
abbrev main_v240 : Ref sig .tc := ⟨.hbm, 334, rfl⟩
abbrev main_v241 : Ref sig .tc := ⟨.hbm, 335, rfl⟩
abbrev main_cst_46 : Ref sig .tc := ⟨.hbm, 336, rfl⟩
abbrev main_v242 : Ref sig .tc := ⟨.hbm, 337, rfl⟩
abbrev main_v243 : Ref sig .tc := ⟨.hbm, 338, rfl⟩
abbrev main_cst_47 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_cst_48 : Ref sig .tc := ⟨.hbm, 344, rfl⟩
abbrev main_v248 : Ref sig .tc := ⟨.hbm, 345, rfl⟩
abbrev main_v249 : Ref sig .tc := ⟨.hbm, 346, rfl⟩
abbrev main_cst_49 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_cst_50 : Ref sig .tc := ⟨.hbm, 353, rfl⟩
abbrev main_v255 : Ref sig .tc := ⟨.hbm, 354, rfl⟩
abbrev main_v256 : Ref sig .tc := ⟨.hbm, 355, rfl⟩
abbrev main_cst_51 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_cst_52 : Ref sig .tc := ⟨.hbm, 364, rfl⟩
abbrev main_v264 : Ref sig .tc := ⟨.hbm, 365, rfl⟩
abbrev main_v265 : Ref sig .tc := ⟨.hbm, 366, rfl⟩
abbrev main_cst_53 : Ref sig .tc := ⟨.hbm, 367, rfl⟩
abbrev main_v266 : Ref sig .tc := ⟨.hbm, 368, rfl⟩
abbrev main_v267 : Ref sig .tc := ⟨.hbm, 369, rfl⟩
abbrev main_cst_54 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_cst_55 : Ref sig .tc := ⟨.hbm, 374, rfl⟩
abbrev main_v271 : Ref sig .tc := ⟨.hbm, 375, rfl⟩
abbrev main_v272 : Ref sig .tc := ⟨.hbm, 376, rfl⟩
abbrev main_cst_56 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_c_57 : Ref sig .tc := ⟨.hbm, 391, rfl⟩
abbrev main_call6_v0 : Ref sig .tc := ⟨.hbm, 392, rfl⟩
abbrev main_v286 : Ref sig .tc := ⟨.hbm, 393, rfl⟩
abbrev main_v287 : Ref sig .tc := ⟨.hbm, 394, rfl⟩

abbrev nD : Nat := 1
abbrev τ : Topo := Topo.v7x

variable {F : FTy → Type} [FloatOps F]
-- ==== FwdKernel.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S4096x1024 : Shape := ⟨2, ![4096, 1024]⟩
abbrev S1x1024 : Shape := ⟨2, ![1, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1408x1024 : Shape := ⟨3, ![2, 1408, 1024]⟩
abbrev S1408x1024 : Shape := ⟨2, ![1408, 1024]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x1408x1024 : Shape := ⟨3, ![1, 1408, 1024]⟩
abbrev S1x512x1408 : Shape := ⟨3, ![1, 512, 1408]⟩

abbrev nBuf : Space → Nat
  | .hbm => 13
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2x2816x1024, .bf16⟩
  | .hbm, ⟨7, _⟩ => ⟨S4096x1024, .f32⟩
  | .hbm, ⟨8, _⟩ => ⟨S1x1024, .f32⟩
  | .hbm, ⟨9, _⟩ => ⟨S2816x1024, .bf16⟩
  | .hbm, ⟨10, _⟩ => ⟨S4096x1024, .f32⟩
  | .hbm, ⟨11, _⟩ => ⟨S2x4096x2816, .bf16⟩
  | .hbm, ⟨12, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x1408x1024, .bf16⟩
  | .local _ .vmem, ⟨4, _⟩ => ⟨S2x1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S512x1024, .f32⟩
  | .local _ .vmem, ⟨8, _⟩ => ⟨S512x1024, .f32⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | .local _ .vmem, ⟨14, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v44 : BitVec 1 := Scalar.cmpi .eq arg1 c1_i32
  let v45 : BitVec 32 := Scalar.extui v44
  let c0_i32_28 : BitVec 32 := 0#32
  let v46 : BitVec 1 := Scalar.cmpi .ne v45 c0_i32_28
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdReferenceIdeal.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S1x2x2048x2816 : Shape := ⟨4, ![1, 2, 2048, 2816]⟩
abbrev S2x2x2048x2816 : Shape := ⟨4, ![2, 2, 2048, 2816]⟩
abbrev S4096x1024 : Shape := ⟨2, ![4096, 1024]⟩
abbrev S2x4096x2816 : Shape := ⟨3, ![2, 4096, 2816]⟩
abbrev S4096x2816 : Shape := ⟨2, ![4096, 2816]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x5632, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S1x2x2048x2816, .f32⟩
  | .hbm, ⟨45, _⟩ => ⟨S1x2x2048x2816, .f32⟩
  | .hbm, ⟨46, _⟩ => ⟨S2x2x2048x2816, .f32⟩
  | .hbm, ⟨47, _⟩ => ⟨S2x2048x1024, .f32⟩
  | .hbm, ⟨48, _⟩ => ⟨S2x2048x1024, .f32⟩
  | .hbm, ⟨49, _⟩ => ⟨S4096x1024, .f32⟩
  | .hbm, ⟨50, _⟩ => ⟨S2x4096x2816, .f32⟩
  | .hbm, ⟨51, _⟩ => ⟨S2x4096x2816, .bf16⟩
  | .hbm, ⟨52, _⟩ => ⟨S4096x2816, .f32⟩
  | .hbm, ⟨53, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v16_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v16_1 : Ref sig .tc := ⟨.hbm, 34, rfl⟩
abbrev main_v16_0 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== WgradKernel.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradReferenceIdeal.lean ====
abbrev S2x4096x2816 : Shape := ⟨3, ![2, 4096, 2816]⟩
abbrev S4096x1024 : Shape := ⟨2, ![4096, 1024]⟩
abbrev S2x2816x1024 : Shape := ⟨3, ![2, 2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x4096x2816, .f32⟩
  | .hbm, ⟨3, _⟩ => ⟨S4096x1024, .f32⟩
  | .hbm, ⟨4, _⟩ => ⟨S2x2816x1024, .f32⟩
  | .hbm, ⟨5, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Head.Body.lean ====
/- Hand-written: what one grid point of the loss head leaves in its output blocks and in its carried row, as plain
   functions of the three input blocks (`x`, `target`, `g`) and of the row or rows carried from the point before. -/
module

public import proofs.«01_k».proof.Proof.Gen.HeadKernelIdeal.Value
public import Idealize.ShloMosaic.Lib.Tactic

@[expose] public section

set_option maxRecDepth 16384

noncomputable section

namespace Cert.Proof.Head

open Cert.HeadKernelIdeal Cert.HeadKernelIdeal.Gen Cert.HeadKernelIdeal.Value
open Idealize.ShloMosaic Idealize.ShloMosaic.TcCoe Idealize.SL.Sem

variable {F : FTy → Type} [FloatOps F]

theorem hz : (![0, 0] : Fin 2 → Nat) = fun _ => 0 := funext fun a => by fin_cases a <;> rfl

/-- The gradient block of the rows `x`. -/
abbrev dxB (x t : Vec F S512x1024 .f32) (g : Vec F S1x1024 .f32) : Vec F S512x1024 .f32 :=
  k0_pay2 (k0_pay7 x) (k0_pay8 x) (k0_pay11 x g t) g

/-- The squared errors of the block added to the row carried for the loss. -/
abbrev lossStep (x t : Vec F S512x1024 .f32) (g s : Vec F S1x1024 .f32) : Vec F S1x1024 .f32 := k0_pay10 x g t s

/-- The block's share of the gain's gradient added to what the points before left. -/
abbrev gainStep (x t : Vec F S512x1024 .f32) (g s : Vec F S1x1024 .f32) : Vec F S1x1024 .f32 :=
  k0_pay1 (k0_pay12 s) (k0_pay13 x g t)

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1024 .f32) (h3 : a3.IsWhole)
  (a4 : Memref sig .tc .vmem S1x1 .f32) (h4 : a4.IsWhole) (a5 : Memref sig .tc .vmem S512x1024 .f32) (h5 : a5.IsWhole)
  (a6 : Memref sig .tc .vmem S1x1024 .f32) (h6 : a6.IsWhole) (a7 : Memref sig .tc .vmem S1x1024 .f32) (h7 : a7.IsWhole)

section A
variable (hc0 : cond0_0 i) (hc1 : ¬cond0_1 i) (x t : Vec F S512x1024 .f32) (g : Vec F S1x1024 .f32)

theorem dx_A : out0_A_4 c i a1 h1 a2 h2 a3 h3 a4 h4 a5 h5 a6 h6 a7 h7 hc0 hc1 x t g = dxB x t g := by
  unfold out0_A_4
  rw [View.read_writes_eq_canon _ _ _ (cover0_A_4 c i a1 h1 a2 h2 a3 h3 a4 h4 a5 h5 a6 h6 a7 h7 hc0 hc1 x t g)]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S1x1024) hz]

theorem gain_A : out0_A_5 c i a1 h1 a2 h2 a3 h3 a4 h4 a5 h5 a6 h6 a7 h7 hc0 hc1 x t g = gainStep x t g k0_pay5 := by
  unfold out0_A_5
  rw [View.read_writes_eq_canon _ _ _ (cover0_A_5 c i a1 h1 a2 h2 a3 h3 a4 h4 a5 h5 a6 h6 a7 h7 hc0 hc1 x t g)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x1024) hz,
    View.ld_unit_zero (S := S1x1024) hz]

theorem loss_A : sout0_A_0 c i a1 h1 a2 h2 a3 h3 a4 h4 a5 h5 a6 h6 a7 h7 hc0 hc1 x t g = lossStep x t g k0_pay4 := by
  unfold sout0_A_0
  rw [View.read_writes_eq_canon _ _ _ (scover0_A_0 c i a1 h1 a2 h2 a3 h3 a4 h4 a5 h5 a6 h6 a7 h7 hc0 hc1 x t g)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S512x1024) hz,
    View.ld_unit_zero (S := S1x1024) hz]
end A

section B
variable (hc0 : ¬cond0_0 i) (hc1 : ¬cond0_1 i) (x t : Vec F S512x1024 .f32) (g o s : Vec F S1x1024 .f32)

theorem dx_B : out0_B_4 c i a1 h1 a2 h2 a3 h3 a4 h4 a5 h5 a6 h6 a7 h7 hc0 hc1 x t g o s = dxB x t g := by
  unfold out0_B_4
  rw [View.read_writes_eq_canon _ _ _ (cover0_B_4 c i a1 h1 a2 h2 a3 h3 a4 h4 a5 h5 a6 h6 a7 h7 hc0 hc1 x t g o s)]
  unfold kernelRun0_B
  dsimp only
  sl_unfold_words
  rw [View.canon_unit_zero hz]
  simp only [View.readAt_eq_ld, h1.read_unread, h2.read_unread, h3.read_unread, View.ld_unit_zero (S := S512x1024) hz,
    View.ld_unit_zero (S := S1x1024) hz]

theorem gain_B : out0_B_5 c i a1 h1 a2 h2 a3 h3 a4 h4 a5 h5 a6 h6 a7 h7 hc0 hc1 x t g o s = gainStep x t g o := by
  unfold out0_B_5
  rw [View.read_writes_eq_canon _ _ _ (cover0_B_5 c i a1 h1 a2 h2 a3 h3 a4 h4 a5 h5 a6 h6 a7 h7 hc0 hc1 x t g o s)]
  unfold kernelRun0_B
  dsimp only
  sl_unfold_words
  rw [View.canon_unit_zero hz]
  simp only [View.readAt_eq_ld, h1.read_unread, h2.read_unread, h3.read_unread, h6.read_unread,
    View.ld_unit_zero (S := S512x1024) hz, View.ld_unit_zero (S := S1x1024) hz]

theorem loss_B : sout0_B_0 c i a1 h1 a2 h2 a3 h3 a4 h4 a5 h5 a6 h6 a7 h7 hc0 hc1 x t g o s = lossStep x t g s := by
  unfold sout0_B_0
  rw [View.read_writes_eq_canon _ _ _ (scover0_B_0 c i a1 h1 a2 h2 a3 h3 a4 h4 a5 h5 a6 h6 a7 h7 hc0 hc1 x t g o s)]
  unfold kernelRun0_B
  dsimp only
  sl_unfold_words
  rw [View.canon_unit_zero hz]
  simp only [View.readAt_eq_ld, h1.read_unread, h2.read_unread, h3.read_unread, h7.read_unread,
    View.ld_unit_zero (S := S512x1024) hz, View.ld_unit_zero (S := S1x1024) hz]
end B

section C
variable (hc0 : ¬cond0_0 i) (hc1 : cond0_1 i) (x t : Vec F S512x1024 .f32) (g o s : Vec F S1x1024 .f32)

theorem dx_C : out0_C_4 c i a1 h1 a2 h2 a3 h3 a4 h4 a5 h5 a6 h6 a7 h7 hc0 hc1 x t g o s = dxB x t g := by
  unfold out0_C_4
  rw [View.read_writes_eq_canon _ _ _ (cover0_C_4 c i a1 h1 a2 h2 a3 h3 a4 h4 a5 h5 a6 h6 a7 h7 hc0 hc1 x t g o s)]
  unfold kernelRun0_C
  dsimp only
  sl_unfold_words
  rw [View.canon_unit_zero hz]
  simp only [View.readAt_eq_ld, h1.read_unread, h2.read_unread, h3.read_unread, View.ld_unit_zero (S := S512x1024) hz,
    View.ld_unit_zero (S := S1x1024) hz]

theorem gain_C : out0_C_5 c i a1 h1 a2 h2 a3 h3 a4 h4 a5 h5 a6 h6 a7 h7 hc0 hc1 x t g o s = gainStep x t g o := by
  unfold out0_C_5
  rw [View.read_writes_eq_canon _ _ _ (cover0_C_5 c i a1 h1 a2 h2 a3 h3 a4 h4 a5 h5 a6 h6 a7 h7 hc0 hc1 x t g o s)]
  unfold kernelRun0_C
  dsimp only
  sl_unfold_words
  rw [View.canon_unit_zero hz]
  simp only [View.readAt_eq_ld, h1.read_unread, h2.read_unread, h3.read_unread, h6.read_unread,
    View.ld_unit_zero (S := S512x1024) hz, View.ld_unit_zero (S := S1x1024) hz]

/-- The last point writes the loss: half the mean of the row carried so far, its own block included. -/
theorem out_C : out0_C_3 c i a1 h1 a2 h2 a3 h3 a4 h4 a5 h5 a6 h6 a7 h7 hc0 hc1 x t g o s = k0_pay3 (lossStep x t g s) := by
  unfold out0_C_3
  rw [View.read_writes_eq_canon _ _ _ (cover0_C_3 c i a1 h1 a2 h2 a3 h3 a4 h4 a5 h5 a6 h6 a7 h7 hc0 hc1 x t g o s)]
  unfold kernelRun0_C
  dsimp only
  sl_unfold_words
  rw [View.canon_unit_zero hz, View.readCov_unit_zero (S := S1x1024) _ hz]
  simp only [View.readAt_eq_ld, h1.read_unread, h2.read_unread, h3.read_unread, h7.read_unread,
    View.ld_unit_zero (S := S512x1024) hz, View.ld_unit_zero (S := S1x1024) hz]
theorem loss_C : sout0_C_0 c i a1 h1 a2 h2 a3 h3 a4 h4 a5 h5 a6 h6 a7 h7 hc0 hc1 x t g o s = lossStep x t g s := by
  unfold sout0_C_0
  rw [View.read_writes_eq_canon _ _ _ (scover0_C_0 c i a1 h1 a2 h2 a3 h3 a4 h4 a5 h5 a6 h6 a7 h7 hc0 hc1 x t g o s)]
  unfold kernelRun0_C
  dsimp only
  sl_unfold_words
  rw [View.canon_unit_zero hz]
  simp only [View.readAt_eq_ld, h1.read_unread, h2.read_unread, h3.read_unread, h7.read_unread,
    View.ld_unit_zero (S := S512x1024) hz, View.ld_unit_zero (S := S1x1024) hz]
end C

end Cert.Proof.Head

end
-- ==== Proof.Reals.lean ====
/- Hand-written: real numbers inside the extended reals. On finite arguments every operation of the programs stays among
   the real numbers; these lemmas move each operation inside the coercion, and read the few float words the programs name. -/
module

public import Idealize.ShloMosaic.Lib.Pointwise
public import Idealize.ShloMosaic.PureOps.Ideal
public import Idealize.ShloMosaic.PureOps.Ideal.Laws
public import Idealize.ShloMosaic.Lib.IdealHost

@[expose] public section

noncomputable section

namespace Cert.Proof.Reals

open Idealize.ShloMosaic

/-- A finite sum of reals, in the extended reals. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- Division of reals by a nonzero real. -/
theorem div_real (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem rsqrt_pos {a : ℝ} (h : 0 < a) : Ideal.rsqrt (a : EReal) = (((Real.sqrt a)⁻¹ : ℝ) : EReal) := by
  rw [Ideal.rsqrt_coe, if_neg (not_lt.mpr h.le), if_neg h.ne']

/-- An array of extended reals none of which is infinite is an array of reals. -/
theorem exists_real {ι : Type} (v : ι → EReal) (h : ∀ i, v i ≠ ⊤ ∧ v i ≠ ⊥) : ∃ r : ι → ℝ, v = fun i => (r i : EReal) :=
  ⟨fun i => (v i).toReal, funext fun i => (EReal.coe_toReal (h i).1 (h i).2).symm⟩

/-- `|v| < ∞` says that `v` is a real. -/
theorem abs_lt_top {v : EReal} (h : max v (-v) < ⊤) : v ≠ ⊤ ∧ v ≠ ⊥ := by
  refine ⟨fun e => ?_, fun e => ?_⟩ <;> simp [e] at h

/-! ## The float words -/

theorem w1024 : Ideal.ofBits .f32 0x44800000#32 = ((1024 : ℝ) : EReal) := by
  simp [Ideal.ofBits, Ideal.ieee, -EReal.coe_mul]; norm_num

theorem winv1024 : Ideal.ofBits .f32 0x3A800000#32 = ((1 / 1024 : ℝ) : EReal) := by
  simp [Ideal.ofBits, Ideal.ieee, -EReal.coe_mul]; norm_num

theorem winv2048 : Ideal.ofBits .f32 0x3A000000#32 = ((1 / 2048 : ℝ) : EReal) := by
  simp [Ideal.ofBits, Ideal.ieee, -EReal.coe_mul]; norm_num

theorem whalf : Ideal.ofBits .f32 0x3F000000#32 = ((1 / 2 : ℝ) : EReal) := by
  simp [Ideal.ofBits, Ideal.ieee, -EReal.coe_mul]; norm_num

theorem wneghalf : Ideal.ofBits .f32 0xBF000000#32 = ((-(1 / 2) : ℝ) : EReal) := by
  simp [Ideal.ofBits, Ideal.ieee, -EReal.coe_mul, -EReal.coe_neg]; norm_num

theorem wtwo : Ideal.ofBits .f32 0x40000000#32 = ((2 : ℝ) : EReal) := by
  simp [Ideal.ofBits, Ideal.ieee, -EReal.coe_mul]; norm_num

theorem wone : Ideal.ofBits .f32 0x3F800000#32 = ((1 : ℝ) : EReal) := by
  simp [Ideal.ofBits, Ideal.ieee, -EReal.coe_mul]; norm_num

theorem wzero : Ideal.ofBits .f32 0x00000000#32 = ((0 : ℝ) : EReal) := by
  simp [Ideal.ofBits, Ideal.ieee]

/-- The word nearest to `1e-6`. -/
def eps : ℝ := 8796093 * (2 : ℝ) ^ (-43 : ℤ)

theorem eps_pos : 0 < eps := by unfold eps; positivity

theorem weps : Ideal.ofBits .f32 0x358637BD#32 = ((eps : ℝ) : EReal) := by
  simp [Ideal.ofBits, Ideal.ieee, eps, -EReal.coe_mul]

/-! ## The normalisation of one row -/

/-- What one row of 1024 numbers is scaled by: the reciprocal root of its mean square, `eps` added. -/
def rs (v : Fin 1024 → ℝ) : ℝ := (Real.sqrt ((∑ k, v k * v k) / 1024 + eps))⁻¹

theorem ms_pos (v : Fin 1024 → ℝ) : 0 < (∑ k, v k * v k) / 1024 + eps :=
  add_pos_of_nonneg_of_pos (div_nonneg (Finset.sum_nonneg fun k _ => mul_self_nonneg _) (by norm_num)) eps_pos

/-- The reciprocal root over its argument is its cube: the derivative of the scale, as the chain rule leaves it. -/
theorem rs_div (v : Fin 1024 → ℝ) : rs v / ((∑ k, v k * v k) / 1024 + eps) = rs v * rs v * rs v := by
  have h := ms_pos v
  unfold rs
  generalize (∑ k, v k * v k) / 1024 + eps = a at *
  have ha : Real.sqrt a ≠ 0 := (Real.sqrt_pos.mpr h).ne'
  have hs : Real.sqrt a * Real.sqrt a = a := Real.mul_self_sqrt h.le
  nth_rewrite 2 [← hs]
  field_simp

theorem rsqrt_row (v : Fin 1024 → ℝ) :
    Ideal.rsqrt (((∑ k, v k * v k) / 1024 + eps : ℝ) : EReal) = ((rs v : ℝ) : EReal) := rsqrt_pos (ms_pos v)

end Cert.Proof.Reals

end
-- ==== Proof.Finite.lean ====
/- Hand-written: the precondition `all(|a| < inf)` of an array says that the array is one of real numbers. -/
module

public import proofs.«01_k».proof.Proof.Reals
public import Idealize.ShloMosaic.Lib.ReduceAll

@[expose] public section

noncomputable section

namespace Cert.Proof.Reals

open Idealize.ShloMosaic

theorem winf : Ideal.ofBits .f32 0x7F800000#32 = (⊤ : EReal) := by simp [Ideal.ofBits, Ideal.ieee]

/-- `all(|x| < inf)` makes `x` an array of reals. -/
theorem real_of_all {s t u w : Shape} {axes : List (Fin s.rank)} [Subsingleton t.Idx] (x : FVec Ideal s .f32)
    (dims : Fin w.rank → Fin s.rank) (hb : w.BroadcastsInDim s dims) (o : u.Idx → BitVec 1) (h : s.ReducesTo axes t) (hu : 0 < u.numel)
    (j : t.Idx)
    (e : Host.reduce IntOp.andi (cmpf .olt (Host.absf x) (broadcastInDim s dims hb (constant w .f32 0x7F800000#32))) o h hu j = 1#1) :
    ∃ r : s.Idx → ℝ, x = fun i => (r i : EReal) := by
  refine exists_real x fun i => abs_lt_top ?_
  have k := Host.reduce_andi_all _ _ h hu j e i
  have k' : Ideal.cmp .olt (max (x i) (-(x i))) (Ideal.ofBits .f32 0x7F800000#32) = 1#1 := k
  rw [winf] at k'
  by_contra hn
  simp [Ideal.cmp, hn] at k'

end Cert.Proof.Reals

end
-- ==== Proof.Head.Block.lean ====
/- Hand-written: one block of the loss head on finite arguments, over the real numbers. `v`, `t`, `g` are a row of the
   input, the row of the target and the gain. -/
module

public import proofs.«01_k».proof.Proof.Head.Body
public import proofs.«01_k».proof.Proof.Finite

@[expose] public section

set_option maxRecDepth 16384

noncomputable section

namespace Cert.Proof.Head

open Cert.HeadKernelIdeal Cert.HeadKernelIdeal.Gen Cert.HeadKernelIdeal.Value Cert.Proof.Reals
open Idealize.ShloMosaic

/-- The error of one entry: the normalised row times the gain, less the target. -/
def err (v t g : Fin 1024 → ℝ) (j : Fin 1024) : ℝ := v j * rs v * g j - t j

/-- One row's share of the gain's gradient. -/
def gainRow (v t g : Fin 1024 → ℝ) (j : Fin 1024) : ℝ := err v t g j * (1 / 1024) * (v j * rs v)

/-- The gradient of one row of the input. -/
def dxRow (v t g : Fin 1024 → ℝ) (j : Fin 1024) : ℝ :=
  rs v * (err v t g j * (1 / 1024) * g j
    - v j * rs v * ((∑ k, err v t g k * (1 / 1024) * g k * (v k * rs v)) / 1024))

theorem n1024 : (1024 : ℝ) ≠ 0 := by norm_num

variable (x t : Vec Ideal S512x1024 .f32) (g s : Vec Ideal S1x1024 .f32)
  (xr tr : Fin 512 → Fin 1024 → ℝ) (gr sr : Fin 1024 → ℝ)
  (hx : ∀ p k, x (ix2 p k) = ((xr p k : ℝ) : EReal)) (ht : ∀ p k, t (ix2 p k) = ((tr p k : ℝ) : EReal))
  (hg : ∀ k, g (ix2 0 k) = ((gr k : ℝ) : EReal)) (hs : ∀ k, s (ix2 0 k) = ((sr k : ℝ) : EReal))
include hx ht hg

theorem dxB_real (p : Fin 512) (j : Fin 1024) : dxB x t g (ix2 p j) = ((dxRow (xr p) (tr p) gr j : ℝ) : EReal) := by
  pointwise [dxB, k0_pay2, k0_pay7, k0_pay6, k0_pay8, k0_pay9, k0_pay11]
  simp only [hx, ht, hg, ← EReal.coe_mul, ← EReal.coe_add, ← EReal.coe_sub, coe_sum, w1024, winv1024, weps,
    div_real _ n1024, rsqrt_row]
  rfl

include hs

theorem lossStep_real (j : Fin 1024) :
    lossStep x t g s (ix2 0 j) = ((sr j + ∑ p, err (xr p) (tr p) gr j * err (xr p) (tr p) gr j : ℝ) : EReal) := by
  pointwise [lossStep, k0_pay10, k0_pay7, k0_pay6, k0_pay8, k0_pay9, k0_pay11]
  simp only [hx, ht, hg, hs, ← EReal.coe_mul, ← EReal.coe_add, ← EReal.coe_sub, coe_sum, w1024, winv1024, weps,
    div_real _ n1024, rsqrt_row]
  rfl

theorem gainStep_real (j : Fin 1024) :
    gainStep x t g s (ix2 0 j) = ((sr j + ∑ p, gainRow (xr p) (tr p) gr j : ℝ) : EReal) := by
  pointwise [gainStep, k0_pay1, k0_pay12, k0_pay13, k0_pay7, k0_pay6, k0_pay8, k0_pay9, k0_pay11]
  simp only [hx, ht, hg, hs, ← EReal.coe_mul, ← EReal.coe_add, ← EReal.coe_sub, coe_sum, w1024, winv1024, weps,
    div_real _ n1024, rsqrt_row]
  rfl

omit hx ht hg in
/-- The last point's loss: the sum of the carried row over 2048. -/
theorem loss_real (a b : Fin 1) : k0_pay3 s (ix2 a b) = (((∑ j, sr j) * (1 / 2048) : ℝ) : EReal) := by
  obtain rfl : a = 0 := Subsingleton.elim _ _
  obtain rfl : b = 0 := Subsingleton.elim _ _
  pointwise [k0_pay3]
  simp only [hs, coe_sum, winv2048, ← EReal.coe_mul]

end Cert.Proof.Head

end
-- ==== Proof.Head.Kernel.lean ====
/- Hand-written: what the loss head leaves in its three result arrays on finite arguments, by induction over its eight
   blocks of 512 rows. Rows are numbered through both sequences, `p = 2048 * sequence + position`. -/
module

public import proofs.«01_k».proof.Proof.Head.Block
public import Idealize.ShloMosaic.Lib.Pipeline.Value
public import Idealize.ShloMosaic.Lib.StableHlo.Run

@[expose] public section

set_option maxRecDepth 16384

noncomputable section

namespace Cert.Proof.Head

open Cert.HeadKernelIdeal Cert.HeadKernelIdeal.Gen Cert.HeadKernelIdeal.Value Cert.Proof.Reals
open Idealize.ShloMosaic Idealize.ShloMosaic.TcCoe Idealize.SL.Sem

/-- Entry `j` of row `p`, in the argument's own shape. -/
def rowOf (p : ℕ) (j : Fin 1024) : S2x2048x1024.Idx := ix3 (Fin.ofNat 2 (p / 2048)) (Fin.ofNat 2048 p) j

/-- Row `p` of an array of reals. -/
def row (X : S2x2048x1024.Idx → ℝ) (p : ℕ) : Fin 1024 → ℝ := fun j => X (rowOf p j)

theorem rowOf_eq {p : ℕ} (h0 : p / 2048 < 2) (h1 : p % 2048 < 2048) (j : Fin 1024) :
    (ix3 (⟨p / 2048, h0⟩ : Fin 2) (⟨p % 2048, h1⟩ : Fin 2048) j : S2x2048x1024.Idx) = rowOf p j := by
  unfold rowOf
  have e : (⟨p / 2048, h0⟩ : Fin 2) = Fin.ofNat 2 (p / 2048) := Fin.ext (Nat.mod_eq_of_lt h0).symm
  rw [e]; rfl

theorem rowOf_seq (b : Fin 2) (s : Fin 2048) (j : Fin 1024) : rowOf (2048 * b.val + s.val) j = ix3 b s j := by
  unfold rowOf
  have e0 : Fin.ofNat 2 ((2048 * b.val + s.val) / 2048) = b := Fin.ext (by
    show ((2048 * b.val + s.val) / 2048) % 2 = b.val
    have := b.isLt; have := s.isLt; omega)
  have e1 : Fin.ofNat 2048 (2048 * b.val + s.val) = s := Fin.ext (by
    show (2048 * b.val + s.val) % 2048 = s.val
    have := s.isLt; omega)
  rw [e0, e1]

variable (m : (ℓ : Loc nD τ sig) → Buf (Elt Ideal) ℓ) (c : Dev nD)

theorem V0 : V m c main_v0 = shapeCast _ (m ((c : Thread nD τ).loc main_arg0)) shapeCasts_S2x2048x1024_S4096x1024 := by
  unfold V hostOps0; after_results_simp <;> rfl
theorem V1 : V m c main_v1 = shapeCast _ (m ((c : Thread nD τ).loc main_arg1)) shapeCasts_S2x2048x1024_S4096x1024 := by
  unfold V hostOps0; after_results_simp <;> rfl
theorem V2 : V m c main_v2 = broadcastInDim S1x1024 ![1] bcast_S1024_S1x1024_1 (m ((c : Thread nD τ).loc main_arg2)) := by
  unfold V hostOps0; after_results_simp <;> rfl

/-- Row `q` of the two sequences laid end to end. -/
theorem flat (y : Vec Ideal S2x2048x1024 .f32) (q : Fin 4096) (j : Fin 1024) :
    shapeCast S4096x1024 y shapeCasts_S2x2048x1024_S4096x1024 (ix2 q j) = y (rowOf q.val j) := by
  pointwise []
  exact congrArg y (rowOf_eq (by have := q.isLt; omega) (Nat.mod_lt _ (by decide)) j)

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel

theorem bound (t : Fin cfg0.N) (p : Fin 512) : 512 * t.val + p.val < 4096 := by
  have hN := lt_of_lt_of_eq t.isLt (show cfg0.N = 8 from N_0)
  have := p.isLt; omega

theorem blk0 (t : Fin cfg0.N) (p : Fin 512) (j : Fin 1024) :
    (iblk m c 0 t : Vec Ideal S512x1024 .f32) (ix2 p j)
      = (m ((c : Thread nD τ).loc main_arg0) : Vec Ideal S2x2048x1024 .f32) (rowOf (512 * t.val + p.val) j) := by
  unfold iblk
  rw [View.read_apply]
  show V m c main_v0 _ = _
  rw [V0]
  refine Eq.trans (congrArg (shapeCast S4096x1024 (m ((c : Thread nD τ).loc main_arg0)) shapeCasts_S2x2048x1024_S4096x1024) ?_)
    (flat (m ((c : Thread nD τ).loc main_arg0)) ⟨512 * t.val + p.val, bound t p⟩ j)
  funext a
  apply Fin.ext
  match a with
  | ⟨0, _⟩ => show win0_0.index t 0 * 512 + 1 * p.val = 512 * t.val + p.val; rw [(idx0 t).1]; omega
  | ⟨1, _⟩ => show win0_0.index t 1 * 1024 + 1 * j.val = j.val; rw [(idx0 t).2]; omega

theorem blk1 (t : Fin cfg0.N) (p : Fin 512) (j : Fin 1024) :
    (iblk m c 1 t : Vec Ideal S512x1024 .f32) (ix2 p j)
      = (m ((c : Thread nD τ).loc main_arg1) : Vec Ideal S2x2048x1024 .f32) (rowOf (512 * t.val + p.val) j) := by
  unfold iblk
  rw [View.read_apply]
  show V m c main_v1 _ = _
  rw [V1]
  refine Eq.trans (congrArg (shapeCast S4096x1024 (m ((c : Thread nD τ).loc main_arg1)) shapeCasts_S2x2048x1024_S4096x1024) ?_)
    (flat (m ((c : Thread nD τ).loc main_arg1)) ⟨512 * t.val + p.val, bound t p⟩ j)
  funext a
  apply Fin.ext
  match a with
  | ⟨0, _⟩ => show win0_1.index t 0 * 512 + 1 * p.val = 512 * t.val + p.val; rw [(idx1 t).1]; omega
  | ⟨1, _⟩ => show win0_1.index t 1 * 1024 + 1 * j.val = j.val; rw [(idx1 t).2]; omega

theorem blk2 (t : Fin cfg0.N) (j : Fin 1024) :
    (iblk m c 2 t : Vec Ideal S1x1024 .f32) (ix2 0 j) = (m ((c : Thread nD τ).loc main_arg2) : Vec Ideal S1024 .f32) (ix1 j) := by
  unfold iblk
  rw [View.read_apply]
  show V m c main_v2 _ = _
  rw [V2]
  have e (y : Vec Ideal S1024 .f32) : broadcastInDim S1x1024 ![1] bcast_S1024_S1x1024_1 y (ix2 0 j) = y (ix1 j) := by pointwise []
  refine Eq.trans (congrArg (broadcastInDim S1x1024 ![1] bcast_S1024_S1x1024_1 (m ((c : Thread nD τ).loc main_arg2) : Vec Ideal S1024 .f32)) ?_)
    (e (m ((c : Thread nD τ).loc main_arg2)))
  funext a
  apply Fin.ext
  match a with
  | ⟨0, _⟩ => show win0_2.index t 0 * 1 + 1 * 0 = 0; rw [(idx2 t).1]
  | ⟨1, _⟩ => show win0_2.index t 1 * 1024 + 1 * j.val = j.val; rw [(idx2 t).2]; omega

variable (X T : S2x2048x1024.Idx → ℝ) (G : S1024.Idx → ℝ)
  (hX : m ((c : Thread nD τ).loc main_arg0) = fun i => ((X i : ℝ) : EReal))
  (hT : m ((c : Thread nD τ).loc main_arg1) = fun i => ((T i : ℝ) : EReal))
  (hG : m ((c : Thread nD τ).loc main_arg2) = fun i => ((G i : ℝ) : EReal))

/-- The gain. -/
abbrev gain (G : S1024.Idx → ℝ) : Fin 1024 → ℝ := fun j => G (ix1 j)

/-- The gain's gradient from the first `n` rows. -/
def gainSum (n : ℕ) (j : Fin 1024) : ℝ := ∑ q ∈ Finset.range n, gainRow (row X q) (row T q) (gain G) j

/-- The squared errors of the first `n` rows. -/
def lossSum (n : ℕ) (j : Fin 1024) : ℝ :=
  ∑ q ∈ Finset.range n, err (row X q) (row T q) (gain G) j * err (row X q) (row T q) (gain G) j

theorem gainSum_add (n : ℕ) (j : Fin 1024) : gainSum X T G (512 * (n + 1)) j
    = gainSum X T G (512 * n) j + ∑ p : Fin 512, gainRow (row X (512 * n + p.val)) (row T (512 * n + p.val)) (gain G) j := by
  unfold gainSum
  rw [Nat.mul_succ, Finset.sum_range_add, Finset.sum_range (n := 512)]

theorem lossSum_add (n : ℕ) (j : Fin 1024) : lossSum X T G (512 * (n + 1)) j
    = lossSum X T G (512 * n) j + ∑ p : Fin 512, err (row X (512 * n + p.val)) (row T (512 * n + p.val)) (gain G) j
        * err (row X (512 * n + p.val)) (row T (512 * n + p.val)) (gain G) j := by
  unfold lossSum
  rw [Nat.mul_succ, Finset.sum_range_add, Finset.sum_range (n := 512)]

/-- The zero row the first point resets both carried rows to. -/
theorem zero_row (j : Fin 1024) : k0_pay5 (F := Ideal) (ix2 0 j) = ((0 : ℝ) : EReal) := by
  pointwise [k0_pay5]; rfl
theorem zero_row' (j : Fin 1024) : k0_pay4 (F := Ideal) (ix2 0 j) = ((0 : ℝ) : EReal) := by
  pointwise [k0_pay4]; rfl

include hX hT hG

theorem state (n : ℕ) : ∀ hn : n < cfg0.N,
    (∀ p j, (outsAt0 m c n hn).2.1 (ix2 p j)
      = ((dxRow (row X (512 * n + p.val)) (row T (512 * n + p.val)) (gain G) j : ℝ) : EReal))
    ∧ (∀ j, (outsAt0 m c n hn).2.2.1 (ix2 0 j) = ((gainSum X T G (512 * (n + 1)) j : ℝ) : EReal))
    ∧ (∀ j, (outsAt0 m c n hn).2.2.2 (ix2 0 j) = ((lossSum X T G (512 * (n + 1)) j : ℝ) : EReal)) := by
  have b0 (t : Fin cfg0.N) (p j) : (iblk m c 0 t : Vec Ideal S512x1024 .f32) (ix2 p j)
      = ((row X (512 * t.val + p.val) j : ℝ) : EReal) := by rw [blk0, hX]; rfl
  have b1 (t : Fin cfg0.N) (p j) : (iblk m c 1 t : Vec Ideal S512x1024 .f32) (ix2 p j)
      = ((row T (512 * t.val + p.val) j : ℝ) : EReal) := by rw [blk1, hT]; rfl
  have b2 (t : Fin cfg0.N) (j) : (iblk m c 2 t : Vec Ideal S1x1024 .f32) (ix2 0 j) = ((gain G j : ℝ) : EReal) := by
    rw [blk2, hG]
  induction n with
  | zero =>
    intro hn
    rw [outsAt0_A m c ⟨0, hn⟩ (Nat.zero_mod _) (by simp)]
    refine ⟨fun p j => ?_, fun j => ?_, fun j => ?_⟩ <;> dsimp only
    · rw [dx_A]
      exact dxB_real _ _ _ _ _ _ (b0 ⟨0, hn⟩) (b1 ⟨0, hn⟩) (b2 ⟨0, hn⟩) p j
    · rw [gain_A, gainSum_add]
      exact gainStep_real _ _ _ _ _ _ _ _ (b0 ⟨0, hn⟩) (b1 ⟨0, hn⟩) (b2 ⟨0, hn⟩) (fun k => zero_row k) j
    · rw [loss_A, lossSum_add]
      exact lossStep_real _ _ _ _ _ _ _ _ (b0 ⟨0, hn⟩) (b1 ⟨0, hn⟩) (b2 ⟨0, hn⟩) (fun k => zero_row' k) j
  | succ n ih =>
    intro hn
    obtain ⟨-, i1, i2⟩ := ih (Nat.lt_of_succ_lt hn)
    have hN := lt_of_lt_of_eq hn (show cfg0.N = 8 from N_0)
    have h0 : ¬(n + 1) % 8 = 0 := by omega
    by_cases h1 : (n + 1) % 8 = 7
    · rw [outsAt0_C m c ⟨n + 1, hn⟩ h0 h1]
      refine ⟨fun p j => ?_, fun j => ?_, fun j => ?_⟩ <;> dsimp only
      · rw [dx_C]
        exact dxB_real _ _ _ _ _ _ (b0 ⟨n + 1, hn⟩) (b1 ⟨n + 1, hn⟩) (b2 ⟨n + 1, hn⟩) p j
      · rw [gain_C, gainSum_add]
        exact gainStep_real _ _ _ _ _ _ _ _ (b0 ⟨n + 1, hn⟩) (b1 ⟨n + 1, hn⟩) (b2 ⟨n + 1, hn⟩) i1 j
      · rw [loss_C, lossSum_add]
        exact lossStep_real _ _ _ _ _ _ _ _ (b0 ⟨n + 1, hn⟩) (b1 ⟨n + 1, hn⟩) (b2 ⟨n + 1, hn⟩) i2 j
    · rw [outsAt0_B m c ⟨n + 1, hn⟩ h0 h1]
      refine ⟨fun p j => ?_, fun j => ?_, fun j => ?_⟩ <;> dsimp only
      · rw [dx_B]
        exact dxB_real _ _ _ _ _ _ (b0 ⟨n + 1, hn⟩) (b1 ⟨n + 1, hn⟩) (b2 ⟨n + 1, hn⟩) p j
      · rw [gain_B, gainSum_add]
        exact gainStep_real _ _ _ _ _ _ _ _ (b0 ⟨n + 1, hn⟩) (b1 ⟨n + 1, hn⟩) (b2 ⟨n + 1, hn⟩) i1 j
      · rw [loss_B, lossSum_add]
        exact lossStep_real _ _ _ _ _ _ _ _ (b0 ⟨n + 1, hn⟩) (b1 ⟨n + 1, hn⟩) (b2 ⟨n + 1, hn⟩) i2 j

/-- The gradient of the input. -/
theorem kernel_dx (p : Fin 4096) (j : Fin 1024) :
    G4 m c (ix2 p j) = ((dxRow (row X p.val) (row T p.val) (gain G) j : ℝ) : EReal) := by
  have hp : pt4Of (ix2 p j) = p.val / 512 := by
    show 1 * (p.val / 512 - 0) + 1 * (j.val / 1024 - 0) = _
    have := j.isLt; omega
  have hlt : pt4Of (ix2 p j) < cfg0.N := by
    rw [hp]; exact lt_of_lt_of_eq (by have := p.isLt; omega) N_0.symm
  unfold G4
  rw [dif_pos hlt, ← outsAt0_sweep m c (pt4Of (ix2 p j)) hlt]
  have e : loc4Of (ix2 p j) = ix2 (⟨p.val % 512, Nat.mod_lt _ (by decide)⟩ : Fin 512) j := by
    funext a; apply Fin.ext
    match a with
    | ⟨0, _⟩ => rfl
    | ⟨1, _⟩ => exact Nat.mod_eq_of_lt j.isLt
  rw [e, (state m c X T G hX hT hG (pt4Of (ix2 p j)) hlt).1]
  have e : 512 * pt4Of (ix2 p j) + p.val % 512 = p.val := by rw [hp]; omega
  show ((dxRow (row X (512 * pt4Of (ix2 p j) + p.val % 512)) (row T (512 * pt4Of (ix2 p j) + p.val % 512)) (gain G) j : ℝ) : EReal) = _
  rw [e]

/-- The gradient of the gain. -/
theorem kernel_dg (a : Fin 1) (j : Fin 1024) : G5 m c (ix2 a j) = ((gainSum X T G 4096 j : ℝ) : EReal) := by
  obtain rfl : a = 0 := Subsingleton.elim _ _
  rw [G5_last, ← outsAt0_sweep]
  exact (state m c X T G hX hT hG 7 (lt_of_lt_of_eq (by decide) N_0.symm)).2.1 j

/-- The loss. -/
theorem kernel_loss (a b : Fin 1) : G3 m c (ix2 a b) = (((∑ j, lossSum X T G 4096 j) * (1 / 2048) : ℝ) : EReal) := by
  have h7 : 7 < cfg0.N := lt_of_lt_of_eq (by decide) N_0.symm
  have st := (state m c X T G hX hT hG 7 h7).2.2
  rw [G3_last, ← outsAt0_sweep m c 7 h7]
  rw [outsAt0_C m c ⟨7, h7⟩ (by simp) (by simp)] at st ⊢
  dsimp only at st ⊢
  rw [loss_C] at st
  rw [out_C]
  exact loss_real _ _ st a b

end Cert.Proof.Head

end
-- ==== Proof.Sums.lean ====
/- Hand-written: a host sum over the two leading of three axes, and a sum over 4096 rows cut in 2 sequences of 2048. -/
module

public import proofs.«01_k».proof.Proof.Reals

@[expose] public section

noncomputable section

namespace Cert.Proof.Reals

open Idealize.ShloMosaic

/-- The sum over axes 0 and 1 of an array of rank 3. -/
theorem hostSum_lead2 {A B C : ℕ} (h : (⟨3, ![A, B, C]⟩ : Shape).ReducesTo [0, 1] ⟨1, ![C]⟩)
    (x : (⟨3, ![A, B, C]⟩ : Shape).Idx → EReal) (z : EReal) (k : Fin C) :
    Ideal.hostReduceAdd h x z (ix1 k) = z + ∑ a : Fin A, ∑ b : Fin B, x (ix3 a b k) := by
  unfold Ideal.hostReduceAdd
  refine congrArg (z + ·) ?_
  rw [← Finset.sum_product', ← Finset.univ_product_univ.symm.subst rfl]
  refine Finset.sum_nbij' (fun i => (i 0, i 1)) (fun p => ix3 p.1 p.2 k) ?_ ?_ ?_ ?_ ?_
  · exact fun i _ => Finset.mem_univ _
  · intro p _
    refine Finset.mem_filter.mpr ⟨Finset.mem_univ _, funext fun b => ?_⟩
    match b with | ⟨0, _⟩ => rfl
  · intro i hi
    have e := congrFun (Finset.mem_filter.mp hi).2 0
    funext a
    match a with | ⟨0, _⟩ => rfl | ⟨1, _⟩ => rfl | ⟨2, _⟩ => exact e.symm
  · exact fun p _ => rfl
  · intro i hi
    have e := congrFun (Finset.mem_filter.mp hi).2 0
    refine congrArg x (funext fun a => ?_)
    match a with | ⟨0, _⟩ => rfl | ⟨1, _⟩ => rfl | ⟨2, _⟩ => exact e

/-- A sum over `a * b` consecutive numbers, by quotient and remainder. -/
theorem sum_range_mul (a b : ℕ) (f : ℕ → ℝ) :
    ∑ n ∈ Finset.range (a * b), f n = ∑ i : Fin a, ∑ j : Fin b, f (b * i.val + j.val) := by
  induction a with
  | zero => simp
  | succ a ih =>
    rw [Nat.succ_mul, Finset.sum_range_add, ih, Fin.sum_univ_castSucc]
    simp only [Fin.val_castSucc, Fin.val_last, Nat.mul_comm b, Finset.sum_range]

end Cert.Proof.Reals

end
-- ==== Proof.Head.Reference.lean ====
/- Hand-written: the three results of the loss head's reference on finite arguments, as the real expressions the kernel
   leaves. -/
module

public import proofs.«01_k».proof.Proof.Head.Kernel
public import proofs.«01_k».proof.Proof.Sums
public import proofs.«01_k».proof.Proof.Gen.HeadReferenceIdeal.Read

@[expose] public section

set_option maxRecDepth 16384

noncomputable section

namespace Cert.Proof.Head

open Cert.HeadReferenceIdeal Cert.HeadReferenceIdeal.Gen Cert.HeadReferenceIdeal.Read Cert.Proof.Reals
open Idealize.ShloMosaic

variable (x t : Vec Ideal S2x2048x1024 .f32) (g : Vec Ideal S1024 .f32)
  (X T : S2x2048x1024.Idx → ℝ) (G : S1024.Idx → ℝ)
  (hX : x = fun i => ((X i : ℝ) : EReal)) (hT : t = fun i => ((T i : ℝ) : EReal)) (hG : g = fun i => ((G i : ℝ) : EReal))

theorem row_seq (X : S2x2048x1024.Idx → ℝ) (b : Fin 2) (s : Fin 2048) :
    row X (2048 * b.val + s.val) = fun k => X (ix3 b s k) := funext fun k => congrArg X (rowOf_seq b s k)

theorem row_at (X : S2x2048x1024.Idx → ℝ) (b : Fin 2) (s : Fin 2048) (k : Fin 1024) :
    row X (2048 * b.val + s.val) k = X (ix3 b s k) := congrArg X (rowOf_seq b s k)

include hX hT hG

theorem ref_loss (a b : Fin 1) :
    val_main_v51 x t g (ix2 a b) = (((∑ j, lossSum X T G 4096 j) * (1 / 2048) : ℝ) : EReal) := by
  pointwise [val_main_v51, val_main_v24, val_main_v23, val_main_v22, val_main_v21, val_main_v20, val_main_v17, val_main_v16,
    val_main_v15, val_main_v14, val_main_v13, val_main_v12, val_main_v11, val_main_v7, val_main_v6, val_main_v5, val_main_v4,
    val_main_v3, val_main_v2, val_main_v1, val_main_v0, val_main_cst, val_main_cst_0, val_main_cst_1, val_main_cst_4,
    val_main_cst_5, val_main_cst_6, val_main_cst_7]
  have hr (b : Fin 2) (s : Fin 2048) := rsqrt_row fun k => X (ix3 b s k)
  simp only [hX, hT, hG, ← EReal.coe_mul, ← EReal.coe_add, ← EReal.coe_sub, coe_sum, w1024, weps, whalf, div_real _ n1024, hr]
  refine congrArg _ ?_
  unfold lossSum
  conv_rhs => rw [Finset.sum_comm]
  rw [show (4096 : ℕ) = 2 * 2048 from rfl, sum_range_mul]
  simp only [row_seq, row_at, gain, err, Finset.mul_sum, Finset.sum_mul, Finset.sum_div]
  refine Finset.sum_congr rfl fun a _ => Finset.sum_congr rfl fun b _ => Finset.sum_congr rfl fun k _ => ?_
  ring

theorem ref_dg (a : Fin 1) (j : Fin 1024) : val_main_v53 x t g (ix2 a j) = ((gainSum X T G 4096 j : ℝ) : EReal) := by
  obtain rfl : a = 0 := Subsingleton.elim _ _
  have e32 : val_main_v32 x t g (ix1 j) = ((gainSum X T G 4096 j : ℝ) : EReal) := by
    unfold val_main_v32 Host.reduceAdd
    rw [Ideal.hostReduceAdd_def, hostSum_lead2]
    pointwise [val_main_v31, val_main_v30, val_main_v29, val_main_v28, val_main_v27, val_main_v26, val_main_v25, val_main_v19,
      val_main_v18, val_main_v17, val_main_v16, val_main_v15, val_main_v14, val_main_v13, val_main_v12, val_main_v11,
      val_main_v7, val_main_v6, val_main_v5, val_main_v4, val_main_v3, val_main_v2, val_main_v1, val_main_v0, val_main_cst,
      val_main_cst_0, val_main_cst_1, val_main_cst_3, val_main_cst_8, val_main_cst_9, val_main_cst_10, val_main_cst_11]
    have hr (b : Fin 2) (s : Fin 2048) := rsqrt_row fun k => X (ix3 b s k)
    simp only [hX, hT, hG, ← EReal.coe_mul, ← EReal.coe_add, ← EReal.coe_sub, coe_sum, w1024, weps, whalf, wtwo,
      div_real _ n1024, hr]
    refine congrArg _ ?_
    unfold gainSum
    rw [show (4096 : ℕ) = 2 * 2048 from rfl, sum_range_mul]
    simp only [row_seq, row_at, gain, err, gainRow]
    refine Finset.sum_congr rfl fun a _ => Finset.sum_congr rfl fun b _ => ?_
    ring
  have e36 : val_main_v36 x t g (ix1 j) = val_main_v32 x t g (ix1 j) := by
    unfold val_main_v36 Host.reduceAdd
    rw [Ideal.hostReduceAdd_def, hostSum_lead2]
    unfold val_main_v33
    generalize val_main_v32 x t g = y
    pointwise [val_main_cst_12]
    simp only [Fin.sum_univ_one]
  rw [← e32, ← e36]
  unfold val_main_v53
  generalize val_main_v36 x t g = y
  pointwise []

theorem ref_dx (p : Fin 4096) (j : Fin 1024) :
    val_main_v52 x t g (ix2 p j) = ((dxRow (row X p.val) (row T p.val) (gain G) j : ℝ) : EReal) := by
  have e (b : Fin 2) (s : Fin 2048) : val_main_v50 x t g (ix3 b s j)
      = ((dxRow (fun k => X (ix3 b s k)) (fun k => T (ix3 b s k)) (gain G) j : ℝ) : EReal) := by
    pointwise [val_main_v50, val_main_v49, val_main_v48, val_main_v47, val_main_v46, val_main_v45, val_main_v44, val_main_v43,
      val_main_v42, val_main_v41, val_main_v40, val_main_v39, val_main_v38, val_main_v37, val_main_v35, val_main_v34,
      val_main_v30, val_main_v29, val_main_v28, val_main_v27, val_main_v26, val_main_v25, val_main_v19, val_main_v18,
      val_main_v17, val_main_v16, val_main_v15, val_main_v14, val_main_v13, val_main_v12, val_main_v11, val_main_v10,
      val_main_v9, val_main_v8, val_main_v7, val_main_v6, val_main_v5, val_main_v4, val_main_v3, val_main_v2, val_main_v1,
      val_main_v0, val_main_cst, val_main_cst_0, val_main_cst_1, val_main_cst_2, val_main_cst_3, val_main_cst_8,
      val_main_cst_9, val_main_cst_10, val_main_cst_13, val_main_cst_14, val_main_cst_15]
    have hr := rsqrt_row fun k => X (ix3 b s k)
    have hp := (ms_pos fun k => X (ix3 b s k)).ne'
    simp only [hX, hT, hG, ← EReal.coe_mul, ← EReal.coe_add, ← EReal.coe_sub, coe_sum, w1024, weps, whalf, wtwo, wneghalf,
      div_real _ n1024, hr, div_real _ hp, rs_div, Fin.sum_univ_one]
    refine congrArg _ ?_
    unfold dxRow
    have hs : (∑ k, X (ix3 b s k) * (1 / 2 / 1024 * (2 * (X (ix3 b s k) * rs (fun k => X (ix3 b s k)) * G (ix1 k) - T (ix3 b s k))) * G (ix1 k)))
        * rs (fun k => X (ix3 b s k))
        = ∑ k, err (fun k => X (ix3 b s k)) (fun k => T (ix3 b s k)) (gain G) k * (1 / 1024) * gain G k
          * (X (ix3 b s k) * rs (fun k => X (ix3 b s k))) := by
      rw [Finset.sum_mul]
      exact Finset.sum_congr rfl fun k _ => by simp only [err, gain]; ring
    rw [← hs]
    simp only [err, gain]
    ring
  have q0 : p.val / 2048 < 2 := by have := p.isLt; omega
  have q1 : p.val % 2048 < 2048 := Nat.mod_lt _ (by decide)
  have k : val_main_v52 x t g (ix2 p j) = val_main_v50 x t g (ix3 (⟨p.val / 2048, q0⟩ : Fin 2) (⟨p.val % 2048, q1⟩ : Fin 2048) j) := by
    unfold val_main_v52
    generalize val_main_v50 x t g = y
    pointwise []
  rw [k, e]
  simp only [rowOf_eq q0 q1]
  rfl

end Cert.Proof.Head

end
-- ==== Proof.Head.Claim.lean ====
/- Hand-written: the loss head's claims, from the generated runs and the value lemmas. -/
module

public import proofs.«01_k».proof.Defs
public import proofs.«01_k».proof.Proof.Gen.HeadKernel
public import proofs.«01_k».proof.Proof.Gen.HeadKernel.Frame
public import proofs.«01_k».proof.Proof.Gen.Pre_fin
public import proofs.«01_k».proof.Proof.Head.Reference

@[expose] public section

set_option maxRecDepth 16384

noncomputable section

namespace Cert.Proof.Head

open Cert.Proof.Reals Idealize.ShloMosaic Idealize.SL.Sem

instance scalar_subsingleton : Subsingleton Cert.Pre_fin.S_.Idx := ⟨fun i j => funext fun a => a.elim0⟩

/-- The precondition makes the three arguments arrays of reals. -/
theorem finite (m : (ℓ : Loc Cert.HeadKernelIdeal.nD Cert.HeadKernelIdeal.τ Cert.HeadKernelIdeal.sig) → Buf (Elt Ideal) ℓ)
    (h : Cert.Pre_HeadKernelIdeal_fin m) (c : Dev Cert.HeadKernelIdeal.nD) :
    ∃ (X T : Cert.HeadKernelIdeal.S2x2048x1024.Idx → ℝ) (G : Cert.HeadKernelIdeal.S1024.Idx → ℝ),
      m (c.tc.loc Cert.HeadKernelIdeal.main_arg0) = (fun i => ((X i : ℝ) : EReal))
      ∧ m (c.tc.loc Cert.HeadKernelIdeal.main_arg1) = (fun i => ((T i : ℝ) : EReal))
      ∧ m (c.tc.loc Cert.HeadKernelIdeal.main_arg2) = (fun i => ((G i : ℝ) : EReal)) := by
  have e := congrFun (h c) ix0
  obtain ⟨e, e2⟩ := Idealize.ShloMosaic.IntOp.andi_eq_one.mp e
  obtain ⟨e0, e1⟩ := Idealize.ShloMosaic.IntOp.andi_eq_one.mp e
  obtain ⟨X, hX⟩ := real_of_all _ _ _ _ _ _ _ e0
  obtain ⟨T, hT⟩ := real_of_all _ _ _ _ _ _ _ e1
  obtain ⟨G, hG⟩ := real_of_all _ _ _ _ _ _ _ e2
  exact ⟨X, T, G, hX, hT, hG⟩

/-- The reference runs, its arguments unchanged; it has no counter. -/
theorem frame_reference : Cert.quiescent_HeadReferenceIdeal := fun m g _ =>
  (θ_run Cert.HeadReferenceIdeal.defs _ _).mono
    (fun r h => ⟨fun c => (h c).2.2.2, sem_eq_zero_of_no_sems (by decide) r.2⟩)
    (Cert.HeadReferenceIdeal.Value.run (F := Ideal) m g)

theorem value : Cert.algebraic_HeadKernelIdeal_HeadReferenceIdeal_pre_fin := by
  intro m g m' g' hpre hargs
  choose X T G hX hT hG using fun c => finite m hpre c
  refine ⟨fun c _ => (((∑ j, lossSum (X c) (T c) (G c) 4096 j) * (1 / 2048) : ℝ) : EReal),
    fun c i => ((dxRow (row (X c) (i 0).val) (row (T c) (i 0).val) (gain (G c)) (i 1) : ℝ) : EReal),
    fun c i => ((gainSum (X c) (T c) (G c) 4096 (i 1) : ℝ) : EReal), ?_, ?_⟩
  · refine (θ_run _ _ _).mono (fun r h c => ?_) (Cert.HeadKernelIdeal.Value.run (F := Ideal) m g)
    obtain ⟨h0, h1, h2, k⟩ := h c
    refine ⟨h0.trans (funext fun i => ?_), h1.trans (funext fun i => ?_), h2.trans (funext fun i => ?_), k⟩
    · rw [eq_ix2 i]; exact kernel_loss m c _ _ _ (hX c) (hT c) (hG c) _ _
    · rw [eq_ix2 i]; exact kernel_dx m c _ _ _ (hX c) (hT c) (hG c) _ _
    · rw [eq_ix2 i]; exact kernel_dg m c _ _ _ (hX c) (hT c) (hG c) _ _
  · refine (θ_run _ _ _).mono (fun r h c => ?_) (Cert.HeadReferenceIdeal.Value.run (F := Ideal) m' g')
    obtain ⟨h0, h1, h2, k⟩ := h c
    obtain ⟨a0, a1, a2⟩ := hargs c
    have b0 := a0.trans (hX c)
    have b1 := a1.trans (hT c)
    have b2 := a2.trans (hG c)
    refine ⟨(h0.trans (Cert.HeadReferenceIdeal.Read.val_main_v51_eq _ _ _)).trans (funext fun i => ?_),
      (h1.trans (Cert.HeadReferenceIdeal.Read.val_main_v52_eq m' c)).trans (funext fun i => ?_),
      (h2.trans (Cert.HeadReferenceIdeal.Read.val_main_v53_eq _ _ _)).trans (funext fun i => ?_), k⟩
    · rw [eq_ix2 i]; exact ref_loss _ _ _ _ _ _ b0 b1 b2 _ _
    · rw [eq_ix2 i]; exact ref_dx _ _ _ _ _ _ b0 b1 b2 _ _
    · rw [eq_ix2 i]; exact ref_dg _ _ _ _ _ _ b0 b1 b2 _ _

end Cert.Proof.Head

end
-- ==== Proof.Ffn.Body.lean ====
/- Hand-written: what one grid point of the feed-forward backward leaves in its output blocks and in its carried sum, as
   plain functions of the input blocks and of what the point before left. -/
module

public import proofs.«01_k».proof.Proof.Gen.FfnKernelIdeal.Value
public import Idealize.ShloMosaic.Lib.Tactic
public import Idealize.ShloMosaic.Lib.WritesUnit
public import Idealize.ShloMosaic.Lib.Pointwise

@[expose] public section

set_option maxRecDepth 16384

noncomputable section

namespace Cert.Proof.Ffn

open Cert.FfnKernelIdeal Cert.FfnKernelIdeal.Gen Cert.FfnKernelIdeal.Value
open Idealize.ShloMosaic Idealize.ShloMosaic.TcCoe Idealize.SL.Sem

variable {F : FTy → Type} [FloatOps F]

theorem hz : (![0, 0] : Fin 2 → Nat) = fun _ => 0 := funext fun a => by fin_cases a <;> rfl

/-- The rows of the down-projection that the point's second coordinate picks. -/
abbrev wdAt (i : grid0.Coords) (wd : Vec F S2816x1024 .bf16) : Vec F S1408x1024 .bf16 :=
  View.ld wd (Rect.unit (k0_off1 i) S1408x1024.size (k0_off1_inb i))

/-- The rows of the transposed gate projection that the point's second coordinate picks. -/
abbrev wgAt (i : grid0.Coords) (wg : Vec F S2x2816x1024 .bf16) : Vec F S1x1408x1024 .bf16 :=
  View.ld wg (Rect.unit (k0_off2 i) S1x1408x1024.size (k0_off2_inb i))

/-- The same of the up projection. -/
abbrev wuAt (i : grid0.Coords) (wg : Vec F S2x2816x1024 .bf16) : Vec F S1x1408x1024 .bf16 :=
  View.ld wg (Rect.unit (k0_off3 i) S1x1408x1024.size (k0_off3_inb i))

/-- The first saved factor of the block. -/
abbrev fac0 (f : Vec F S2x512x1408 .bf16) : Vec F S1x512x1408 .bf16 :=
  View.ld f (Rect.unit (s := S2x512x1408) ![0, 0, 0] S1x512x1408.size inb_S2x512x1408_S1x512x1408_0_0_0)

/-- The second saved factor of the block. -/
abbrev fac1 (f : Vec F S2x512x1408 .bf16) : Vec F S1x512x1408 .bf16 :=
  View.ld f (Rect.unit (s := S2x512x1408) ![1, 0, 0] S1x512x1408.size inb_S2x512x1408_S1x512x1408_1_0_0)

/-- The block's two products added to the carried sum. -/
abbrev accStep (i : grid0.Coords) (d : Vec F S512x1024 .f32) (f : Vec F S2x512x1408 .bf16) (wg : Vec F S2x2816x1024 .bf16)
    (wd : Vec F S2816x1024 .bf16) (s : Vec F S512x1024 .f32) : Vec F S512x1024 .f32 :=
  k0_pay2 (k0_pay13 d (wdAt i wd) (fac0 f)) (k0_pay14 d (wdAt i wd) (fac1 f)) s (wgAt i wg) (wuAt i wg)

/-- The gradient block of the rows `x`, from the finished sum `a`. -/
abbrev dxB (d x : Vec F S512x1024 .f32) (g : Vec F S1x1024 .f32) (a : Vec F S512x1024 .f32) : Vec F S512x1024 .f32 :=
  k0_pay3 (k0_pay11 d) (k0_pay5 x) (k0_pay9 x a g)

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S2x512x1408 .bf16) (h3 : a3.IsWhole)
  (a4 : Memref sig .tc .vmem S1x1024 .f32) (h4 : a4.IsWhole) (a5 : Memref sig .tc .vmem S2x2816x1024 .bf16) (h5 : a5.IsWhole)
  (a6 : Memref sig .tc .vmem S2816x1024 .bf16) (h6 : a6.IsWhole) (a7 : Memref sig .tc .vmem S512x1024 .f32) (h7 : a7.IsWhole)
  (a8 : Memref sig .tc .vmem S512x1024 .bf16) (h8 : a8.IsWhole) (a9 : Memref sig .tc .vmem S2x512x1408 .bf16) (h9 : a9.IsWhole)
  (a10 : Memref sig .tc .vmem S1x1024 .f32) (h10 : a10.IsWhole) (a11 : Memref sig .tc .vmem S512x1024 .f32) (h11 : a11.IsWhole)

section A
variable (hc0 : cond0_0 i) (hc1 : cond0_1 i) (hc2 : ¬cond0_2 i)
  (d x : Vec F S512x1024 .f32) (f : Vec F S2x512x1408 .bf16) (g : Vec F S1x1024 .f32) (wg : Vec F S2x2816x1024 .bf16)
  (wd : Vec F S2816x1024 .bf16)

theorem acc_A : sout0_A_0 c i a1 h1 a2 h2 a3 h3 a4 h4 a5 h5 a6 h6 a7 h7 a8 h8 a9 h9 a10 h10 a11 h11 hc0 hc1 hc2 d x f g wg wd = accStep i d f wg wd k0_pay1 := by
  unfold sout0_A_0
  rw [View.read_writes_eq_canon _ _ _ (scover0_A_0 c i a1 h1 a2 h2 a3 h3 a4 h4 a5 h5 a6 h6 a7 h7 a8 h8 a9 h9 a10 h10 a11 h11 hc0 hc1 hc2 d x f g wg wd)]
  unfold kernelRun0_A
  dsimp only
  sl_unfold_words
  rw [View.canon_cons_unit_zero (S := S512x1024) hz, View.readCov_unit_zero (S := S512x1024) _ hz]
  simp only [View.readAt_eq_ld, h1.read_unread, h2.read_unread, h3.read_unread, h4.read_unread, h5.read_unread,
    h6.read_unread, h10.read_unread, h11.read_unread, View.ld_unit_zero (S := S512x1024) hz, View.ld_unit_zero (S := S1x1024) hz]
  rfl

theorem gain_A : out0_A_9 c i a1 h1 a2 h2 a3 h3 a4 h4 a5 h5 a6 h6 a7 h7 a8 h8 a9 h9 a10 h10 a11 h11 hc0 hc1 hc2 d x f g wg wd = k0_pay10 := by
  unfold out0_A_9
  rw [View.read_writes_eq_canon _ _ _ (cover0_A_9 c i a1 h1 a2 h2 a3 h3 a4 h4 a5 h5 a6 h6 a7 h7 a8 h8 a9 h9 a10 h10 a11 h11 hc0 hc1 hc2 d x f g wg wd)]
  unfold kernelRun0_A
  dsimp only
  sl_unfold_words
  rw [View.canon_unit_zero hz]

theorem dgu0_A (p : Fin 512) (q : Fin 1408) : out0_A_8 c i a1 h1 a2 h2 a3 h3 a4 h4 a5 h5 a6 h6 a7 h7 a8 h8 a9 h9 a10 h10 a11 h11 hc0 hc1 hc2 d x f g wg wd (ix3 0 p q)
    = k0_pay15 d (wdAt i wd) (fac1 f) (ix3 0 p q) := by
  unfold out0_A_8 kernelRun0_A
  dsimp only
  sl_unfold_words
  refine Eq.trans (View.read_writes_cons_unit_of_not_mem _ _ _ _ _ _ rfl 0 (Or.inl Nat.zero_lt_one)) ?_
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · simp only [View.readAt_eq_ld, h1.read_unread, h2.read_unread, h3.read_unread, h4.read_unread, h5.read_unread,
      h6.read_unread, h10.read_unread, h11.read_unread, View.ld_unit_zero (S := S512x1024) hz, View.ld_unit_zero (S := S1x1024) hz]
    rfl
theorem dgu1_A (p : Fin 512) (q : Fin 1408) : out0_A_8 c i a1 h1 a2 h2 a3 h3 a4 h4 a5 h5 a6 h6 a7 h7 a8 h8 a9 h9 a10 h10 a11 h11 hc0 hc1 hc2 d x f g wg wd (ix3 1 p q)
    = k0_pay16 d (wdAt i wd) (fac0 f) (ix3 0 p q) := by
  unfold out0_A_8 kernelRun0_A
  dsimp only
  sl_unfold_words
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · simp only [View.readAt_eq_ld, h1.read_unread, h2.read_unread, h3.read_unread, h4.read_unread, h5.read_unread,
      h6.read_unread, h10.read_unread, h11.read_unread, View.ld_unit_zero (S := S512x1024) hz, View.ld_unit_zero (S := S1x1024) hz]
    rfl
end A

section B
variable (hc0 : ¬cond0_0 i) (hc1 : ¬cond0_1 i) (hc2 : cond0_2 i)
  (d x : Vec F S512x1024 .f32) (f : Vec F S2x512x1408 .bf16) (g : Vec F S1x1024 .f32) (wg : Vec F S2x2816x1024 .bf16)
  (wd : Vec F S2816x1024 .bf16) (o : Vec F S1x1024 .f32) (s : Vec F S512x1024 .f32)

theorem acc_B : sout0_B_0 c i a1 h1 a2 h2 a3 h3 a4 h4 a5 h5 a6 h6 a7 h7 a8 h8 a9 h9 a10 h10 a11 h11 hc0 hc1 hc2 d x f g wg wd o s = accStep i d f wg wd s := by
  unfold sout0_B_0
  rw [View.read_writes_eq_canon _ _ _ (scover0_B_0 c i a1 h1 a2 h2 a3 h3 a4 h4 a5 h5 a6 h6 a7 h7 a8 h8 a9 h9 a10 h10 a11 h11 hc0 hc1 hc2 d x f g wg wd o s)]
  unfold kernelRun0_B
  dsimp only
  sl_unfold_words
  rw [View.canon_unit_zero hz]
  simp only [View.readAt_eq_ld, h1.read_unread, h2.read_unread, h3.read_unread, h4.read_unread, h5.read_unread,
    h6.read_unread, h10.read_unread, h11.read_unread, View.ld_unit_zero (S := S512x1024) hz, View.ld_unit_zero (S := S1x1024) hz]
  rfl

theorem dx_B : out0_B_6 c i a1 h1 a2 h2 a3 h3 a4 h4 a5 h5 a6 h6 a7 h7 a8 h8 a9 h9 a10 h10 a11 h11 hc0 hc1 hc2 d x f g wg wd o s = dxB d x g (accStep i d f wg wd s) := by
  unfold out0_B_6
  rw [View.read_writes_eq_canon _ _ _ (cover0_B_6 c i a1 h1 a2 h2 a3 h3 a4 h4 a5 h5 a6 h6 a7 h7 a8 h8 a9 h9 a10 h10 a11 h11 hc0 hc1 hc2 d x f g wg wd o s)]
  unfold kernelRun0_B
  dsimp only
  sl_unfold_words
  rw [View.canon_unit_zero hz, View.readCov_unit_zero (S := S512x1024) _ hz]
  simp only [View.readAt_eq_ld, h1.read_unread, h2.read_unread, h3.read_unread, h4.read_unread, h5.read_unread,
    h6.read_unread, h10.read_unread, h11.read_unread, View.ld_unit_zero (S := S512x1024) hz, View.ld_unit_zero (S := S1x1024) hz]
  rfl

theorem h_B : out0_B_7 c i a1 h1 a2 h2 a3 h3 a4 h4 a5 h5 a6 h6 a7 h7 a8 h8 a9 h9 a10 h10 a11 h11 hc0 hc1 hc2 d x f g wg wd o s = k0_pay7 x g := by
  unfold out0_B_7
  rw [View.read_writes_eq_canon _ _ _ (cover0_B_7 c i a1 h1 a2 h2 a3 h3 a4 h4 a5 h5 a6 h6 a7 h7 a8 h8 a9 h9 a10 h10 a11 h11 hc0 hc1 hc2 d x f g wg wd o s)]
  unfold kernelRun0_B
  dsimp only
  sl_unfold_words
  rw [View.canon_unit_zero hz]
  simp only [View.readAt_eq_ld, h1.read_unread, h2.read_unread, h3.read_unread, h4.read_unread, h5.read_unread,
    h6.read_unread, h10.read_unread, h11.read_unread, View.ld_unit_zero (S := S512x1024) hz, View.ld_unit_zero (S := S1x1024) hz]

theorem gain_B : out0_B_9 c i a1 h1 a2 h2 a3 h3 a4 h4 a5 h5 a6 h6 a7 h7 a8 h8 a9 h9 a10 h10 a11 h11 hc0 hc1 hc2 d x f g wg wd o s = k0_pay8 x (accStep i d f wg wd s) o := by
  unfold out0_B_9
  rw [View.read_writes_eq_canon _ _ _ (cover0_B_9 c i a1 h1 a2 h2 a3 h3 a4 h4 a5 h5 a6 h6 a7 h7 a8 h8 a9 h9 a10 h10 a11 h11 hc0 hc1 hc2 d x f g wg wd o s)]
  unfold kernelRun0_B
  dsimp only
  sl_unfold_words
  rw [View.canon_unit_zero hz, View.readCov_unit_zero (S := S512x1024) _ hz]
  simp only [View.readAt_eq_ld, h1.read_unread, h2.read_unread, h3.read_unread, h4.read_unread, h5.read_unread,
    h6.read_unread, h10.read_unread, h11.read_unread, View.ld_unit_zero (S := S512x1024) hz, View.ld_unit_zero (S := S1x1024) hz]
  rfl

theorem dgu0_B (p : Fin 512) (q : Fin 1408) : out0_B_8 c i a1 h1 a2 h2 a3 h3 a4 h4 a5 h5 a6 h6 a7 h7 a8 h8 a9 h9 a10 h10 a11 h11 hc0 hc1 hc2 d x f g wg wd o s (ix3 0 p q)
    = k0_pay15 d (wdAt i wd) (fac1 f) (ix3 0 p q) := by
  unfold out0_B_8 kernelRun0_B
  dsimp only
  sl_unfold_words
  refine Eq.trans (View.read_writes_cons_unit_of_not_mem _ _ _ _ _ _ rfl 0 (Or.inl Nat.zero_lt_one)) ?_
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · simp only [View.readAt_eq_ld, h1.read_unread, h2.read_unread, h3.read_unread, h4.read_unread, h5.read_unread,
      h6.read_unread, h10.read_unread, h11.read_unread, View.ld_unit_zero (S := S512x1024) hz, View.ld_unit_zero (S := S1x1024) hz]
    rfl
theorem dgu1_B (p : Fin 512) (q : Fin 1408) : out0_B_8 c i a1 h1 a2 h2 a3 h3 a4 h4 a5 h5 a6 h6 a7 h7 a8 h8 a9 h9 a10 h10 a11 h11 hc0 hc1 hc2 d x f g wg wd o s (ix3 1 p q)
    = k0_pay16 d (wdAt i wd) (fac0 f) (ix3 0 p q) := by
  unfold out0_B_8 kernelRun0_B
  dsimp only
  sl_unfold_words
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · simp only [View.readAt_eq_ld, h1.read_unread, h2.read_unread, h3.read_unread, h4.read_unread, h5.read_unread,
      h6.read_unread, h10.read_unread, h11.read_unread, View.ld_unit_zero (S := S512x1024) hz, View.ld_unit_zero (S := S1x1024) hz]
    rfl
end B

section C
variable (hc0 : ¬cond0_0 i) (hc1 : cond0_1 i) (hc2 : ¬cond0_2 i)
  (d x : Vec F S512x1024 .f32) (f : Vec F S2x512x1408 .bf16) (g : Vec F S1x1024 .f32) (wg : Vec F S2x2816x1024 .bf16)
  (wd : Vec F S2816x1024 .bf16)

theorem acc_C : sout0_C_0 c i a1 h1 a2 h2 a3 h3 a4 h4 a5 h5 a6 h6 a7 h7 a8 h8 a9 h9 a10 h10 a11 h11 hc0 hc1 hc2 d x f g wg wd = accStep i d f wg wd k0_pay1 := by
  unfold sout0_C_0
  rw [View.read_writes_eq_canon _ _ _ (scover0_C_0 c i a1 h1 a2 h2 a3 h3 a4 h4 a5 h5 a6 h6 a7 h7 a8 h8 a9 h9 a10 h10 a11 h11 hc0 hc1 hc2 d x f g wg wd)]
  unfold kernelRun0_C
  dsimp only
  sl_unfold_words
  rw [View.canon_cons_unit_zero (S := S512x1024) hz, View.readCov_unit_zero (S := S512x1024) _ hz]
  simp only [View.readAt_eq_ld, h1.read_unread, h2.read_unread, h3.read_unread, h4.read_unread, h5.read_unread,
    h6.read_unread, h10.read_unread, h11.read_unread, View.ld_unit_zero (S := S512x1024) hz, View.ld_unit_zero (S := S1x1024) hz]
  rfl

theorem dgu0_C (p : Fin 512) (q : Fin 1408) : out0_C_8 c i a1 h1 a2 h2 a3 h3 a4 h4 a5 h5 a6 h6 a7 h7 a8 h8 a9 h9 a10 h10 a11 h11 hc0 hc1 hc2 d x f g wg wd (ix3 0 p q)
    = k0_pay15 d (wdAt i wd) (fac1 f) (ix3 0 p q) := by
  unfold out0_C_8 kernelRun0_C
  dsimp only
  sl_unfold_words
  refine Eq.trans (View.read_writes_cons_unit_of_not_mem _ _ _ _ _ _ rfl 0 (Or.inl Nat.zero_lt_one)) ?_
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · simp only [View.readAt_eq_ld, h1.read_unread, h2.read_unread, h3.read_unread, h4.read_unread, h5.read_unread,
      h6.read_unread, h10.read_unread, h11.read_unread, View.ld_unit_zero (S := S512x1024) hz, View.ld_unit_zero (S := S1x1024) hz]
    rfl
theorem dgu1_C (p : Fin 512) (q : Fin 1408) : out0_C_8 c i a1 h1 a2 h2 a3 h3 a4 h4 a5 h5 a6 h6 a7 h7 a8 h8 a9 h9 a10 h10 a11 h11 hc0 hc1 hc2 d x f g wg wd (ix3 1 p q)
    = k0_pay16 d (wdAt i wd) (fac0 f) (ix3 0 p q) := by
  unfold out0_C_8 kernelRun0_C
  dsimp only
  sl_unfold_words
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · simp only [View.readAt_eq_ld, h1.read_unread, h2.read_unread, h3.read_unread, h4.read_unread, h5.read_unread,
      h6.read_unread, h10.read_unread, h11.read_unread, View.ld_unit_zero (S := S512x1024) hz, View.ld_unit_zero (S := S1x1024) hz]
    rfl
end C

end Cert.Proof.Ffn

end
-- ==== Proof.Ffn.Block.lean ====
/- Hand-written: one block of the feed-forward backward on finite arguments, over the real numbers. `d` is a row of the
   cotangent, `v` a row of the input, `f0`, `f1` the row's two saved factors, `wd`, `wg`, `wu` the rows of the down, gate
   and up projections by hidden unit, `g` the gain. -/
module

public import proofs.«01_k».proof.Proof.Ffn.Body
public import proofs.«01_k».proof.Proof.Finite

@[expose] public section

set_option maxRecDepth 16384

noncomputable section

namespace Cert.Proof.Ffn

open Cert.FfnKernelIdeal Cert.FfnKernelIdeal.Gen Cert.FfnKernelIdeal.Value Cert.Proof.Reals
open Idealize.ShloMosaic

/-- The cotangent of one hidden unit. -/
def hid (d w : Fin 1024 → ℝ) : ℝ := ∑ k, d k * w k

/-- One hidden unit's share of the normalised row's cotangent. -/
def share (d : Fin 1024 → ℝ) (f0 f1 : ℝ) (wd wg wu : Fin 1024 → ℝ) (k : Fin 1024) : ℝ :=
  hid d wd * f1 * wg k + hid d wd * f0 * wu k

/-- The gradient of one row of the input, `h` the cotangent of its normalised row. -/
def dxRow (d v g h : Fin 1024 → ℝ) (j : Fin 1024) : ℝ :=
  d j + rs v * (h j * g j - v j * rs v * ((∑ k, h k * g k * (v k * rs v)) / 1024))

theorem n1024 : (1024 : ℝ) ≠ 0 := by norm_num

variable (i : grid0.Coords) (d x a : Vec Ideal S512x1024 .f32) (f : Vec Ideal S2x512x1408 .bf16) (g : Vec Ideal S1x1024 .f32)
  (wg : Vec Ideal S2x2816x1024 .bf16) (wd : Vec Ideal S2816x1024 .bf16)
  (dr xr ar : Fin 512 → Fin 1024 → ℝ) (fr : Fin 2 → Fin 512 → Fin 1408 → ℝ) (gr : Fin 1024 → ℝ)
  (wdr wgr wur : Fin 1408 → Fin 1024 → ℝ)
  (hd : ∀ p k, d (ix2 p k) = ((dr p k : ℝ) : EReal)) (hx : ∀ p k, x (ix2 p k) = ((xr p k : ℝ) : EReal))
  (ha : ∀ p k, a (ix2 p k) = ((ar p k : ℝ) : EReal)) (hf : ∀ b p q, f (ix3 b p q) = ((fr b p q : ℝ) : EReal))
  (hg : ∀ k, g (ix2 0 k) = ((gr k : ℝ) : EReal))
  (hwd : ∀ q k, wdAt i wd (ix2 q k) = ((wdr q k : ℝ) : EReal))
  (hwg : ∀ q k, wgAt i wg (ix3 0 q k) = ((wgr q k : ℝ) : EReal))
  (hwu : ∀ q k, wuAt i wg (ix3 0 q k) = ((wur q k : ℝ) : EReal))

include hf in
theorem fac0_real (p : Fin 512) (q : Fin 1408) : fac0 f (ix3 0 p q) = ((fr 0 p q : ℝ) : EReal) := by
  rw [← hf]
  refine congrArg f (funext fun b => Fin.ext ?_)
  match b with
  | ⟨0, _⟩ => rfl
  | ⟨1, _⟩ => show 0 + 1 * p.val = p.val; omega
  | ⟨2, _⟩ => show 0 + 1 * q.val = q.val; omega

include hf in
theorem fac1_real (p : Fin 512) (q : Fin 1408) : fac1 f (ix3 0 p q) = ((fr 1 p q : ℝ) : EReal) := by
  rw [← hf]
  refine congrArg f (funext fun b => Fin.ext ?_)
  match b with
  | ⟨0, _⟩ => rfl
  | ⟨1, _⟩ => show 0 + 1 * p.val = p.val; omega
  | ⟨2, _⟩ => show 0 + 1 * q.val = q.val; omega

include hd hf hwd

theorem dgate_real (p : Fin 512) (q : Fin 1408) :
    k0_pay15 d (wdAt i wd) (fac1 f) (ix3 0 p q) = ((hid (dr p) (wdr q) * fr 1 p q : ℝ) : EReal) := by
  have h1 := fac1_real f fr hf
  generalize fac1 f = y at *
  generalize wdAt i wd = w at *
  pointwise [k0_pay15, k0_pay14, k0_pay12, k0_pay11]
  simp only [hd, h1, hwd, ← EReal.coe_mul, coe_sum]
  rfl

theorem dup_real (p : Fin 512) (q : Fin 1408) :
    k0_pay16 d (wdAt i wd) (fac0 f) (ix3 0 p q) = ((hid (dr p) (wdr q) * fr 0 p q : ℝ) : EReal) := by
  have h0 := fac0_real f fr hf
  generalize fac0 f = y at *
  generalize wdAt i wd = w at *
  pointwise [k0_pay16, k0_pay13, k0_pay12, k0_pay11]
  simp only [hd, h0, hwd, ← EReal.coe_mul, coe_sum]
  rfl

include ha hwg hwu in
theorem accStep_real (p : Fin 512) (k : Fin 1024) : accStep i d f wg wd a (ix2 p k)
    = ((ar p k + ∑ q, share (dr p) (fr 0 p q) (fr 1 p q) (wdr q) (wgr q) (wur q) k : ℝ) : EReal) := by
  have h0 := fac0_real f fr hf
  have h1 := fac1_real f fr hf
  unfold accStep
  generalize fac0 f = y0 at *
  generalize fac1 f = y1 at *
  generalize wdAt i wd = w at *
  generalize wgAt i wg = w0 at *
  generalize wuAt i wg = w1 at *
  pointwise [k0_pay2, k0_pay13, k0_pay14, k0_pay12, k0_pay11]
  simp only [hd, h0, h1, ha, hwd, hwg, hwu, ← EReal.coe_mul, ← EReal.coe_add, coe_sum]
  rw [← Finset.sum_add_distrib]
  rfl

omit hd hf hwd

include hx hg in
theorem h_real (p : Fin 512) (k : Fin 1024) : k0_pay7 x g (ix2 p k) = ((xr p k * rs (xr p) * gr k : ℝ) : EReal) := by
  pointwise [k0_pay7, k0_pay6, k0_pay5, k0_pay4]
  simp only [hx, hg, ← EReal.coe_mul, ← EReal.coe_add, coe_sum, w1024, weps, div_real _ n1024, rsqrt_row]

include hd hx hg ha in
theorem dxB_real (p : Fin 512) (j : Fin 1024) :
    dxB d x g a (ix2 p j) = ((dxRow (dr p) (xr p) gr (ar p) j : ℝ) : EReal) := by
  pointwise [dxB, k0_pay3, k0_pay11, k0_pay9, k0_pay6, k0_pay5, k0_pay4]
  simp only [hd, hx, hg, ha, ← EReal.coe_mul, ← EReal.coe_add, ← EReal.coe_sub, coe_sum, w1024, weps, div_real _ n1024, rsqrt_row]
  rfl

include hx ha hg in
theorem gain_real (j : Fin 1024) : k0_pay8 x a g (ix2 0 j) = ((gr j + ∑ p, ar p j * (xr p j * rs (xr p)) : ℝ) : EReal) := by
  pointwise [k0_pay8, k0_pay6, k0_pay5, k0_pay4]
  simp only [hx, ha, hg, ← EReal.coe_mul, ← EReal.coe_add, coe_sum, w1024, weps, div_real _ n1024, rsqrt_row]

end Cert.Proof.Ffn

end
-- ==== Proof.Ffn.Saved.lean ====
/- Hand-written: what the host hands the feed-forward backward on finite arguments: the normalised rows, the gate and up
   activations, and the two saved factors made of them. Rows are numbered through both sequences. -/
module

public import proofs.«01_k».proof.Proof.Ffn.Block
public import proofs.«01_k».proof.Proof.Head.Kernel

@[expose] public section

set_option maxRecDepth 16384

noncomputable section

namespace Cert.Proof.Ffn

open Cert.FfnKernelIdeal Cert.FfnKernelIdeal.Gen Cert.FfnKernelIdeal.Value Cert.Proof.Reals
open Cert.Proof.Head (row rowOf rowOf_eq flat)
open Idealize.ShloMosaic Idealize.ShloMosaic.TcCoe Idealize.SL.Sem

/-! ## The host arrays -/

/-- The normalised rows times the gain. -/
def hnV (x : FVec Ideal S4096x1024 .f32) (g : FVec Ideal S1024 .f32) : FVec Ideal S4096x1024 .bf16 :=
  truncf (F := Ideal) .bf16 (mulf (mulf x (broadcastInDim S4096x1024 ![0, 1] bcast_S4096x1_S4096x1024_0_1
    (Host.rsqrt (addf (Host.divf (broadcastInDim S4096x1 ![0] bcast_S4096_S4096x1_0
        (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g)))
    bitsLt_bf16_f32

/-- The two halves of the transposed gate-and-up projection. -/
def wT (w : FVec Ideal S1024x5632 .f32) : FVec Ideal S2x2816x1024 .bf16 :=
  shapeCast S2x2816x1024 (truncf .bf16 (transpose S5632x1024 [1, 0] w transposes_S1024x5632_S5632x1024_1_0) bitsLt_bf16_f32)
    shapeCasts_S5632x1024_S2x2816x1024

/-- The down projection. -/
def wdV (w : FVec Ideal S2816x1024 .f32) : FVec Ideal S2816x1024 .bf16 := truncf (F := Ideal) .bf16 w bitsLt_bf16_f32

/-- The gate activations. -/
def gateV (h : FVec Ideal S4096x1024 .bf16) (w : FVec Ideal S2x2816x1024 .bf16) : FVec Ideal S4096x2816 .f32 :=
  Host.dotGeneral dot_S4096x1024_S2816x1024_S4096x2816_1_1_0_0_n_n none h
    (shapeCast S2816x1024 (extractStridedSlice S1x2816x1024 ![0, 0, 0] w slices_S2x2816x1024_S1x2816x1024_0_0_0)
      shapeCasts_S1x2816x1024_S2816x1024)

/-- The up activations. -/
def upV (h : FVec Ideal S4096x1024 .bf16) (w : FVec Ideal S2x2816x1024 .bf16) : FVec Ideal S4096x2816 .f32 :=
  Host.dotGeneral dot_S4096x1024_S2816x1024_S4096x2816_1_1_0_0_n_n none h
    (shapeCast S2816x1024 (extractStridedSlice S1x2816x1024 ![1, 0, 0] w slices_S2x2816x1024_S1x2816x1024_1_0_0)
      shapeCasts_S1x2816x1024_S2816x1024)

/-- A constant over the activations. -/
def kV (w : BitVec 32) : FVec Ideal S4096x2816 .f32 := broadcastInDim S4096x2816 ![] bcast_S_S4096x2816 (constant S_ .f32 w)

/-- The gate's sigmoid, by the hyperbolic tangent. -/
def sgV (z : FVec Ideal S4096x2816 .f32) : FVec Ideal S4096x2816 .f32 :=
  addf (mulf (kV 0x3F000000#32) (Host.tanh (mulf (kV 0x3F000000#32) z))) (kV 0x3F000000#32)

/-- The factor of the up gradient. -/
def f0V (z : FVec Ideal S4096x2816 .f32) : FVec Ideal S4096x2816 .bf16 := truncf .bf16 (mulf z (sgV z)) bitsLt_bf16_f32

/-- The factor of the gate gradient. -/
def f1V (z u : FVec Ideal S4096x2816 .f32) : FVec Ideal S4096x2816 .bf16 :=
  truncf .bf16 (mulf u (mulf (sgV z) (addf (kV 0x3F800000#32) (mulf z (subf (kV 0x3F800000#32) (sgV z)))))) bitsLt_bf16_f32

/-- Both factors, stacked. -/
def facV (a b : FVec Ideal S4096x2816 .bf16) : FVec Ideal S2x4096x2816 .bf16 :=
  concatenate S2x4096x2816 0 [⟨S1x4096x2816, broadcastInDim S1x4096x2816 ![1, 2] bcast_S4096x2816_S1x4096x2816_1_2 a⟩,
    ⟨S1x4096x2816, broadcastInDim S1x4096x2816 ![1, 2] bcast_S4096x2816_S1x4096x2816_1_2 b⟩]
    concatenates_S1x4096x2816_S1x4096x2816_S2x4096x2816_d0

variable (m : (ℓ : Loc nD τ sig) → Buf (Elt Ideal) ℓ) (c : Dev nD)

/-- The rows of an argument of two sequences. -/
abbrev rowsV (x : FVec Ideal S2x2048x1024 .f32) : FVec Ideal S4096x1024 .f32 :=
  shapeCast _ x shapeCasts_S2x2048x1024_S4096x1024

theorem V2 : V m c main_v2 = wT (m ((c : Thread nD τ).loc main_arg2)) := by
  unfold V hostOps0; after_results_simp <;> rfl
theorem V3 : V m c main_v3 = wdV (m ((c : Thread nD τ).loc main_arg3)) := by
  unfold V hostOps0; after_results_simp <;> rfl
theorem V4 : V m c main_v4 = rowsV (m ((c : Thread nD τ).loc main_arg0)) := by
  unfold V hostOps0; after_results_simp <;> rfl
theorem V5 : V m c main_v5 = broadcastInDim S1x1024 ![1] bcast_S1024_S1x1024_1 (m ((c : Thread nD τ).loc main_arg1)) := by
  unfold V hostOps0; after_results_simp <;> rfl
theorem V46 : V m c main_v46 = rowsV (m ((c : Thread nD τ).loc main_arg4)) := by
  unfold V hostOps0; after_results_simp <;> rfl
theorem V45 : V m c main_v45 =
    facV (f0V (gateV (hnV (rowsV (m ((c : Thread nD τ).loc main_arg0))) (m ((c : Thread nD τ).loc main_arg1)))
        (wT (m ((c : Thread nD τ).loc main_arg2)))))
      (f1V (gateV (hnV (rowsV (m ((c : Thread nD τ).loc main_arg0))) (m ((c : Thread nD τ).loc main_arg1)))
        (wT (m ((c : Thread nD τ).loc main_arg2))))
        (upV (hnV (rowsV (m ((c : Thread nD τ).loc main_arg0))) (m ((c : Thread nD τ).loc main_arg1)))
        (wT (m ((c : Thread nD τ).loc main_arg2))))) := by
  unfold V hostOps0; after_results_simp <;> rfl

/-! ## Over the real numbers -/

/-- The sigmoid. -/
def sgm (z : ℝ) : ℝ := 1 / 2 * Real.tanh (1 / 2 * z) + 1 / 2

/-- The factor of the up gradient. -/
def fa0 (z : ℝ) : ℝ := z * sgm z

/-- The factor of the gate gradient. -/
def fa1 (z u : ℝ) : ℝ := u * (sgm z * (1 + z * (1 - sgm z)))

theorem hnV_real (x : FVec Ideal S4096x1024 .f32) (g : FVec Ideal S1024 .f32) (X : Fin 4096 → Fin 1024 → ℝ) (G : S1024.Idx → ℝ)
    (hx : ∀ p k, x (ix2 p k) = ((X p k : ℝ) : EReal)) (hg : g = fun i => ((G i : ℝ) : EReal)) (p : Fin 4096) (k : Fin 1024) :
    hnV x g (ix2 p k) = ((X p k * rs (X p) * G (ix1 k) : ℝ) : EReal) := by
  pointwise [hnV]
  simp only [hx, hg, ← EReal.coe_mul, ← EReal.coe_add, coe_sum, w1024, weps, div_real _ n1024, rsqrt_row]

theorem wT0_real (w : FVec Ideal S1024x5632 .f32) (W : S1024x5632.Idx → ℝ) (hw : w = fun i => ((W i : ℝ) : EReal))
    (f : Fin 2816) (k : Fin 1024) : wT w (ix3 0 f k) = ((W (ix2 k (Fin.ofNat 5632 f.val)) : ℝ) : EReal) := by
  subst hw
  pointwise [wT]
  exact congrArg (fun i => ((W (ix2 k i) : ℝ) : EReal)) (Fin.ext (Nat.mod_eq_of_lt (by have := f.isLt; omega)).symm)

theorem wT1_real (w : FVec Ideal S1024x5632 .f32) (W : S1024x5632.Idx → ℝ) (hw : w = fun i => ((W i : ℝ) : EReal))
    (f : Fin 2816) (k : Fin 1024) : wT w (ix3 1 f k) = ((W (ix2 k (Fin.ofNat 5632 (2816 + f.val))) : ℝ) : EReal) := by
  subst hw
  pointwise [wT]
  exact congrArg (fun i => ((W (ix2 k i) : ℝ) : EReal)) (Fin.ext (Nat.mod_eq_of_lt (by have := f.isLt; omega)).symm)

theorem gateV_real (h : FVec Ideal S4096x1024 .bf16) (w : FVec Ideal S2x2816x1024 .bf16) (H : Fin 4096 → Fin 1024 → ℝ)
    (W : Fin 2816 → Fin 1024 → ℝ) (hh : ∀ p k, h (ix2 p k) = ((H p k : ℝ) : EReal))
    (hw : ∀ f k, w (ix3 0 f k) = ((W f k : ℝ) : EReal)) (p : Fin 4096) (f : Fin 2816) :
    gateV h w (ix2 p f) = ((∑ k, H p k * W f k : ℝ) : EReal) := by
  pointwise [gateV]
  simp only [hh, hw, ← EReal.coe_mul, coe_sum]

theorem upV_real (h : FVec Ideal S4096x1024 .bf16) (w : FVec Ideal S2x2816x1024 .bf16) (H : Fin 4096 → Fin 1024 → ℝ)
    (W : Fin 2816 → Fin 1024 → ℝ) (hh : ∀ p k, h (ix2 p k) = ((H p k : ℝ) : EReal))
    (hw : ∀ f k, w (ix3 1 f k) = ((W f k : ℝ) : EReal)) (p : Fin 4096) (f : Fin 2816) :
    upV h w (ix2 p f) = ((∑ k, H p k * W f k : ℝ) : EReal) := by
  pointwise [upV]
  simp only [hh, hw, ← EReal.coe_mul, coe_sum]

theorem f0V_real (z : FVec Ideal S4096x2816 .f32) (p : Fin 4096) (f : Fin 2816) (Z : ℝ) (hz : z (ix2 p f) = ((Z : ℝ) : EReal)) :
    f0V z (ix2 p f) = ((fa0 Z : ℝ) : EReal) := by
  pointwise [f0V, sgV, kV]
  simp only [hz, whalf, Ideal.tanh_coe, ← EReal.coe_mul, ← EReal.coe_add]
  rfl

theorem f1V_real (z u : FVec Ideal S4096x2816 .f32) (p : Fin 4096) (f : Fin 2816) (Z U : ℝ)
    (hz : z (ix2 p f) = ((Z : ℝ) : EReal)) (hu : u (ix2 p f) = ((U : ℝ) : EReal)) :
    f1V z u (ix2 p f) = ((fa1 Z U : ℝ) : EReal) := by
  pointwise [f1V, sgV, kV]
  simp only [hz, hu, whalf, wone, Ideal.tanh_coe, ← EReal.coe_mul, ← EReal.coe_add, ← EReal.coe_sub]
  rfl

theorem facV0 (a b : FVec Ideal S4096x2816 .bf16) (p : Fin 4096) (f : Fin 2816) : facV a b (ix3 0 p f) = a (ix2 p f) := by
  pointwise [facV]

theorem facV1 (a b : FVec Ideal S4096x2816 .bf16) (p : Fin 4096) (f : Fin 2816) : facV a b (ix3 1 p f) = b (ix2 p f) := by
  pointwise [facV]

end Cert.Proof.Ffn

end
-- ==== Proof.Ffn.Kernel.lean ====
/- Hand-written: what the feed-forward backward leaves in its four result arrays on finite arguments, by induction over its
   sixteen points: eight blocks of 512 rows, each in two halves of the hidden units. -/
module

public import proofs.«01_k».proof.Proof.Ffn.Saved

@[expose] public section

set_option maxRecDepth 16384

noncomputable section

namespace Cert.Proof.Ffn

open Cert.FfnKernelIdeal Cert.FfnKernelIdeal.Gen Cert.FfnKernelIdeal.Value Cert.Proof.Reals
open Cert.Proof.Head (row rowOf rowOf_eq flat)
open Idealize.ShloMosaic Idealize.ShloMosaic.TcCoe Idealize.SL.Sem

/-! ## The results over the real numbers -/

section Real

variable (X D : S2x2048x1024.Idx → ℝ) (G : S1024.Idx → ℝ) (W : S1024x5632.Idx → ℝ) (WD : S2816x1024.Idx → ℝ)

/-- The gain. -/
def gn (k : Fin 1024) : ℝ := G (ix1 k)

/-- Entry `k` of the normalised row `p`, times the gain. -/
def hn (p : ℕ) (k : Fin 1024) : ℝ := row X p k * rs (row X p) * gn G k

/-- Hidden unit `f` of the gate projection. -/
def wgN (f : ℕ) (k : Fin 1024) : ℝ := W (ix2 k (Fin.ofNat 5632 f))

/-- Hidden unit `f` of the up projection. -/
def wuN (f : ℕ) (k : Fin 1024) : ℝ := W (ix2 k (Fin.ofNat 5632 (2816 + f)))

/-- Hidden unit `f` of the down projection. -/
def wdN (f : ℕ) (k : Fin 1024) : ℝ := WD (ix2 (Fin.ofNat 2816 f) k)

/-- The gate activation. -/
def gz (p f : ℕ) : ℝ := ∑ k, hn X G p k * wgN W f k

/-- The up activation. -/
def uz (p f : ℕ) : ℝ := ∑ k, hn X G p k * wuN W f k

/-- The two saved factors of row `p` and hidden unit `f`. -/
def fa (b : Fin 2) (p f : ℕ) : ℝ := if b = 0 then fa0 (gz X G W p f) else fa1 (gz X G W p f) (uz X G W p f)

/-- The gradient of the gate activation. -/
def dgate (p f : ℕ) : ℝ := hid (row D p) (wdN WD f) * fa1 (gz X G W p f) (uz X G W p f)

/-- The gradient of the up activation. -/
def dup (p f : ℕ) : ℝ := hid (row D p) (wdN WD f) * fa0 (gz X G W p f)

/-- The first `n` hidden units' share of the normalised row's cotangent. -/
def part (n p : ℕ) (k : Fin 1024) : ℝ :=
  ∑ f ∈ Finset.range n, (dgate X D G W WD p f * wgN W f k + dup X D G W WD p f * wuN W f k)

/-- The normalised row's cotangent. -/
def dh (p : ℕ) (k : Fin 1024) : ℝ := part X D G W WD 2816 p k

/-- The gain's gradient from the first `n` rows. -/
def gainSum (n : ℕ) (j : Fin 1024) : ℝ :=
  ∑ p ∈ Finset.range n, dh X D G W WD p j * (row X p j * rs (row X p))

theorem part_add (n p : ℕ) (k : Fin 1024) : part X D G W WD (1408 * n + 1408) p k = part X D G W WD (1408 * n) p k
    + ∑ q : Fin 1408, share (row D p) (fa0 (gz X G W p (1408 * n + q.val)))
        (fa1 (gz X G W p (1408 * n + q.val)) (uz X G W p (1408 * n + q.val))) (wdN WD (1408 * n + q.val))
        (wgN W (1408 * n + q.val)) (wuN W (1408 * n + q.val)) k := by
  unfold part
  rw [Finset.sum_range_add, Finset.sum_range (n := 1408)]
  rfl

theorem gainSum_add (n : ℕ) (j : Fin 1024) : gainSum X D G W WD (512 * n + 512) j = gainSum X D G W WD (512 * n) j
    + ∑ p : Fin 512, dh X D G W WD (512 * n + p.val) j * (row X (512 * n + p.val) j * rs (row X (512 * n + p.val))) := by
  unfold gainSum
  rw [Finset.sum_range_add, Finset.sum_range (n := 512)]

end Real

/-! ## The blocks the points read -/

theorem idx0 : ∀ t : Fin cfg0.N, win0_0.index t 0 = t.val / 2 ∧ win0_0.index t 1 = 0 := by decide +kernel
theorem idx1 : ∀ t : Fin cfg0.N, win0_1.index t 0 = t.val / 2 ∧ win0_1.index t 1 = 0 := by decide +kernel
theorem idx2 : ∀ t : Fin cfg0.N, win0_2.index t 0 = 0 ∧ win0_2.index t 1 = t.val / 2 ∧ win0_2.index t 2 = t.val % 2 := by
  decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 ∧ win0_4.index t 2 = 0 := by decide +kernel
theorem idx5 : ∀ t : Fin cfg0.N, win0_5.index t 0 = 0 ∧ win0_5.index t 1 = 0 := by decide +kernel
theorem offs : ∀ t : Fin cfg0.N, k0_off1 (grid0.coords t) 0 = 1408 * (t.val % 2) ∧ k0_off1 (grid0.coords t) 1 = 0
    ∧ k0_off2 (grid0.coords t) 0 = 0 ∧ k0_off2 (grid0.coords t) 1 = 1408 * (t.val % 2) ∧ k0_off2 (grid0.coords t) 2 = 0
    ∧ k0_off3 (grid0.coords t) 0 = 1 ∧ k0_off3 (grid0.coords t) 1 = 1408 * (t.val % 2) ∧ k0_off3 (grid0.coords t) 2 = 0 := by
  decide +kernel

theorem bound (t : Fin cfg0.N) (p : Fin 512) : 512 * (t.val / 2) + p.val < 4096 := by
  have hN := lt_of_lt_of_eq t.isLt (show cfg0.N = 16 from N_0)
  have := p.isLt; omega

theorem hbound (t : Fin cfg0.N) (q : Fin 1408) : 1408 * (t.val % 2) + q.val < 2816 := by
  have := q.isLt; omega

variable (m : (ℓ : Loc nD τ sig) → Buf (Elt Ideal) ℓ) (c : Dev nD)

theorem blk0 (t : Fin cfg0.N) (p : Fin 512) (j : Fin 1024) : (iblk m c 0 t : Vec Ideal S512x1024 .f32) (ix2 p j)
    = (V m c main_v46 : Vec Ideal S4096x1024 .f32) (ix2 ⟨512 * (t.val / 2) + p.val, bound t p⟩ j) := by
  unfold iblk
  rw [View.read_apply]
  refine congrArg (V m c main_v46 : Vec Ideal S4096x1024 .f32) (funext fun a => Fin.ext ?_)
  match a with
  | ⟨0, _⟩ => show win0_0.index t 0 * 512 + 1 * p.val = 512 * (t.val / 2) + p.val; rw [(idx0 t).1]; omega
  | ⟨1, _⟩ => show win0_0.index t 1 * 1024 + 1 * j.val = j.val; rw [(idx0 t).2]; omega

theorem blk1 (t : Fin cfg0.N) (p : Fin 512) (j : Fin 1024) : (iblk m c 1 t : Vec Ideal S512x1024 .f32) (ix2 p j)
    = (V m c main_v4 : Vec Ideal S4096x1024 .f32) (ix2 ⟨512 * (t.val / 2) + p.val, bound t p⟩ j) := by
  unfold iblk
  rw [View.read_apply]
  refine congrArg (V m c main_v4 : Vec Ideal S4096x1024 .f32) (funext fun a => Fin.ext ?_)
  match a with
  | ⟨0, _⟩ => show win0_1.index t 0 * 512 + 1 * p.val = 512 * (t.val / 2) + p.val; rw [(idx1 t).1]; omega
  | ⟨1, _⟩ => show win0_1.index t 1 * 1024 + 1 * j.val = j.val; rw [(idx1 t).2]; omega

theorem blk2 (t : Fin cfg0.N) (b : Fin 2) (p : Fin 512) (q : Fin 1408) :
    (iblk m c 2 t : Vec Ideal S2x512x1408 .bf16) (ix3 b p q) = (V m c main_v45 : Vec Ideal S2x4096x2816 .bf16)
      (ix3 b ⟨512 * (t.val / 2) + p.val, bound t p⟩ ⟨1408 * (t.val % 2) + q.val, hbound t q⟩) := by
  unfold iblk
  rw [View.read_apply]
  refine congrArg (V m c main_v45 : Vec Ideal S2x4096x2816 .bf16) (funext fun a => Fin.ext ?_)
  match a with
  | ⟨0, _⟩ => show win0_2.index t 0 * 2 + 1 * b.val = b.val; rw [(idx2 t).1]; omega
  | ⟨1, _⟩ => show win0_2.index t 1 * 512 + 1 * p.val = 512 * (t.val / 2) + p.val; rw [(idx2 t).2.1]; omega
  | ⟨2, _⟩ => show win0_2.index t 2 * 1408 + 1 * q.val = 1408 * (t.val % 2) + q.val; rw [(idx2 t).2.2]; omega

theorem blk3 (t : Fin cfg0.N) (j : Fin 1024) :
    (iblk m c 3 t : Vec Ideal S1x1024 .f32) (ix2 0 j) = (V m c main_v5 : Vec Ideal S1x1024 .f32) (ix2 0 j) := by
  unfold iblk
  rw [View.read_apply]
  refine congrArg (V m c main_v5 : Vec Ideal S1x1024 .f32) (funext fun a => Fin.ext ?_)
  match a with
  | ⟨0, _⟩ => show win0_3.index t 0 * 1 + 1 * 0 = 0; rw [(idx3 t).1]
  | ⟨1, _⟩ => show win0_3.index t 1 * 1024 + 1 * j.val = j.val; rw [(idx3 t).2]; omega

theorem blk4g (t : Fin cfg0.N) (q : Fin 1408) (k : Fin 1024) :
    wgAt (grid0.coords t) (iblk m c 4 t : Vec Ideal S2x2816x1024 .bf16) (ix3 0 q k)
      = (V m c main_v2 : Vec Ideal S2x2816x1024 .bf16) (ix3 0 ⟨1408 * (t.val % 2) + q.val, hbound t q⟩ k) := by
  unfold iblk
  show (View.read _ _ _ : Vec Ideal S2x2816x1024 .bf16) _ = _
  rw [View.read_apply]
  refine congrArg (V m c main_v2 : Vec Ideal S2x2816x1024 .bf16) (funext fun a => Fin.ext ?_)
  match a with
  | ⟨0, _⟩ => show win0_4.index t 0 * 2 + 1 * (k0_off2 (grid0.coords t) 0 + 1 * 0) = 0; rw [(idx4 t).1, (offs t).2.2.1]
  | ⟨1, _⟩ =>
    show win0_4.index t 1 * 2816 + 1 * (k0_off2 (grid0.coords t) 1 + 1 * q.val) = 1408 * (t.val % 2) + q.val
    rw [(idx4 t).2.1, (offs t).2.2.2.1]; omega
  | ⟨2, _⟩ =>
    show win0_4.index t 2 * 1024 + 1 * (k0_off2 (grid0.coords t) 2 + 1 * k.val) = k.val
    rw [(idx4 t).2.2, (offs t).2.2.2.2.1]; omega

theorem blk4u (t : Fin cfg0.N) (q : Fin 1408) (k : Fin 1024) :
    wuAt (grid0.coords t) (iblk m c 4 t : Vec Ideal S2x2816x1024 .bf16) (ix3 0 q k)
      = (V m c main_v2 : Vec Ideal S2x2816x1024 .bf16) (ix3 1 ⟨1408 * (t.val % 2) + q.val, hbound t q⟩ k) := by
  unfold iblk
  show (View.read _ _ _ : Vec Ideal S2x2816x1024 .bf16) _ = _
  rw [View.read_apply]
  refine congrArg (V m c main_v2 : Vec Ideal S2x2816x1024 .bf16) (funext fun a => Fin.ext ?_)
  match a with
  | ⟨0, _⟩ =>
    show win0_4.index t 0 * 2 + 1 * (k0_off3 (grid0.coords t) 0 + 1 * 0) = 1
    rw [(idx4 t).1, (offs t).2.2.2.2.2.1]
  | ⟨1, _⟩ =>
    show win0_4.index t 1 * 2816 + 1 * (k0_off3 (grid0.coords t) 1 + 1 * q.val) = 1408 * (t.val % 2) + q.val
    rw [(idx4 t).2.1, (offs t).2.2.2.2.2.2.1]; omega
  | ⟨2, _⟩ =>
    show win0_4.index t 2 * 1024 + 1 * (k0_off3 (grid0.coords t) 2 + 1 * k.val) = k.val
    rw [(idx4 t).2.2, (offs t).2.2.2.2.2.2.2]; omega

theorem blk5 (t : Fin cfg0.N) (q : Fin 1408) (k : Fin 1024) :
    wdAt (grid0.coords t) (iblk m c 5 t : Vec Ideal S2816x1024 .bf16) (ix2 q k)
      = (V m c main_v3 : Vec Ideal S2816x1024 .bf16) (ix2 ⟨1408 * (t.val % 2) + q.val, hbound t q⟩ k) := by
  unfold iblk
  show (View.read _ _ _ : Vec Ideal S2816x1024 .bf16) _ = _
  rw [View.read_apply]
  refine congrArg (V m c main_v3 : Vec Ideal S2816x1024 .bf16) (funext fun a => Fin.ext ?_)
  match a with
  | ⟨0, _⟩ =>
    show win0_5.index t 0 * 2816 + 1 * (k0_off1 (grid0.coords t) 0 + 1 * q.val) = 1408 * (t.val % 2) + q.val
    rw [(idx5 t).1, (offs t).1]; omega
  | ⟨1, _⟩ =>
    show win0_5.index t 1 * 1024 + 1 * (k0_off1 (grid0.coords t) 1 + 1 * k.val) = k.val
    rw [(idx5 t).2, (offs t).2.1]; omega

/-! ## The blocks over the real numbers -/

variable (X D : S2x2048x1024.Idx → ℝ) (G : S1024.Idx → ℝ) (W : S1024x5632.Idx → ℝ) (WD : S2816x1024.Idx → ℝ)

/-- The five arguments are arrays of reals. -/
structure Args : Prop where
  x : m ((c : Thread nD τ).loc main_arg0) = fun i => ((X i : ℝ) : EReal)
  g : m ((c : Thread nD τ).loc main_arg1) = fun i => ((G i : ℝ) : EReal)
  w : m ((c : Thread nD τ).loc main_arg2) = fun i => ((W i : ℝ) : EReal)
  wd : m ((c : Thread nD τ).loc main_arg3) = fun i => ((WD i : ℝ) : EReal)
  d : m ((c : Thread nD τ).loc main_arg4) = fun i => ((D i : ℝ) : EReal)

theorem rows_real (x : FVec Ideal S2x2048x1024 .f32) (X : S2x2048x1024.Idx → ℝ) (hx : x = fun i => ((X i : ℝ) : EReal))
    (p : Fin 4096) (k : Fin 1024) : rowsV x (ix2 p k) = ((row X p.val k : ℝ) : EReal) := by
  refine (flat x p k).trans ?_
  rw [hx]; rfl

variable (A : Args m c X D G W WD)
include A

theorem b0 (t : Fin cfg0.N) (p : Fin 512) (k : Fin 1024) : (iblk m c 0 t : Vec Ideal S512x1024 .f32) (ix2 p k)
    = ((row D (512 * (t.val / 2) + p.val) k : ℝ) : EReal) := by
  rw [blk0, V46]; exact rows_real _ _ A.d _ _

theorem b1 (t : Fin cfg0.N) (p : Fin 512) (k : Fin 1024) : (iblk m c 1 t : Vec Ideal S512x1024 .f32) (ix2 p k)
    = ((row X (512 * (t.val / 2) + p.val) k : ℝ) : EReal) := by
  rw [blk1, V4]; exact rows_real _ _ A.x _ _

theorem b3 (t : Fin cfg0.N) (k : Fin 1024) : (iblk m c 3 t : Vec Ideal S1x1024 .f32) (ix2 0 k) = ((gn G k : ℝ) : EReal) := by
  rw [blk3, V5, A.g]
  have e (y : Vec Ideal S1024 .f32) : broadcastInDim S1x1024 ![1] bcast_S1024_S1x1024_1 y (ix2 0 k) = y (ix1 k) := by pointwise []
  exact e _

theorem b4g (t : Fin cfg0.N) (q : Fin 1408) (k : Fin 1024) :
    wgAt (grid0.coords t) (iblk m c 4 t : Vec Ideal S2x2816x1024 .bf16) (ix3 0 q k)
      = ((wgN W (1408 * (t.val % 2) + q.val) k : ℝ) : EReal) := by
  rw [blk4g, V2]; exact wT0_real _ _ A.w _ _

theorem b4u (t : Fin cfg0.N) (q : Fin 1408) (k : Fin 1024) :
    wuAt (grid0.coords t) (iblk m c 4 t : Vec Ideal S2x2816x1024 .bf16) (ix3 0 q k)
      = ((wuN W (1408 * (t.val % 2) + q.val) k : ℝ) : EReal) := by
  rw [blk4u, V2]; exact wT1_real _ _ A.w _ _

theorem b5 (t : Fin cfg0.N) (q : Fin 1408) (k : Fin 1024) :
    wdAt (grid0.coords t) (iblk m c 5 t : Vec Ideal S2816x1024 .bf16) (ix2 q k)
      = ((wdN WD (1408 * (t.val % 2) + q.val) k : ℝ) : EReal) := by
  rw [blk5, V3, A.wd]
  exact congrArg (fun i => ((WD (ix2 i k) : ℝ) : EReal)) (Fin.ext (Nat.mod_eq_of_lt (hbound t q)).symm)

theorem gate_real (p : Fin 4096) (f : Fin 2816) :
    gateV (hnV (rowsV (m ((c : Thread nD τ).loc main_arg0))) (m ((c : Thread nD τ).loc main_arg1)))
      (wT (m ((c : Thread nD τ).loc main_arg2))) (ix2 p f) = ((gz X G W p.val f.val : ℝ) : EReal) :=
  gateV_real _ _ (fun p => hn X G p.val) (fun f => wgN W f.val)
    (hnV_real _ _ (fun p => row X p.val) G (rows_real _ _ A.x) A.g) (wT0_real _ _ A.w) p f

theorem up_real (p : Fin 4096) (f : Fin 2816) :
    upV (hnV (rowsV (m ((c : Thread nD τ).loc main_arg0))) (m ((c : Thread nD τ).loc main_arg1)))
      (wT (m ((c : Thread nD τ).loc main_arg2))) (ix2 p f) = ((uz X G W p.val f.val : ℝ) : EReal) :=
  upV_real _ _ (fun p => hn X G p.val) (fun f => wuN W f.val)
    (hnV_real _ _ (fun p => row X p.val) G (rows_real _ _ A.x) A.g) (wT1_real _ _ A.w) p f

theorem b2 (t : Fin cfg0.N) (b : Fin 2) (p : Fin 512) (q : Fin 1408) :
    (iblk m c 2 t : Vec Ideal S2x512x1408 .bf16) (ix3 b p q)
      = ((fa X G W b (512 * (t.val / 2) + p.val) (1408 * (t.val % 2) + q.val) : ℝ) : EReal) := by
  rw [blk2, V45]
  match b with
  | 0 => exact (facV0 _ _ _ _).trans (f0V_real _ _ _ _ (gate_real m c X D G W WD A _ _))
  | 1 => exact (facV1 _ _ _ _).trans (f1V_real _ _ _ _ _ _ (gate_real m c X D G W WD A _ _) (up_real m c X D G W WD A _ _))

omit A in
theorem zero_acc (p : Fin 512) (k : Fin 1024) : k0_pay1 (F := Ideal) (ix2 p k) = ((0 : ℝ) : EReal) := by
  pointwise [k0_pay1]; rfl
omit A in
theorem zero_gain (k : Fin 1024) : k0_pay10 (F := Ideal) (ix2 0 k) = ((0 : ℝ) : EReal) := by
  pointwise [k0_pay10]; rfl

/-- One point's step of the carried sum: half the hidden units. -/
theorem step (t : Fin cfg0.N) (a : Vec Ideal S512x1024 .f32)
    (ha : ∀ p k, a (ix2 p k) = ((part X D G W WD (1408 * (t.val % 2)) (512 * (t.val / 2) + p.val) k : ℝ) : EReal))
    (p : Fin 512) (k : Fin 1024) :
    accStep (grid0.coords t) (iblk m c 0 t) (iblk m c 2 t) (iblk m c 4 t) (iblk m c 5 t) a (ix2 p k)
      = ((part X D G W WD (1408 * (t.val % 2) + 1408) (512 * (t.val / 2) + p.val) k : ℝ) : EReal) := by
  rw [part_add]
  exact accStep_real _ _ _ _ _ _ _ _ _ _ _ _ (b0 m c X D G W WD A t) ha (b2 m c X D G W WD A t) (b5 m c X D G W WD A t)
    (b4g m c X D G W WD A t) (b4u m c X D G W WD A t) p k

end Cert.Proof.Ffn

end
-- ==== Proof.Ffn.Result.lean ====
/- Hand-written: the feed-forward backward's four result arrays on finite arguments, by induction over its points. -/
module

public import proofs.«01_k».proof.Proof.Ffn.Kernel

@[expose] public section

set_option maxRecDepth 16384

noncomputable section

namespace Cert.Proof.Ffn

open Cert.FfnKernelIdeal Cert.FfnKernelIdeal.Gen Cert.FfnKernelIdeal.Value Cert.Proof.Reals
open Cert.Proof.Head (row rowOf rowOf_eq flat)
open Idealize.ShloMosaic Idealize.ShloMosaic.TcCoe Idealize.SL.Sem

variable (m : (ℓ : Loc nD τ sig) → Buf (Elt Ideal) ℓ) (c : Dev nD)
  (X D : S2x2048x1024.Idx → ℝ) (G : S1024.Idx → ℝ) (W : S1024x5632.Idx → ℝ) (WD : S2816x1024.Idx → ℝ)
  (A : Args m c X D G W WD)
include A

omit A in
theorem part_zero (t : ℕ) (h : t % 2 = 0) (p : ℕ) (k : Fin 1024) :
    ((0 : ℝ) : EReal) = ((part X D G W WD (1408 * (t % 2)) p k : ℝ) : EReal) := by
  rw [h]; rfl

/-- The carried sum and the gain's gradient after point `n`. -/
theorem carried (n : ℕ) : ∀ hn : n < cfg0.N,
    (∀ p k, (outsAt0 m c n hn).2.2.2.2 (ix2 p k)
      = ((part X D G W WD (1408 * (n % 2) + 1408) (512 * (n / 2) + p.val) k : ℝ) : EReal))
    ∧ (∀ k, (outsAt0 m c n hn).2.2.2.1 (ix2 0 k) = ((gainSum X D G W WD (512 * ((n + 1) / 2)) k : ℝ) : EReal)) := by
  induction n with
  | zero =>
    intro hn
    rw [outsAt0_A m c ⟨0, hn⟩ (Nat.zero_mod _) (Nat.zero_mod _) (by simp)]
    refine ⟨fun p k => ?_, fun k => ?_⟩ <;> dsimp only
    · rw [acc_A]
      exact step m c X D G W WD A ⟨0, hn⟩ _ (fun p k => (zero_acc p k).trans (part_zero _ _ _ _ _ 0 rfl _ k)) p k
    · rw [gain_A]
      exact zero_gain k
  | succ n ih =>
    intro hn
    obtain ⟨i0, i1⟩ := ih (Nat.lt_of_succ_lt hn)
    have hN := lt_of_lt_of_eq hn (show cfg0.N = 16 from N_0)
    have h0 : ¬(n + 1) % 16 = 0 := by omega
    by_cases h2 : (n + 1) % 2 = 1
    · rw [outsAt0_B m c ⟨n + 1, hn⟩ h0 (by show ¬(n + 1) % 2 = 0; omega) h2]
      have e0 : 1408 * (n % 2) + 1408 = 1408 * ((n + 1) % 2) := by omega
      have e1 : n / 2 = (n + 1) / 2 := by omega
      rw [e0, e1] at i0
      have s := step m c X D G W WD A ⟨n + 1, hn⟩ _ i0
      refine ⟨fun p k => ?_, fun k => ?_⟩ <;> dsimp only
      · rw [acc_B]
        exact s p k
      · rw [gain_B]
        have e2 : 512 * ((n + 1 + 1) / 2) = 512 * ((n + 1) / 2) + 512 := by omega
        rw [e2, gainSum_add]
        dsimp only at s
        rw [h2] at s
        exact gain_real _ _ _ _ _ _ (b1 m c X D G W WD A ⟨n + 1, hn⟩) s i1 k
    · have h1 : (n + 1) % 2 = 0 := by omega
      rw [outsAt0_C m c ⟨n + 1, hn⟩ h0 h1 h2]
      refine ⟨fun p k => ?_, fun k => ?_⟩ <;> dsimp only
      · rw [acc_C]
        exact step m c X D G W WD A ⟨n + 1, hn⟩ _ (fun p k => (zero_acc p k).trans (part_zero _ _ _ _ _ _ h1 _ k)) p k
      · have e2 : (n + 1 + 1) / 2 = (n + 1) / 2 := by omega
        rw [e2]
        exact i1 k

/-- The two gradients of a row's gate and up activations, block 0 and block 1 of the third result. -/
theorem dgu_state (t : Fin cfg0.N) (p : Fin 512) (q : Fin 1408) :
    (outsAt0 m c t.val t.isLt).2.2.1 (ix3 0 p q)
      = ((dgate X D G W WD (512 * (t.val / 2) + p.val) (1408 * (t.val % 2) + q.val) : ℝ) : EReal)
    ∧ (outsAt0 m c t.val t.isLt).2.2.1 (ix3 1 p q)
      = ((dup X D G W WD (512 * (t.val / 2) + p.val) (1408 * (t.val % 2) + q.val) : ℝ) : EReal) := by
  have g := dgate_real _ _ _ _ _ _ _ (b0 m c X D G W WD A t) (b2 m c X D G W WD A t) (b5 m c X D G W WD A t) p q
  have u := dup_real _ _ _ _ _ _ _ (b0 m c X D G W WD A t) (b2 m c X D G W WD A t) (b5 m c X D G W WD A t) p q
  have hN := lt_of_lt_of_eq t.isLt (show cfg0.N = 16 from N_0)
  by_cases h0 : t.val % 16 = 0
  · rw [outsAt0_A m c t h0 (by omega) (by omega)]
    dsimp only
    rw [dgu0_A, dgu1_A]
    exact ⟨g, u⟩
  · by_cases h2 : t.val % 2 = 1
    · rw [outsAt0_B m c t h0 (by omega) h2]
      dsimp only
      rw [dgu0_B, dgu1_B]
      exact ⟨g, u⟩
    · rw [outsAt0_C m c t h0 (by omega) h2]
      dsimp only
      rw [dgu0_C, dgu1_C]
      exact ⟨g, u⟩

/-- A block's second half leaves its rows' gradient and its normalised rows. -/
theorem row_state (t : Fin cfg0.N) (h2 : t.val % 2 = 1) (p : Fin 512) (k : Fin 1024) :
    (outsAt0 m c t.val t.isLt).1 (ix2 p k) = ((dxRow (row D (512 * (t.val / 2) + p.val)) (row X (512 * (t.val / 2) + p.val))
        (gn G) (dh X D G W WD (512 * (t.val / 2) + p.val)) k : ℝ) : EReal)
    ∧ (outsAt0 m c t.val t.isLt).2.1 (ix2 p k) = ((hn X G (512 * (t.val / 2) + p.val) k : ℝ) : EReal) := by
  have hN := lt_of_lt_of_eq t.isLt (show cfg0.N = 16 from N_0)
  have s := (carried m c X D G W WD A t.val t.isLt).1
  rw [outsAt0_B m c t (by omega) (by omega) h2] at s ⊢
  dsimp only at s ⊢
  rw [acc_B, h2] at s
  rw [dx_B, h_B]
  exact ⟨dxB_real _ _ _ _ _ _ _ _ (b0 m c X D G W WD A t) (b1 m c X D G W WD A t) s (b3 m c X D G W WD A t) p k,
    h_real _ _ _ _ (b1 m c X D G W WD A t) (b3 m c X D G W WD A t) p k⟩

/-! ## The four result arrays -/

theorem kernel_dx (p : Fin 4096) (j : Fin 1024) : G6 m c (ix2 p j)
    = ((dxRow (row D p.val) (row X p.val) (gn G) (dh X D G W WD p.val) j : ℝ) : EReal) := by
  have hp : pt6Of (ix2 p j) = 2 * (p.val / 512) + 1 := by
    show 2 * (1 * (p.val / 512 - 0) + 1 * (j.val / 1024 - 0)) + 1 = _
    have := j.isLt; omega
  have hlt : pt6Of (ix2 p j) < cfg0.N := by
    rw [hp]; exact lt_of_lt_of_eq (by have := p.isLt; omega) N_0.symm
  unfold G6
  rw [dif_pos hlt, ← outsAt0_sweep m c (pt6Of (ix2 p j)) hlt]
  have e : loc6Of (ix2 p j) = ix2 (⟨p.val % 512, Nat.mod_lt _ (by decide)⟩ : Fin 512) j := by
    funext a; apply Fin.ext
    match a with
    | ⟨0, _⟩ => rfl
    | ⟨1, _⟩ => exact Nat.mod_eq_of_lt j.isLt
  rw [e]
  refine ((row_state m c X D G W WD A ⟨pt6Of (ix2 p j), hlt⟩ (by show pt6Of (ix2 p j) % 2 = 1; omega) _ j).1).trans ?_
  have e : 512 * (pt6Of (ix2 p j) / 2) + p.val % 512 = p.val := by omega
  dsimp only
  rw [e]

theorem kernel_h (p : Fin 4096) (j : Fin 1024) : G7 m c (ix2 p j) = ((hn X G p.val j : ℝ) : EReal) := by
  have hp : pt7Of (ix2 p j) = 2 * (p.val / 512) + 1 := by
    show 2 * (1 * (p.val / 512 - 0) + 1 * (j.val / 1024 - 0)) + 1 = _
    have := j.isLt; omega
  have hlt : pt7Of (ix2 p j) < cfg0.N := by
    rw [hp]; exact lt_of_lt_of_eq (by have := p.isLt; omega) N_0.symm
  unfold G7
  rw [dif_pos hlt, ← outsAt0_sweep m c (pt7Of (ix2 p j)) hlt]
  have e : loc7Of (ix2 p j) = ix2 (⟨p.val % 512, Nat.mod_lt _ (by decide)⟩ : Fin 512) j := by
    funext a; apply Fin.ext
    match a with
    | ⟨0, _⟩ => rfl
    | ⟨1, _⟩ => exact Nat.mod_eq_of_lt j.isLt
  rw [e]
  refine ((row_state m c X D G W WD A ⟨pt7Of (ix2 p j), hlt⟩ (by show pt7Of (ix2 p j) % 2 = 1; omega) _ j).2).trans ?_
  have e : 512 * (pt7Of (ix2 p j) / 2) + p.val % 512 = p.val := by omega
  dsimp only
  rw [e]

/-- One entry of the gradients of the activations: 0 the gate's, 1 the up's. -/
def dgu (b : Fin 2) (p f : ℕ) : ℝ := if b = 0 then dgate X D G W WD p f else dup X D G W WD p f

theorem kernel_dgu (b : Fin 2) (p : Fin 4096) (f : Fin 2816) :
    G8 m c (ix3 b p f) = ((dgu X D G W WD b p.val f.val : ℝ) : EReal) := by
  have hp : pt8Of (ix3 b p f) = 2 * (p.val / 512) + f.val / 1408 := by
    show 16 * (b.val / 2 - 0) + 2 * (p.val / 512 - 0) + 1 * (f.val / 1408 - 0) = _
    have := b.isLt; omega
  have hlt : pt8Of (ix3 b p f) < cfg0.N := by
    rw [hp]; exact lt_of_lt_of_eq (by have := p.isLt; have := f.isLt; omega) N_0.symm
  unfold G8
  rw [dif_pos hlt, ← outsAt0_sweep m c (pt8Of (ix3 b p f)) hlt]
  have e : loc8Of (ix3 b p f) = ix3 b (⟨p.val % 512, Nat.mod_lt _ (by decide)⟩ : Fin 512)
      (⟨f.val % 1408, Nat.mod_lt _ (by decide)⟩ : Fin 1408) := by
    funext a; apply Fin.ext
    match a with
    | ⟨0, _⟩ => exact Nat.mod_eq_of_lt b.isLt
    | ⟨1, _⟩ => rfl
    | ⟨2, _⟩ => rfl
  rw [e]
  have s := dgu_state m c X D G W WD A ⟨pt8Of (ix3 b p f), hlt⟩ ⟨p.val % 512, Nat.mod_lt _ (by decide)⟩
    ⟨f.val % 1408, Nat.mod_lt _ (by decide)⟩
  have hf := f.isLt
  have e0 : 512 * (pt8Of (ix3 b p f) / 2) + p.val % 512 = p.val := by omega
  have e1 : 1408 * (pt8Of (ix3 b p f) % 2) + f.val % 1408 = f.val := by omega
  dsimp only at s
  rw [e0, e1] at s
  match b with
  | 0 => exact s.1
  | 1 => exact s.2

theorem kernel_dg (a : Fin 1) (j : Fin 1024) : G9 m c (ix2 a j) = ((gainSum X D G W WD 4096 j : ℝ) : EReal) := by
  obtain rfl : a = 0 := Subsingleton.elim _ _
  rw [G9_last, ← outsAt0_sweep]
  exact (carried m c X D G W WD A 15 (lt_of_lt_of_eq (by decide) N_0.symm)).2 j

end Cert.Proof.Ffn

end
-- ==== Proof.Ffn.Reference.lean ====
/- Hand-written: the four results of the feed-forward backward's reference on finite arguments, as the real expressions the
   kernel leaves. -/
module

public import proofs.«01_k».proof.Proof.Ffn.Result
public import proofs.«01_k».proof.Proof.Head.Reference
public import proofs.«01_k».proof.Proof.Gen.FfnReferenceIdeal.Read

@[expose] public section

set_option maxRecDepth 16384

noncomputable section

namespace Cert.Proof.Ffn

open Cert.FfnReferenceIdeal Cert.FfnReferenceIdeal.Gen Cert.FfnReferenceIdeal.Read Cert.Proof.Reals
open Cert.Proof.Head (row rowOf_eq row_seq row_at)
open Idealize.ShloMosaic

/-- The logistic function by the hyperbolic tangent of half its argument. -/
theorem sgm_eq (z : ℝ) : 1 / (1 + Real.exp (-z)) = sgm z := by
  unfold sgm
  rw [Real.tanh_eq_sinh_div_cosh, Real.sinh_eq, Real.cosh_eq]
  have e : Real.exp (-z) = Real.exp (-(1 / 2 * z)) * Real.exp (-(1 / 2 * z)) := by
    rw [← Real.exp_add]; congr 1; ring
  have o : Real.exp (1 / 2 * z) * Real.exp (-(1 / 2 * z)) = 1 := by
    rw [← Real.exp_add]; simp
  rw [e]
  have ha := Real.exp_pos (1 / 2 * z)
  have hb := Real.exp_pos (-(1 / 2 * z))
  generalize Real.exp (1 / 2 * z) = a at *
  generalize Real.exp (-(1 / 2 * z)) = b at *
  have h1 : (1 + b * b) ≠ 0 := by positivity
  have h2 : (a + b) ≠ 0 := by positivity
  field_simp
  linear_combination (-2 * b) * o

theorem exp_pos' (z : ℝ) : 1 + Real.exp (-z) ≠ 0 := by have := Real.exp_pos (-z); positivity

variable (x d : FVec Ideal S2x2048x1024 .f32) (g : FVec Ideal S1024 .f32) (w : FVec Ideal S1024x5632 .f32)
  (wd : FVec Ideal S2816x1024 .f32)
  (X D : S2x2048x1024.Idx → ℝ) (G : S1024.Idx → ℝ) (W : S1024x5632.Idx → ℝ) (WD : S2816x1024.Idx → ℝ)
  (hx : x = fun i => ((X i : ℝ) : EReal)) (hg : g = fun i => ((G i : ℝ) : EReal))
  (hw : w = fun i => ((W i : ℝ) : EReal)) (hwd : wd = fun i => ((WD i : ℝ) : EReal))
  (hd : d = fun i => ((D i : ℝ) : EReal)) (b : Fin 2) (s : Fin 2048)

include hx hg in
theorem ref_hn (k : Fin 1024) : val_main_v16 (F := Ideal) x g (ix3 b s k) = ((hn X G (2048 * b.val + s.val) k : ℝ) : EReal) := by
  pointwise [val_main_v16, val_main_v15, val_main_v14, val_main_v13, val_main_v12, val_main_v8, val_main_v7, val_main_v6,
    val_main_v5, val_main_v4, val_main_v3, val_main_v2, val_main_v1, val_main_cst_0, val_main_cst_1, val_main_cst_2]
  have hr := rsqrt_row fun k => X (ix3 b s k)
  simp only [hx, hg, ← EReal.coe_mul, ← EReal.coe_add, coe_sum, w1024, weps, div_real _ n1024, hr]
  unfold hn gn
  simp only [row_seq, row_at]

include hx hg hw

theorem ref_z (f : Fin 5632) :
    val_main_v18 (F := Ideal) x g w (ix3 b s f) = ((∑ k, hn X G (2048 * b.val + s.val) k * W (ix2 k f) : ℝ) : EReal) := by
  have h := ref_hn x g X G hx hg b s
  pointwise [val_main_v18, val_main_v17, val_main_v0, val_main_cst]
  simp only [h, hw, ← EReal.coe_mul, coe_sum, add_zero]

theorem ref_gz (f : Fin 2816) : val_main_v19 (F := Ideal) x g w (ix3 b s f) = ((gz X G W (2048 * b.val + s.val) f.val : ℝ) : EReal) := by
  have h := ref_z x g w X G W hx hg hw b s (Fin.ofNat 5632 f.val)
  refine Eq.trans ?_ h
  unfold val_main_v19
  generalize val_main_v18 (F := Ideal) x g w = y
  pointwise []
  exact congrArg (fun i => y (ix3 b s i)) (Fin.ext (Nat.mod_eq_of_lt (by have := f.isLt; omega)).symm)

theorem ref_uz (f : Fin 2816) : val_main_v20 (F := Ideal) x g w (ix3 b s f) = ((uz X G W (2048 * b.val + s.val) f.val : ℝ) : EReal) := by
  have h := ref_z x g w X G W hx hg hw b s (Fin.ofNat 5632 (2816 + f.val))
  refine Eq.trans ?_ h
  unfold val_main_v20
  generalize val_main_v18 (F := Ideal) x g w = y
  pointwise []
  exact congrArg (fun i => y (ix3 b s i)) (Fin.ext (Nat.mod_eq_of_lt (by have := f.isLt; omega)).symm)

theorem ref_sg (f : Fin 2816) :
    val_main_v21_2 (F := Ideal) x g w (ix3 b s f) = ((sgm (gz X G W (2048 * b.val + s.val) f.val) : ℝ) : EReal) := by
  have h := ref_gz x g w X G W hx hg hw b s f
  pointwise [val_main_v21_2, val_main_call0_v0, val_main_call0_v1, val_main_call0_v2, val_main_call0_v3, val_main_call0_v4,
    val_main_call0_cst, val_main_call0_cst_0]
  rw [h]
  simp only [← EReal.coe_one, ← EReal.coe_neg, Ideal.exp_coe, ← EReal.coe_add, div_real _ (exp_pos' _), sgm_eq]

include hd hwd in
omit hx hg hw in
theorem ref_hid (f : Fin 2816) :
    val_main_v26 (F := Ideal) wd d (ix3 b s f) = ((hid (row D (2048 * b.val + s.val)) (wdN WD f.val) : ℝ) : EReal) := by
  pointwise [val_main_v26, val_main_v25]
  simp only [hd, hwd, ← EReal.coe_mul, coe_sum]
  refine congrArg _ (Finset.sum_congr rfl fun k _ => ?_)
  rw [row_at]
  have e : (f : Fin 2816) = Fin.ofNat 2816 f.val := Fin.ext (Nat.mod_eq_of_lt f.isLt).symm
  unfold wdN
  rw [← e]

include hd hwd

theorem ref_dgate (f : Fin 2816) :
    val_main_v29 (F := Ideal) x g w wd d (ix3 b s f) = ((dgate X D G W WD (2048 * b.val + s.val) f.val : ℝ) : EReal) := by
  have hz := ref_gz x g w X G W hx hg hw b s f
  have hu := ref_uz x g w X G W hx hg hw b s f
  have hs := ref_sg x g w X G W hx hg hw b s f
  have hh := ref_hid d wd D WD hwd hd b s f
  pointwise [val_main_v29, val_main_call1_v0, val_main_call1_v1, val_main_call1_v2, val_main_v28, val_main_v21_1,
    val_main_call0_v7, val_main_call0_v6, val_main_call0_cst_1]
  simp only [hz, hu, hs, hh, ← EReal.coe_one, ← EReal.coe_mul, ← EReal.coe_add, ← EReal.coe_sub]
  refine congrArg _ ?_
  unfold dgate fa1
  ring

theorem ref_dup (f : Fin 2816) :
    val_main_v27 (F := Ideal) x g w wd d (ix3 b s f) = ((dup X D G W WD (2048 * b.val + s.val) f.val : ℝ) : EReal) := by
  have hz := ref_gz x g w X G W hx hg hw b s f
  have hs := ref_sg x g w X G W hx hg hw b s f
  have hh := ref_hid d wd D WD hwd hd b s f
  pointwise [val_main_v27, val_main_v21_0]
  simp only [hz, hs, hh, ← EReal.coe_mul]
  refine congrArg _ ?_
  unfold dup fa0
  ring

theorem ref_cat (f : Fin 5632) : val_main_v30 (F := Ideal) x g w wd d (ix3 b s f)
    = ((if f.val < 2816 then dgate X D G W WD (2048 * b.val + s.val) f.val
        else dup X D G W WD (2048 * b.val + s.val) (f.val - 2816) : ℝ) : EReal) := by
  have h0 := ref_dgate x d g w wd X D G W WD hx hg hw hwd hd b s
  have h1 := ref_dup x d g w wd X D G W WD hx hg hw hwd hd b s
  unfold val_main_v30
  generalize val_main_v29 (F := Ideal) x g w wd d = y0 at *
  generalize val_main_v27 (F := Ideal) x g w wd d = y1 at *
  pointwise []
  split_ifs with h
  · exact h0 ⟨f.val, h⟩
  all_goals exact h1 ⟨f.val - 2816, by have := f.isLt; omega⟩

theorem ref_dh (k : Fin 1024) :
    val_main_v31 (F := Ideal) x g w wd d (ix3 b s k) = ((dh X D G W WD (2048 * b.val + s.val) k : ℝ) : EReal) := by
  have h := ref_cat x d g w wd X D G W WD hx hg hw hwd hd b s
  pointwise [val_main_v31]
  subst hw
  simp only [h, ← EReal.coe_mul, coe_sum]
  refine congrArg _ ?_
  have e (f : Fin 5632) : W (ix2 k f) = wgN W f.val k := by
    unfold wgN
    exact congrArg (fun i => W (ix2 k i)) (Fin.ext (Nat.mod_eq_of_lt f.isLt).symm)
  simp only [e]
  unfold dh part
  rw [Finset.sum_add_distrib, Fin.sum_univ_eq_sum_range
    (fun f => (if f < 2816 then dgate X D G W WD (2048 * b.val + s.val) f
      else dup X D G W WD (2048 * b.val + s.val) (f - 2816)) * wgN W f k) 5632,
    show (5632 : ℕ) = 2816 + 2816 from rfl, Finset.sum_range_add]
  refine congrArg₂ (· + ·) (Finset.sum_congr rfl fun f hf => ?_) (Finset.sum_congr rfl fun f _ => ?_)
  · rw [if_pos (Finset.mem_range.mp hf)]
  · rw [if_neg (by omega), Nat.add_sub_cancel_left]
    rfl

theorem ref_dx3 (j : Fin 1024) : val_main_v52 (F := Ideal) x g w wd d (ix3 b s j)
    = ((dxRow (row D (2048 * b.val + s.val)) (row X (2048 * b.val + s.val)) (gn G)
        (dh X D G W WD (2048 * b.val + s.val)) j : ℝ) : EReal) := by
  have h := ref_dh x d g w wd X D G W WD hx hg hw hwd hd b s
  pointwise [val_main_v52, val_main_v51, val_main_v50, val_main_v49, val_main_v48, val_main_v47, val_main_v46, val_main_v45,
    val_main_v44, val_main_v43, val_main_v42, val_main_v41, val_main_v40, val_main_v39, val_main_v38, val_main_v36,
    val_main_v35, val_main_v14, val_main_v11, val_main_v10, val_main_v9, val_main_v8, val_main_v7, val_main_v6, val_main_v5, val_main_v4,
    val_main_v3, val_main_v2, val_main_v1, val_main_cst_0, val_main_cst_1, val_main_cst_2, val_main_cst_3, val_main_cst_6,
    val_main_cst_7, val_main_cst_8]
  have hr := rsqrt_row fun k => X (ix3 b s k)
  have hp := (ms_pos fun k => X (ix3 b s k)).ne'
  simp only [h]
  simp only [hx, hg, hd, ← EReal.coe_mul, ← EReal.coe_add, coe_sum, w1024, weps, wneghalf, div_real _ n1024, hr,
    div_real _ hp, rs_div, Fin.sum_univ_one]
  refine congrArg _ ?_
  unfold dxRow
  rw [row_seq, row_seq]
  generalize dh X D G W WD (2048 * b.val + s.val) = v
  simp only [gn]
  have hs : (∑ k, v k * G (ix1 k) * (X (ix3 b s k) * rs (fun k => X (ix3 b s k))))
      = (∑ k, X (ix3 b s k) * (v k * G (ix1 k))) * rs (fun k => X (ix3 b s k)) := by
    rw [Finset.sum_mul]
    exact Finset.sum_congr rfl fun k _ => by ring
  rw [hs]
  ring

omit b s

theorem ref_dg (a : Fin 1) (j : Fin 1024) :
    val_main_v59 (F := Ideal) x g w wd d (ix2 a j) = ((gainSum X D G W WD 4096 j : ℝ) : EReal) := by
  obtain rfl : a = 0 := Subsingleton.elim _ _
  have e33 : val_main_v33 (F := Ideal) x g w wd d (ix1 j) = ((gainSum X D G W WD 4096 j : ℝ) : EReal) := by
    have h (b : Fin 2) (s : Fin 2048) := ref_dh x d g w wd X D G W WD hx hg hw hwd hd b s j
    have hr (b : Fin 2) (s : Fin 2048) := rsqrt_row fun k => X (ix3 b s k)
    unfold val_main_v33 Host.reduceAdd
    rw [Ideal.hostReduceAdd_def, hostSum_lead2]
    pointwise [val_main_v32, val_main_v13, val_main_v12, val_main_v8, val_main_v7, val_main_v6, val_main_v5, val_main_v4,
      val_main_v3, val_main_v2, val_main_v1, val_main_cst_0, val_main_cst_1, val_main_cst_2, val_main_cst_4]
    simp only [h]
    simp only [hx, ← EReal.coe_mul, ← EReal.coe_add, coe_sum, w1024, weps, div_real _ n1024, hr]
    refine congrArg _ ?_
    unfold gainSum
    rw [show (4096 : ℕ) = 2 * 2048 from rfl, sum_range_mul]
    simp only [row_seq, row_at]
    exact Finset.sum_congr rfl fun a _ => Finset.sum_congr rfl fun b _ => mul_comm _ _
  have e37 : val_main_v37 (F := Ideal) x g w wd d (ix1 j) = val_main_v33 (F := Ideal) x g w wd d (ix1 j) := by
    unfold val_main_v37 Host.reduceAdd
    rw [Ideal.hostReduceAdd_def, hostSum_lead2]
    unfold val_main_v34
    generalize val_main_v33 (F := Ideal) x g w wd d = y
    pointwise [val_main_cst_5]
    simp only [Fin.sum_univ_one]
  rw [← e33, ← e37]
  unfold val_main_v59
  generalize val_main_v37 (F := Ideal) x g w wd d = y
  pointwise []

theorem ref_dx (p : Fin 4096) (j : Fin 1024) : val_main_v53 (F := Ideal) x g w wd d (ix2 p j)
    = ((dxRow (row D p.val) (row X p.val) (gn G) (dh X D G W WD p.val) j : ℝ) : EReal) := by
  have q0 : p.val / 2048 < 2 := by have := p.isLt; omega
  have q1 : p.val % 2048 < 2048 := Nat.mod_lt _ (by decide)
  have e := ref_dx3 x d g w wd X D G W WD hx hg hw hwd hd ⟨p.val / 2048, q0⟩ ⟨p.val % 2048, q1⟩ j
  simp only [Nat.div_add_mod] at e
  refine Eq.trans ?_ e
  unfold val_main_v53
  generalize val_main_v52 (F := Ideal) x g w wd d = y
  pointwise []

omit hd hwd hw in
theorem ref_h (p : Fin 4096) (j : Fin 1024) : val_main_v55 (F := Ideal) x g (ix2 p j) = ((hn X G p.val j : ℝ) : EReal) := by
  have q0 : p.val / 2048 < 2 := by have := p.isLt; omega
  have q1 : p.val % 2048 < 2048 := Nat.mod_lt _ (by decide)
  have e := ref_hn x g X G hx hg ⟨p.val / 2048, q0⟩ ⟨p.val % 2048, q1⟩ j
  simp only [Nat.div_add_mod] at e
  refine Eq.trans ?_ e
  unfold val_main_v55 val_main_v54
  generalize val_main_v16 (F := Ideal) x g = y
  pointwise []

theorem ref_dgu (b : Fin 2) (p : Fin 4096) (f : Fin 2816) :
    val_main_v58 (F := Ideal) x g w wd d (ix3 b p f) = ((dgu X D G W WD b p.val f.val : ℝ) : EReal) := by
  have q0 : p.val / 2048 < 2 := by have := p.isLt; omega
  have q1 : p.val % 2048 < 2048 := Nat.mod_lt _ (by decide)
  have e (f : Fin 5632) := ref_cat x d g w wd X D G W WD hx hg hw hwd hd ⟨p.val / 2048, q0⟩ ⟨p.val % 2048, q1⟩ f
  simp only [Nat.div_add_mod] at e
  unfold dgu val_main_v58 val_main_v57 val_main_v56
  generalize val_main_v30 (F := Ideal) x g w wd d = y at *
  match b with
  | ⟨0, _⟩ =>
    refine Eq.trans ?_ ((e ⟨f.val, by have := f.isLt; omega⟩).trans ?_)
    · pointwise []
    · simp
  | ⟨1, _⟩ =>
    refine Eq.trans ?_ ((e ⟨2816 + f.val, by have := f.isLt; omega⟩).trans ?_)
    · pointwise []
    · simp

end Cert.Proof.Ffn

end
-- ==== Proof.Ffn.Claim.lean ====
/- Hand-written: the feed-forward backward's claims, from the generated runs and the value lemmas. -/
module

public import proofs.«01_k».proof.Defs
public import proofs.«01_k».proof.Proof.Finite
public import proofs.«01_k».proof.Proof.Gen.FfnKernel
public import proofs.«01_k».proof.Proof.Gen.FfnKernel.Frame
public import proofs.«01_k».proof.Proof.Gen.Pre_fin_ffn
public import proofs.«01_k».proof.Proof.Ffn.Reference

@[expose] public section

set_option maxRecDepth 16384

noncomputable section

namespace Cert.Proof.Ffn

open Cert.Proof.Reals Idealize.ShloMosaic Idealize.SL.Sem
open Cert.Proof.Head (row)

instance scalar_subsingleton : Subsingleton Cert.Pre_fin_ffn.S_.Idx := ⟨fun i j => funext fun a => a.elim0⟩

/-- The precondition makes the five arguments arrays of reals. -/
theorem finite (m : (ℓ : Loc Cert.FfnKernelIdeal.nD Cert.FfnKernelIdeal.τ Cert.FfnKernelIdeal.sig) → Buf (Elt Ideal) ℓ)
    (h : Cert.Pre_FfnKernelIdeal_fin_ffn m) (c : Dev Cert.FfnKernelIdeal.nD) :
    ∃ (X D : Cert.FfnKernelIdeal.S2x2048x1024.Idx → ℝ) (G : Cert.FfnKernelIdeal.S1024.Idx → ℝ)
      (W : Cert.FfnKernelIdeal.S1024x5632.Idx → ℝ) (WD : Cert.FfnKernelIdeal.S2816x1024.Idx → ℝ), Args m c X D G W WD := by
  have e := congrFun (h c) ix0
  obtain ⟨e, e4⟩ := Idealize.ShloMosaic.IntOp.andi_eq_one.mp e
  obtain ⟨e, e3⟩ := Idealize.ShloMosaic.IntOp.andi_eq_one.mp e
  obtain ⟨e, e2⟩ := Idealize.ShloMosaic.IntOp.andi_eq_one.mp e
  obtain ⟨e0, e1⟩ := Idealize.ShloMosaic.IntOp.andi_eq_one.mp e
  obtain ⟨X, hX⟩ := real_of_all _ _ _ _ _ _ _ e0
  obtain ⟨G, hG⟩ := real_of_all _ _ _ _ _ _ _ e1
  obtain ⟨W, hW⟩ := real_of_all _ _ _ _ _ _ _ e2
  obtain ⟨WD, hWD⟩ := real_of_all _ _ _ _ _ _ _ e3
  obtain ⟨D, hD⟩ := real_of_all _ _ _ _ _ _ _ e4
  exact ⟨X, D, G, W, WD, hX, hG, hW, hWD, hD⟩

/-- The reference runs, its arguments unchanged; it has no counter. -/
theorem frame_reference : Cert.quiescent_FfnReferenceIdeal := fun m g _ =>
  (θ_run Cert.FfnReferenceIdeal.defs _ _).mono
    (fun r h => ⟨fun c => (h c).2.2.2.2, sem_eq_zero_of_no_sems (by decide) r.2⟩)
    (Cert.FfnReferenceIdeal.Value.run (F := Ideal) m g)

theorem value : Cert.algebraic_FfnKernelIdeal_FfnReferenceIdeal_pre_fin_ffn := by
  intro m g m' g' hpre hargs
  choose X D G W WD A using fun c => finite m hpre c
  refine ⟨fun c i => ((dxRow (row (D c) (i 0).val) (row (X c) (i 0).val) (gn (G c))
      (dh (X c) (D c) (G c) (W c) (WD c) (i 0).val) (i 1) : ℝ) : EReal),
    fun c i => ((hn (X c) (G c) (i 0).val (i 1) : ℝ) : EReal),
    fun c i => ((dgu (X c) (D c) (G c) (W c) (WD c) (i 0) (i 1).val (i 2).val : ℝ) : EReal),
    fun c i => ((gainSum (X c) (D c) (G c) (W c) (WD c) 4096 (i 1) : ℝ) : EReal), ?_, ?_⟩
  · refine (θ_run _ _ _).mono (fun r h c => ?_) (Cert.FfnKernelIdeal.Value.run (F := Ideal) m g)
    obtain ⟨h0, h1, h2, h3, k⟩ := h c
    refine ⟨h0.trans (funext fun i => ?_), h1.trans (funext fun i => ?_), h2.trans (funext fun i => ?_),
      h3.trans (funext fun i => ?_), k⟩
    · rw [eq_ix2 i]; exact kernel_dx m c _ _ _ _ _ (A c) _ _
    · rw [eq_ix2 i]; exact kernel_h m c _ _ _ _ _ (A c) _ _
    · rw [eq_ix3 i]; exact kernel_dgu m c _ _ _ _ _ (A c) _ _ _
    · rw [eq_ix2 i]; exact kernel_dg m c _ _ _ _ _ (A c) _ _
  · refine (θ_run _ _ _).mono (fun r h c => ?_) (Cert.FfnReferenceIdeal.Value.run (F := Ideal) m' g')
    obtain ⟨h0, h1, h2, h3, k⟩ := h c
    obtain ⟨a0, a1, a2, a3, a4⟩ := hargs c
    have b0 := a0.trans (A c).x
    have b1 := a1.trans (A c).g
    have b2 := a2.trans (A c).w
    have b3 := a3.trans (A c).wd
    have b4 := a4.trans (A c).d
    refine ⟨(h0.trans (Cert.FfnReferenceIdeal.Read.val_main_v53_eq m' c)).trans (funext fun i => ?_),
      (h1.trans (Cert.FfnReferenceIdeal.Read.val_main_v55_eq _ _)).trans (funext fun i => ?_),
      (h2.trans (Cert.FfnReferenceIdeal.Read.val_main_v58_eq m' c)).trans (funext fun i => ?_),
      (h3.trans (Cert.FfnReferenceIdeal.Read.val_main_v59_eq m' c)).trans (funext fun i => ?_), k⟩
    · rw [eq_ix2 i]; exact ref_dx _ _ _ _ _ _ _ _ _ _ b0 b1 b2 b3 b4 _ _
    · rw [eq_ix2 i]; exact ref_h _ _ _ _ b0 b1 _ _
    · rw [eq_ix3 i]; exact ref_dgu _ _ _ _ _ _ _ _ _ _ b0 b1 b2 b3 b4 _ _ _
    · rw [eq_ix2 i]; exact ref_dg _ _ _ _ _ _ _ _ _ _ b0 b1 b2 b3 b4 _ _

end Cert.Proof.Ffn

end
-- ==== Proof.Mixer.Run.lean ====
module

public import Idealize.ShloMosaic.Lib.Pointwise
public import proofs.«01_k».proof.Proof.Gen.MixerKernelIdeal.Frame.Runs
public import Idealize.ShloMosaic.Lib.LaneScatter.Own
public import Idealize.ShloMosaic.Lib.VecWindow
public import Idealize.ShloMosaic.Lib.Pipeline.ReadBack
public import Idealize.ShloMosaic.Lib.Pipeline.Value

/-! The mixer's backward body, run once on any whole buffers. -/

@[expose] public section

set_option maxRecDepth 16384

noncomputable section

namespace Cert.Proof.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MixerKernelIdeal Cert.MixerKernelIdeal.Gen

variable {F : FTy → Type} [FloatOps F]

local notation "𝕄" => MT nD τ sig Unit (Elt F) ℕ (UR sig nD τ) ℕ

/-- The whole buffers one run of the body works on: inputs, outputs and scratch, in the order of its arguments. -/
structure Refs where
  a1 : Memref sig .tc .vmem S256x1024 .f32
  w1 : a1.IsWhole
  a2 : Memref sig .tc .vmem S256x1024 .f32
  w2 : a2.IsWhole
  a3 : Memref sig .tc .vmem S256x1792 .f32
  w3 : a3.IsWhole
  a4 : Memref sig .tc .vmem S256x384 .f32
  w4 : a4.IsWhole
  a5 : Memref sig .tc .vmem S256x256 .f32
  w5 : a5.IsWhole
  a6 : Memref sig .tc .vmem S1x1024 .f32
  w6 : a6.IsWhole
  a7 : Memref sig .tc .vmem S1792x1024 .bf16
  w7 : a7.IsWhole
  a8 : Memref sig .tc .vmem S31x384 .f32
  w8 : a8.IsWhole
  a9 : Memref sig .tc .vmem S1x384 .f32
  w9 : a9.IsWhole
  a10 : Memref sig .tc .vmem S1x384 .f32
  w10 : a10.IsWhole
  a11 : Memref sig .tc .vmem S384x384 .bf16
  w11 : a11.IsWhole
  a12 : Memref sig .tc .vmem S1x384 .f32
  w12 : a12.IsWhole
  a13 : Memref sig .tc .vmem S1x384 .f32
  w13 : a13.IsWhole
  a14 : Memref sig .tc .vmem S4x128x128 .bf16
  w14 : a14.IsWhole
  a15 : Memref sig .tc .vmem S4x128x128 .bf16
  w15 : a15.IsWhole
  a16 : Memref sig .tc .vmem S128x384 .f32
  w16 : a16.IsWhole
  a17 : Memref sig .tc .vmem S256x256 .bf16
  w17 : a17.IsWhole
  a18 : Memref sig .tc .vmem S1x256 .f32
  w18 : a18.IsWhole
  a19 : Memref sig .tc .vmem S1024x1024 .bf16
  w19 : a19.IsWhole
  a20 : Memref sig .tc .vmem S256x1024 .f32
  w20 : a20.IsWhole
  a21 : Memref sig .tc .vmem S256x1792 .bf16
  w21 : a21.IsWhole
  a22 : Memref sig .tc .vmem S256x1024 .bf16
  w22 : a22.IsWhole
  a23 : Memref sig .tc .vmem S256x384 .bf16
  w23 : a23.IsWhole
  a24 : Memref sig .tc .vmem S256x384 .bf16
  w24 : a24.IsWhole
  a25 : Memref sig .tc .vmem S1x1024 .f32
  w25 : a25.IsWhole
  a26 : Memref sig .tc .vmem S31x384 .f32
  w26 : a26.IsWhole
  a27 : Memref sig .tc .vmem S1x384 .f32
  w27 : a27.IsWhole
  a28 : Memref sig .tc .vmem S1x384 .f32
  w28 : a28.IsWhole
  a29 : Memref sig .tc .vmem S1x384 .f32
  w29 : a29.IsWhole
  a30 : Memref sig .tc .vmem S1x384 .f32
  w30 : a30.IsWhole
  a31 : Memref sig .tc .vmem S1x384 .f32
  w31 : a31.IsWhole
  a32 : Memref sig .tc .vmem S4x128x128 .f32
  w32 : a32.IsWhole
  a33 : Memref sig .tc .vmem S128x128 .f32
  w33 : a33.IsWhole
  a34 : Memref sig .tc .vmem S256x256 .f32
  w34 : a34.IsWhole
  a35 : Memref sig .tc .vmem S1x256 .f32
  w35 : a35.IsWhole
  a36 : Memref sig .tc .vmem S288x384 .f32
  w36 : a36.IsWhole
  a37 : Memref sig .tc .vmem S288x256 .f32
  w37 : a37.IsWhole
  a38 : Memref sig .tc .vmem S288x256 .f32
  w38 : a38.IsWhole
  a39 : Memref sig .tc .vmem S288x256 .f32
  w39 : a39.IsWhole
  a40 : Memref sig .tc .vmem S288x256 .f32
  w40 : a40.IsWhole

/-- The blocks the body reads. -/
structure In (F : FTy → Type) [FloatOps F] where
  x0 : Vec F S256x1024 .f32
  x1 : Vec F S256x1024 .f32
  x2 : Vec F S256x1792 .f32
  x3 : Vec F S256x384 .f32
  x4 : Vec F S256x256 .f32
  x5 : Vec F S1x1024 .f32
  x6 : Vec F S1792x1024 .bf16
  x7 : Vec F S31x384 .f32
  x8 : Vec F S1x384 .f32
  x9 : Vec F S1x384 .f32
  x10 : Vec F S384x384 .bf16
  x11 : Vec F S1x384 .f32
  x12 : Vec F S1x384 .f32
  x13 : Vec F S4x128x128 .bf16
  x14 : Vec F S4x128x128 .bf16
  x15 : Vec F S128x384 .f32
  x16 : Vec F S256x256 .bf16
  x17 : Vec F S1x256 .f32
  x18 : Vec F S1024x1024 .bf16

/-- The blocks the body leaves: its results and the two halos it carries to the next run. -/
structure St (F : FTy → Type) [FloatOps F] where
  o19 : Vec F S256x1024 .f32
  o20 : Vec F S256x1792 .bf16
  o21 : Vec F S256x1024 .bf16
  o22 : Vec F S256x384 .bf16
  o23 : Vec F S256x384 .bf16
  o24 : Vec F S1x1024 .f32
  o25 : Vec F S31x384 .f32
  o26 : Vec F S1x384 .f32
  o27 : Vec F S1x384 .f32
  o28 : Vec F S1x384 .f32
  o29 : Vec F S1x384 .f32
  o30 : Vec F S1x384 .f32
  o31 : Vec F S4x128x128 .f32
  o32 : Vec F S128x128 .f32
  o33 : Vec F S256x256 .f32
  o34 : Vec F S1x256 .f32
  s0 : Vec F S288x384 .f32
  s1 : Vec F S288x256 .f32

/-- The inputs and the carried buffers at given contents, the other scratch at any. -/
def held (c : Dev nD) (M : Refs) (x : In F) (o : St F) : sProp 𝕄 :=
  iprop(owns (c : Thread nD τ) M.a1 fullShare x.x0
    ∗ owns (c : Thread nD τ) M.a2 fullShare x.x1
    ∗ owns (c : Thread nD τ) M.a3 fullShare x.x2
    ∗ owns (c : Thread nD τ) M.a4 fullShare x.x3
    ∗ owns (c : Thread nD τ) M.a5 fullShare x.x4
    ∗ owns (c : Thread nD τ) M.a6 fullShare x.x5
    ∗ owns (c : Thread nD τ) M.a7 fullShare x.x6
    ∗ owns (c : Thread nD τ) M.a8 fullShare x.x7
    ∗ owns (c : Thread nD τ) M.a9 fullShare x.x8
    ∗ owns (c : Thread nD τ) M.a10 fullShare x.x9
    ∗ owns (c : Thread nD τ) M.a11 fullShare x.x10
    ∗ owns (c : Thread nD τ) M.a12 fullShare x.x11
    ∗ owns (c : Thread nD τ) M.a13 fullShare x.x12
    ∗ owns (c : Thread nD τ) M.a14 fullShare x.x13
    ∗ owns (c : Thread nD τ) M.a15 fullShare x.x14
    ∗ owns (c : Thread nD τ) M.a16 fullShare x.x15
    ∗ owns (c : Thread nD τ) M.a17 fullShare x.x16
    ∗ owns (c : Thread nD τ) M.a18 fullShare x.x17
    ∗ owns (c : Thread nD τ) M.a19 fullShare x.x18
    ∗ owns (c : Thread nD τ) M.a20 fullShare o.o19
    ∗ owns (c : Thread nD τ) M.a21 fullShare o.o20
    ∗ owns (c : Thread nD τ) M.a22 fullShare o.o21
    ∗ owns (c : Thread nD τ) M.a23 fullShare o.o22
    ∗ owns (c : Thread nD τ) M.a24 fullShare o.o23
    ∗ owns (c : Thread nD τ) M.a25 fullShare o.o24
    ∗ owns (c : Thread nD τ) M.a26 fullShare o.o25
    ∗ owns (c : Thread nD τ) M.a27 fullShare o.o26
    ∗ owns (c : Thread nD τ) M.a28 fullShare o.o27
    ∗ owns (c : Thread nD τ) M.a29 fullShare o.o28
    ∗ owns (c : Thread nD τ) M.a30 fullShare o.o29
    ∗ owns (c : Thread nD τ) M.a31 fullShare o.o30
    ∗ owns (c : Thread nD τ) M.a32 fullShare o.o31
    ∗ owns (c : Thread nD τ) M.a33 fullShare o.o32
    ∗ owns (c : Thread nD τ) M.a34 fullShare o.o33
    ∗ owns (c : Thread nD τ) M.a35 fullShare o.o34
    ∗ owns (c : Thread nD τ) M.a36 fullShare o.s0
    ∗ owns (c : Thread nD τ) M.a37 fullShare o.s1
    ∗ (∃ d, owns (c : Thread nD τ) M.a38 fullShare d)
    ∗ (∃ d, owns (c : Thread nD τ) M.a39 fullShare d)
    ∗ (∃ d, owns (c : Thread nD τ) M.a40 fullShare d))

/-- The printed body on these buffers. -/
abbrev body (i : grid0.Coords) (M : Refs) :=
  cc0_mixer_bwd (F := F) i M.a1 M.w1 M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 M.a21 M.w21 M.a22 M.w22 M.a23 M.w23 M.a24 M.w24 M.a25 M.w25 M.a26 M.w26 M.a27 M.w27 M.a28 M.w28 M.a29 M.w29 M.a30 M.w30 M.a31 M.w31 M.a32 M.w32 M.a33 M.w33 M.a34 M.w34 M.a35 M.w35 M.a36 M.w36 M.a37 M.w37 M.a38 M.w38 M.a39 M.w39 M.a40 M.w40

/-- The same with the contents as the buffers hold them. -/
def heldRaw (c : Dev nD) (M : Refs) (x : In F) (o : St F) : sProp 𝕄 :=
  iprop(LaneScatter.raw (c : Thread nD τ) M.a1 (M.w1.unread x.x0)
    ∗ LaneScatter.raw (c : Thread nD τ) M.a2 (M.w2.unread x.x1)
    ∗ LaneScatter.raw (c : Thread nD τ) M.a3 (M.w3.unread x.x2)
    ∗ LaneScatter.raw (c : Thread nD τ) M.a4 (M.w4.unread x.x3)
    ∗ LaneScatter.raw (c : Thread nD τ) M.a5 (M.w5.unread x.x4)
    ∗ LaneScatter.raw (c : Thread nD τ) M.a6 (M.w6.unread x.x5)
    ∗ LaneScatter.raw (c : Thread nD τ) M.a7 (M.w7.unread x.x6)
    ∗ LaneScatter.raw (c : Thread nD τ) M.a8 (M.w8.unread x.x7)
    ∗ LaneScatter.raw (c : Thread nD τ) M.a9 (M.w9.unread x.x8)
    ∗ LaneScatter.raw (c : Thread nD τ) M.a10 (M.w10.unread x.x9)
    ∗ LaneScatter.raw (c : Thread nD τ) M.a11 (M.w11.unread x.x10)
    ∗ LaneScatter.raw (c : Thread nD τ) M.a12 (M.w12.unread x.x11)
    ∗ LaneScatter.raw (c : Thread nD τ) M.a13 (M.w13.unread x.x12)
    ∗ LaneScatter.raw (c : Thread nD τ) M.a14 (M.w14.unread x.x13)
    ∗ LaneScatter.raw (c : Thread nD τ) M.a15 (M.w15.unread x.x14)
    ∗ LaneScatter.raw (c : Thread nD τ) M.a16 (M.w16.unread x.x15)
    ∗ LaneScatter.raw (c : Thread nD τ) M.a17 (M.w17.unread x.x16)
    ∗ LaneScatter.raw (c : Thread nD τ) M.a18 (M.w18.unread x.x17)
    ∗ LaneScatter.raw (c : Thread nD τ) M.a19 (M.w19.unread x.x18)
    ∗ LaneScatter.raw (c : Thread nD τ) M.a20 (M.w20.unread o.o19)
    ∗ LaneScatter.raw (c : Thread nD τ) M.a21 (M.w21.unread o.o20)
    ∗ LaneScatter.raw (c : Thread nD τ) M.a22 (M.w22.unread o.o21)
    ∗ LaneScatter.raw (c : Thread nD τ) M.a23 (M.w23.unread o.o22)
    ∗ LaneScatter.raw (c : Thread nD τ) M.a24 (M.w24.unread o.o23)
    ∗ LaneScatter.raw (c : Thread nD τ) M.a25 (M.w25.unread o.o24)
    ∗ LaneScatter.raw (c : Thread nD τ) M.a26 (M.w26.unread o.o25)
    ∗ LaneScatter.raw (c : Thread nD τ) M.a27 (M.w27.unread o.o26)
    ∗ LaneScatter.raw (c : Thread nD τ) M.a28 (M.w28.unread o.o27)
    ∗ LaneScatter.raw (c : Thread nD τ) M.a29 (M.w29.unread o.o28)
    ∗ LaneScatter.raw (c : Thread nD τ) M.a30 (M.w30.unread o.o29)
    ∗ LaneScatter.raw (c : Thread nD τ) M.a31 (M.w31.unread o.o30)
    ∗ LaneScatter.raw (c : Thread nD τ) M.a32 (M.w32.unread o.o31)
    ∗ LaneScatter.raw (c : Thread nD τ) M.a33 (M.w33.unread o.o32)
    ∗ LaneScatter.raw (c : Thread nD τ) M.a34 (M.w34.unread o.o33)
    ∗ LaneScatter.raw (c : Thread nD τ) M.a35 (M.w35.unread o.o34)
    ∗ LaneScatter.raw (c : Thread nD τ) M.a36 (M.w36.unread o.s0)
    ∗ LaneScatter.raw (c : Thread nD τ) M.a37 (M.w37.unread o.s1)
    ∗ (∃ d, owns (c : Thread nD τ) M.a38 fullShare d)
    ∗ (∃ d, owns (c : Thread nD τ) M.a39 fullShare d)
    ∗ (∃ d, owns (c : Thread nD τ) M.a40 fullShare d))

/-- Owning a whole buffer at a content is holding it at that content. -/
theorem owns_eq_raw (c : Thread nD τ) {sp : Space} {sh : Shape} {e : EltTy} (M : Memref sig c.2.kind sp sh e) (h : M.IsWhole)
    (x : sh.Idx → Elt F e) : (owns c M fullShare x : sProp 𝕄) = LaneScatter.raw c M (h.unread x) :=
  (LaneScatter.owns_raw c M h x).antisymm (LaneScatter.raw_owns c M (h.read_unread x))

theorem held_eq (c : Dev nD) (M : Refs) (x : In F) (o : St F) : held c M x o = heldRaw c M x o := by
  exact congrArg₂ _ (owns_eq_raw _ _ M.w1 _) <| congrArg₂ _ (owns_eq_raw _ _ M.w2 _) <| congrArg₂ _ (owns_eq_raw _ _ M.w3 _) <| congrArg₂ _ (owns_eq_raw _ _ M.w4 _) <| congrArg₂ _ (owns_eq_raw _ _ M.w5 _) <| congrArg₂ _ (owns_eq_raw _ _ M.w6 _) <| congrArg₂ _ (owns_eq_raw _ _ M.w7 _) <| congrArg₂ _ (owns_eq_raw _ _ M.w8 _) <| congrArg₂ _ (owns_eq_raw _ _ M.w9 _) <| congrArg₂ _ (owns_eq_raw _ _ M.w10 _) <| congrArg₂ _ (owns_eq_raw _ _ M.w11 _) <| congrArg₂ _ (owns_eq_raw _ _ M.w12 _) <| congrArg₂ _ (owns_eq_raw _ _ M.w13 _) <| congrArg₂ _ (owns_eq_raw _ _ M.w14 _) <| congrArg₂ _ (owns_eq_raw _ _ M.w15 _) <| congrArg₂ _ (owns_eq_raw _ _ M.w16 _) <| congrArg₂ _ (owns_eq_raw _ _ M.w17 _) <| congrArg₂ _ (owns_eq_raw _ _ M.w18 _) <| congrArg₂ _ (owns_eq_raw _ _ M.w19 _) <| congrArg₂ _ (owns_eq_raw _ _ M.w20 _) <| congrArg₂ _ (owns_eq_raw _ _ M.w21 _) <| congrArg₂ _ (owns_eq_raw _ _ M.w22 _) <| congrArg₂ _ (owns_eq_raw _ _ M.w23 _) <| congrArg₂ _ (owns_eq_raw _ _ M.w24 _) <| congrArg₂ _ (owns_eq_raw _ _ M.w25 _) <| congrArg₂ _ (owns_eq_raw _ _ M.w26 _) <| congrArg₂ _ (owns_eq_raw _ _ M.w27 _) <| congrArg₂ _ (owns_eq_raw _ _ M.w28 _) <| congrArg₂ _ (owns_eq_raw _ _ M.w29 _) <| congrArg₂ _ (owns_eq_raw _ _ M.w30 _) <| congrArg₂ _ (owns_eq_raw _ _ M.w31 _) <| congrArg₂ _ (owns_eq_raw _ _ M.w32 _) <| congrArg₂ _ (owns_eq_raw _ _ M.w33 _) <| congrArg₂ _ (owns_eq_raw _ _ M.w34 _) <| congrArg₂ _ (owns_eq_raw _ _ M.w35 _) <| congrArg₂ _ (owns_eq_raw _ _ M.w36 _) <| congrArg₂ _ (owns_eq_raw _ _ M.w37 _) <| rfl

/-! ## What one run computes -/

section Values
variable (x : In F)

/-- The cotangents of the three branches. -/
def dyaV := k0_pay18 x.x0 x.x18
def dybV := k0_pay19 x.x0 x.x18
def dycV := k0_pay20 x.x0 x.x18
/-- The convolution branch: the cotangent of the activation, the normalised rows, the normalisation's output, its gate. -/
def dsV := k0_pay42 (k0_pay41 (dyaV x)) x.x10
def xhV := k0_pay45 x.x3
def lnV := k0_pay46 x.x3 x.x8 x.x9
def sgV := k0_pay47 x.x3 x.x8 x.x9
/-- The gating branch: the activation, its gate half, the normalised rows, the normalisation's output. -/
def gbV := k0_pay148 (k0_pay16 x.x2)
def uV := k0_pay151 (gbV x)
def vhV := k0_pay154 (gbV x)
def vnV := k0_pay155 (gbV x) x.x11 x.x12
/-- The lanes, the lanes of each head, and the causal mask. -/
def lane : IVec S1x384 32 := iota .tc S1x384 32 [1] iota_S1x384_d1_w32
def lane128 : IVec S1x128 32 := iota .tc S1x128 32 [1] iota_S1x128_d1_w32
def mk0 := k0_pay158 lane k0_pay156 k0_pay157
def mk1 := k0_pay159 lane
def mk2 := k0_pay160 lane
def mk3 := k0_pay161 lane
/-- A head's matrix, as loaded. -/
abbrev head {e : EltTy} (W : Vec F S4x128x128 e) (h : Fin 4) : Vec F S1x128x128 e := fun p => W (Idealize.ShloMosaic.ix3 h (p 1) (p 2))

/-- The first chunk of rows: the cotangent of the gate, then of the normalisation's output, of the bias, of the matrices. -/
def dsg0 := k0_pay171 (dybV x) (uV x)
def dvn0 := k0_pay192 (k0_pay187 mk2 (dsg0 x)
  (k0_pay181 mk1 (dsg0 x) k0_pay172 (k0_pay175 (dybV x) (uV x) mk0) (head x.x14 0) (head x.x14 1)) (head x.x14 2))
  (k0_pay190 mk3 (dsg0 x)) (head x.x14 3)
def dbs0 (old : Vec F S128x128 .f32) := k0_pay193 lane128 (k0_pay188 mk2 lane128 (dsg0 x)
  (k0_pay177 lane128 k0_pay173 (k0_pay174 (dybV x) (uV x) mk0)) (k0_pay182 lane128) (k0_pay183 mk1 (dsg0 x)))
  (k0_pay189 mk3 (dsg0 x)) old
def dwm0 (old : Fin 4 → Vec F S1x128x128 .f32) : Fin 4 → Vec F S1x128x128 .f32
  | 0 => k0_pay176 (dybV x) (uV x) mk0 k0_pay162 (k0_pay164 (vnV x) lane k0_pay156 k0_pay157) (old 0)
  | 1 => k0_pay180 mk1 k0_pay162 (k0_pay165 (vnV x) lane) (dsg0 x) (old 1)
  | 2 => k0_pay186 mk2 k0_pay162 (k0_pay166 (vnV x) lane) (dsg0 x) (old 2)
  | 3 => k0_pay191 k0_pay162 (k0_pay167 (vnV x) lane) (k0_pay190 mk3 (dsg0 x)) (old 3)

/-- The second chunk of rows. -/
def dsg1 := k0_pay203 (dybV x) (uV x)
def zro : F .f32 := Scalar.ofBits .f32 0x00000000#32
def dvn1 := k0_pay227 mk3 (dsg1 x) (k0_pay217 (k0_pay210 (dsg1 x) k0_pay204 zro (k0_pay206 mk0) (head x.x14 0))
  (k0_pay213 mk1 (dsg1 x)) (head x.x14 1)) (k0_pay220 mk2 (dsg1 x)) (k0_pay222 (head x.x14 2))
  (constant S128x384 .f32 0x00000000#32) (head x.x14 3)
def dbs1 (old : Vec F S128x128 .f32) := k0_pay231 (k0_pay223 lane128 (k0_pay218 lane128 (k0_pay211 lane128 (dsg1 x) k0_pay205
  zro (k0_pay206 mk0)) (k0_pay212 mk1 (dsg1 x))) (k0_pay219 mk2 (dsg1 x))) (k0_pay228 lane128) (k0_pay229 mk3 (dsg1 x)) k0_pay230 old
def dwm1 (old : Fin 4 → Vec F S1x128x128 .f32) : Fin 4 → Vec F S1x128x128 .f32
  | 0 => k0_pay209 k0_pay162 (k0_pay195 (vnV x) mk0) (dsg1 x) zro (k0_pay206 mk0) (old 0)
  | 1 => k0_pay216 (k0_pay214 (old 1)) (k0_pay215 mk1 k0_pay162 (k0_pay198 (k0_pay194 (vnV x)) (k0_pay196 mk1) k0_pay197) (dsg1 x))
  | 2 => k0_pay221 mk2 k0_pay162 (k0_pay199 mk2 (k0_pay194 (vnV x))) (dsg1 x) (old 2)
  | 3 => k0_pay226 mk3 k0_pay162 (k0_pay200 mk3 (k0_pay194 (vnV x))) (dsg1 x) (old 3)
end Values

/-- A load of one matrix of the four. -/
theorem ld_head {e : EltTy} (W : Vec F S4x128x128 e) (h : Fin 4) {off : Fin 3 → ℕ} (inb : ∀ a, off a + S1x128x128.size a ≤ S4x128x128.size a)
    (h0 : off 0 = h.val) : View.ld (Val := Elt F) (e' := e) W (Rect.unit (s := S4x128x128) off S1x128x128.size inb) = head W h := by
  funext p
  have i1 := inb 1
  have i2 := inb 2
  refine congrArg W (funext fun a => Fin.ext ?_)
  match a with
  | ⟨0, _⟩ => show off 0 + 1 * (p 0).val = h.val
              have : (p 0).val < 1 := (p 0).isLt
              omega
  | ⟨1, _⟩ => show off 1 + 1 * (p 1).val = (p 1).val
              have : off 1 + 128 ≤ 128 := i1
              omega
  | ⟨2, _⟩ => show off 2 + 1 * (p 2).val = (p 2).val
              have : off 2 + 128 ≤ 128 := i2
              omega

section Heads
variable {sp : Space} {e : EltTy} (v : View sig .tc sp S4x128x128 e) (f : v.ty.Contents (Elt F)) {off : Fin 3 → ℕ}

/-- The matrix last stored is the one read there. -/
theorem head_hit (h : Fin 4) (inb : ∀ a, off a + S1x128x128.size a ≤ S4x128x128.size a) (w : Vec F S1x128x128 e)
    (L : List (View.Piece (Elt F) S4x128x128 e)) (h0 : off 0 = h.val) :
    head (v.read (Elt F) (v.writes (Elt F) f (⟨Rect.unit (s := S4x128x128) off S1x128x128.size inb, w⟩ :: L))) h = w := by
  funext p
  have i1 : off 1 + 128 ≤ 128 := inb 1
  have i2 : off 2 + 128 ≤ 128 := inb 2
  refine View.read_writes_cons_unit_of_mem v f inb w L _ p rfl fun a => ?_
  match a with
  | ⟨0, _⟩ => show h.val = off 0 + (p 0).val
              have : (p 0).val < 1 := (p 0).isLt
              omega
  | ⟨1, _⟩ => show (p 1).val = off 1 + (p 1).val
              omega
  | ⟨2, _⟩ => show (p 2).val = off 2 + (p 2).val
              omega

/-- A store of another matrix leaves it. -/
theorem head_skip (h : Fin 4) (inb : ∀ a, off a + S1x128x128.size a ≤ S4x128x128.size a) (w : Vec F S1x128x128 e)
    (L : List (View.Piece (Elt F) S4x128x128 e)) (h0 : off 0 ≠ h.val) :
    head (v.read (Elt F) (v.writes (Elt F) f (⟨Rect.unit (s := S4x128x128) off S1x128x128.size inb, w⟩ :: L))) h
      = head (v.read (Elt F) (v.writes (Elt F) f L)) h := by
  funext p
  refine View.read_writes_cons_unit_of_not_mem v f inb w L _ rfl 0 ?_
  show h.val < off 0 ∨ off 0 + 1 ≤ h.val
  omega
/-- A store of all four matrices is what is read. -/
theorem head_all (h : Fin 4) (inb : ∀ a, off a + S4x128x128.size a ≤ S4x128x128.size a) (w : Vec F S4x128x128 e)
    (L : List (View.Piece (Elt F) S4x128x128 e)) :
    head (v.read (Elt F) (v.writes (Elt F) f (⟨Rect.unit (s := S4x128x128) off S4x128x128.size inb, w⟩ :: L))) h = head w h := by
  rw [View.read_writes_full]
end Heads

/-- What a run leaves in the results that are claimed, of what it found there. -/
structure Step (x : In F) (o o' : St F) : Prop where
  h : o'.o21 = k0_pay244 x.x1 x.x5
  s : o'.o22 = k0_pay48 x.x3 x.x8 x.x9
  dya : o'.o23 = k0_pay41 (dyaV x)
  dconvb : o'.o26 = k0_pay56 (k0_pay44 x.x3) (k0_pay53 (dsV x) (lnV x) (sgV x) x.x8) (k0_pay54 (dsV x) (xhV x) (lnV x) (sgV x) x.x8) o.o26
  dclng : o'.o27 = k0_pay50 (dsV x) (xhV x) (lnV x) (sgV x) o.o27
  dclnb : o'.o28 = k0_pay51 (dsV x) (lnV x) (sgV x) o.o28
  dslng : o'.o29 = k0_pay234 (vhV x) (dvn0 x) (dvn1 x) o.o29
  dslnb : o'.o30 = k0_pay235 (dvn0 x) (dvn1 x) o.o30
  dwm : ∀ h, head o'.o31 h = dwm1 x (dwm0 x (head o.o31)) h
  dbs : o'.o32 = dbs1 x (dbs0 x o.o32)
  dwbd : o'.o33 = k0_pay25 (dycV x) (k0_pay21 x.x4) x.x17 o.o33
  dpscale : o'.o34 = k0_pay23 (dycV x) (k0_pay22 x.x4 x.x16) o.o34

/-- The results that are summed over the runs, at zero. -/
def St.zeroed (o : St F) : St F :=
  { o with o24 := k0_pay2, o25 := k0_pay3, o26 := k0_pay4, o27 := k0_pay5, o28 := k0_pay6, o29 := k0_pay7, o30 := k0_pay8,
           o31 := k0_pay9, o32 := k0_pay10, o33 := k0_pay11, o34 := k0_pay12 }

/-- The contents of the carried buffers that a run starts from: the first run clears the sums. -/
def St.start (i : grid0.Coords) (o : St F) : St F :=
  if cond0_0 i then o.zeroed else o

/-- The contents of the outputs' buffers as a run finds them: `o` in the carried ones, whatever is there in the others. -/
def St.fill (i : grid0.Coords) (o g : St F) : St F :=
  if cond0_0 i then g else { o with o19 := g.o19, o20 := g.o20, o21 := g.o21, o22 := g.o22, o23 := g.o23 }

section Fresh
variable {sp : Space} {sh : Shape} {e : EltTy} (v : View sig .tc sp sh e) (f g : v.ty.Contents (Elt F))

/-- After a store of the whole buffer its earlier contents don't matter, -/
theorem fresh_here {off : Fin sh.rank → ℕ} (inb : ∀ a, off a + sh.size a ≤ sh.size a) (w : Vec F sh e)
    (L : List (View.Piece (Elt F) sh e)) :
    v.read (Elt F) (v.writes (Elt F) f (⟨Rect.unit off sh.size inb, w⟩ :: L))
      = v.read (Elt F) (v.writes (Elt F) g (⟨Rect.unit off sh.size inb, w⟩ :: L)) := by
  rw [View.read_writes_full, View.read_writes_full]

/-- nor after further stores. -/
theorem fresh_there (p : View.Piece (Elt F) sh e) (L : List (View.Piece (Elt F) sh e))
    (h : v.read (Elt F) (v.writes (Elt F) f L) = v.read (Elt F) (v.writes (Elt F) g L)) :
    v.read (Elt F) (v.writes (Elt F) f (p :: L)) = v.read (Elt F) (v.writes (Elt F) g (p :: L)) := by
  funext i
  by_cases hi : i ∈ p.1.set
  · obtain ⟨x, rfl⟩ := p.1.exists_idx_of_mem hi
    exact (View.read_writes_cons_emb v f p.1 p.2 L x).trans (View.read_writes_cons_emb v g p.1 p.2 L x).symm
  · exact (View.read_writes_cons_miss v f p L i hi).trans ((congrFun h i).trans (View.read_writes_cons_miss v g p L i hi).symm)

/-- Nor after the two stores that make up a buffer of 288 rows. -/
theorem fresh_rows {w : ℕ} (v : View sig .tc sp (⟨2, ![288, w]⟩ : Shape) e) (f g : v.ty.Contents (Elt F))
    (inb : ∀ a, (![256, 0] : Fin 2 → ℕ) a + (![32, w] : Fin 2 → ℕ) a ≤ (![288, w] : Fin 2 → ℕ) a)
    (inb' : ∀ a, (![0, 0] : Fin 2 → ℕ) a + (![256, w] : Fin 2 → ℕ) a ≤ (![288, w] : Fin 2 → ℕ) a)
    (a : Vec F ⟨2, ![32, w]⟩ e) (b : Vec F ⟨2, ![256, w]⟩ e) (L : List (View.Piece (Elt F) (⟨2, ![288, w]⟩ : Shape) e)) :
    v.read (Elt F) (v.writes (Elt F) f (⟨Rect.unit ![256, 0] ![32, w] inb, a⟩ :: ⟨Rect.unit ![0, 0] ![256, w] inb', b⟩ :: L))
      = v.read (Elt F) (v.writes (Elt F) g (⟨Rect.unit ![256, 0] ![32, w] inb, a⟩ :: ⟨Rect.unit ![0, 0] ![256, w] inb', b⟩ :: L)) := by
  refine View.read_writes_of_cover v f v g _ fun y => ?_
  have h1 : (y 1).val < w := (y 1).isLt
  have h0 : (y 0).val < 288 := (y 0).isLt
  by_cases h : (y 0).val < 256
  · refine ⟨_, List.mem_cons_of_mem _ List.mem_cons_self, (Rect.mem_set_unit (inb := inb')).mpr fun d => ?_⟩
    match d with
    | ⟨0, _⟩ => exact ⟨Nat.zero_le _, by show (y 0).val < 0 + 256; omega⟩
    | ⟨1, _⟩ => exact ⟨Nat.zero_le _, by show (y 1).val < 0 + w; omega⟩
  · refine ⟨_, List.mem_cons_self, (Rect.mem_set_unit (inb := inb)).mpr fun d => ?_⟩
    match d with
    | ⟨0, _⟩ => exact ⟨by show 256 ≤ (y 0).val; omega, by show (y 0).val < 256 + 32; omega⟩
    | ⟨1, _⟩ => exact ⟨Nat.zero_le _, by show (y 1).val < 0 + w; omega⟩
end Fresh

set_option maxHeartbeats 20000000 in
/-- One run of the body: from any contents of the carried buffers it ends, and what it leaves is `Step` of them. -/
theorem run (c : Dev nD) (i : grid0.Coords) (M : Refs) (x : In F) (o : St F)
    (h01 : cond0_0 i → cond0_1 i) :
    ∃ o' : St F, Step x (o.start i) o' ∧ ∀ (g : St F) (E : Set ℕ) (K : PUnit → sProp 𝕄),
      iprop(heldRaw c M x (o.fill i g) ∗ (held c M x o' -∗ K ⟨⟩)) ⊢ wp frame (wpE (defs₀ (F := F)) Variants.none c none) E (body i M) K := by
  obtain ⟨a1, w1, a2, w2, a3, w3, a4, w4, a5, w5, a6, w6, a7, w7, a8, w8, a9, w9, a10, w10, a11, w11, a12, w12, a13, w13, a14, w14, a15, w15, a16, w16, a17, w17, a18, w18, a19, w19, a20, w20, a21, w21, a22, w22, a23, w23, a24, w24, a25, w25, a26, w26, a27, w27, a28, w28, a29, w29, a30, w30, a31, w31, a32, w32, a33, w33, a34, w34, a35, w35, a36, w36, a37, w37, a38, w38, a39, w39, a40, w40⟩ := M
  have cases : (cond0_0 i ∧ cond0_1 i ∧ o.start i = o.zeroed ∧ ∀ g, o.fill i g = g)
      ∨ (¬ cond0_0 i ∧ cond0_1 i ∧ o.start i = o
        ∧ ∀ g, o.fill i g = { o with o19 := g.o19, o20 := g.o20, o21 := g.o21, o22 := g.o22, o23 := g.o23 })
      ∨ (¬ cond0_0 i ∧ ¬ cond0_1 i ∧ o.start i = o
        ∧ ∀ g, o.fill i g = { o with o19 := g.o19, o20 := g.o20, o21 := g.o21, o22 := g.o22, o23 := g.o23 }) := by
    by_cases hc0 : cond0_0 i
    · exact .inl ⟨hc0, h01 hc0, if_pos hc0, fun _ => if_pos hc0⟩
    · by_cases hc1 : cond0_1 i
      · exact .inr (.inl ⟨hc0, hc1, if_neg hc0, fun _ => if_neg hc0⟩)
      · exact .inr (.inr ⟨hc0, hc1, if_neg hc0, fun _ => if_neg hc0⟩)
  rcases cases with ⟨hc0, hc1, hst, hfl⟩ | ⟨hc0, hc1, hst, hfl⟩ | ⟨hc0, hc1, hst, hfl⟩
  all_goals
    refine ⟨⟨?_, ?_, ?_, ?_, ?_, ?_, ?_, ?_, ?_, ?_, ?_, ?_, ?_, ?_, ?_, ?_, ?_, ?_⟩, ?spec, fun g E K => ?run⟩
    case run =>
      rw [hfl g]
      simp only [held, heldRaw, body, cc0_mixer_bwd_eq_skeleton]; unfold cc0_mixer_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
      unfold owns LaneScatter.raw
      iintro ⟨⟨H1, H2, H3, H4, H5, H6, H7, H8, H9, H10, H11, H12, H13, H14, H15, H16, H17, H18, H19, H20, H21, H22, H23, H24, H25, H26, H27, H28, H29, H30, H31, H32, H33, H34, H35, H36, H37, ⟨%d38, %f38, -, H38⟩, ⟨%d39, %f39, -, H39⟩, ⟨%d40, %f40, -, H40⟩⟩, Hk⟩
      sl_exec (disch := first | sl_exact hc0 | sl_exact hc1)
      sl_step
      iapply Hk
      isplitl [H1]
      · iexists _; isplitr
        · ipureintro; exact w1.read_unread _
        iexact H1
      isplitl [H2]
      · iexists _; isplitr
        · ipureintro; exact w2.read_unread _
        iexact H2
      isplitl [H3]
      · iexists _; isplitr
        · ipureintro; exact w3.read_unread _
        iexact H3
      isplitl [H4]
      · iexists _; isplitr
        · ipureintro; exact w4.read_unread _
        iexact H4
      isplitl [H5]
      · iexists _; isplitr
        · ipureintro; exact w5.read_unread _
        iexact H5
      isplitl [H6]
      · iexists _; isplitr
        · ipureintro; exact w6.read_unread _
        iexact H6
      isplitl [H7]
      · iexists _; isplitr
        · ipureintro; exact w7.read_unread _
        iexact H7
      isplitl [H8]
      · iexists _; isplitr
        · ipureintro; exact w8.read_unread _
        iexact H8
      isplitl [H9]
      · iexists _; isplitr
        · ipureintro; exact w9.read_unread _
        iexact H9
      isplitl [H10]
      · iexists _; isplitr
        · ipureintro; exact w10.read_unread _
        iexact H10
      isplitl [H11]
      · iexists _; isplitr
        · ipureintro; exact w11.read_unread _
        iexact H11
      isplitl [H12]
      · iexists _; isplitr
        · ipureintro; exact w12.read_unread _
        iexact H12
      isplitl [H13]
      · iexists _; isplitr
        · ipureintro; exact w13.read_unread _
        iexact H13
      isplitl [H14]
      · iexists _; isplitr
        · ipureintro; exact w14.read_unread _
        iexact H14
      isplitl [H15]
      · iexists _; isplitr
        · ipureintro; exact w15.read_unread _
        iexact H15
      isplitl [H16]
      · iexists _; isplitr
        · ipureintro; exact w16.read_unread _
        iexact H16
      isplitl [H17]
      · iexists _; isplitr
        · ipureintro; exact w17.read_unread _
        iexact H17
      isplitl [H18]
      · iexists _; isplitr
        · ipureintro; exact w18.read_unread _
        iexact H18
      isplitl [H19]
      · iexists _; isplitr
        · ipureintro; exact w19.read_unread _
        iexact H19
      isplitl [H20]
      · iexists _; isplitr; swap
        · iexact H20
        ipureintro
        first
        | rfl
        | exact fresh_here _ _ (w20.unread o.o19) _ _ _
        | exact fresh_rows _ _ (w20.unread o.o19) _ _ _ _ _
        | refine fresh_there _ _ (w20.unread o.o19) _ _ ?_
          repeat first | exact fresh_here _ _ _ _ _ _ | refine fresh_there _ _ _ _ _ ?_
      isplitl [H21]
      · iexists _; isplitr; swap
        · iexact H21
        ipureintro
        first
        | rfl
        | exact fresh_here _ _ (w21.unread o.o20) _ _ _
        | exact fresh_rows _ _ (w21.unread o.o20) _ _ _ _ _
        | refine fresh_there _ _ (w21.unread o.o20) _ _ ?_
          repeat first | exact fresh_here _ _ _ _ _ _ | refine fresh_there _ _ _ _ _ ?_
      isplitl [H22]
      · iexists _; isplitr; swap
        · iexact H22
        ipureintro
        first
        | rfl
        | exact fresh_here _ _ (w22.unread o.o21) _ _ _
        | exact fresh_rows _ _ (w22.unread o.o21) _ _ _ _ _
        | refine fresh_there _ _ (w22.unread o.o21) _ _ ?_
          repeat first | exact fresh_here _ _ _ _ _ _ | refine fresh_there _ _ _ _ _ ?_
      isplitl [H23]
      · iexists _; isplitr; swap
        · iexact H23
        ipureintro
        first
        | rfl
        | exact fresh_here _ _ (w23.unread o.o22) _ _ _
        | exact fresh_rows _ _ (w23.unread o.o22) _ _ _ _ _
        | refine fresh_there _ _ (w23.unread o.o22) _ _ ?_
          repeat first | exact fresh_here _ _ _ _ _ _ | refine fresh_there _ _ _ _ _ ?_
      isplitl [H24]
      · iexists _; isplitr; swap
        · iexact H24
        ipureintro
        first
        | rfl
        | exact fresh_here _ _ (w24.unread o.o23) _ _ _
        | exact fresh_rows _ _ (w24.unread o.o23) _ _ _ _ _
        | refine fresh_there _ _ (w24.unread o.o23) _ _ ?_
          repeat first | exact fresh_here _ _ _ _ _ _ | refine fresh_there _ _ _ _ _ ?_
      isplitl [H25]
      · iexists _; isplitr; swap
        · iexact H25
        ipureintro
        first
        | rfl
        | exact fresh_here _ _ (w25.unread o.o24) _ _ _
        | exact fresh_rows _ _ (w25.unread o.o24) _ _ _ _ _
        | refine fresh_there _ _ (w25.unread o.o24) _ _ ?_
          repeat first | exact fresh_here _ _ _ _ _ _ | refine fresh_there _ _ _ _ _ ?_
      isplitl [H26]
      · iexists _; isplitr; swap
        · iexact H26
        ipureintro
        first
        | rfl
        | exact fresh_here _ _ (w26.unread o.o25) _ _ _
        | exact fresh_rows _ _ (w26.unread o.o25) _ _ _ _ _
        | refine fresh_there _ _ (w26.unread o.o25) _ _ ?_
          repeat first | exact fresh_here _ _ _ _ _ _ | refine fresh_there _ _ _ _ _ ?_
      isplitl [H27]
      · iexists _; isplitr; swap
        · iexact H27
        ipureintro
        first
        | rfl
        | exact fresh_here _ _ (w27.unread o.o26) _ _ _
        | exact fresh_rows _ _ (w27.unread o.o26) _ _ _ _ _
        | refine fresh_there _ _ (w27.unread o.o26) _ _ ?_
          repeat first | exact fresh_here _ _ _ _ _ _ | refine fresh_there _ _ _ _ _ ?_
      isplitl [H28]
      · iexists _; isplitr; swap
        · iexact H28
        ipureintro
        first
        | rfl
        | exact fresh_here _ _ (w28.unread o.o27) _ _ _
        | exact fresh_rows _ _ (w28.unread o.o27) _ _ _ _ _
        | refine fresh_there _ _ (w28.unread o.o27) _ _ ?_
          repeat first | exact fresh_here _ _ _ _ _ _ | refine fresh_there _ _ _ _ _ ?_
      isplitl [H29]
      · iexists _; isplitr; swap
        · iexact H29
        ipureintro
        first
        | rfl
        | exact fresh_here _ _ (w29.unread o.o28) _ _ _
        | exact fresh_rows _ _ (w29.unread o.o28) _ _ _ _ _
        | refine fresh_there _ _ (w29.unread o.o28) _ _ ?_
          repeat first | exact fresh_here _ _ _ _ _ _ | refine fresh_there _ _ _ _ _ ?_
      isplitl [H30]
      · iexists _; isplitr; swap
        · iexact H30
        ipureintro
        first
        | rfl
        | exact fresh_here _ _ (w30.unread o.o29) _ _ _
        | exact fresh_rows _ _ (w30.unread o.o29) _ _ _ _ _
        | refine fresh_there _ _ (w30.unread o.o29) _ _ ?_
          repeat first | exact fresh_here _ _ _ _ _ _ | refine fresh_there _ _ _ _ _ ?_
      isplitl [H31]
      · iexists _; isplitr; swap
        · iexact H31
        ipureintro
        first
        | rfl
        | exact fresh_here _ _ (w31.unread o.o30) _ _ _
        | exact fresh_rows _ _ (w31.unread o.o30) _ _ _ _ _
        | refine fresh_there _ _ (w31.unread o.o30) _ _ ?_
          repeat first | exact fresh_here _ _ _ _ _ _ | refine fresh_there _ _ _ _ _ ?_
      isplitl [H32]
      · iexists _; isplitr; swap
        · iexact H32
        ipureintro
        first
        | rfl
        | exact fresh_here _ _ (w32.unread o.o31) _ _ _
        | exact fresh_rows _ _ (w32.unread o.o31) _ _ _ _ _
        | refine fresh_there _ _ (w32.unread o.o31) _ _ ?_
          repeat first | exact fresh_here _ _ _ _ _ _ | refine fresh_there _ _ _ _ _ ?_
      isplitl [H33]
      · iexists _; isplitr; swap
        · iexact H33
        ipureintro
        first
        | rfl
        | exact fresh_here _ _ (w33.unread o.o32) _ _ _
        | exact fresh_rows _ _ (w33.unread o.o32) _ _ _ _ _
        | refine fresh_there _ _ (w33.unread o.o32) _ _ ?_
          repeat first | exact fresh_here _ _ _ _ _ _ | refine fresh_there _ _ _ _ _ ?_
      isplitl [H34]
      · iexists _; isplitr; swap
        · iexact H34
        ipureintro
        first
        | rfl
        | exact fresh_here _ _ (w34.unread o.o33) _ _ _
        | exact fresh_rows _ _ (w34.unread o.o33) _ _ _ _ _
        | refine fresh_there _ _ (w34.unread o.o33) _ _ ?_
          repeat first | exact fresh_here _ _ _ _ _ _ | refine fresh_there _ _ _ _ _ ?_
      isplitl [H35]
      · iexists _; isplitr; swap
        · iexact H35
        ipureintro
        first
        | rfl
        | exact fresh_here _ _ (w35.unread o.o34) _ _ _
        | exact fresh_rows _ _ (w35.unread o.o34) _ _ _ _ _
        | refine fresh_there _ _ (w35.unread o.o34) _ _ ?_
          repeat first | exact fresh_here _ _ _ _ _ _ | refine fresh_there _ _ _ _ _ ?_
      isplitl [H36]
      · iexists _; isplitr; swap
        · iexact H36
        ipureintro
        first
        | rfl
        | exact fresh_here _ _ (w36.unread o.s0) _ _ _
        | exact fresh_rows _ _ (w36.unread o.s0) _ _ _ _ _
        | refine fresh_there _ _ (w36.unread o.s0) _ _ ?_
          repeat first | exact fresh_here _ _ _ _ _ _ | refine fresh_there _ _ _ _ _ ?_
      isplitl [H37]
      · iexists _; isplitr; swap
        · iexact H37
        ipureintro
        first
        | rfl
        | exact fresh_here _ _ (w37.unread o.s1) _ _ _
        | exact fresh_rows _ _ (w37.unread o.s1) _ _ _ _ _
        | refine fresh_there _ _ (w37.unread o.s1) _ _ ?_
          repeat first | exact fresh_here _ _ _ _ _ _ | refine fresh_there _ _ _ _ _ ?_
      isplitl [H38]
      · iexists _; iexists _; isplitr; swap
        · iexact H38
        ipureintro; rfl
      isplitl [H39]
      · iexists _; iexists _; isplitr; swap
        · iexact H39
        ipureintro; rfl
      iexists _; iexists _; isplitr; swap
      · iexact H40
      ipureintro; rfl
    case spec =>
      have hz : (![0, 0] : Fin 2 → Nat) = fun _ => 0 := by decide
      refine ⟨?_,?_,?_,?_,?_,?_,?_,?_,fun h => ?_,?_,?_,?_⟩
      case refine_9 =>
        sl_unfold_words
        match h with
        | 0 | 1 | 2 | 3 =>
          simp only [hst]
          dsimp only [St.zeroed, dwm0, dwm1, dyaV, dybV, dycV, dsV, xhV, lnV, sgV, gbV, uV, vhV, vnV, mk0, mk1, mk2, mk3, dsg0, dsg1, lane, lane128, zro]
          simp only [View.readCov, View.readAt_eq_ld, w1.read_unread, w2.read_unread, w3.read_unread, w4.read_unread, w5.read_unread, w6.read_unread, w9.read_unread, w10.read_unread, w11.read_unread, w12.read_unread, w13.read_unread, w15.read_unread, w17.read_unread, w18.read_unread, w19.read_unread, w27.read_unread, w28.read_unread, w29.read_unread, w30.read_unread, w31.read_unread, w32.read_unread, w33.read_unread, w34.read_unread, w35.read_unread,
          View.ld_unit_zero (S := S256x1024) hz, View.ld_unit_zero (S := S256x1792) hz, View.ld_unit_zero (S := S256x384) hz, View.ld_unit_zero (S := S256x256) hz, View.ld_unit_zero (S := S1x1024) hz, View.ld_unit_zero (S := S1x384) hz, View.ld_unit_zero (S := S384x384) hz, View.ld_unit_zero (S := S128x384) hz, View.ld_unit_zero (S := S1x256) hz, View.ld_unit_zero (S := S1024x1024) hz, View.ld_unit_zero (S := S128x128) hz, View.readCov_full (s := S1x384), View.readCov_full (s := S1x1024), View.readCov_full (s := S1x256), View.readCov_full (s := S256x256), View.readCov_full (s := S128x128), View.readCov_full (s := S384x384), View.readCov_full (s := S128x384), View.readCov_full (s := S256x384), ld_head (h := 0) (off := ![0, 0, 0]) (h0 := rfl), ld_head (h := 1) (off := ![1, 0, 0]) (h0 := rfl), ld_head (h := 2) (off := ![2, 0, 0]) (h0 := rfl), ld_head (h := 3) (off := ![3, 0, 0]) (h0 := rfl), head_all (off := ![0, 0, 0]), head_hit (h := 0) (off := ![0, 0, 0]) (h0 := rfl), head_hit (h := 1) (off := ![1, 0, 0]) (h0 := rfl), head_hit (h := 2) (off := ![2, 0, 0]) (h0 := rfl), head_hit (h := 3) (off := ![3, 0, 0]) (h0 := rfl), head_skip (h := 0) (off := ![1, 0, 0]) (h0 := by decide), head_skip (h := 0) (off := ![2, 0, 0]) (h0 := by decide), head_skip (h := 0) (off := ![3, 0, 0]) (h0 := by decide), head_skip (h := 1) (off := ![0, 0, 0]) (h0 := by decide), head_skip (h := 1) (off := ![2, 0, 0]) (h0 := by decide), head_skip (h := 1) (off := ![3, 0, 0]) (h0 := by decide), head_skip (h := 2) (off := ![0, 0, 0]) (h0 := by decide), head_skip (h := 2) (off := ![1, 0, 0]) (h0 := by decide), head_skip (h := 2) (off := ![3, 0, 0]) (h0 := by decide), head_skip (h := 3) (off := ![0, 0, 0]) (h0 := by decide), head_skip (h := 3) (off := ![1, 0, 0]) (h0 := by decide), head_skip (h := 3) (off := ![2, 0, 0]) (h0 := by decide)]
          try rfl
      all_goals
        simp only [hst]
        try dsimp only [St.zeroed, dyaV, dybV, dycV, dsV, xhV, lnV, sgV, gbV, uV, vhV, vnV, mk0, mk1, mk2, mk3, dsg0, dvn0, dbs0, dsg1, dvn1, dbs1, lane, lane128, zro]
        sl_unfold_words
        rw [View.read_writes_full]
        simp only [View.readAt_eq_ld, w1.read_unread, w2.read_unread, w3.read_unread, w4.read_unread, w5.read_unread, w6.read_unread, w9.read_unread, w10.read_unread, w11.read_unread, w12.read_unread, w13.read_unread, w15.read_unread, w17.read_unread, w18.read_unread, w19.read_unread, w27.read_unread, w28.read_unread, w29.read_unread, w30.read_unread, w31.read_unread, w32.read_unread, w33.read_unread, w34.read_unread, w35.read_unread,
          View.ld_unit_zero (S := S256x1024) hz, View.ld_unit_zero (S := S256x1792) hz, View.ld_unit_zero (S := S256x384) hz, View.ld_unit_zero (S := S256x256) hz, View.ld_unit_zero (S := S1x1024) hz, View.ld_unit_zero (S := S1x384) hz, View.ld_unit_zero (S := S384x384) hz, View.ld_unit_zero (S := S128x384) hz, View.ld_unit_zero (S := S1x256) hz, View.ld_unit_zero (S := S1024x1024) hz, View.ld_unit_zero (S := S128x128) hz, View.readCov_full (s := S1x384), View.readCov_full (s := S1x1024), View.readCov_full (s := S1x256), View.readCov_full (s := S256x256), View.readCov_full (s := S128x128), View.readCov_full (s := S384x384), View.readCov_full (s := S128x384), View.readCov_full (s := S256x384), ld_head (h := 0) (off := ![0, 0, 0]) (h0 := rfl), ld_head (h := 1) (off := ![1, 0, 0]) (h0 := rfl), ld_head (h := 2) (off := ![2, 0, 0]) (h0 := rfl), ld_head (h := 3) (off := ![3, 0, 0]) (h0 := rfl)]
      all_goals try rfl

end Cert.Proof.Mixer
end
-- ==== Proof.Mixer.Frame.lean ====
module

public import Idealize.ShloMosaic.Lib.Claim
public import proofs.«01_k».proof.Proof.Mixer.Run

/-! The mixer's backward call run over its sixteen points: every argument array comes back unchanged, and the outputs are
what sixteen runs of the body leave, each starting from what the one before left. -/

@[expose] public section

set_option maxRecDepth 16384
set_option maxHeartbeats 1000000

noncomputable section

namespace Cert.Proof.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MixerKernelIdeal Cert.MixerKernelIdeal.Gen

variable {F : FTy → Type} [FloatOps F]

local notation "𝕄" => MT nD τ sig Unit (Elt F) ℕ (UR sig nD τ) ℕ

/-- The buffers the body works on at a point. -/
abbrev refs (t : Fin cfg0.N) : Refs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, ms0_25 t, hs0_25 t, ms0_26 t, hs0_26 t, ms0_27 t, hs0_27 t, ms0_28 t, hs0_28 t, ms0_29 t, hs0_29 t, ms0_30 t, hs0_30 t, ms0_31 t, hs0_31 t, ms0_32 t, hs0_32 t, ms0_33 t, hs0_33 t, ms0_34 t, hs0_34 t,
    scM0_0, Memref.isWhole_whole _, scM0_1, Memref.isWhole_whole _, scM0_2, Memref.isWhole_whole _, scM0_3, Memref.isWhole_whole _, scM0_4, Memref.isWhole_whole _⟩

/-- A state to start from; nothing depends on it. -/
def blank : St F where
  o19 := fun _ => Scalar.ofBits .f32 0x00000000#32
  o20 := fun _ => Scalar.ofBits .bf16 0x0000#16
  o21 := fun _ => Scalar.ofBits .bf16 0x0000#16
  o22 := fun _ => Scalar.ofBits .bf16 0x0000#16
  o23 := fun _ => Scalar.ofBits .bf16 0x0000#16
  o24 := fun _ => Scalar.ofBits .f32 0x00000000#32
  o25 := fun _ => Scalar.ofBits .f32 0x00000000#32
  o26 := fun _ => Scalar.ofBits .f32 0x00000000#32
  o27 := fun _ => Scalar.ofBits .f32 0x00000000#32
  o28 := fun _ => Scalar.ofBits .f32 0x00000000#32
  o29 := fun _ => Scalar.ofBits .f32 0x00000000#32
  o30 := fun _ => Scalar.ofBits .f32 0x00000000#32
  o31 := fun _ => Scalar.ofBits .f32 0x00000000#32
  o32 := fun _ => Scalar.ofBits .f32 0x00000000#32
  o33 := fun _ => Scalar.ofBits .f32 0x00000000#32
  o34 := fun _ => Scalar.ofBits .f32 0x00000000#32
  s0 := fun _ => Scalar.ofBits .f32 0x00000000#32
  s1 := fun _ => Scalar.ofBits .f32 0x00000000#32

/-- The accumulators are cleared only where the halos are. -/
theorem clear_of_first (t : Fin cfg0.N) : cond0_0 (grid0.coords t) → cond0_1 (grid0.coords t) := fun h => by
  have := (hcond0_0 t).mp h
  exact (hcond0_1 t).mpr (by omega)

variable (m : (ℓ : Loc nD τ sig) → Buf (Elt F) ℓ) (ρ : Dev nD → PrngReg)

/-- The blocks the body reads at a point. -/
def blocks (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- What the first `n` runs of the body leave. -/
def st (c : Dev nD) : ℕ → St F
  | 0 => blank
  | n + 1 => if h : n < cfg0.N then
      Classical.choose (run c (grid0.coords ⟨n, h⟩) (refs ⟨n, h⟩) (blocks m c ⟨n, h⟩) (st c n) (clear_of_first ⟨n, h⟩))
    else st c n

theorem st_succ (c : Dev nD) (t : Fin cfg0.N) : st m c (t.val + 1)
    = Classical.choose (run c (grid0.coords t) (refs t) (blocks m c t) (st m c t.val) (clear_of_first t)) :=
  dif_pos t.isLt

/-- One run leads from what the runs before it left to what it leaves. -/
theorem st_step (c : Dev nD) (t : Fin cfg0.N) :
    Step (blocks m c t) ((st m c t.val).start (grid0.coords t)) (st m c (t.val + 1)) := by
  rw [st_succ]
  exact (Classical.choose_spec (run c (grid0.coords t) (refs t) (blocks m c t) (st m c t.val) (clear_of_first t))).1

/-- The body at a point, from any contents the point may find. -/
theorem st_run (c : Dev nD) (t : Fin cfg0.N) (g : St F) (K : PUnit → sProp 𝕄) :
    iprop(held c (refs t) (blocks m c t) ((st m c t.val).fill (grid0.coords t) g)
        ∗ (held c (refs t) (blocks m c t) (st m c (t.val + 1)) -∗ K ⟨⟩))
      ⊢ wp frame (wpE (defs₀ (F := F)) Variants.none c none) Set.univ (bodyAt0 t) K := by
  rw [st_succ, held_eq c (refs t) (blocks m c t) ((st m c t.val).fill _ g)]
  exact (Classical.choose_spec (run c (grid0.coords t) (refs t) (blocks m c t) (st m c t.val) (clear_of_first t))).2 g Set.univ K

/-- What the body finds beside the windows: at the first point the scratch at anything, later the two halos as left. -/
def PhiS (c : Dev nD) : ℕ → sProp 𝕄
  | 0 => Pipeline.ΦA spec0 c
  | n + 1 => iprop(iprop(owns (c : Thread nD τ) scM0_0 fullShare (st m c (n + 1)).s0
      ∗ owns (c : Thread nD τ) scM0_1 fullShare (st m c (n + 1)).s1 ∗ (∃ d, owns (c : Thread nD τ) scM0_2 fullShare d)
      ∗ (∃ d, owns (c : Thread nD τ) scM0_3 fullShare d) ∗ (∃ d, owns (c : Thread nD τ) scM0_4 fullShare d)) ∗ (∃ r, prngReg c r))

/-- The arrays as the region finds them, and what the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (st m c (t.val + 1)).o19
    | ⟨20, _⟩ => (st m c (t.val + 1)).o20
    | ⟨21, _⟩ => (st m c (t.val + 1)).o21
    | ⟨22, _⟩ => (st m c (t.val + 1)).o22
    | ⟨23, _⟩ => (st m c (t.val + 1)).o23
    | ⟨24, _⟩ => (st m c (t.val + 1)).o24
    | ⟨25, _⟩ => (st m c (t.val + 1)).o25
    | ⟨26, _⟩ => (st m c (t.val + 1)).o26
    | ⟨27, _⟩ => (st m c (t.val + 1)).o27
    | ⟨28, _⟩ => (st m c (t.val + 1)).o28
    | ⟨29, _⟩ => (st m c (t.val + 1)).o29
    | ⟨30, _⟩ => (st m c (t.val + 1)).o30
    | ⟨31, _⟩ => (st m c (t.val + 1)).o31
    | ⟨32, _⟩ => (st m c (t.val + 1)).o32
    | ⟨33, _⟩ => (st m c (t.val + 1)).o33
    | ⟨34, _⟩ => (st m c (t.val + 1)).o34
    | ⟨_ + 35, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (st m c (t.val + 1)).o19 := by dsimp only [dats]
theorem after0_20 (c : Dev nD) (t : Fin cfg0.N) : (dats m 0 c).after 20 t = (st m c (t.val + 1)).o20 := by dsimp only [dats]
theorem after0_21 (c : Dev nD) (t : Fin cfg0.N) : (dats m 0 c).after 21 t = (st m c (t.val + 1)).o21 := by dsimp only [dats]
theorem after0_22 (c : Dev nD) (t : Fin cfg0.N) : (dats m 0 c).after 22 t = (st m c (t.val + 1)).o22 := by dsimp only [dats]
theorem after0_23 (c : Dev nD) (t : Fin cfg0.N) : (dats m 0 c).after 23 t = (st m c (t.val + 1)).o23 := by dsimp only [dats]
theorem after0_24 (c : Dev nD) (t : Fin cfg0.N) : (dats m 0 c).after 24 t = (st m c (t.val + 1)).o24 := by dsimp only [dats]
theorem after0_25 (c : Dev nD) (t : Fin cfg0.N) : (dats m 0 c).after 25 t = (st m c (t.val + 1)).o25 := by dsimp only [dats]
theorem after0_26 (c : Dev nD) (t : Fin cfg0.N) : (dats m 0 c).after 26 t = (st m c (t.val + 1)).o26 := by dsimp only [dats]
theorem after0_27 (c : Dev nD) (t : Fin cfg0.N) : (dats m 0 c).after 27 t = (st m c (t.val + 1)).o27 := by dsimp only [dats]
theorem after0_28 (c : Dev nD) (t : Fin cfg0.N) : (dats m 0 c).after 28 t = (st m c (t.val + 1)).o28 := by dsimp only [dats]
theorem after0_29 (c : Dev nD) (t : Fin cfg0.N) : (dats m 0 c).after 29 t = (st m c (t.val + 1)).o29 := by dsimp only [dats]
theorem after0_30 (c : Dev nD) (t : Fin cfg0.N) : (dats m 0 c).after 30 t = (st m c (t.val + 1)).o30 := by dsimp only [dats]
theorem after0_31 (c : Dev nD) (t : Fin cfg0.N) : (dats m 0 c).after 31 t = (st m c (t.val + 1)).o31 := by dsimp only [dats]
theorem after0_32 (c : Dev nD) (t : Fin cfg0.N) : (dats m 0 c).after 32 t = (st m c (t.val + 1)).o32 := by dsimp only [dats]
theorem after0_33 (c : Dev nD) (t : Fin cfg0.N) : (dats m 0 c).after 33 t = (st m c (t.val + 1)).o33 := by dsimp only [dats]
theorem after0_34 (c : Dev nD) (t : Fin cfg0.N) : (dats m 0 c).after 34 t = (st m c (t.val + 1)).o34 := by dsimp only [dats]

/-! An input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! After the first point an accumulator's buffer holds what the point before left. -/

theorem before0_24 (c : Dev nD) (t : Fin cfg0.N) (h0 : t.val ≠ 0) (d) : (dats m 0 c).before 24 t d = (st m c t.val).o24 := by
  have hN : t.val < 16 := lt_of_lt_of_eq t.isLt (show cfg0.N = 16 from N_0)
  rw [Dat.before_out_kept _ 24 rfl t h0 (Bool.eq_false_iff.mpr fun h => by have := (flush0_24 _).mp h; dsimp only at this; omega)
    (fun _ => rfl) (fun _ _ => rfl)]
  dsimp only [dats]
  rw [Nat.sub_add_cancel (Nat.one_le_iff_ne_zero.mpr h0)]
theorem before0_25 (c : Dev nD) (t : Fin cfg0.N) (h0 : t.val ≠ 0) (d) : (dats m 0 c).before 25 t d = (st m c t.val).o25 := by
  have hN : t.val < 16 := lt_of_lt_of_eq t.isLt (show cfg0.N = 16 from N_0)
  rw [Dat.before_out_kept _ 25 rfl t h0 (Bool.eq_false_iff.mpr fun h => by have := (flush0_25 _).mp h; dsimp only at this; omega)
    (fun _ => rfl) (fun _ _ => rfl)]
  dsimp only [dats]
  rw [Nat.sub_add_cancel (Nat.one_le_iff_ne_zero.mpr h0)]
theorem before0_26 (c : Dev nD) (t : Fin cfg0.N) (h0 : t.val ≠ 0) (d) : (dats m 0 c).before 26 t d = (st m c t.val).o26 := by
  have hN : t.val < 16 := lt_of_lt_of_eq t.isLt (show cfg0.N = 16 from N_0)
  rw [Dat.before_out_kept _ 26 rfl t h0 (Bool.eq_false_iff.mpr fun h => by have := (flush0_26 _).mp h; dsimp only at this; omega)
    (fun _ => rfl) (fun _ _ => rfl)]
  dsimp only [dats]
  rw [Nat.sub_add_cancel (Nat.one_le_iff_ne_zero.mpr h0)]
theorem before0_27 (c : Dev nD) (t : Fin cfg0.N) (h0 : t.val ≠ 0) (d) : (dats m 0 c).before 27 t d = (st m c t.val).o27 := by
  have hN : t.val < 16 := lt_of_lt_of_eq t.isLt (show cfg0.N = 16 from N_0)
  rw [Dat.before_out_kept _ 27 rfl t h0 (Bool.eq_false_iff.mpr fun h => by have := (flush0_27 _).mp h; dsimp only at this; omega)
    (fun _ => rfl) (fun _ _ => rfl)]
  dsimp only [dats]
  rw [Nat.sub_add_cancel (Nat.one_le_iff_ne_zero.mpr h0)]
theorem before0_28 (c : Dev nD) (t : Fin cfg0.N) (h0 : t.val ≠ 0) (d) : (dats m 0 c).before 28 t d = (st m c t.val).o28 := by
  have hN : t.val < 16 := lt_of_lt_of_eq t.isLt (show cfg0.N = 16 from N_0)
  rw [Dat.before_out_kept _ 28 rfl t h0 (Bool.eq_false_iff.mpr fun h => by have := (flush0_28 _).mp h; dsimp only at this; omega)
    (fun _ => rfl) (fun _ _ => rfl)]
  dsimp only [dats]
  rw [Nat.sub_add_cancel (Nat.one_le_iff_ne_zero.mpr h0)]
theorem before0_29 (c : Dev nD) (t : Fin cfg0.N) (h0 : t.val ≠ 0) (d) : (dats m 0 c).before 29 t d = (st m c t.val).o29 := by
  have hN : t.val < 16 := lt_of_lt_of_eq t.isLt (show cfg0.N = 16 from N_0)
  rw [Dat.before_out_kept _ 29 rfl t h0 (Bool.eq_false_iff.mpr fun h => by have := (flush0_29 _).mp h; dsimp only at this; omega)
    (fun _ => rfl) (fun _ _ => rfl)]
  dsimp only [dats]
  rw [Nat.sub_add_cancel (Nat.one_le_iff_ne_zero.mpr h0)]
theorem before0_30 (c : Dev nD) (t : Fin cfg0.N) (h0 : t.val ≠ 0) (d) : (dats m 0 c).before 30 t d = (st m c t.val).o30 := by
  have hN : t.val < 16 := lt_of_lt_of_eq t.isLt (show cfg0.N = 16 from N_0)
  rw [Dat.before_out_kept _ 30 rfl t h0 (Bool.eq_false_iff.mpr fun h => by have := (flush0_30 _).mp h; dsimp only at this; omega)
    (fun _ => rfl) (fun _ _ => rfl)]
  dsimp only [dats]
  rw [Nat.sub_add_cancel (Nat.one_le_iff_ne_zero.mpr h0)]
theorem before0_31 (c : Dev nD) (t : Fin cfg0.N) (h0 : t.val ≠ 0) (d) : (dats m 0 c).before 31 t d = (st m c t.val).o31 := by
  have hN : t.val < 16 := lt_of_lt_of_eq t.isLt (show cfg0.N = 16 from N_0)
  rw [Dat.before_out_kept _ 31 rfl t h0 (Bool.eq_false_iff.mpr fun h => by have := (flush0_31 _).mp h; dsimp only at this; omega)
    (fun _ => rfl) (fun _ _ => rfl)]
  dsimp only [dats]
  rw [Nat.sub_add_cancel (Nat.one_le_iff_ne_zero.mpr h0)]
theorem before0_32 (c : Dev nD) (t : Fin cfg0.N) (h0 : t.val ≠ 0) (d) : (dats m 0 c).before 32 t d = (st m c t.val).o32 := by
  have hN : t.val < 16 := lt_of_lt_of_eq t.isLt (show cfg0.N = 16 from N_0)
  rw [Dat.before_out_kept _ 32 rfl t h0 (Bool.eq_false_iff.mpr fun h => by have := (flush0_32 _).mp h; dsimp only at this; omega)
    (fun _ => rfl) (fun _ _ => rfl)]
  dsimp only [dats]
  rw [Nat.sub_add_cancel (Nat.one_le_iff_ne_zero.mpr h0)]
theorem before0_33 (c : Dev nD) (t : Fin cfg0.N) (h0 : t.val ≠ 0) (d) : (dats m 0 c).before 33 t d = (st m c t.val).o33 := by
  have hN : t.val < 16 := lt_of_lt_of_eq t.isLt (show cfg0.N = 16 from N_0)
  rw [Dat.before_out_kept _ 33 rfl t h0 (Bool.eq_false_iff.mpr fun h => by have := (flush0_33 _).mp h; dsimp only at this; omega)
    (fun _ => rfl) (fun _ _ => rfl)]
  dsimp only [dats]
  rw [Nat.sub_add_cancel (Nat.one_le_iff_ne_zero.mpr h0)]
theorem before0_34 (c : Dev nD) (t : Fin cfg0.N) (h0 : t.val ≠ 0) (d) : (dats m 0 c).before 34 t d = (st m c t.val).o34 := by
  have hN : t.val < 16 := lt_of_lt_of_eq t.isLt (show cfg0.N = 16 from N_0)
  rw [Dat.before_out_kept _ 34 rfl t h0 (Bool.eq_false_iff.mpr fun h => by have := (flush0_34 _).mp h; dsimp only at this; omega)
    (fun _ => rfl) (fun _ _ => rfl)]
  dsimp only [dats]
  rw [Nat.sub_add_cancel (Nat.one_le_iff_ne_zero.mpr h0)]

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))

/-- What it returns. -/
def bodyPost (c : Dev nD) (t : Fin cfg0.N) : sProp 𝕄 :=
  iprop((dats m 0 c).Φ t.succ ∗ (dats m 0 c).owesAt () t.castSucc
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t))

/-- What a point finds is some contents the body may start from. -/
theorem gather (c : Dev nD) (t : Fin cfg0.N) : bodyPre m c t ⊢
    iprop((∃ g, held c (refs t) (blocks m c t) ((st m c t.val).fill (grid0.coords t) g)) ∗ (∃ r, prngReg c r)
      ∗ (dats m 0 c).owesAt () t.castSucc) := by
  unfold bodyPre
  rw [show (dats m 0 c).Φ t.castSucc = PhiS m c t.val from rfl]
  simp only [before0_0, before0_1, before0_2, before0_3, before0_4, before0_5, before0_6, before0_7, before0_8, before0_9, before0_10, before0_11, before0_12, before0_13, before0_14, before0_15, before0_16, before0_17, before0_18]
  by_cases hz : t.val = 0
  · have hc : cond0_0 (grid0.coords t) := (hcond0_0 t).mpr (by omega)
    have hf : ∀ o g : St F, o.fill (grid0.coords t) g = g := fun _ _ => if_pos hc
    simp only [hf]
    rw [show PhiS m c t.val = Pipeline.ΦA spec0 c by rw [hz]; rfl, PhiA0_eq]
    iintro ⟨⟨⟨⟨%e0, S0⟩, ⟨%e1, S1⟩, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
    isplitr [Hg Ho]
    · iexists (⟨(dats m 0 c).before 19 t d19, (dats m 0 c).before 20 t d20, (dats m 0 c).before 21 t d21, (dats m 0 c).before 22 t d22, (dats m 0 c).before 23 t d23, (dats m 0 c).before 24 t d24, (dats m 0 c).before 25 t d25, (dats m 0 c).before 26 t d26, (dats m 0 c).before 27 t d27, (dats m 0 c).before 28 t d28, (dats m 0 c).before 29 t d29, (dats m 0 c).before 30 t d30, (dats m 0 c).before 31 t d31, (dats m 0 c).before 32 t d32, (dats m 0 c).before 33 t d33, (dats m 0 c).before 34 t d34, e0, e1⟩ : St F)
      unfold held blocks; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [S0]; · iexact S0
      isplitl [S1]; · iexact S1
      isplitl [S2]; · iexact S2
      isplitl [S3]; · iexact S3
      iexact S4
    isplitl [Hg]; · iexact Hg
    iexact Ho
  · have hN : t.val < 16 := lt_of_lt_of_eq t.isLt (show cfg0.N = 16 from N_0)
    have hc : ¬ cond0_0 (grid0.coords t) := fun h => by have := (hcond0_0 t).mp h; omega
    have hf : ∀ o g : St F, o.fill (grid0.coords t) g
        = { o with o19 := g.o19, o20 := g.o20, o21 := g.o21, o22 := g.o22, o23 := g.o23 } := fun _ _ => if_neg hc
    obtain ⟨n, hn⟩ := Nat.exists_eq_succ_of_ne_zero hz
    simp only [hf, before0_24 m c t hz, before0_25 m c t hz, before0_26 m c t hz, before0_27 m c t hz, before0_28 m c t hz, before0_29 m c t hz, before0_30 m c t hz, before0_31 m c t hz, before0_32 m c t hz, before0_33 m c t hz, before0_34 m c t hz]
    rw [show PhiS m c t.val = iprop(iprop(owns (c : Thread nD τ) scM0_0 fullShare (st m c t.val).s0
      ∗ owns (c : Thread nD τ) scM0_1 fullShare (st m c t.val).s1 ∗ (∃ d, owns (c : Thread nD τ) scM0_2 fullShare d)
      ∗ (∃ d, owns (c : Thread nD τ) scM0_3 fullShare d) ∗ (∃ d, owns (c : Thread nD τ) scM0_4 fullShare d)) ∗ (∃ r, prngReg c r))
      by rw [hn]; rfl]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
    isplitr [Hg Ho]
    · iexists ({ st m c t.val with o19 := (dats m 0 c).before 19 t d19, o20 := (dats m 0 c).before 20 t d20, o21 := (dats m 0 c).before 21 t d21, o22 := (dats m 0 c).before 22 t d22, o23 := (dats m 0 c).before 23 t d23 } : St F)
      unfold held blocks; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [S0]; · iexact S0
      isplitl [S1]; · iexact S1
      isplitl [S2]; · iexact S2
      isplitl [S3]; · iexact S3
      iexact S4
    isplitl [Hg]; · iexact Hg
    iexact Ho

/-- What the body leaves is what the point returns. -/
theorem scatter (c : Dev nD) (t : Fin cfg0.N) :
    iprop(held c (refs t) (blocks m c t) (st m c (t.val + 1)) ∗ (∃ r, prngReg c r) ∗ (dats m 0 c).owesAt () t.castSucc)
      ⊢ bodyPost m c t := by
  unfold held blocks bodyPost
  rw [show (dats m 0 c).Φ t.succ = PhiS m c (t.val + 1) from rfl, after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34]
  unfold PhiS
  dsimp only
  iintro ⟨⟨H0, H1, H2, H3, H4, H5, H6, H7, H8, H9, H10, H11, H12, H13, H14, H15, H16, H17, H18, H19, H20, H21, H22, H23, H24, H25, H26, H27, H28, H29, H30, H31, H32, H33, H34, S0, S1, S2, S3, S4⟩, Hg, Ho⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

/-- The body at any point. -/
theorem sound_body (c : Dev nD) (t : Fin cfg0.N) :
    bodyPre m c t ⊢ wp frame (wpE (defs₀ (F := F)) Variants.none c none) Set.univ (bodyAt0 t) (fun _ => bodyPost m c t) := by
  refine (gather m c t).trans ?_
  iintro ⟨⟨%g, H⟩, Hg, Ho⟩
  iapply (st_run m c t g _)
  isplitl [H]; · iexact H
  iintro H
  iapply (scatter m c t)
  isplitl [H]; · iexact H
  isplitl [Hg]; · iexact Hg
  iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c (15 + 1) from rfl, PhiA0_eq]
  unfold PhiS
  iintro ⟨⟨S0, S1, S2, S3, S4⟩, Hg⟩
  isplitr [Hg]
  · isplitl [S0]; · iexists _; iexact S0
    isplitl [S1]; · iexists _; iexact S1
    isplitl [S2]; · iexact S2
    isplitl [S3]; · iexact S3
    iexact S4
  iexact Hg

set_option backward.isDefEq.respectTransparency.types false in
/-- The whole call, run: the arrays end at what the windows wrote back, and every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call terminates without a fault, leaves its argument arrays as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.Mixer
end
-- ==== Proof.Mixer.Launched.lean ====
module

public import Idealize.ShloMosaic.Lib.Tactic
public import proofs.«01_k».proof.Proof.Mixer.Frame
public import proofs.«01_k».proof.Proof.Gen.MixerKernel

/-! The call as launched is, word for word, the program whose run is proved for any float values; so its frame is that run's. -/

@[expose] public section

set_option maxRecDepth 16384

noncomputable section

namespace Cert.Proof.Mixer

open Idealize.ShloMosaic Idealize.ShloMosaic.TcCoe Idealize.ShloMosaic.Tactic
open Idealize.SL Idealize.SL.Sem

/-- What the frame claims of the launched program. -/
def LaunchedFrame : Prop := open Cert.MixerKernel in
  ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

/-- The same of the program the run is proved for. -/
def ProvedFrame : Prop := open Cert.MixerKernelIdeal in
  ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem launched_eq : LaunchedFrame = ProvedFrame := by sl_kernel_rfl

theorem frame_launched : LaunchedFrame := launched_eq.mpr fun m ρ => frame m ρ

end Cert.Proof.Mixer
end
-- ==== Proof.Mixer.Forms.lean ====
/- Hand-written: the mixer's backward in closed form, row by row, over the extended reals. Rows are numbered through both
   sequences; a chunk is 128 consecutive rows, a head 96 consecutive columns. -/
module

public import proofs.«01_k».proof.Proof.Reals

@[expose] public section

noncomputable section

namespace Cert.Proof.Mixer

open Idealize.ShloMosaic

/-- What the backward works on: the rows of `x`, of `z = h @ w_in`, of the convolution and of the pool, the cotangent, and
    the weights. -/
structure Src where
  x : ℕ → Fin 1024 → EReal
  z : ℕ → Fin 1792 → EReal
  yc : ℕ → Fin 384 → EReal
  p : ℕ → Fin 256 → EReal
  ct : ℕ → Fin 1024 → EReal
  g1 : Fin 1024 → EReal
  clng : Fin 384 → EReal
  clnb : Fin 384 → EReal
  wpw : Fin 384 → Fin 384 → EReal
  slng : Fin 384 → EReal
  slnb : Fin 384 → EReal
  wm : Fin 4 → Fin 128 → Fin 128 → EReal
  wbd : Fin 256 → Fin 256 → EReal
  ps : Fin 256 → EReal
  wout : Fin 1024 → Fin 1024 → EReal

/-! ## One row -/

/-- The mean of a row of 384. -/
def mean (v : Fin 384 → EReal) : EReal := Ideal.div (∑ k, v k) (Ideal.ofBits .f32 0x43C00000#32)

/-- What is left of a row without its mean. -/
def dev (v : Fin 384 → EReal) (j : Fin 384) : EReal := v j - mean v

/-- The reciprocal root of a row's variance. -/
def rstd (v : Fin 384 → EReal) : EReal :=
  Ideal.rsqrt (Ideal.div (∑ k, dev v k * dev v k) (Ideal.ofBits .f32 0x43C00000#32) + Ideal.ofBits .f32 0x3727C5AC#32)

/-- The normalised row. -/
def hat (v : Fin 384 → EReal) (j : Fin 384) : EReal := dev v j * rstd v

/-- The sigmoid by the hyperbolic tangent. -/
def sgm (z : EReal) : EReal :=
  Ideal.ofBits .f32 0x3F000000#32 * Ideal.tanh (Ideal.ofBits .f32 0x3F000000#32 * z) + Ideal.ofBits .f32 0x3F000000#32

/-- The gelu by the hyperbolic tangent. -/
def gelu (z : EReal) : EReal :=
  Ideal.ofBits .f32 0x3F000000#32 * z
    * (1 + Ideal.tanh (Ideal.ofBits .f32 0x3F4C422A#32 * (z + Ideal.ofBits .f32 0x3D372713#32 * (z * z) * z)))

/-- The derivative of the normalisation of `v`, at the cotangent `d` of the normalised row. -/
def lnBwd (d v : Fin 384 → EReal) (j : Fin 384) : EReal :=
  rstd v * (d j - mean d - hat v j * mean fun k => d k * hat v k)

namespace Src

variable (S : Src)

/-- The normalised rows times the gain. -/
def h (n : ℕ) (j : Fin 1024) : EReal :=
  S.x n j * Ideal.rsqrt (Ideal.div (∑ k, S.x n k * S.x n k) (Ideal.ofBits .f32 0x44800000#32) + Ideal.ofBits .f32 0x358637BD#32)
    * S.g1 j

/-- The cotangent of the three branches side by side. -/
def dmix (n : ℕ) (j : Fin 1024) : EReal := ∑ k, S.ct n k * S.wout j k
def dya (n : ℕ) (j : Fin 384) : EReal := S.dmix n ⟨j.val, by omega⟩
def dyb (n : ℕ) (j : Fin 384) : EReal := S.dmix n ⟨384 + j.val, by omega⟩
def dyc (n : ℕ) (j : Fin 256) : EReal := S.dmix n ⟨768 + j.val, by omega⟩

/-! The convolution's branch. -/

def ln (n : ℕ) (j : Fin 384) : EReal := hat (S.yc n) j * S.clng j + S.clnb j
def s (n : ℕ) (j : Fin 384) : EReal := S.ln n j * sgm (S.ln n j)
def ds (n : ℕ) (j : Fin 384) : EReal := ∑ k, S.dya n k * S.wpw j k
def dln (n : ℕ) (j : Fin 384) : EReal := S.ds n j * (sgm (S.ln n j) * (1 + S.ln n j * (1 - sgm (S.ln n j))))
def dconv (n : ℕ) (j : Fin 384) : EReal := lnBwd (fun k => S.dln n k * S.clng k) (S.yc n) j

/-! The spatial gate's branch. -/

def u (n : ℕ) (j : Fin 384) : EReal := gelu (S.z n ⟨768 + j.val, by omega⟩)
def v (n : ℕ) (j : Fin 384) : EReal := gelu (S.z n ⟨1152 + j.val, by omega⟩)
def vn (n : ℕ) (j : Fin 384) : EReal := hat (S.v n) j * S.slng j + S.slnb j
def dsg (n : ℕ) (j : Fin 384) : EReal := S.dyb n j * S.u n j
/-- A chunk's part of the gradient of the head's matrix. -/
def dwm (c : ℕ) (h : Fin 4) (t s : Fin 128) : EReal :=
  ∑ d : Fin 96, S.dsg (128 * c + t.val) ⟨96 * h.val + d.val, by omega⟩ * S.vn (128 * c + s.val) ⟨96 * h.val + d.val, by omega⟩
/-- A chunk's part of the gradient of the head's bias. -/
def dbs (c : ℕ) (t : Fin 128) (h : Fin 4) : EReal := ∑ d : Fin 96, S.dsg (128 * c + t.val) ⟨96 * h.val + d.val, by omega⟩
/-- The cotangent of a chunk's normalised rows. -/
def dvn (c : ℕ) (r : Fin 128) (j : Fin 384) : EReal :=
  ∑ t : Fin 128, S.wm ⟨j.val / 96, by omega⟩ t r * S.dsg (128 * c + t.val) j

/-! The pool's branch. -/

def dwbd (n : ℕ) (i j : Fin 256) : EReal := S.p n i * (S.dyc n j * S.ps j)
def dps (n : ℕ) (j : Fin 256) : EReal := S.dyc n j * ∑ k, S.p n k * S.wbd k j

end Src

end Cert.Proof.Mixer

end
-- ==== Proof.Mixer.Tile.lean ====
/- Hand-written: one run of the mixer's backward body in closed form: its blocks hold 256 consecutive rows. -/
module

public import proofs.«01_k».proof.Proof.Mixer.Run
public import proofs.«01_k».proof.Proof.Mixer.Forms

@[expose] public section

set_option maxRecDepth 16384

noncomputable section

namespace Cert.Proof.Mixer

open Idealize.ShloMosaic Idealize.ShloMosaic.TcCoe
open Cert.MixerKernelIdeal Cert.MixerKernelIdeal.Gen

/-- The blocks hold the rows from `r` on, and the weights. -/
structure Tile (S : Src) (r : ℕ) (x : In Ideal) : Prop where
  x0 : ∀ p k, x.x0 (ix2 p k) = S.ct (r + p.val) k
  x1 : ∀ p k, x.x1 (ix2 p k) = S.x (r + p.val) k
  x2 : ∀ p k, x.x2 (ix2 p k) = S.z (r + p.val) k
  x3 : ∀ p k, x.x3 (ix2 p k) = S.yc (r + p.val) k
  x4 : ∀ p k, x.x4 (ix2 p k) = S.p (r + p.val) k
  x5 : ∀ k, x.x5 (ix2 0 k) = S.g1 k
  x8 : ∀ k, x.x8 (ix2 0 k) = S.clng k
  x9 : ∀ k, x.x9 (ix2 0 k) = S.clnb k
  x10 : ∀ j k, x.x10 (ix2 j k) = S.wpw j k
  x11 : ∀ k, x.x11 (ix2 0 k) = S.slng k
  x12 : ∀ k, x.x12 (ix2 0 k) = S.slnb k
  x14 : ∀ h s t, x.x14 (ix3 h s t) = S.wm h t s
  x16 : ∀ i j, x.x16 (ix2 i j) = S.wbd i j
  x17 : ∀ k, x.x17 (ix2 0 k) = S.ps k
  x18 : ∀ j k, x.x18 (ix2 j k) = S.wout j k

variable {S : Src} {r : ℕ} {x : In Ideal} (T : Tile S r x)
include T

theorem tile_h (p : Fin 256) (j : Fin 1024) : k0_pay244 x.x1 x.x5 (ix2 p j) = S.h (r + p.val) j := by
  pointwise [k0_pay244, k0_pay243, k0_pay242, k0_pay241]
  simp only [T.x1, T.x5]
  rfl

theorem tile_dmix (p : Fin 256) (j : Fin 1024) : k0_pay17 x.x0 x.x18 (ix2 p j) = S.dmix (r + p.val) j := by
  pointwise [k0_pay17, k0_pay15]
  simp only [T.x0, T.x18]
  rfl

theorem tile_dya (p : Fin 256) (j : Fin 384) : dyaV x (ix2 p j) = S.dya (r + p.val) j := by
  pointwise [dyaV, k0_pay18]
  exact tile_dmix T _ _
theorem tile_dyb (p : Fin 256) (j : Fin 384) : dybV x (ix2 p j) = S.dyb (r + p.val) j := by
  pointwise [dybV, k0_pay19]
  exact tile_dmix T _ _
theorem tile_dyc (p : Fin 256) (j : Fin 256) : dycV x (ix2 p j) = S.dyc (r + p.val) j := by
  pointwise [dycV, k0_pay20]
  exact tile_dmix T _ _

/-! ## The convolution's branch -/

theorem tile_dev (p : Fin 256) (j : Fin 384) : k0_pay43 x.x3 (ix2 p j) = dev (S.yc (r + p.val)) j := by
  pointwise [k0_pay43]
  simp only [T.x3]
  rfl

theorem tile_rstd (p : Fin 256) : k0_pay44 x.x3 (ix2 p 0) = rstd (S.yc (r + p.val)) := by
  pointwise [k0_pay44]
  simp only [tile_dev T]
  rfl

theorem tile_hat (p : Fin 256) (j : Fin 384) : xhV x (ix2 p j) = hat (S.yc (r + p.val)) j := by
  pointwise [xhV, k0_pay45]
  simp only [tile_dev T, tile_rstd T]
  rfl

theorem tile_ln (p : Fin 256) (j : Fin 384) : lnV x (ix2 p j) = S.ln (r + p.val) j := by
  have h := tile_hat T p j
  unfold xhV at h
  pointwise [lnV, k0_pay46]
  simp only [h, T.x8, T.x9]
  rfl

theorem tile_sg (p : Fin 256) (j : Fin 384) : sgV x (ix2 p j) = sgm (S.ln (r + p.val) j) := by
  have h := tile_ln T p j
  unfold lnV at h
  pointwise [sgV, k0_pay47]
  simp only [h]
  rfl

theorem tile_s (p : Fin 256) (j : Fin 384) : k0_pay48 x.x3 x.x8 x.x9 (ix2 p j) = S.s (r + p.val) j := by
  have h := tile_ln T p j
  have h' := tile_sg T p j
  unfold lnV at h
  unfold sgV at h'
  pointwise [k0_pay48]
  simp only [h, h']
  rfl

theorem tile_ds (p : Fin 256) (j : Fin 384) : dsV x (ix2 p j) = S.ds (r + p.val) j := by
  pointwise [dsV, k0_pay42, k0_pay41]
  simp only [tile_dya T, T.x10]
  rfl

theorem tile_dln (p : Fin 256) (j : Fin 384) : k0_pay49 (dsV x) (lnV x) (sgV x) (ix2 p j) = S.dln (r + p.val) j := by
  pointwise [k0_pay49]
  simp only [tile_ds T, tile_ln T, tile_sg T]
  rfl

theorem tile_dclng (o : Vec Ideal S1x384 .f32) (j : Fin 384) : k0_pay50 (dsV x) (xhV x) (lnV x) (sgV x) o (ix2 0 j)
    = o (ix2 0 j) + ∑ p : Fin 256, S.dln (r + p.val) j * hat (S.yc (r + p.val)) j := by
  pointwise [k0_pay50]
  simp only [tile_dln T, tile_hat T]

theorem tile_dclnb (o : Vec Ideal S1x384 .f32) (j : Fin 384) : k0_pay51 (dsV x) (lnV x) (sgV x) o (ix2 0 j)
    = o (ix2 0 j) + ∑ p : Fin 256, S.dln (r + p.val) j := by
  pointwise [k0_pay51]
  simp only [tile_dln T]

theorem tile_dlg (p : Fin 256) (j : Fin 384) :
    k0_pay52 (dsV x) (lnV x) (sgV x) x.x8 (ix2 p j) = S.dln (r + p.val) j * S.clng j := by
  pointwise [k0_pay52]
  simp only [tile_dln T, T.x8]

theorem tile_dconvb (o : Vec Ideal S1x384 .f32) (j : Fin 384) :
    k0_pay56 (k0_pay44 x.x3) (k0_pay53 (dsV x) (lnV x) (sgV x) x.x8) (k0_pay54 (dsV x) (xhV x) (lnV x) (sgV x) x.x8) o (ix2 0 j)
    = o (ix2 0 j) + ∑ p : Fin 256, S.dconv (r + p.val) j := by
  pointwise [k0_pay56, k0_pay55, k0_pay53, k0_pay54]
  simp only [tile_dlg T, tile_rstd T, tile_hat T]
  rfl

/-! ## The pool's branch -/

theorem tile_dwbd (o : Vec Ideal S256x256 .f32) (i j : Fin 256) : k0_pay25 (dycV x) (k0_pay21 x.x4) x.x17 o (ix2 i j)
    = o (ix2 i j) + ∑ p : Fin 256, S.dwbd (r + p.val) i j := by
  pointwise [k0_pay25, k0_pay24, k0_pay21]
  simp only [tile_dyc T, T.x4, T.x17]
  rfl

theorem tile_dps (o : Vec Ideal S1x256 .f32) (j : Fin 256) : k0_pay23 (dycV x) (k0_pay22 x.x4 x.x16) o (ix2 0 j)
    = o (ix2 0 j) + ∑ p : Fin 256, S.dps (r + p.val) j := by
  pointwise [k0_pay23, k0_pay22, k0_pay21]
  simp only [tile_dyc T, T.x4, T.x16]
  rfl

/-! ## The spatial gate's branch -/

theorem tile_gb (p : Fin 256) (j : Fin 768) : gbV x (ix2 p j) = gelu (S.z (r + p.val) ⟨768 + j.val, by omega⟩) := by
  pointwise [gbV, k0_pay148, k0_pay147, k0_pay146, k0_pay145, k0_pay16]
  simp only [T.x2]
  rfl

theorem tile_u (p : Fin 256) (j : Fin 384) : uV x (ix2 p j) = S.u (r + p.val) j := by
  pointwise [uV, k0_pay151]
  exact tile_gb T _ _

theorem tile_v (p : Fin 256) (j : Fin 384) (h : 384 + j.val < 768) : gbV x (ix2 p ⟨384 + j.val, h⟩) = S.v (r + p.val) j := by
  rw [tile_gb T]
  exact congrArg (fun k => gelu (S.z _ k)) (Fin.ext (by show 768 + (384 + j.val) = 1152 + j.val; omega))

theorem tile_vdev (p : Fin 256) (j : Fin 384) : k0_pay152 (gbV x) (ix2 p j) = dev (S.v (r + p.val)) j := by
  pointwise [k0_pay152]
  simp only [tile_v T]
  rfl

theorem tile_vhat (p : Fin 256) (j : Fin 384) : vhV x (ix2 p j) = hat (S.v (r + p.val)) j := by
  pointwise [vhV, k0_pay154, k0_pay153]
  simp only [tile_vdev T]
  rfl

theorem tile_vn (p : Fin 256) (j : Fin 384) : vnV x (ix2 p j) = S.vn (r + p.val) j := by
  have h := tile_vhat T p j
  unfold vhV at h
  pointwise [vnV, k0_pay155]
  simp only [h, T.x11, T.x12]
  rfl

end Cert.Proof.Mixer
end
-- ==== Proof.Mixer.Gate.lean ====
/- Hand-written: one run of the mixer's backward body, the part of the spatial gate: two chunks of 128 rows, four heads of 96
   columns, each head's product over columns masked to the head. -/
module

public import proofs.«01_k».proof.Proof.Mixer.Tile

@[expose] public section

set_option maxRecDepth 16384

noncomputable section

namespace Cert.Proof.Mixer

open Idealize.ShloMosaic Idealize.ShloMosaic.TcCoe
open Cert.MixerKernelIdeal Cert.MixerKernelIdeal.Gen

/-- The mask keeps the columns of head `h`. -/
abbrev Keeps (m : IVec S1x384 1) (h : ℕ) : Prop := ∀ j : Fin 384, m (ix2 0 j) = 1#1 ↔ j.val / 96 = h

theorem keeps0 : Keeps mk0 0 := by decide +kernel
theorem keeps1 : Keeps mk1 1 := by decide +kernel
theorem keeps2 : Keeps mk2 2 := by decide +kernel
theorem keeps3 : Keeps mk3 3 := by decide +kernel

theorem lane_is (h : Fin 4) : ∀ k : Fin 128, IntOp.cmpi .eq (lane128 (ix2 0 k)) (BitVec.ofNat 32 h.val) = 1#1 ↔ k.val = h.val := by
  decide +revert +kernel

theorem lower_is : ∀ t s : Fin 128, k0_pay162 (ix2 t s) = 1#1 ↔ s ≤ t := by decide +kernel

theorem lane0 (k : Fin 128) : IntOp.cmpi .eq (lane128 (ix2 0 k)) 0#32 = 1#1 ↔ k.val = 0 := lane_is 0 k
theorem lane1 (k : Fin 128) : IntOp.cmpi .eq (lane128 (ix2 0 k)) 1#32 = 1#1 ↔ k.val = 1 := lane_is 1 k
theorem lane2 (k : Fin 128) : IntOp.cmpi .eq (lane128 (ix2 0 k)) 2#32 = 1#1 ↔ k.val = 2 := lane_is 2 k
theorem lane3 (k : Fin 128) : IntOp.cmpi .eq (lane128 (ix2 0 k)) 3#32 = 1#1 ↔ k.val = 3 := lane_is 3 k

/-- A masked number. -/
theorem select_iff {b : BitVec 1} {p : Prop} [Decidable p] (h : b = 1#1 ↔ p) (y z : EReal) :
    Scalar.select b y z = if p then y else z := by
  unfold Scalar.select
  by_cases e : p
  · rw [if_pos e]; exact if_pos (h.mpr e)
  · rw [if_neg e]; exact if_neg fun k => e (h.mp k)

/-- The sum of a masked row is the sum over the head. -/
theorem sum_head (h : Fin 4) (f : Fin 384 → EReal) :
    (∑ j : Fin 384, if j.val / 96 = h.val then f j else 0) = ∑ d : Fin 96, f ⟨96 * h.val + d.val, by omega⟩ := by
  rw [← Finset.sum_filter]
  symm
  refine Finset.sum_nbij' (fun d : Fin 96 => (⟨96 * h.val + d.val, by omega⟩ : Fin 384))
    (fun j => ⟨j.val % 96, Nat.mod_lt _ (by norm_num)⟩) ?_ ?_ ?_ ?_ ?_
  · intro d _
    refine Finset.mem_filter.mpr ⟨Finset.mem_univ _, ?_⟩
    show (96 * h.val + d.val) / 96 = h.val
    omega
  · exact fun _ _ => Finset.mem_univ _
  · intro d _
    refine Fin.ext ?_
    show (96 * h.val + d.val) % 96 = d.val
    omega
  · intro j hj
    have e := (Finset.mem_filter.mp hj).2
    refine Fin.ext ?_
    show 96 * h.val + j.val % 96 = j.val
    omega
  · exact fun _ _ => rfl

section Masked
variable {m : IVec S1x384 1} {h : ℕ} (hm : Keeps m h) (f : FVec Ideal S128x384 .f32) (t : Fin 128) (j : Fin 384)
include hm
theorem kept178 : k0_pay178 m f (ix2 t j) = if j.val / 96 = h then f (ix2 t j) else 0 := by
  pointwise [k0_pay178]; exact select_iff (hm j) _ _
theorem kept184 : k0_pay184 m f (ix2 t j) = if j.val / 96 = h then f (ix2 t j) else 0 := by
  pointwise [k0_pay184]; exact select_iff (hm j) _ _
theorem kept189 : k0_pay189 m f (ix2 t j) = if j.val / 96 = h then f (ix2 t j) else 0 := by
  pointwise [k0_pay189]; exact select_iff (hm j) _ _
theorem kept207 : k0_pay207 f zro (k0_pay206 m) (ix2 t j) = if j.val / 96 = h then f (ix2 t j) else 0 := by
  pointwise [k0_pay207, k0_pay206, zro]; exact select_iff (hm j) _ _
theorem kept212 : k0_pay212 m f (ix2 t j) = if j.val / 96 = h then f (ix2 t j) else 0 := by
  pointwise [k0_pay212]; exact select_iff (hm j) _ _
theorem kept219 : k0_pay219 m f (ix2 t j) = if j.val / 96 = h then f (ix2 t j) else 0 := by
  pointwise [k0_pay219]; exact select_iff (hm j) _ _
theorem kept224 : k0_pay224 m f (ix2 t j) = if j.val / 96 = h then f (ix2 t j) else 0 := by
  pointwise [k0_pay224]; exact select_iff (hm j) _ _
end Masked

variable {S : Src} {q : ℕ} {x : In Ideal} (T : Tile S (256 * q) x)
include T

/-! ## The cotangent of the gate, masked to each head -/

theorem tile_dsg0 (t : Fin 128) (j : Fin 384) : dsg0 x (ix2 t j) = S.dsg (128 * (2 * q) + t.val) j := by
  have e : 256 * q = 128 * (2 * q) := by omega
  pointwise [dsg0, k0_pay171, k0_pay169]
  rw [tile_dyb T, tile_u T, e]
  rfl

theorem tile_dsg1 (t : Fin 128) (j : Fin 384) : dsg1 x (ix2 t j) = S.dsg (128 * (2 * q + 1) + t.val) j := by
  have e : 256 * q + (128 + t.val) = 128 * (2 * q + 1) + t.val := by omega
  pointwise [dsg1, k0_pay203, k0_pay201]
  rw [tile_dyb T, tile_u T]
  dsimp only
  rw [e]
  rfl

theorem kept174 (t : Fin 128) (j : Fin 384) : k0_pay174 (dybV x) (uV x) mk0 (ix2 t j)
    = if j.val / 96 = 0 then S.dsg (128 * (2 * q) + t.val) j else 0 := by
  have e := tile_dsg0 T t j
  unfold dsg0 at e
  pointwise [k0_pay174]
  rw [select_iff (keeps0 j), e]

/-- A column lies in one head only. -/
theorem sum_heads (j : Fin 384) (w : Fin 4 → Fin 128 → EReal) (d : Fin 128 → EReal) :
    (∑ t, w 0 t * (if j.val / 96 = 0 then d t else 0)) + (∑ t, w 1 t * (if j.val / 96 = 1 then d t else 0))
      + (∑ t, w 2 t * (if j.val / 96 = 2 then d t else 0)) + (∑ t, w 3 t * (if j.val / 96 = 3 then d t else 0))
      = ∑ t, w ⟨j.val / 96, by omega⟩ t * d t := by
  rcases (by omega : j.val / 96 = 0 ∨ j.val / 96 = 1 ∨ j.val / 96 = 2 ∨ j.val / 96 = 3) with hk | hk | hk | hk
  · rw [show (⟨j.val / 96, by omega⟩ : Fin 4) = 0 from Fin.ext hk]; simp [hk]
  · rw [show (⟨j.val / 96, by omega⟩ : Fin 4) = 1 from Fin.ext hk]; simp [hk]
  · rw [show (⟨j.val / 96, by omega⟩ : Fin 4) = 2 from Fin.ext hk]; simp [hk]
  · rw [show (⟨j.val / 96, by omega⟩ : Fin 4) = 3 from Fin.ext hk]; simp [hk]

theorem tile_dvn0 (p : Fin 128) (j : Fin 384) : dvn0 x (ix2 p j) = S.dvn (2 * q) p j := by
  pointwise [dvn0, k0_pay192, k0_pay187, k0_pay181, k0_pay172, k0_pay190, k0_pay185, k0_pay179, k0_pay175]
  simp only [kept174 T, kept178 keeps1, kept184 keeps2, kept189 keeps3, tile_dsg0 T]
  refine Eq.trans ?_ (sum_heads T j (fun h t => S.wm h t p) fun t => S.dsg (128 * (2 * q) + t.val) j)
  simp only [← T.x14]
  rfl

theorem tile_dvn1 (p : Fin 128) (j : Fin 384) : dvn1 x (ix2 p j) = S.dvn (2 * q + 1) p j := by
  pointwise [dvn1, k0_pay227, k0_pay225, k0_pay222, k0_pay220, k0_pay217, k0_pay213, k0_pay210, k0_pay208, k0_pay204]
  have e := kept207 keeps0 (dsg1 x)
  simp only [e, kept212 keeps1, kept219 keeps2, kept224 keeps3, tile_dsg1 T]
  refine Eq.trans ?_ (sum_heads T j (fun h t => S.wm h t p) fun t => S.dsg (128 * (2 * q + 1) + t.val) j)
  simp only [← T.x14]
  rfl

/-- A chunk's bias gradients stand in the first four lanes. -/
def biasRow (f : Fin 4 → EReal) (k : Fin 128) : EReal := if h : k.val < 4 then f ⟨k.val, h⟩ else 0

omit T in
theorem sum_lanes (k : Fin 128) (f : Fin 4 → EReal) :
    (if k.val = 0 then f 0 else 0) + (if k.val = 1 then f 1 else 0) + (if k.val = 2 then f 2 else 0)
      + (if k.val = 3 then f 3 else 0) = biasRow f k := by
  unfold biasRow
  by_cases h : k.val < 4
  · rw [dif_pos h]
    generalize hk : k.val = n at *
    interval_cases n <;> simp <;> rfl
  · rw [dif_neg h, if_neg (by omega), if_neg (by omega), if_neg (by omega), if_neg (by omega)]
    simp

theorem tile_dbs0 (o : Vec Ideal S128x128 .f32) (t k : Fin 128) :
    dbs0 x o (ix2 t k) = o (ix2 t k) + biasRow (S.dbs (2 * q) t) k := by
  pointwise [dbs0, k0_pay193, k0_pay188, k0_pay177, k0_pay173, k0_pay182, k0_pay183]
  simp only [kept174 T, kept178 keeps1, kept184 keeps2, kept189 keeps3, tile_dsg0 T]
  rw [select_iff (lane0 k), select_iff (lane1 k), select_iff (lane2 k), select_iff (lane3 k)]
  refine congrArg (o (ix2 t k) + ·) (Eq.trans ?_ (sum_lanes k _))
  unfold Src.dbs
  simp only [← sum_head]
  rfl

theorem tile_dbs1 (o : Vec Ideal S128x128 .f32) (t k : Fin 128) :
    dbs1 x o (ix2 t k) = o (ix2 t k) + biasRow (S.dbs (2 * q + 1) t) k := by
  pointwise [dbs1, k0_pay231, k0_pay230, k0_pay229, k0_pay228, k0_pay223, k0_pay218, k0_pay211, k0_pay205]
  have e := kept207 keeps0 (dsg1 x)
  simp only [e, kept212 keeps1, kept219 keeps2, kept224 keeps3, tile_dsg1 T]
  rw [select_iff (lane0 k), select_iff (lane1 k), select_iff (lane2 k), select_iff (lane3 k)]
  refine congrArg (o (ix2 t k) + ·) (Eq.trans ?_ (sum_lanes k _))
  unfold Src.dbs
  simp only [← sum_head]
  rfl

/-! ## The gradient of the heads' matrices -/

theorem tile_vn0 (s : Fin 128) (j : Fin 384) : k0_pay163 (vnV x) (ix2 s j) = S.vn (128 * (2 * q) + s.val) j := by
  have e : 256 * q = 128 * (2 * q) := by omega
  pointwise [k0_pay163]
  rw [tile_vn T, e]
theorem tile_vn1 (s : Fin 128) (j : Fin 384) : k0_pay194 (vnV x) (ix2 s j) = S.vn (128 * (2 * q + 1) + s.val) j := by
  have e : 256 * q + (128 + s.val) = 128 * (2 * q + 1) + s.val := by omega
  pointwise [k0_pay194]
  rw [tile_vn T]
  dsimp only
  rw [e]

omit T in
theorem sum_kept (h : Fin 4) (f g : Fin 384 → EReal) :
    (∑ j : Fin 384, (if j.val / 96 = h.val then f j else 0) * (if j.val / 96 = h.val then g j else 0))
      = ∑ d : Fin 96, f ⟨96 * h.val + d.val, by omega⟩ * g ⟨96 * h.val + d.val, by omega⟩ := by
  rw [← sum_head h fun j => f j * g j]
  refine Finset.sum_congr rfl fun j _ => ?_
  split <;> simp

theorem keptv (h : Fin 4) (s : Fin 128) (j : Fin 384) :
    (match h with
      | 0 => k0_pay164 (vnV x) lane k0_pay156 k0_pay157 | 1 => k0_pay165 (vnV x) lane
      | 2 => k0_pay166 (vnV x) lane | 3 => k0_pay167 (vnV x) lane : FVec Ideal S128x384 .bf16) (ix2 s j)
      = if j.val / 96 = h.val then S.vn (128 * (2 * q) + s.val) j else 0 := by
  match h with
  | 0 => pointwise [k0_pay164]; rw [tile_vn0 T]; exact select_iff (keeps0 j) _ _
  | 1 => pointwise [k0_pay165]; rw [tile_vn0 T]; exact select_iff (keeps1 j) _ _
  | 2 => pointwise [k0_pay166]; rw [tile_vn0 T]; exact select_iff (keeps2 j) _ _
  | 3 => pointwise [k0_pay167]; rw [tile_vn0 T]; exact select_iff (keeps3 j) _ _

theorem tile_dwm0 (o : Fin 4 → Vec Ideal S1x128x128 .f32) (h : Fin 4) (t s : Fin 128) : dwm0 x o h (ix3 0 t s)
    = o h (ix3 0 t s) + if s ≤ t then S.dwm (2 * q) h t s else 0 := by
  have hv := keptv T h
  match h with
  | 0 =>
    pointwise [dwm0, k0_pay176, k0_pay175]
    dsimp only at hv
    rw [select_iff (lower_is t s)]
    simp only [kept174 T, hv]
    exact congrArg (fun e => o 0 (ix3 0 t s) + if s ≤ t then e else 0) (sum_kept 0 (S.dsg _) (S.vn _))
  | 1 =>
    pointwise [dwm0, k0_pay180, k0_pay179]
    dsimp only at hv
    rw [select_iff (lower_is t s)]
    simp only [kept178 keeps1, tile_dsg0 T, hv]
    exact congrArg (fun e => o 1 (ix3 0 t s) + if s ≤ t then e else 0) (sum_kept 1 (S.dsg _) (S.vn _))
  | 2 =>
    pointwise [dwm0, k0_pay186, k0_pay185]
    dsimp only at hv
    rw [select_iff (lower_is t s)]
    simp only [kept184 keeps2, tile_dsg0 T, hv]
    exact congrArg (fun e => o 2 (ix3 0 t s) + if s ≤ t then e else 0) (sum_kept 2 (S.dsg _) (S.vn _))
  | 3 =>
    pointwise [dwm0, k0_pay191, k0_pay190]
    dsimp only at hv
    rw [select_iff (lower_is t s)]
    simp only [kept189 keeps3, tile_dsg0 T, hv]
    exact congrArg (fun e => o 3 (ix3 0 t s) + if s ≤ t then e else 0) (sum_kept 3 (S.dsg _) (S.vn _))

theorem keptw (h : Fin 4) (s : Fin 128) (j : Fin 384) :
    (match h with
      | 0 => k0_pay195 (vnV x) mk0 | 1 => k0_pay198 (k0_pay194 (vnV x)) (k0_pay196 mk1) k0_pay197
      | 2 => k0_pay199 mk2 (k0_pay194 (vnV x)) | 3 => k0_pay200 mk3 (k0_pay194 (vnV x)) : FVec Ideal S128x384 .bf16) (ix2 s j)
      = if j.val / 96 = h.val then S.vn (128 * (2 * q + 1) + s.val) j else 0 := by
  match h with
  | 0 => pointwise [k0_pay195]; rw [tile_vn1 T]; exact select_iff (keeps0 j) _ _
  | 1 => pointwise [k0_pay198, k0_pay196, k0_pay197]; rw [tile_vn1 T]; exact select_iff (keeps1 j) _ _
  | 2 => pointwise [k0_pay199]; rw [tile_vn1 T]; exact select_iff (keeps2 j) _ _
  | 3 => pointwise [k0_pay200]; rw [tile_vn1 T]; exact select_iff (keeps3 j) _ _

theorem tile_dwm1 (o : Fin 4 → Vec Ideal S1x128x128 .f32) (h : Fin 4) (t s : Fin 128) : dwm1 x o h (ix3 0 t s)
    = o h (ix3 0 t s) + if s ≤ t then S.dwm (2 * q + 1) h t s else 0 := by
  have hv := keptw T h
  match h with
  | 0 =>
    have e := kept207 keeps0 (dsg1 x)
    pointwise [dwm1, k0_pay209, k0_pay208]
    dsimp only at hv
    rw [select_iff (lower_is t s)]
    simp only [e, tile_dsg1 T, hv]
    exact congrArg (fun e => o 0 (ix3 0 t s) + if s ≤ t then e else 0) (sum_kept 0 (S.dsg _) (S.vn _))
  | 1 =>
    pointwise [dwm1, k0_pay216, k0_pay215, k0_pay214, k0_pay213]
    dsimp only at hv
    rw [select_iff (lower_is t s)]
    simp only [kept212 keeps1, tile_dsg1 T, hv]
    exact congrArg (fun e => o 1 (ix3 0 t s) + if s ≤ t then e else 0) (sum_kept 1 (S.dsg _) (S.vn _))
  | 2 =>
    pointwise [dwm1, k0_pay221, k0_pay220]
    dsimp only at hv
    rw [select_iff (lower_is t s)]
    simp only [kept219 keeps2, tile_dsg1 T, hv]
    exact congrArg (fun e => o 2 (ix3 0 t s) + if s ≤ t then e else 0) (sum_kept 2 (S.dsg _) (S.vn _))
  | 3 =>
    pointwise [dwm1, k0_pay226, k0_pay225]
    dsimp only at hv
    rw [select_iff (lower_is t s)]
    simp only [kept224 keeps3, tile_dsg1 T, hv]
    exact congrArg (fun e => o 3 (ix3 0 t s) + if s ≤ t then e else 0) (sum_kept 3 (S.dsg _) (S.vn _))

/-! ## The normalisation's gain and bias -/

/-- The two chunks of the tile, row by row. -/
theorem tile_dvn (p : Fin 256) (j : Fin 384) : k0_pay233 (dvn0 x) (dvn1 x) (ix2 p j)
    = S.dvn ((256 * q + p.val) / 128) ⟨(256 * q + p.val) % 128, Nat.mod_lt _ (by norm_num)⟩ j := by
  by_cases hp : p.val < 128
  · have e : (256 * q + p.val) / 128 = 2 * q := by omega
    refine Eq.trans ?_ ((tile_dvn0 T ⟨p.val, hp⟩ j).trans ?_)
    · pointwise [k0_pay233]; rw [dif_pos hp]
    · rw [e]; exact congrArg (S.dvn _ · j) (Fin.ext (by show p.val = (256 * q + p.val) % 128; omega))
  · have e : (256 * q + p.val) / 128 = 2 * q + 1 := by omega
    refine Eq.trans ?_ ((tile_dvn1 T ⟨p.val - 128, by omega⟩ j).trans ?_)
    · pointwise [k0_pay233]; rw [dif_neg hp]
    · rw [e]; exact congrArg (S.dvn _ · j) (Fin.ext (by show p.val - 128 = (256 * q + p.val) % 128; omega))

theorem tile_dslng (o : Vec Ideal S1x384 .f32) (j : Fin 384) : k0_pay234 (vhV x) (dvn0 x) (dvn1 x) o (ix2 0 j)
    = o (ix2 0 j) + ∑ p : Fin 256, S.dvn ((256 * q + p.val) / 128) ⟨(256 * q + p.val) % 128, Nat.mod_lt _ (by norm_num)⟩ j
        * hat (S.v (256 * q + p.val)) j := by
  pointwise [k0_pay234]
  simp only [tile_dvn T, tile_vhat T]

theorem tile_dslnb (o : Vec Ideal S1x384 .f32) (j : Fin 384) : k0_pay235 (dvn0 x) (dvn1 x) o (ix2 0 j)
    = o (ix2 0 j) + ∑ p : Fin 256, S.dvn ((256 * q + p.val) / 128) ⟨(256 * q + p.val) % 128, Nat.mod_lt _ (by norm_num)⟩ j := by
  pointwise [k0_pay235]
  simp only [tile_dvn T]

end Cert.Proof.Mixer
end
-- ==== Proof.Mixer.Acc.lean ====
/- Hand-written: the mixer's backward over its sixteen points, last rows first: what each result array holds at the end. -/
module

public import Idealize.ShloMosaic.Lib.Pipeline.ValueKit
public import proofs.«01_k».proof.Proof.Mixer.Gate
public import proofs.«01_k».proof.Proof.Mixer.Frame

@[expose] public section

set_option maxRecDepth 16384

noncomputable section

namespace Cert.Proof.Mixer

open Idealize.ShloMosaic Idealize.ShloMosaic.TcCoe
open Cert.MixerKernelIdeal Cert.MixerKernelIdeal.Gen

/-! ## Sums over the rows -/

/-- Sixteen steps that add to what was there, the first to zero. -/
theorem sixteen (a f : ℕ → EReal) (h : ∀ t, t < 16 → a (t + 1) = (if t = 0 then 0 else a t) + f t) :
    a 16 = ∑ t ∈ Finset.range 16, f t := by
  have : ∀ t, t < 16 → a (t + 1) = ∑ i ∈ Finset.range (t + 1), f i := by
    intro t
    induction t with
    | zero => intro _; rw [h 0 (by norm_num), if_pos rfl]; simp
    | succ t ih =>
      intro ht
      rw [h _ ht, if_neg (by omega), ih (by omega), ← Finset.sum_range_succ]
  exact this 15 (by norm_num)

theorem range_mul (a b : ℕ) (f : ℕ → EReal) :
    ∑ i ∈ Finset.range a, ∑ j : Fin b, f (b * i + j.val) = ∑ n ∈ Finset.range (a * b), f n := by
  induction a with
  | zero => simp
  | succ a ih =>
    rw [Finset.sum_range_succ, ih, Nat.succ_mul, Finset.sum_range_add f (a * b) b, Nat.mul_comm b a]
    simp only [Finset.sum_range]

/-- The tiles, last first, are all the rows. -/
theorem sum_tiles (f : ℕ → EReal) :
    ∑ t ∈ Finset.range 16, ∑ p : Fin 256, f (256 * (15 - t) + p.val) = ∑ n ∈ Finset.range 4096, f n := by
  rw [Finset.sum_range_reflect (fun i => ∑ p : Fin 256, f (256 * i + p.val)) 16]
  exact range_mul 16 256 f

/-- Two chunks a tile, last tile first, are all the chunks. -/
theorem sum_chunks (f : ℕ → EReal) :
    ∑ t ∈ Finset.range 16, (f (2 * (15 - t)) + f (2 * (15 - t) + 1)) = ∑ n ∈ Finset.range 32, f n := by
  rw [Finset.sum_range_reflect (fun i => f (2 * i) + f (2 * i + 1)) 16]
  simp only [Finset.sum_range_succ, Finset.sum_range_zero]
  norm_num
  abel

/-! ## The zeros the first point starts from -/

theorem zero4 (i) : (k0_pay4 : FVec Ideal S1x384 .f32) i = 0 := by pointwise [k0_pay4]
theorem zero5 (i) : (k0_pay5 : FVec Ideal S1x384 .f32) i = 0 := by pointwise [k0_pay5]
theorem zero6 (i) : (k0_pay6 : FVec Ideal S1x384 .f32) i = 0 := by pointwise [k0_pay6]
theorem zero7 (i) : (k0_pay7 : FVec Ideal S1x384 .f32) i = 0 := by pointwise [k0_pay7]
theorem zero8 (i) : (k0_pay8 : FVec Ideal S1x384 .f32) i = 0 := by pointwise [k0_pay8]
theorem zero9 (i) : (k0_pay9 : FVec Ideal S4x128x128 .f32) i = 0 := by pointwise [k0_pay9]
theorem zero10 (i) : (k0_pay10 : FVec Ideal S128x128 .f32) i = 0 := by pointwise [k0_pay10]
theorem zero11 (i) : (k0_pay11 : FVec Ideal S256x256 .f32) i = 0 := by pointwise [k0_pay11]
theorem zero12 (i) : (k0_pay12 : FVec Ideal S1x256 .f32) i = 0 := by pointwise [k0_pay12]

variable (m : (ℓ : Loc nD τ sig) → Buf (Elt Ideal) ℓ) (c : Dev nD)

theorem start_cases (t : Fin cfg0.N) {α : Type} (f : St Ideal → α) :
    f ((st m c t.val).start (grid0.coords t)) = if t.val = 0 then f (st m c t.val).zeroed else f (st m c t.val) := by
  have hN := lt_of_lt_of_eq t.isLt (show cfg0.N = 16 from N_0)
  unfold St.start
  by_cases h : t.val = 0
  · rw [if_pos h, if_pos ((hcond0_0 t).mpr (by omega))]
  · rw [if_neg h, if_neg fun k => h (by have := (hcond0_0 t).mp k; omega)]

variable (S : Src) (hT : ∀ t : Fin cfg0.N, Tile S (256 * (15 - t.val)) (blocks m c t))
include hT

/-- A number every point adds to, over the run. -/
theorem fold_all (read : St Ideal → EReal) (f : ℕ → EReal) (h0 : ∀ o : St Ideal, read o.zeroed = 0)
    (h : ∀ (q : ℕ) (x : In Ideal) (o o' : St Ideal), Tile S (256 * q) x → Step x o o' → read o' = read o + f q) :
    read (st m c 16) = ∑ t ∈ Finset.range 16, f (15 - t) := by
  refine sixteen (fun t => read (st m c t)) (fun t => f (15 - t)) fun t ht => ?_
  have s := h _ _ _ _ (hT ⟨t, lt_of_lt_of_eq ht N_0.symm⟩) (st_step m c ⟨t, lt_of_lt_of_eq ht N_0.symm⟩)
  rw [start_cases m c ⟨t, _⟩ read, h0] at s
  exact s

theorem end_dconvb (j : Fin 384) : (st m c 16).o26 (ix2 0 j) = ∑ n ∈ Finset.range 4096, S.dconv n j := by
  rw [← sum_tiles fun n => S.dconv n j]
  exact fold_all m c S hT (fun o => o.o26 (ix2 0 j)) (fun q => ∑ p : Fin 256, S.dconv (256 * q + p.val) j) (fun _ => zero4 (ix2 0 j))
    fun q x o o' T s => (congrFun s.dconvb _).trans (tile_dconvb T _ j)

theorem end_dclng (j : Fin 384) : (st m c 16).o27 (ix2 0 j) = ∑ n ∈ Finset.range 4096, S.dln n j * hat (S.yc n) j := by
  rw [← sum_tiles fun n => S.dln n j * hat (S.yc n) j]
  exact fold_all m c S hT (fun o => o.o27 (ix2 0 j)) (fun q => ∑ p : Fin 256, S.dln (256 * q + p.val) j * hat (S.yc (256 * q + p.val)) j)
    (fun _ => zero5 (ix2 0 j)) fun q x o o' T s => (congrFun s.dclng _).trans (tile_dclng T _ j)

theorem end_dclnb (j : Fin 384) : (st m c 16).o28 (ix2 0 j) = ∑ n ∈ Finset.range 4096, S.dln n j := by
  rw [← sum_tiles fun n => S.dln n j]
  exact fold_all m c S hT (fun o => o.o28 (ix2 0 j)) (fun q => ∑ p : Fin 256, S.dln (256 * q + p.val) j)
    (fun _ => zero6 (ix2 0 j)) fun q x o o' T s => (congrFun s.dclnb _).trans (tile_dclnb T _ j)

/-- The cotangent of the normalised row `n`, by its chunk. -/
def dvnAt (S : Src) (n : ℕ) (j : Fin 384) : EReal := S.dvn (n / 128) ⟨n % 128, Nat.mod_lt _ (by norm_num)⟩ j

theorem end_dslng (j : Fin 384) : (st m c 16).o29 (ix2 0 j) = ∑ n ∈ Finset.range 4096, dvnAt S n j * hat (S.v n) j := by
  rw [← sum_tiles fun n => dvnAt S n j * hat (S.v n) j]
  exact fold_all m c S hT (fun o => o.o29 (ix2 0 j)) (fun q => ∑ p : Fin 256, dvnAt S (256 * q + p.val) j * hat (S.v (256 * q + p.val)) j)
    (fun _ => zero7 (ix2 0 j)) fun q x o o' T s => (congrFun s.dslng _).trans (tile_dslng T _ j)

theorem end_dslnb (j : Fin 384) : (st m c 16).o30 (ix2 0 j) = ∑ n ∈ Finset.range 4096, dvnAt S n j := by
  rw [← sum_tiles fun n => dvnAt S n j]
  exact fold_all m c S hT (fun o => o.o30 (ix2 0 j)) (fun q => ∑ p : Fin 256, dvnAt S (256 * q + p.val) j)
    (fun _ => zero8 (ix2 0 j)) fun q x o o' T s => (congrFun s.dslnb _).trans (tile_dslnb T _ j)

theorem end_dwm (h : Fin 4) (a b : Fin 128) : (st m c 16).o31 (ix3 h a b)
    = ∑ n ∈ Finset.range 32, if b ≤ a then S.dwm n h a b else 0 := by
  rw [← sum_chunks fun n => if b ≤ a then S.dwm n h a b else 0]
  refine fold_all m c S hT (fun o => head o.o31 h (ix3 0 a b)) (fun q => (if b ≤ a then S.dwm (2 * q) h a b else 0)
    + if b ≤ a then S.dwm (2 * q + 1) h a b else 0) (fun _ => zero9 (ix3 h a b)) fun q x o o' T s => (congrFun (s.dwm h) _).trans ?_
  rw [tile_dwm1 T, tile_dwm0 T, add_assoc]

theorem end_dbs (t k : Fin 128) : (st m c 16).o32 (ix2 t k)
    = ∑ n ∈ Finset.range 32, biasRow (S.dbs n t) k := by
  rw [← sum_chunks fun n => biasRow (S.dbs n t) k]
  refine fold_all m c S hT (fun o => o.o32 (ix2 t k)) (fun q => biasRow (S.dbs (2 * q) t) k + biasRow (S.dbs (2 * q + 1) t) k)
    (fun _ => zero10 (ix2 t k)) fun q x o o' T s => (congrFun s.dbs _).trans ?_
  rw [tile_dbs1 T, tile_dbs0 T, add_assoc]

theorem end_dwbd (i j : Fin 256) : (st m c 16).o33 (ix2 i j) = ∑ n ∈ Finset.range 4096, S.dwbd n i j := by
  rw [← sum_tiles fun n => S.dwbd n i j]
  exact fold_all m c S hT (fun o => o.o33 (ix2 i j)) (fun q => ∑ p : Fin 256, S.dwbd (256 * q + p.val) i j) (fun _ => zero11 (ix2 i j))
    fun q x o o' T s => (congrFun s.dwbd _).trans (tile_dwbd T _ i j)

theorem end_dps (j : Fin 256) : (st m c 16).o34 (ix2 0 j) = ∑ n ∈ Finset.range 4096, S.dps n j := by
  rw [← sum_tiles fun n => S.dps n j]
  exact fold_all m c S hT (fun o => o.o34 (ix2 0 j)) (fun q => ∑ p : Fin 256, S.dps (256 * q + p.val) j) (fun _ => zero12 (ix2 0 j))
    fun q x o o' T s => (congrFun s.dpscale _).trans (tile_dps T _ j)

/-! ## The arrays after the run -/

omit hT in
theorem rows21 : ∀ t : Fin cfg0.N, win0_21.index t = ![15 - t.val, 0] := (by decide +kernel : ∀ t : Fin grid0.N, _)
omit hT in
theorem rows22 : ∀ t : Fin cfg0.N, win0_22.index t = ![15 - t.val, 0] := (by decide +kernel : ∀ t : Fin grid0.N, _)
omit hT in
theorem rows23 : ∀ t : Fin cfg0.N, win0_23.index t = ![15 - t.val, 0] := (by decide +kernel : ∀ t : Fin grid0.N, _)

theorem arr_h : (dats m 0 c).arrAt 21 cfg0.N = (fun i => S.h (i 0).val (i 1) : Vec Ideal S4096x1024 .bf16) := by
  refine (dats m 0 c).arrAt_eq_of_covers 21 _ (by decide +kernel) fun t hf y => ?_
  blk_simp
  rw [after0_21, (st_step m c t).h]
  refine (congrArg _ (eq_ix2 y)).trans ((tile_h (hT t) _ _).trans (congrArg₂ S.h ?_ (Fin.ext ?_)))
  · rw [rows21]; show 256 * (15 - t.val) + _ = (15 - t.val) * 256 + _; omega
  · blk_simp; rw [rows21]; show _ = 0 * 1024 + _; omega

theorem arr_s : (dats m 0 c).arrAt 22 cfg0.N = (fun i => S.s (i 0).val (i 1) : Vec Ideal S4096x384 .bf16) := by
  refine (dats m 0 c).arrAt_eq_of_covers 22 _ (by decide +kernel) fun t hf y => ?_
  blk_simp
  rw [after0_22, (st_step m c t).s]
  refine (congrArg _ (eq_ix2 y)).trans ((tile_s (hT t) _ _).trans (congrArg₂ S.s ?_ (Fin.ext ?_)))
  · rw [rows22]; show 256 * (15 - t.val) + _ = (15 - t.val) * 256 + _; omega
  · blk_simp; rw [rows22]; show _ = 0 * 384 + _; omega

theorem arr_dya : (dats m 0 c).arrAt 23 cfg0.N = (fun i => S.dya (i 0).val (i 1) : Vec Ideal S4096x384 .bf16) := by
  refine (dats m 0 c).arrAt_eq_of_covers 23 _ (by decide +kernel) fun t hf y => ?_
  blk_simp
  rw [after0_23, (st_step m c t).dya]
  refine (congrArg _ (eq_ix2 y)).trans ((tile_dya (hT t) _ _).trans (congrArg₂ S.dya ?_ (Fin.ext ?_)))
  · rw [rows23]; show 256 * (15 - t.val) + _ = (15 - t.val) * 256 + _; omega
  · blk_simp; rw [rows23]; show _ = 0 * 384 + _; omega

/-- The last point. -/
def t15 : Fin cfg0.N := ⟨15, by rw [show cfg0.N = 16 from N_0]; norm_num⟩

omit hT in
/-- The accumulators are written back once, whole, by the last point. -/
theorem whole : (cfg0.win 26).WholeAt t15 ∧ (cfg0.win 27).WholeAt t15 ∧ (cfg0.win 28).WholeAt t15 ∧ (cfg0.win 29).WholeAt t15
    ∧ (cfg0.win 30).WholeAt t15 ∧ (cfg0.win 31).WholeAt t15 ∧ (cfg0.win 32).WholeAt t15 ∧ (cfg0.win 33).WholeAt t15
    ∧ (cfg0.win 34).WholeAt t15 := by decide +kernel

omit hT in
theorem arr26 : (dats m 0 c).arrAt 26 cfg0.N = (st m c 16).o26 := by
  funext i
  refine ((dats m 0 c).arrAt_emb_eq_after_last 26 t15 whole.1 i).trans ?_
  blk_simp
  rw [after0_26]
  rfl

omit hT in
theorem arr27 : (dats m 0 c).arrAt 27 cfg0.N = (st m c 16).o27 := by
  funext i
  refine ((dats m 0 c).arrAt_emb_eq_after_last 27 t15 whole.2.1 i).trans ?_
  blk_simp
  rw [after0_27]
  rfl

omit hT in
theorem arr28 : (dats m 0 c).arrAt 28 cfg0.N = (st m c 16).o28 := by
  funext i
  refine ((dats m 0 c).arrAt_emb_eq_after_last 28 t15 whole.2.2.1 i).trans ?_
  blk_simp
  rw [after0_28]
  rfl

omit hT in
theorem arr29 : (dats m 0 c).arrAt 29 cfg0.N = (st m c 16).o29 := by
  funext i
  refine ((dats m 0 c).arrAt_emb_eq_after_last 29 t15 whole.2.2.2.1 i).trans ?_
  blk_simp
  rw [after0_29]
  rfl

omit hT in
theorem arr30 : (dats m 0 c).arrAt 30 cfg0.N = (st m c 16).o30 := by
  funext i
  refine ((dats m 0 c).arrAt_emb_eq_after_last 30 t15 whole.2.2.2.2.1 i).trans ?_
  blk_simp
  rw [after0_30]
  rfl

omit hT in
theorem arr31 : (dats m 0 c).arrAt 31 cfg0.N = (st m c 16).o31 := by
  funext i
  refine ((dats m 0 c).arrAt_emb_eq_after_last 31 t15 whole.2.2.2.2.2.1 i).trans ?_
  blk_simp
  rw [after0_31]
  rfl

omit hT in
theorem arr32 : (dats m 0 c).arrAt 32 cfg0.N = (st m c 16).o32 := by
  funext i
  refine ((dats m 0 c).arrAt_emb_eq_after_last 32 t15 whole.2.2.2.2.2.2.1 i).trans ?_
  blk_simp
  rw [after0_32]
  rfl

omit hT in
theorem arr33 : (dats m 0 c).arrAt 33 cfg0.N = (st m c 16).o33 := by
  funext i
  refine ((dats m 0 c).arrAt_emb_eq_after_last 33 t15 whole.2.2.2.2.2.2.2.1 i).trans ?_
  blk_simp
  rw [after0_33]
  rfl

omit hT in
theorem arr34 : (dats m 0 c).arrAt 34 cfg0.N = (st m c 16).o34 := by
  funext i
  refine ((dats m 0 c).arrAt_emb_eq_after_last 34 t15 whole.2.2.2.2.2.2.2.2 i).trans ?_
  blk_simp
  rw [after0_34]
  rfl

end Cert.Proof.Mixer
end
-- ==== Proof.Mixer.Out.lean ====
/- Hand-written: the twelve results of the mixer's backward in closed form. -/
module

public import proofs.«01_k».proof.Proof.Mixer.Acc

@[expose] public section

noncomputable section

namespace Cert.Proof.Mixer.Out

open Idealize.ShloMosaic

variable (S : Src)

/-- The normalised input. -/
def h : (⟨2, ![4096, 1024]⟩ : Shape).Idx → EReal := fun i => S.h (i 0).val (i 1)
/-- The convolution branch before its last product. -/
def s : (⟨2, ![4096, 384]⟩ : Shape).Idx → EReal := fun i => S.s (i 0).val (i 1)
/-- The convolution branch's cotangent. -/
def dya : (⟨2, ![4096, 384]⟩ : Shape).Idx → EReal := fun i => S.dya (i 0).val (i 1)
/-- The gradient of the convolution's bias. -/
def dconvb : (⟨2, ![1, 384]⟩ : Shape).Idx → EReal := fun i => ∑ n ∈ Finset.range 4096, S.dconv n (i 1)
/-- The gradient of the convolution norm's gain. -/
def dclng : (⟨2, ![1, 384]⟩ : Shape).Idx → EReal := fun i => ∑ n ∈ Finset.range 4096, S.dln n (i 1) * hat (S.yc n) (i 1)
/-- The gradient of the convolution norm's offset. -/
def dclnb : (⟨2, ![1, 384]⟩ : Shape).Idx → EReal := fun i => ∑ n ∈ Finset.range 4096, S.dln n (i 1)
/-- The gradient of the gate norm's gain. -/
def dslng : (⟨2, ![1, 384]⟩ : Shape).Idx → EReal := fun i => ∑ n ∈ Finset.range 4096, dvnAt S n (i 1) * hat (S.v n) (i 1)
/-- The gradient of the gate norm's offset. -/
def dslnb : (⟨2, ![1, 384]⟩ : Shape).Idx → EReal := fun i => ∑ n ∈ Finset.range 4096, dvnAt S n (i 1)
/-- The gradient of the heads' matrices. -/
def dwm : (⟨3, ![4, 128, 128]⟩ : Shape).Idx → EReal := fun i =>
  ∑ n ∈ Finset.range 32, if i 2 ≤ i 1 then S.dwm n (i 0) (i 1) (i 2) else 0
/-- The gradient of the heads' biases, in the first four lanes. -/
def dbs : (⟨2, ![128, 128]⟩ : Shape).Idx → EReal := fun i => ∑ n ∈ Finset.range 32, biasRow (S.dbs n (i 0)) (i 1)
/-- The gradient of the pool's matrix. -/
def dwbd : (⟨2, ![256, 256]⟩ : Shape).Idx → EReal := fun i => ∑ n ∈ Finset.range 4096, S.dwbd n (i 0) (i 1)
/-- The gradient of the pool's scale. -/
def dps : (⟨2, ![1, 256]⟩ : Shape).Idx → EReal := fun i => ∑ n ∈ Finset.range 4096, S.dps n (i 1)

end Cert.Proof.Mixer.Out

end
-- ==== Proof.Mixer.Source.lean ====
/- Hand-written: the rows the mixer's backward works on, from the arguments. -/
module

public import proofs.«01_k».proof.Proof.Mixer.Forms
public import proofs.«01_k».proof.Proof.Gen.MixerReferenceIdeal.Read

@[expose] public section

set_option maxRecDepth 16384

noncomputable section

namespace Cert.Proof.Mixer

open Idealize.ShloMosaic Idealize.SL.Sem
open Cert.MixerReferenceIdeal Cert.MixerReferenceIdeal.Read

/-- Row `n`'s sequence and its place there. -/
def sq (n : ℕ) : Fin 2 := ⟨n / 2048 % 2, Nat.mod_lt _ (by norm_num)⟩
def at_ (n : ℕ) : Fin 2048 := ⟨n % 2048, Nat.mod_lt _ (by norm_num)⟩

/-- The backward's rows and weights, from the arguments: the rows of `z`, of the convolution and of the pool are the
    reference's. -/
def src (a0 : FVec Ideal S2x2048x1024 .f32) (a1 : FVec Ideal S1024 .f32) (a2 : FVec Ideal S1024x1792 .f32)
    (a3 : FVec Ideal S31x384 .f32) (a4 a5 a6 : FVec Ideal S384 .f32) (a7 : FVec Ideal S384x384 .f32)
    (a8 a9 : FVec Ideal S384 .f32) (a10 : FVec Ideal S4x128x128 .f32) (a12 : FVec Ideal S4x64x64 .f32)
    (a13 : FVec Ideal S256 .f32) (a14 : FVec Ideal S1024x1024 .f32) (a15 : FVec Ideal S2x2048x1024 .f32) : Src where
  x n k := a0 (Idealize.ShloMosaic.ix3 (sq n) (at_ n) k)
  z n k := val_main_v15 (F := Ideal) a0 a1 a2 (Idealize.ShloMosaic.ix3 (sq n) (at_ n) k)
  yc n k := val_main_v40 (F := Ideal) a0 a1 a2 a3 a4 (Idealize.ShloMosaic.ix3 (sq n) (at_ n) k)
  p n k := val_main_v192 (F := Ideal) a0 a1 a2 (ix4 (sq n) (at_ n) ⟨k.val / 64, by omega⟩ ⟨k.val % 64, Nat.mod_lt _ (by norm_num)⟩)
  ct n k := a15 (Idealize.ShloMosaic.ix3 (sq n) (at_ n) k)
  g1 k := a1 (ix1 k)
  clng k := a5 (ix1 k)
  clnb k := a6 (ix1 k)
  wpw i j := a7 (ix2 i j)
  slng k := a8 (ix1 k)
  slnb k := a9 (ix1 k)
  wm h t s := if s ≤ t then a10 (Idealize.ShloMosaic.ix3 h t s) else 0
  wbd i j := if i.val / 64 = j.val / 64 then a12 (Idealize.ShloMosaic.ix3 ⟨i.val / 64, by omega⟩
    ⟨i.val % 64, Nat.mod_lt _ (by norm_num)⟩ ⟨j.val % 64, Nat.mod_lt _ (by norm_num)⟩) else 0
  ps k := a13 (ix1 k)
  wout i j := a14 (ix2 i j)

/-- A row's number, from its sequence and its place there. -/
def rw_ (b : Fin 2) (t : Fin 2048) : ℕ := 2048 * b.val + t.val

theorem sq_rw (b : Fin 2) (t : Fin 2048) : sq (rw_ b t) = b := Fin.ext (by
  show (2048 * b.val + t.val) / 2048 % 2 = b.val
  omega)

theorem at_rw (b : Fin 2) (t : Fin 2048) : at_ (rw_ b t) = t := Fin.ext (by
  show (2048 * b.val + t.val) % 2048 = t.val
  omega)

end Cert.Proof.Mixer
end
-- ==== Proof.Mixer.Host.lean ====
/- Hand-written: what the host hands the mixer's backward: the rows the reference computes from the same arguments, and the
   weights rearranged. -/
module

public import Idealize.ShloMosaic.Lib.StableHlo.ReadAt
public import Idealize.ShloMosaic.Lib.Claim
public import proofs.«01_k».proof.Proof.Mixer.Acc
public import proofs.«01_k».proof.Proof.Mixer.Source

@[expose] public section

set_option maxRecDepth 16384

noncomputable section

namespace Cert.Proof.Mixer

open Idealize.ShloMosaic Idealize.ShloMosaic.TcCoe Idealize.SL.Sem
open Cert.MixerKernelIdeal Cert.MixerKernelIdeal.Gen
open Cert.MixerReferenceIdeal.Read (val_main_v15 val_main_v25 val_main_v33 val_main_v34 val_main_v35 val_main_v36 val_main_v37
  val_main_v38 val_main_v39 val_main_v40 val_main_v192)

variable (m : (ℓ : Loc nD τ sig) → Buf (Elt Ideal) ℓ) (c : Dev nD)

/-- An argument array as launched. -/
abbrev arg (b : Ref sig .tc) : Buf (Elt Ideal) ((c : Thread nD τ).loc b) := m ((c : Thread nD τ).loc b)

/-- The rows and weights of the kernel's arguments. -/
def srcOf : Src := src (arg m c main_arg0) (arg m c main_arg1) (arg m c main_arg2) (arg m c main_arg3) (arg m c main_arg4)
  (arg m c main_arg5) (arg m c main_arg6) (arg m c main_arg7) (arg m c main_arg8) (arg m c main_arg9) (arg m c main_arg10)
  (arg m c main_arg12) (arg m c main_arg13) (arg m c main_arg14) (arg m c main_arg15)

/-- The taps the host gathers: thirty zeros before each sequence, then row `t + k`. -/
def taps (y : FVec Ideal S2x2048x384 .f32) : FVec Ideal S2x2048x31x384 .f32 :=
  Host.gather gather_S2x2078x384_S2048x31x1_S2x2048x31x384_03_1_n_n_1_2_21384
    (pad S2x2078x384 ![0, 30, 0] ![0, 0, 0] ![0, 0, 0] y (sitofp (F := Ideal) .f32 (constantI S_ 32 0#32))
      pads_S2x2048x384_S2x2078x384_000_3000_000 h_S_)
    (broadcastInDim S2048x31x1 ![0, 1] bcast_S2048x31_S2048x31x1_0_1
      (addi (broadcastInDim S2048x31 ![0, 1] bcast_S2048x1_S2048x31_0_1
          (broadcastInDim S2048x1 ![0] bcast_S2048_S2048x1_0 (iotaInDim S2048 32 0)))
        (broadcastInDim S2048x31 ![0, 1] bcast_S1x31_S2048x31_0_1
          (broadcastInDim S1x31 ![1] bcast_S31_S1x31_1 (iotaInDim S31 32 0)))))

theorem V73_taps : V m c main_v73 = shapeCast S4096x384 (addf (transpose S2x2048x384 [1, 2, 0]
    (Host.dotGeneral (φ₁ := .f32) dot_S31x384_S2x2048x31x384_S384x2x2048_0_2_n_01_1_3 none (arg m c main_arg3)
      (taps (val_main_v25 (F := Ideal) (arg m c main_arg0) (arg m c main_arg1) (arg m c main_arg2))))
    transposes_S384x2x2048_S2x2048x384_1_2_0)
    (broadcastInDim S2x2048x384 ![0, 1, 2] bcast_S1x1x384_S2x2048x384_0_1_2
          (broadcastInDim S1x1x384 ![2] bcast_S384_S1x1x384_2 (arg m c main_arg4)))) shapeCasts_S2x2048x384_S4096x384 := by
  unfold V hostOps0 hostOps0_1 hostOps0_2 hostOps0_3 hostOps0_4 hostOps0_5 hostOps0_6 hostOps0_7 hostOps0_8
  after_reads_simp
  rfl

theorem word_add (a b : ℕ) (h : a + b < 2 ^ 31) :
    IntOp.addi (BitVec.ofNat 32 a) (BitVec.ofNat 32 b) = BitVec.ofNat 32 (a + b) := by
  apply BitVec.eq_of_toNat_eq
  simp only [IntOp.addi, BitVec.toNat_add, BitVec.toNat_ofNat]
  omega

theorem word_toInt (a : ℕ) (h : a < 2 ^ 31) : (BitVec.ofNat 32 a).toInt.toNat = a := by
  rw [BitVec.toInt_eq_toNat_of_lt (by simp only [BitVec.toNat_ofNat]; omega)]
  simp only [BitVec.toNat_ofNat, Int.toNat_natCast]
  omega

/-- The gather of the taps. -/
abbrev gtap := gather_S2x2078x384_S2048x31x1_S2x2048x31x384_03_1_n_n_1_2_21384

theorem gather_tap (x : S2x2078x384.Idx → EReal) (ix : IVec S2048x31x1 32) (b : Fin 2) (t : Fin 2048) (k : Fin 31)
    (j : Fin 384) (e : (ix (Idealize.ShloMosaic.ix3 t k 0)).toInt.toNat = t.val + k.val) :
    Host.gather gtap x ix (ix4 b t k j)
      = x (Idealize.ShloMosaic.ix3 b ⟨t.val + k.val, by omega⟩ j) := by
  unfold Host.gather
  congr 1
  funext a
  refine Fin.ext ?_
  show gtap.start (ix4 b t k j) ix a + gtap.batchCoord (ix4 b t k j) a + gtap.offCoord (ix4 b t k j) a = _
  rw [GatherDims.batchCoord_eq_zero _ _ _ List.not_mem_nil]
  unfold GatherDims.start
  rcases (by decide : ∀ a : Fin 3, a = 0 ∨ a = 1 ∨ a = 2) a with rfl | rfl | rfl
  · rw [dif_neg (show (0 : Fin 3) ∉ gtap.startIndexMap from by decide)]
    unfold GatherDims.offCoord
    rw [dif_pos ((GatherDims.mem_sKept _ _).mpr ⟨show (0 : Fin 3) ∉ [1] from by decide, List.not_mem_nil⟩)]
    exact Nat.zero_add _
  · rw [dif_pos (show (1 : Fin 3) ∈ gtap.startIndexMap from List.mem_singleton.mpr rfl),
      GatherDims.offCoord_eq_zero _ _ _ (fun h => ((GatherDims.mem_sKept _ _).mp h).1 (List.mem_singleton.mpr rfl))]
    have hsi : gtap.siIdx (ix4 b t k j) ⟨List.idxOf (1 : Fin 3) gtap.startIndexMap,
        List.idxOf_lt_length_iff.2 (List.mem_singleton.mpr rfl)⟩ = Idealize.ShloMosaic.ix3 t k 0 := by
      funext b; refine Fin.ext ?_
      match b with
      | ⟨0, _⟩ => rfl
      | ⟨1, _⟩ => rfl
      | ⟨2, _⟩ => rfl
    rw [hsi, e]
    show min (t.val + k.val) 2077 + 0 + 0 = t.val + k.val
    omega
  · rw [dif_neg (show (2 : Fin 3) ∉ gtap.startIndexMap from by decide)]
    unfold GatherDims.offCoord
    rw [dif_pos ((GatherDims.mem_sKept _ _).mpr ⟨show (2 : Fin 3) ∉ [1] from by decide, List.not_mem_nil⟩)]
    exact Nat.zero_add _

theorem taps_eq (y : FVec Ideal S2x2048x384 .f32) (b : Fin 2) (t : Fin 2048) (k : Fin 31) (j : Fin 384) :
    taps y (ix4 b t k j) = if h : 30 ≤ t.val + k.val then
      y (Idealize.ShloMosaic.ix3 b ⟨t.val + k.val - 30, by omega⟩ j) else 0 := by
  unfold taps
  rw [gather_tap _ _ b t k j (by pointwise; rw [word_add _ _ (by omega), word_toInt _ (by omega)])]
  pointwise
  by_cases h : 30 ≤ t.val + k.val
  · rw [dif_pos ⟨h, by omega⟩, dif_pos h]
  · rw [dif_neg (fun e => h e.1), dif_neg h]
    show ((((0#32 : BitVec 32).toInt : ℝ)) : EReal) = 0
    simp

/-- A truth value as a number. -/
theorem bit_num {b : BitVec 1} {p : Prop} [Decidable p] (h : b = 1#1 ↔ p) :
    FloatOps.uitofp (F := Ideal) .f32 b = if p then (1 : EReal) else 0 := by
  show ((b.toNat : ℝ) : EReal) = _
  by_cases e : p
  · rw [if_pos e, h.mpr e]; norm_num
  · rw [if_neg e, show b = 0#1 from by
      exact (by decide : ∀ b : BitVec 1, b ≠ 1#1 → b = 0#1) b fun k => e (h.mp k)]
    norm_num

theorem eq_bit (a b : ℕ) (ha : a < 2 ^ 32) (hb : b < 2 ^ 32) :
    IntOp.cmpi .eq (BitVec.ofNat 32 a) (BitVec.ofNat 32 b) = 1#1 ↔ a = b := by
  show BitVec.ofBool (BitVec.ofNat 32 a == BitVec.ofNat 32 b) = 1#1 ↔ a = b
  by_cases e : a = b
  · simp [e]
  · have : BitVec.ofNat 32 a ≠ BitVec.ofNat 32 b := fun k => e (by
      have := congrArg BitVec.toNat k
      simp only [BitVec.toNat_ofNat] at this; omega)
    rw [show (BitVec.ofNat 32 a == BitVec.ofNat 32 b) = false from beq_eq_false_iff_ne.mpr this]
    simp [e]

theorem ref_tap (t t' : Fin 2048) (k : Fin 31) : val_main_v33 (F := Ideal) (Idealize.ShloMosaic.ix3 k t t')
    = if t'.val + 30 = t.val + k.val then 1 else 0 := by
  pointwise [val_main_v33, Cert.MixerReferenceIdeal.Read.val_main_v32, Cert.MixerReferenceIdeal.Read.val_main_v31,
    Cert.MixerReferenceIdeal.Read.val_main_v30, Cert.MixerReferenceIdeal.Read.val_main_v29,
    Cert.MixerReferenceIdeal.Read.val_main_v28, Cert.MixerReferenceIdeal.Read.val_main_v27,
    Cert.MixerReferenceIdeal.Read.val_main_v26, Cert.MixerReferenceIdeal.Read.val_main_c]
  rw [show (30#32 : BitVec 32) = BitVec.ofNat 32 30 from rfl, word_add _ _ (by omega), word_add _ _ (by omega)]
  exact bit_num (eq_bit _ _ (by omega) (by omega))

theorem V73 (n : Fin 4096) (k : Fin 384) : (V m c main_v73 : Vec Ideal S4096x384 .f32) (ix2 n k) = (srcOf m c).yc n.val k := by
  rw [V73_taps]
  pointwise
  show _ = val_main_v40 (F := Ideal) (arg m c main_arg0) (arg m c main_arg1) (arg m c main_arg2) (arg m c main_arg3)
    (arg m c main_arg4) (Idealize.ShloMosaic.ix3 (sq n.val) (at_ n.val) k)
  pointwise [val_main_v40, val_main_v39, val_main_v38, val_main_v37, val_main_v36, val_main_v35, val_main_v34]
  refine congrArg (· + _) (Finset.sum_congr rfl fun t _ => congrArg _ ?_)
  have eb : (⟨n.val / 2048, by omega⟩ : Fin 2) = sq n.val := Fin.ext (by show n.val / 2048 = n.val / 2048 % 2; omega)
  rw [eb, taps_eq]
  generalize val_main_v25 (F := Ideal) (arg m c main_arg0) (arg m c main_arg1) (arg m c main_arg2) = y
  simp only [ref_tap]
  by_cases h : 30 ≤ n.val % 2048 + t.val
  · rw [dif_pos h, Finset.sum_eq_single (⟨n.val % 2048 + t.val - 30, by omega⟩ : Fin 2048)]
    · rw [if_pos (by show n.val % 2048 + t.val - 30 + 30 = n.val % 2048 + t.val; omega), mul_one]
    · intro j _ hj
      rw [if_neg (fun e => hj (Fin.ext (by
        have e' : j.val + 30 = n.val % 2048 + t.val := e
        show j.val = _ - 30; omega))), mul_zero]
    · intro h'; exact absurd (Finset.mem_univ _) h'
  · rw [dif_neg h, Finset.sum_eq_zero]
    intro j _
    rw [if_neg (fun e => h (by
        have e' : j.val + 30 = n.val % 2048 + t.val := e
        omega)), mul_zero]

/-- Row `n` is a row of its sequence. -/
theorem sq_eq (n : Fin 4096) : (⟨n.val / 2048, by omega⟩ : Fin 2) = sq n.val :=
  Fin.ext (by show n.val / 2048 = n.val / 2048 % 2; omega)

theorem V147 (n : Fin 4096) (k : Fin 1024) : (V m c main_v147 : Vec Ideal S4096x1024 .f32) (ix2 n k) = (srcOf m c).ct n.val k := by
  unfold V hostOps0 hostOps0_1 hostOps0_2 hostOps0_3 hostOps0_4 hostOps0_5 hostOps0_6 hostOps0_7 hostOps0_8
  after_reads_at
  rw [sq_eq]; rfl

theorem V33 (n : Fin 4096) (k : Fin 1024) : (V m c main_v33 : Vec Ideal S4096x1024 .f32) (ix2 n k) = (srcOf m c).x n.val k := by
  unfold V hostOps0 hostOps0_1 hostOps0_2 hostOps0_3 hostOps0_4 hostOps0_5 hostOps0_6 hostOps0_7 hostOps0_8
  after_reads_at
  rw [sq_eq]; rfl

theorem V146 : V m c main_v146 = shapeCast S4096x1792 (val_main_v15 (F := Ideal) (arg m c main_arg0) (arg m c main_arg1)
    (arg m c main_arg2)) (by decide +kernel) := by
  unfold V hostOps0 hostOps0_1 hostOps0_2 hostOps0_3 hostOps0_4 hostOps0_5 hostOps0_6 hostOps0_7 hostOps0_8
  after_reads_simp
  rfl

theorem V146_at (n : Fin 4096) (k : Fin 1792) : (V m c main_v146 : Vec Ideal S4096x1792 .f32) (ix2 n k) = (srcOf m c).z n.val k := by
  rw [V146]; pointwise
  rw [sq_eq]; rfl

set_option maxHeartbeats 2000000 in
theorem V145 : V m c main_v145 = shapeCast S4096x256 (val_main_v192 (F := Ideal) (arg m c main_arg0) (arg m c main_arg1)
    (arg m c main_arg2)) (by decide +kernel) := by
  unfold V hostOps0 hostOps0_1 hostOps0_2 hostOps0_3 hostOps0_4 hostOps0_5 hostOps0_6 hostOps0_7 hostOps0_8
  after_reads_simp
  rfl

theorem V145_at (n : Fin 4096) (k : Fin 256) : (V m c main_v145 : Vec Ideal S4096x256 .f32) (ix2 n k) = (srcOf m c).p n.val k := by
  rw [V145]; pointwise
  rw [sq_eq]; rfl

theorem V5 (k : Fin 1024) : (V m c main_v5 : Vec Ideal S1x1024 .f32) (ix2 0 k) = (srcOf m c).g1 k := by
  unfold V hostOps0 hostOps0_1 hostOps0_2 hostOps0_3 hostOps0_4 hostOps0_5 hostOps0_6 hostOps0_7 hostOps0_8
  after_reads_at
  rfl

theorem V7 (k : Fin 384) : (V m c main_v7 : Vec Ideal S1x384 .f32) (ix2 0 k) = (srcOf m c).clng k := by
  unfold V hostOps0 hostOps0_1 hostOps0_2 hostOps0_3 hostOps0_4 hostOps0_5 hostOps0_6 hostOps0_7 hostOps0_8
  after_reads_at
  rfl

theorem V8 (k : Fin 384) : (V m c main_v8 : Vec Ideal S1x384 .f32) (ix2 0 k) = (srcOf m c).clnb k := by
  unfold V hostOps0 hostOps0_1 hostOps0_2 hostOps0_3 hostOps0_4 hostOps0_5 hostOps0_6 hostOps0_7 hostOps0_8
  after_reads_at
  rfl

theorem V9 (k : Fin 384) : (V m c main_v9 : Vec Ideal S1x384 .f32) (ix2 0 k) = (srcOf m c).slng k := by
  unfold V hostOps0 hostOps0_1 hostOps0_2 hostOps0_3 hostOps0_4 hostOps0_5 hostOps0_6 hostOps0_7 hostOps0_8
  after_reads_at
  rfl

theorem V10 (k : Fin 384) : (V m c main_v10 : Vec Ideal S1x384 .f32) (ix2 0 k) = (srcOf m c).slnb k := by
  unfold V hostOps0 hostOps0_1 hostOps0_2 hostOps0_3 hostOps0_4 hostOps0_5 hostOps0_6 hostOps0_7 hostOps0_8
  after_reads_at
  rfl

theorem V28 (k : Fin 256) : (V m c main_v28 : Vec Ideal S1x256 .f32) (ix2 0 k) = (srcOf m c).ps k := by
  unfold V hostOps0 hostOps0_1 hostOps0_2 hostOps0_3 hostOps0_4 hostOps0_5 hostOps0_6 hostOps0_7 hostOps0_8
  after_reads_at
  rfl

theorem V31 (j k : Fin 1024) : (V m c main_v31 : Vec Ideal S1024x1024 .bf16) (ix2 j k) = (srcOf m c).wout j k := by
  unfold V hostOps0 hostOps0_1 hostOps0_2 hostOps0_3 hostOps0_4 hostOps0_5 hostOps0_6 hostOps0_7 hostOps0_8
  after_reads_at
  rfl

theorem V32 (j k : Fin 384) : (V m c main_v32 : Vec Ideal S384x384 .bf16) (ix2 j k) = (srcOf m c).wpw j k := by
  unfold V hostOps0 hostOps0_1 hostOps0_2 hostOps0_3 hostOps0_4 hostOps0_5 hostOps0_6 hostOps0_7 hostOps0_8
  after_reads_at
  rfl

theorem V11 (h : Fin 4) (s t : Fin 128) : (V m c main_v11 : Vec Ideal S4x128x128 .bf16) (Idealize.ShloMosaic.ix3 h s t) = (srcOf m c).wm h t s := by
  unfold V hostOps0 hostOps0_1 hostOps0_2 hostOps0_3 hostOps0_4 hostOps0_5 hostOps0_6 hostOps0_7 hostOps0_8
  after_reads_at
  refine (select_iff ((by decide +kernel : ∀ t s : Fin 128, Scalar.select (IntOp.cmpi .sge (IntOp.addi (BitVec.ofNat 32 t.val) 0#32)
    (BitVec.ofNat 32 s.val)) 1#1 0#1 = 1#1 ↔ s ≤ t) t s) _ _).trans ?_
  show _ = if s ≤ t then _ else _
  refine if_congr Iff.rfl rfl ?_
  show Ideal.ofBits .f32 0#32 = 0
  exact Ideal.ofBits_zero .f32

theorem bd_bit (i j : Fin 256) : FloatOps.uitofp (F := Ideal) .f32 (IntOp.cmpi .eq (IntOp.addi (BitVec.ofNat 32 (i.val / 64)) 0#32)
    (BitVec.ofNat 32 (j.val / 64))) = if i.val / 64 = j.val / 64 then (1 : EReal) else 0 := by
  rw [word_add _ 0 (by omega), Nat.add_zero]
  exact bit_num (eq_bit _ _ (by omega) (by omega))

theorem src_wbd (i j : Fin 256) : (srcOf m c).wbd i j = if i.val / 64 = j.val / 64 then
    arg m c main_arg12 (Idealize.ShloMosaic.ix3 ⟨i.val / 64, by omega⟩ ⟨i.val % 64, Nat.mod_lt _ (by norm_num)⟩
      ⟨j.val % 64, Nat.mod_lt _ (by norm_num)⟩) else (0 : EReal) := rfl

set_option maxHeartbeats 1000000 in
theorem V27 (i j : Fin 256) : (V m c main_v27 : Vec Ideal S256x256 .bf16) (ix2 i j) = (srcOf m c).wbd i j := by
  unfold V hostOps0 hostOps0_1 hostOps0_2 hostOps0_3 hostOps0_4 hostOps0_5 hostOps0_6 hostOps0_7 hostOps0_8
  after_reads_at
  rw [bd_bit]
  rw [src_wbd]
  by_cases e : i.val / 64 = j.val / 64
  · rw [if_pos e, if_pos e, one_mul]
  · rw [if_neg e, if_neg e, zero_mul]

end Cert.Proof.Mixer
end
-- ==== Proof.Mixer.Blocks.lean ====
/- Hand-written: the blocks a point of the mixer's backward reads are rows of the host's arrays. -/
module

public import proofs.«01_k».proof.Proof.Mixer.Host

@[expose] public section

set_option maxRecDepth 16384

noncomputable section

namespace Cert.Proof.Mixer

open Idealize.ShloMosaic Idealize.ShloMosaic.TcCoe Idealize.SL.Sem
open Cert.MixerKernelIdeal Cert.MixerKernelIdeal.Gen

variable (m : (ℓ : Loc nD τ sig) → Buf (Elt Ideal) ℓ) (c : Dev nD)

/-! ## The blocks -/

theorem ext2 {n k : ℕ} (i : (⟨2, ![n, k]⟩ : Shape).Idx) (a : Fin n) (b : Fin k) (h0 : (i 0).val = a.val) (h1 : (i 1).val = b.val) :
    i = ix2 a b := by
  funext x; refine Fin.ext ?_
  match x with
  | ⟨0, _⟩ => exact h0
  | ⟨1, _⟩ => exact h1

/-- The row of the call's arrays that row `p` of point `t`'s block is. -/
def rowOf (t : Fin cfg0.N) (p : Fin 256) : Fin 4096 := ⟨256 * (15 - t.val) + p.val, by omega⟩

theorem idx0 : ∀ t : Fin cfg0.N, win0_0.index t 0 = 15 - t.val ∧ win0_0.index t 1 = 0 := (by decide +kernel : ∀ t : Fin grid0.N, _)
theorem idx1 : ∀ t : Fin cfg0.N, win0_1.index t 0 = 15 - t.val ∧ win0_1.index t 1 = 0 := (by decide +kernel : ∀ t : Fin grid0.N, _)
theorem idx2 : ∀ t : Fin cfg0.N, win0_2.index t 0 = 15 - t.val ∧ win0_2.index t 1 = 0 := (by decide +kernel : ∀ t : Fin grid0.N, _)
theorem idx3 : ∀ t : Fin cfg0.N, win0_3.index t 0 = 15 - t.val ∧ win0_3.index t 1 = 0 := (by decide +kernel : ∀ t : Fin grid0.N, _)
theorem idx4 : ∀ t : Fin cfg0.N, win0_4.index t 0 = 15 - t.val ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 0 ∧ win0_10.index t 1 = 0 := (by decide +kernel : ∀ t : Fin grid0.N, _)
theorem idx11 : ∀ t : Fin cfg0.N, win0_11.index t 0 = 0 ∧ win0_11.index t 1 = 0 := (by decide +kernel : ∀ t : Fin grid0.N, _)
theorem idx12 : ∀ t : Fin cfg0.N, win0_12.index t 0 = 0 ∧ win0_12.index t 1 = 0 := (by decide +kernel : ∀ t : Fin grid0.N, _)
theorem idx16 : ∀ t : Fin cfg0.N, win0_16.index t 0 = 0 ∧ win0_16.index t 1 = 0 := (by decide +kernel : ∀ t : Fin grid0.N, _)
theorem idx17 : ∀ t : Fin cfg0.N, win0_17.index t 0 = 0 ∧ win0_17.index t 1 = 0 := (by decide +kernel : ∀ t : Fin grid0.N, _)
theorem idx18 : ∀ t : Fin cfg0.N, win0_18.index t 0 = 0 ∧ win0_18.index t 1 = 0 := (by decide +kernel : ∀ t : Fin grid0.N, _)
theorem idx14 : ∀ t : Fin cfg0.N, win0_14.index t 0 = 0 ∧ win0_14.index t 1 = 0 ∧ win0_14.index t 2 = 0 :=
  (by decide +kernel : ∀ t : Fin grid0.N, _)

theorem read0 (t : Fin cfg0.N) (x : S256x1024.Idx) : (blocks m c t).x0 x = iblk m c 0 t x := by
  unfold blocks
  with_reducible rfl
theorem blk0 (t : Fin cfg0.N) (p : Fin 256) (k : Fin 1024) : (blocks m c t).x0 (ix2 p k) = (V m c main_v147 : Vec Ideal S4096x1024 .f32) (ix2 (rowOf t p) k) := by
  rw [read0]
  unfold iblk
  rw [View.read_apply]
  refine congrArg (V m c main_v147 : Vec Ideal S4096x1024 .f32) (ext2 (n := 4096) (k := 1024) _ (rowOf t p) k ?_ ?_)
  · show win0_0.index t 0 * 256 + 1 * p.val = 256 * (15 - t.val) + p.val; rw [(idx0 t).1]; omega
  · show win0_0.index t 1 * 1024 + 1 * k.val = k.val; rw [(idx0 t).2]; omega

theorem read1 (t : Fin cfg0.N) (x : S256x1024.Idx) : (blocks m c t).x1 x = iblk m c 1 t x := by
  unfold blocks
  with_reducible rfl
theorem blk1 (t : Fin cfg0.N) (p : Fin 256) (k : Fin 1024) : (blocks m c t).x1 (ix2 p k) = (V m c main_v33 : Vec Ideal S4096x1024 .f32) (ix2 (rowOf t p) k) := by
  rw [read1]
  unfold iblk
  rw [View.read_apply]
  refine congrArg (V m c main_v33 : Vec Ideal S4096x1024 .f32) (ext2 (n := 4096) (k := 1024) _ (rowOf t p) k ?_ ?_)
  · show win0_1.index t 0 * 256 + 1 * p.val = 256 * (15 - t.val) + p.val; rw [(idx1 t).1]; omega
  · show win0_1.index t 1 * 1024 + 1 * k.val = k.val; rw [(idx1 t).2]; omega

theorem read2 (t : Fin cfg0.N) (x : S256x1792.Idx) : (blocks m c t).x2 x = iblk m c 2 t x := by
  unfold blocks
  with_reducible rfl
theorem blk2 (t : Fin cfg0.N) (p : Fin 256) (k : Fin 1792) : (blocks m c t).x2 (ix2 p k) = (V m c main_v146 : Vec Ideal S4096x1792 .f32) (ix2 (rowOf t p) k) := by
  rw [read2]
  unfold iblk
  rw [View.read_apply]
  refine congrArg (V m c main_v146 : Vec Ideal S4096x1792 .f32) (ext2 (n := 4096) (k := 1792) _ (rowOf t p) k ?_ ?_)
  · show win0_2.index t 0 * 256 + 1 * p.val = 256 * (15 - t.val) + p.val; rw [(idx2 t).1]; omega
  · show win0_2.index t 1 * 1792 + 1 * k.val = k.val; rw [(idx2 t).2]; omega

theorem read3 (t : Fin cfg0.N) (x : S256x384.Idx) : (blocks m c t).x3 x = iblk m c 3 t x := by
  unfold blocks
  with_reducible rfl
theorem blk3 (t : Fin cfg0.N) (p : Fin 256) (k : Fin 384) : (blocks m c t).x3 (ix2 p k) = (V m c main_v73 : Vec Ideal S4096x384 .f32) (ix2 (rowOf t p) k) := by
  rw [read3]
  unfold iblk
  rw [View.read_apply]
  refine congrArg (V m c main_v73 : Vec Ideal S4096x384 .f32) (ext2 (n := 4096) (k := 384) _ (rowOf t p) k ?_ ?_)
  · show win0_3.index t 0 * 256 + 1 * p.val = 256 * (15 - t.val) + p.val; rw [(idx3 t).1]; omega
  · show win0_3.index t 1 * 384 + 1 * k.val = k.val; rw [(idx3 t).2]; omega

theorem read4 (t : Fin cfg0.N) (x : S256x256.Idx) : (blocks m c t).x4 x = iblk m c 4 t x := by
  unfold blocks
  with_reducible rfl
theorem blk4 (t : Fin cfg0.N) (p : Fin 256) (k : Fin 256) : (blocks m c t).x4 (ix2 p k) = (V m c main_v145 : Vec Ideal S4096x256 .f32) (ix2 (rowOf t p) k) := by
  rw [read4]
  unfold iblk
  rw [View.read_apply]
  refine congrArg (V m c main_v145 : Vec Ideal S4096x256 .f32) (ext2 (n := 4096) (k := 256) _ (rowOf t p) k ?_ ?_)
  · show win0_4.index t 0 * 256 + 1 * p.val = 256 * (15 - t.val) + p.val; rw [(idx4 t).1]; omega
  · show win0_4.index t 1 * 256 + 1 * k.val = k.val; rw [(idx4 t).2]; omega

theorem read5 (t : Fin cfg0.N) (x : S1x1024.Idx) : (blocks m c t).x5 x = iblk m c 5 t x := by
  unfold blocks
  with_reducible rfl
theorem blk5 (t : Fin cfg0.N) (k : Fin 1024) : (blocks m c t).x5 (ix2 0 k) = (V m c main_v5 : Vec Ideal S1x1024 .f32) (ix2 0 k) := by
  rw [read5]
  unfold iblk
  rw [View.read_apply]
  refine congrArg (V m c main_v5 : Vec Ideal S1x1024 .f32) (ext2 (n := 1) (k := 1024) _ 0 k ?_ ?_)
  · show win0_5.index t 0 * 1 + 1 * 0 = 0; rw [(idx5 t).1]
  · show win0_5.index t 1 * 1024 + 1 * k.val = k.val; rw [(idx5 t).2]; omega

theorem read8 (t : Fin cfg0.N) (x : S1x384.Idx) : (blocks m c t).x8 x = iblk m c 8 t x := by
  unfold blocks
  with_reducible rfl
theorem blk8 (t : Fin cfg0.N) (k : Fin 384) : (blocks m c t).x8 (ix2 0 k) = (V m c main_v7 : Vec Ideal S1x384 .f32) (ix2 0 k) := by
  rw [read8]
  unfold iblk
  rw [View.read_apply]
  refine congrArg (V m c main_v7 : Vec Ideal S1x384 .f32) (ext2 (n := 1) (k := 384) _ 0 k ?_ ?_)
  · show win0_8.index t 0 * 1 + 1 * 0 = 0; rw [(idx8 t).1]
  · show win0_8.index t 1 * 384 + 1 * k.val = k.val; rw [(idx8 t).2]; omega

theorem read9 (t : Fin cfg0.N) (x : S1x384.Idx) : (blocks m c t).x9 x = iblk m c 9 t x := by
  unfold blocks
  with_reducible rfl
theorem blk9 (t : Fin cfg0.N) (k : Fin 384) : (blocks m c t).x9 (ix2 0 k) = (V m c main_v8 : Vec Ideal S1x384 .f32) (ix2 0 k) := by
  rw [read9]
  unfold iblk
  rw [View.read_apply]
  refine congrArg (V m c main_v8 : Vec Ideal S1x384 .f32) (ext2 (n := 1) (k := 384) _ 0 k ?_ ?_)
  · show win0_9.index t 0 * 1 + 1 * 0 = 0; rw [(idx9 t).1]
  · show win0_9.index t 1 * 384 + 1 * k.val = k.val; rw [(idx9 t).2]; omega

theorem read10 (t : Fin cfg0.N) (x : S384x384.Idx) : (blocks m c t).x10 x = iblk m c 10 t x := by
  unfold blocks
  with_reducible rfl
theorem blk10 (t : Fin cfg0.N) (j k : Fin 384) : (blocks m c t).x10 (ix2 j k) = (V m c main_v32 : Vec Ideal S384x384 .bf16) (ix2 j k) := by
  rw [read10]
  unfold iblk
  rw [View.read_apply]
  refine congrArg (V m c main_v32 : Vec Ideal S384x384 .bf16) (ext2 (n := 384) (k := 384) _ j k ?_ ?_)
  · show win0_10.index t 0 * 384 + 1 * j.val = j.val; rw [(idx10 t).1]; omega
  · show win0_10.index t 1 * 384 + 1 * k.val = k.val; rw [(idx10 t).2]; omega

theorem read11 (t : Fin cfg0.N) (x : S1x384.Idx) : (blocks m c t).x11 x = iblk m c 11 t x := by
  unfold blocks
  with_reducible rfl
theorem blk11 (t : Fin cfg0.N) (k : Fin 384) : (blocks m c t).x11 (ix2 0 k) = (V m c main_v9 : Vec Ideal S1x384 .f32) (ix2 0 k) := by
  rw [read11]
  unfold iblk
  rw [View.read_apply]
  refine congrArg (V m c main_v9 : Vec Ideal S1x384 .f32) (ext2 (n := 1) (k := 384) _ 0 k ?_ ?_)
  · show win0_11.index t 0 * 1 + 1 * 0 = 0; rw [(idx11 t).1]
  · show win0_11.index t 1 * 384 + 1 * k.val = k.val; rw [(idx11 t).2]; omega

theorem read12 (t : Fin cfg0.N) (x : S1x384.Idx) : (blocks m c t).x12 x = iblk m c 12 t x := by
  unfold blocks
  with_reducible rfl
theorem blk12 (t : Fin cfg0.N) (k : Fin 384) : (blocks m c t).x12 (ix2 0 k) = (V m c main_v10 : Vec Ideal S1x384 .f32) (ix2 0 k) := by
  rw [read12]
  unfold iblk
  rw [View.read_apply]
  refine congrArg (V m c main_v10 : Vec Ideal S1x384 .f32) (ext2 (n := 1) (k := 384) _ 0 k ?_ ?_)
  · show win0_12.index t 0 * 1 + 1 * 0 = 0; rw [(idx12 t).1]
  · show win0_12.index t 1 * 384 + 1 * k.val = k.val; rw [(idx12 t).2]; omega

theorem read14 (t : Fin cfg0.N) (x : S4x128x128.Idx) : (blocks m c t).x14 x = iblk m c 14 t x := by
  unfold blocks
  with_reducible rfl
theorem blk14 (t : Fin cfg0.N) (h : Fin 4) (s k : Fin 128) : (blocks m c t).x14 (Idealize.ShloMosaic.ix3 h s k) = (V m c main_v11 : Vec Ideal S4x128x128 .bf16) (Idealize.ShloMosaic.ix3 h s k) := by
  rw [read14]
  unfold iblk
  rw [View.read_apply]
  refine congrArg (V m c main_v11 : Vec Ideal S4x128x128 .bf16) (funext fun a => Fin.ext ?_)
  match a with
  | ⟨0, _⟩ => show win0_14.index t 0 * 4 + 1 * h.val = h.val; rw [(idx14 t).1]; omega
  | ⟨1, _⟩ => show win0_14.index t 1 * 128 + 1 * s.val = s.val; rw [(idx14 t).2.1]; omega
  | ⟨2, _⟩ => show win0_14.index t 2 * 128 + 1 * k.val = k.val; rw [(idx14 t).2.2]; omega

theorem read16 (t : Fin cfg0.N) (x : S256x256.Idx) : (blocks m c t).x16 x = iblk m c 16 t x := by
  unfold blocks
  with_reducible rfl
theorem blk16 (t : Fin cfg0.N) (j k : Fin 256) : (blocks m c t).x16 (ix2 j k) = (V m c main_v27 : Vec Ideal S256x256 .bf16) (ix2 j k) := by
  rw [read16]
  unfold iblk
  rw [View.read_apply]
  refine congrArg (V m c main_v27 : Vec Ideal S256x256 .bf16) (ext2 (n := 256) (k := 256) _ j k ?_ ?_)
  · show win0_16.index t 0 * 256 + 1 * j.val = j.val; rw [(idx16 t).1]; omega
  · show win0_16.index t 1 * 256 + 1 * k.val = k.val; rw [(idx16 t).2]; omega

theorem read17 (t : Fin cfg0.N) (x : S1x256.Idx) : (blocks m c t).x17 x = iblk m c 17 t x := by
  unfold blocks
  with_reducible rfl
theorem blk17 (t : Fin cfg0.N) (k : Fin 256) : (blocks m c t).x17 (ix2 0 k) = (V m c main_v28 : Vec Ideal S1x256 .f32) (ix2 0 k) := by
  rw [read17]
  unfold iblk
  rw [View.read_apply]
  refine congrArg (V m c main_v28 : Vec Ideal S1x256 .f32) (ext2 (n := 1) (k := 256) _ 0 k ?_ ?_)
  · show win0_17.index t 0 * 1 + 1 * 0 = 0; rw [(idx17 t).1]
  · show win0_17.index t 1 * 256 + 1 * k.val = k.val; rw [(idx17 t).2]; omega

theorem read18 (t : Fin cfg0.N) (x : S1024x1024.Idx) : (blocks m c t).x18 x = iblk m c 18 t x := by
  unfold blocks
  with_reducible rfl
theorem blk18 (t : Fin cfg0.N) (j k : Fin 1024) : (blocks m c t).x18 (ix2 j k) = (V m c main_v31 : Vec Ideal S1024x1024 .bf16) (ix2 j k) := by
  rw [read18]
  unfold iblk
  rw [View.read_apply]
  refine congrArg (V m c main_v31 : Vec Ideal S1024x1024 .bf16) (ext2 (n := 1024) (k := 1024) _ j k ?_ ?_)
  · show win0_18.index t 0 * 1024 + 1 * j.val = j.val; rw [(idx18 t).1]; omega
  · show win0_18.index t 1 * 1024 + 1 * k.val = k.val; rw [(idx18 t).2]; omega

theorem field0 (t : Fin cfg0.N) (p : Fin 256) (k : Fin 1024) :
    (blocks m c t).x0 (ix2 p k) = (srcOf m c).ct (256 * (15 - t.val) + p.val) k :=
  (blk0 m c t p k).trans (V147 m c (rowOf t p) k)

theorem field1 (t : Fin cfg0.N) (p : Fin 256) (k : Fin 1024) :
    (blocks m c t).x1 (ix2 p k) = (srcOf m c).x (256 * (15 - t.val) + p.val) k :=
  (blk1 m c t p k).trans (V33 m c (rowOf t p) k)

theorem field2 (t : Fin cfg0.N) (p : Fin 256) (k : Fin 1792) :
    (blocks m c t).x2 (ix2 p k) = (srcOf m c).z (256 * (15 - t.val) + p.val) k :=
  (blk2 m c t p k).trans (V146_at m c (rowOf t p) k)

theorem field3 (t : Fin cfg0.N) (p : Fin 256) (k : Fin 384) :
    (blocks m c t).x3 (ix2 p k) = (srcOf m c).yc (256 * (15 - t.val) + p.val) k :=
  (blk3 m c t p k).trans (V73 m c (rowOf t p) k)

theorem field4 (t : Fin cfg0.N) (p : Fin 256) (k : Fin 256) :
    (blocks m c t).x4 (ix2 p k) = (srcOf m c).p (256 * (15 - t.val) + p.val) k :=
  (blk4 m c t p k).trans (V145_at m c (rowOf t p) k)

theorem field5 (t : Fin cfg0.N) (k : Fin 1024) :
    (blocks m c t).x5 (ix2 0 k) = (srcOf m c).g1 k :=
  (blk5 m c t k).trans (V5 m c k)

theorem field8 (t : Fin cfg0.N) (k : Fin 384) :
    (blocks m c t).x8 (ix2 0 k) = (srcOf m c).clng k :=
  (blk8 m c t k).trans (V7 m c k)

theorem field9 (t : Fin cfg0.N) (k : Fin 384) :
    (blocks m c t).x9 (ix2 0 k) = (srcOf m c).clnb k :=
  (blk9 m c t k).trans (V8 m c k)

theorem field10 (t : Fin cfg0.N) (j k : Fin 384) :
    (blocks m c t).x10 (ix2 j k) = (srcOf m c).wpw j k :=
  (blk10 m c t j k).trans (V32 m c j k)

theorem field11 (t : Fin cfg0.N) (k : Fin 384) :
    (blocks m c t).x11 (ix2 0 k) = (srcOf m c).slng k :=
  (blk11 m c t k).trans (V9 m c k)

theorem field12 (t : Fin cfg0.N) (k : Fin 384) :
    (blocks m c t).x12 (ix2 0 k) = (srcOf m c).slnb k :=
  (blk12 m c t k).trans (V10 m c k)

theorem field14 (t : Fin cfg0.N) (h : Fin 4) (s k : Fin 128) :
    (blocks m c t).x14 (Idealize.ShloMosaic.ix3 h s k) = (srcOf m c).wm h k s :=
  (blk14 m c t h s k).trans (V11 m c h s k)

theorem field16 (t : Fin cfg0.N) (j k : Fin 256) :
    (blocks m c t).x16 (ix2 j k) = (srcOf m c).wbd j k :=
  (blk16 m c t j k).trans (V27 m c j k)

theorem field17 (t : Fin cfg0.N) (k : Fin 256) :
    (blocks m c t).x17 (ix2 0 k) = (srcOf m c).ps k :=
  (blk17 m c t k).trans (V28 m c k)

theorem field18 (t : Fin cfg0.N) (j k : Fin 1024) :
    (blocks m c t).x18 (ix2 j k) = (srcOf m c).wout j k :=
  (blk18 m c t j k).trans (V31 m c j k)

/-- A point's blocks are the rows `256 (15 - t) …` of the call's arrays and the whole weights. -/
theorem tile_of (t : Fin cfg0.N) : Tile (srcOf m c) (256 * (15 - t.val)) (blocks m c t) :=
  ⟨field0 m c t, field1 m c t, field2 m c t, field3 m c t, field4 m c t, field5 m c t, field8 m c t, field9 m c t, field10 m c t, field11 m c t, field12 m c t, field14 m c t, field16 m c t, field17 m c t, field18 m c t⟩

end Cert.Proof.Mixer
end
-- ==== Proof.Mixer.KernelResult.lean ====
/- Hand-written: what the kernel's run leaves in its twelve results. -/
module

public import proofs.«01_k».proof.Proof.Mixer.Out
public import proofs.«01_k».proof.Proof.Mixer.Blocks

@[expose] public section

set_option maxRecDepth 16384
set_option maxHeartbeats 4000000

noncomputable section

namespace Cert.Proof.Mixer

open Idealize.ShloMosaic Idealize.ShloMosaic.TcCoe Idealize.SL.Sem
open Cert.MixerKernelIdeal Cert.MixerKernelIdeal.Gen

variable (m : (ℓ : Loc nD τ sig) → Buf (Elt Ideal) ℓ) (c : Dev nD)

/-- An index of a one-row array. -/
theorem one_row {n : ℕ} {α : Type} {f g : (⟨2, ![1, n]⟩ : Shape).Idx → α} (h : ∀ j : Fin n, f (ix2 0 j) = g (ix2 0 j)) : f = g :=
  funext fun i => by
    rw [eq_ix2 i, show i 0 = (0 : Fin 1) from Subsingleton.elim (α := Fin 1) _ _]
    exact h (i 1)

theorem out_dconvb : (st m c 16).o26 = Out.dconvb (srcOf m c) := one_row fun j => end_dconvb m c _ (tile_of m c) j
theorem out_dclng : (st m c 16).o27 = Out.dclng (srcOf m c) := one_row fun j => end_dclng m c _ (tile_of m c) j
theorem out_dclnb : (st m c 16).o28 = Out.dclnb (srcOf m c) := one_row fun j => end_dclnb m c _ (tile_of m c) j
theorem out_dslng : (st m c 16).o29 = Out.dslng (srcOf m c) := one_row fun j => end_dslng m c _ (tile_of m c) j
theorem out_dslnb : (st m c 16).o30 = Out.dslnb (srcOf m c) := one_row fun j => end_dslnb m c _ (tile_of m c) j
theorem out_dps : (st m c 16).o34 = Out.dps (srcOf m c) := one_row fun j => end_dps m c _ (tile_of m c) j
theorem out_dwm : (st m c 16).o31 = Out.dwm (srcOf m c) :=
  funext fun i => by rw [eq_ix3 i]; exact end_dwm m c _ (tile_of m c) _ _ _
theorem out_dbs : (st m c 16).o32 = Out.dbs (srcOf m c) :=
  funext fun i => by rw [eq_ix2 i]; exact end_dbs m c _ (tile_of m c) _ _
theorem out_dwbd : (st m c 16).o33 = Out.dwbd (srcOf m c) :=
  funext fun i => by rw [eq_ix2 i]; exact end_dwbd m c _ (tile_of m c) _ _

/-- The run ends with the closed forms in the twelve results. -/
theorem kernel_run (ρ : Dev nD → PrngReg) : θ_run defs (onTc (τ := τ) (main (F := Ideal))) ⟨m, fun _ => 0, ρ⟩ (fun r => ∀ c : Dev nD,
    r.2.mem ((c.tc : Thread nD τ).loc main_v148_2) = Out.h (srcOf m c)
    ∧ r.2.mem ((c.tc : Thread nD τ).loc main_v148_3) = Out.s (srcOf m c)
    ∧ r.2.mem ((c.tc : Thread nD τ).loc main_v148_4) = Out.dya (srcOf m c)
    ∧ r.2.mem ((c.tc : Thread nD τ).loc main_v148_7) = Out.dconvb (srcOf m c)
    ∧ r.2.mem ((c.tc : Thread nD τ).loc main_v148_8) = Out.dclng (srcOf m c)
    ∧ r.2.mem ((c.tc : Thread nD τ).loc main_v148_9) = Out.dclnb (srcOf m c)
    ∧ r.2.mem ((c.tc : Thread nD τ).loc main_v148_10) = Out.dslng (srcOf m c)
    ∧ r.2.mem ((c.tc : Thread nD τ).loc main_v148_11) = Out.dslnb (srcOf m c)
    ∧ r.2.mem ((c.tc : Thread nD τ).loc main_v148_12) = Out.dwm (srcOf m c)
    ∧ r.2.mem ((c.tc : Thread nD τ).loc main_v148_13) = Out.dbs (srcOf m c)
    ∧ r.2.mem ((c.tc : Thread nD τ).loc main_v148_14) = Out.dwbd (srcOf m c)
    ∧ r.2.mem ((c.tc : Thread nD τ).loc main_v148_15) = Out.dps (srcOf m c)) :=
  (θ_run defs _ _).mono (fun r h c => by
    have q := (h.1 c).1
    have e21 : r.2.mem ((c.tc : Thread nD τ).loc main_v148_2) = (dats m 0 c).arrAt 21 cfg0.N := q 21
    have e22 : r.2.mem ((c.tc : Thread nD τ).loc main_v148_3) = (dats m 0 c).arrAt 22 cfg0.N := q 22
    have e23 : r.2.mem ((c.tc : Thread nD τ).loc main_v148_4) = (dats m 0 c).arrAt 23 cfg0.N := q 23
    have e26 : r.2.mem ((c.tc : Thread nD τ).loc main_v148_7) = (dats m 0 c).arrAt 26 cfg0.N := q 26
    have e27 : r.2.mem ((c.tc : Thread nD τ).loc main_v148_8) = (dats m 0 c).arrAt 27 cfg0.N := q 27
    have e28 : r.2.mem ((c.tc : Thread nD τ).loc main_v148_9) = (dats m 0 c).arrAt 28 cfg0.N := q 28
    have e29 : r.2.mem ((c.tc : Thread nD τ).loc main_v148_10) = (dats m 0 c).arrAt 29 cfg0.N := q 29
    have e30 : r.2.mem ((c.tc : Thread nD τ).loc main_v148_11) = (dats m 0 c).arrAt 30 cfg0.N := q 30
    have e31 : r.2.mem ((c.tc : Thread nD τ).loc main_v148_12) = (dats m 0 c).arrAt 31 cfg0.N := q 31
    have e32 : r.2.mem ((c.tc : Thread nD τ).loc main_v148_13) = (dats m 0 c).arrAt 32 cfg0.N := q 32
    have e33 : r.2.mem ((c.tc : Thread nD τ).loc main_v148_14) = (dats m 0 c).arrAt 33 cfg0.N := q 33
    have e34 : r.2.mem ((c.tc : Thread nD τ).loc main_v148_15) = (dats m 0 c).arrAt 34 cfg0.N := q 34
    exact ⟨e21.trans (arr_h m c _ (tile_of m c)), e22.trans (arr_s m c _ (tile_of m c))
       , e23.trans (arr_dya m c _ (tile_of m c)), e26.trans ((arr26 m c).trans (out_dconvb m c))
       , e27.trans ((arr27 m c).trans (out_dclng m c)), e28.trans ((arr28 m c).trans (out_dclnb m c))
       , e29.trans ((arr29 m c).trans (out_dslng m c)), e30.trans ((arr30 m c).trans (out_dslnb m c))
       , e31.trans ((arr31 m c).trans (out_dwm m c)), e32.trans ((arr32 m c).trans (out_dbs m c))
       , e33.trans ((arr33 m c).trans (out_dwbd m c)), e34.trans ((arr34 m c).trans (out_dps m c))⟩) (run_main_quiescent m ρ)

end Cert.Proof.Mixer

end
-- ==== Proof.Mixer.Rows.lean ====
/- Hand-written: the reference's rows in closed form. -/
module

public import proofs.«01_k».proof.Proof.Mixer.Source

@[expose] public section

set_option maxRecDepth 16384

noncomputable section

namespace Cert.Proof.Mixer

open Idealize.ShloMosaic Idealize.SL.Sem
open Cert.MixerReferenceIdeal Cert.MixerReferenceIdeal.Read

/-- The mask's bit: at or below the diagonal. -/
theorem bit_le : ∀ t s : Fin 128, Scalar.select (IntOp.cmpi CmpIPredicate.sge (IntOp.addi (BitVec.ofNat 32 t.val) 0#32)
    (BitVec.ofNat 32 s.val)) 1#1 0#1 = if s ≤ t then 1#1 else 0#1 := by decide +kernel

/-- A choice by a decided bit. -/
theorem select_bit {α : Type} (p : Prop) [Decidable p] (a b : α) :
    Scalar.select (if p then 1#1 else 0#1) a b = if p then a else b := by
  by_cases h : p <;> simp [h, Scalar.select]

/-- A sum over 256 columns, by groups of 64. -/
theorem sum_groups (f : Fin 256 → EReal) : ∑ k, f k = ∑ a : Fin 4, ∑ x : Fin 64, f ⟨64 * a.val + x.val, by omega⟩ := by
  rw [← (finProdFinEquiv (m := 4) (n := 64)).sum_comp f, Fintype.sum_prod_type]
  refine Finset.sum_congr rfl fun a _ => Finset.sum_congr rfl fun x _ => congrArg f (Fin.ext ?_)
  simp [finProdFinEquiv]
  omega

variable {x0 : FVec Ideal S2x2048x1024 .f32} {x1 : FVec Ideal S1024 .f32} {x2 : FVec Ideal S1024x1792 .f32}
  {x3 : FVec Ideal S31x384 .f32} {x4 x5 x6 : FVec Ideal S384 .f32} {x7 : FVec Ideal S384x384 .f32}
  {x8 x9 : FVec Ideal S384 .f32} {x10 : FVec Ideal S4x128x128 .f32} {x12 : FVec Ideal S4x64x64 .f32}
  {x13 : FVec Ideal S256 .f32} {x14 : FVec Ideal S1024x1024 .f32} {x15 : FVec Ideal S2x2048x1024 .f32}
  {S : Src} (hS : S = src x0 x1 x2 x3 x4 x5 x6 x7 x8 x9 x10 x12 x13 x14 x15)
include hS

theorem ref_x (b : Fin 2) (t : Fin 2048) (k : Fin 1024) : x0 (Idealize.ShloMosaic.ix3 b t k) = S.x (rw_ b t) k := by
  subst hS
  show _ = x0 (Idealize.ShloMosaic.ix3 (sq (rw_ b t)) (at_ (rw_ b t)) k)
  rw [sq_rw, at_rw]
theorem ref_z (b : Fin 2) (t : Fin 2048) (k : Fin 1792) : val_main_v15 (F := Ideal) x0 x1 x2 (Idealize.ShloMosaic.ix3 b t k) = S.z (rw_ b t) k := by
  subst hS
  show _ = val_main_v15 (F := Ideal) x0 x1 x2 (Idealize.ShloMosaic.ix3 (sq (rw_ b t)) (at_ (rw_ b t)) k)
  rw [sq_rw, at_rw]
theorem ref_yc (b : Fin 2) (t : Fin 2048) (k : Fin 384) : val_main_v40 (F := Ideal) x0 x1 x2 x3 x4 (Idealize.ShloMosaic.ix3 b t k) = S.yc (rw_ b t) k := by
  subst hS
  show _ = val_main_v40 (F := Ideal) x0 x1 x2 x3 x4 (Idealize.ShloMosaic.ix3 (sq (rw_ b t)) (at_ (rw_ b t)) k)
  rw [sq_rw, at_rw]
theorem ref_ct (b : Fin 2) (t : Fin 2048) (k : Fin 1024) : x15 (Idealize.ShloMosaic.ix3 b t k) = S.ct (rw_ b t) k := by
  subst hS
  show _ = x15 (Idealize.ShloMosaic.ix3 (sq (rw_ b t)) (at_ (rw_ b t)) k)
  rw [sq_rw, at_rw]
theorem ref_p (b : Fin 2) (t : Fin 2048) (k : Fin 256) : val_main_v192 (F := Ideal) x0 x1 x2 (ix4 b t ⟨k.val / 64, by omega⟩
    ⟨k.val % 64, Nat.mod_lt _ (by norm_num)⟩) = S.p (rw_ b t) k := by
  subst hS
  show _ = val_main_v192 (F := Ideal) x0 x1 x2 (ix4 (sq (rw_ b t)) (at_ (rw_ b t)) ⟨k.val / 64, by omega⟩
    ⟨k.val % 64, Nat.mod_lt _ (by norm_num)⟩)
  rw [sq_rw, at_rw]
theorem ref_g1 k : x1 (ix1 k) = S.g1 k := by subst hS; rfl
theorem ref_clng k : x5 (ix1 k) = S.clng k := by subst hS; rfl
theorem ref_clnb k : x6 (ix1 k) = S.clnb k := by subst hS; rfl
theorem ref_slng k : x8 (ix1 k) = S.slng k := by subst hS; rfl
theorem ref_slnb k : x9 (ix1 k) = S.slnb k := by subst hS; rfl
theorem ref_ps k : x13 (ix1 k) = S.ps k := by subst hS; rfl
theorem ref_wpw j k : x7 (ix2 j k) = S.wpw j k := by subst hS; rfl
theorem ref_wout j k : x14 (ix2 j k) = S.wout j k := by subst hS; rfl

theorem ref_wbd i j : S.wbd i j = if i.val / 64 = j.val / 64 then x12 (Idealize.ShloMosaic.ix3 ⟨i.val / 64, by omega⟩
    ⟨i.val % 64, Nat.mod_lt _ (by norm_num)⟩ ⟨j.val % 64, Nat.mod_lt _ (by norm_num)⟩) else 0 := by subst hS; rfl

theorem ref_h (b : Fin 2) (t : Fin 2048) (j : Fin 1024) : val_main_v14 (F := Ideal) x0 x1 (Idealize.ShloMosaic.ix3 b t j) = S.h (rw_ b t) j := by
  pointwise [val_main_v2, val_main_cst_1, val_main_v3, val_main_v4, val_main_cst_2, val_main_v5, val_main_v6,
    val_main_cst_3, val_main_v7, val_main_v8, val_main_v9, val_main_v10, val_main_v11, val_main_v12, val_main_v13,
    val_main_v14]
  simp only [ref_x hS, ref_g1 hS]
  rfl

theorem ref_dmix (b : Fin 2) (t : Fin 2048) (j : Fin 1024) : val_main_v205 (F := Ideal) x14 x15 (Idealize.ShloMosaic.ix3 b t j) = S.dmix (rw_ b t) j := by
  pointwise [val_main_v205]
  simp only [ref_ct hS, ref_wout hS]
  rfl

theorem ref_dya (b : Fin 2) (t : Fin 2048) (j : Fin 384) : val_main_v206 (F := Ideal) x14 x15 (Idealize.ShloMosaic.ix3 b t j) = S.dya (rw_ b t) j := by
  pointwise [val_main_v206]
  exact ref_dmix hS b t _

theorem ref_dyb (b : Fin 2) (t : Fin 2048) (j : Fin 384) : val_main_v207 (F := Ideal) x14 x15 (Idealize.ShloMosaic.ix3 b t j) = S.dyb (rw_ b t) j := by
  pointwise [val_main_v207]
  exact ref_dmix hS b t _

theorem ref_dyc (b : Fin 2) (t : Fin 2048) (j : Fin 256) : val_main_v208 (F := Ideal) x14 x15 (Idealize.ShloMosaic.ix3 b t j) = S.dyc (rw_ b t) j := by
  pointwise [val_main_v208]
  exact ref_dmix hS b t _

theorem ref_dev (b : Fin 2) (t : Fin 2048) (j : Fin 384) : val_main_v46 (F := Ideal) x0 x1 x2 x3 x4 (Idealize.ShloMosaic.ix3 b t j) = dev (S.yc (rw_ b t)) j := by
  pointwise [val_main_cst_6, val_main_v41, val_main_v42, val_main_cst_7, val_main_v43, val_main_v44, val_main_v45,
    val_main_v46]
  simp only [ref_yc hS]
  rfl

theorem ref_rstd (b : Fin 2) (t : Fin 2048) : val_main_v54 (F := Ideal) x0 x1 x2 x3 x4 (Idealize.ShloMosaic.ix3 b t 0) = rstd (S.yc (rw_ b t)) := by
  pointwise [val_main_v47, val_main_cst_8, val_main_v48, val_main_v49, val_main_cst_9, val_main_v50, val_main_v51,
    val_main_cst_10, val_main_v52, val_main_v53, val_main_v54]
  simp only [ref_dev hS]
  rfl

theorem ref_hat (b : Fin 2) (t : Fin 2048) (j : Fin 384) : val_main_v59 (F := Ideal) x0 x1 x2 x3 x4 (Idealize.ShloMosaic.ix3 b t j) = hat (S.yc (rw_ b t)) j := by
  pointwise [val_main_v58, val_main_v59]
  simp only [ref_dev hS, ref_rstd hS]
  rfl

theorem ref_ln (b : Fin 2) (t : Fin 2048) (j : Fin 384) : val_main_v65 (F := Ideal) x0 x1 x2 x3 x4 x5 x6 (Idealize.ShloMosaic.ix3 b t j) = S.ln (rw_ b t) j := by
  pointwise [val_main_v60, val_main_v61, val_main_v62, val_main_v63, val_main_v64, val_main_v65]
  simp only [ref_hat hS, ref_clng hS, ref_clnb hS]
  rfl

theorem ref_ds (b : Fin 2) (t : Fin 2048) (j : Fin 384) : val_main_v238 (F := Ideal) x7 x14 x15 (Idealize.ShloMosaic.ix3 b t j) = S.ds (rw_ b t) j := by
  pointwise [val_main_v238]
  simp only [ref_dya hS, ref_wpw hS]
  rfl

theorem ref_gelu (b : Fin 2) (t : Fin 2048) (j : Fin 768) : val_main_v82 (F := Ideal) x0 x1 x2 (Idealize.ShloMosaic.ix3 b t j) = gelu (S.z (rw_ b t) ⟨768 + j.val, by omega⟩) := by
  pointwise [val_main_v69, val_main_v70, val_main_v71, val_main_cst_12, val_main_v72, val_main_v73, val_main_v74,
    val_main_cst_13, val_main_v75, val_main_v76, val_main_v77, val_main_cst_14, val_main_v78, val_main_v79,
    val_main_cst_15, val_main_v80, val_main_v81, val_main_v82]
  simp only [ref_z hS]
  unfold gelu
  generalize S.z (rw_ b t) ⟨768 + j.val, _⟩ = z
  rw [← mul_assoc z (Ideal.ofBits .f32 0x3F000000#32), mul_comm z (Ideal.ofBits .f32 0x3F000000#32),
    mul_assoc (Ideal.ofBits .f32 0x3D372713#32) (z * z) z]

theorem ref_u (b : Fin 2) (t : Fin 2048) (j : Fin 384) : val_main_v83 (F := Ideal) x0 x1 x2 (Idealize.ShloMosaic.ix3 b t j) = S.u (rw_ b t) j := by
  pointwise [val_main_v83]
  rw [ref_gelu hS]
  exact congrArg (fun k => gelu (S.z (rw_ b t) k)) (Fin.ext (by simp; try omega))

theorem ref_v (b : Fin 2) (t : Fin 2048) (j : Fin 384) : val_main_v84 (F := Ideal) x0 x1 x2 (Idealize.ShloMosaic.ix3 b t j) = S.v (rw_ b t) j := by
  pointwise [val_main_v84]
  rw [ref_gelu hS]
  exact congrArg (fun k => gelu (S.z (rw_ b t) k)) (Fin.ext (by simp; try omega))

theorem ref_vdev (b : Fin 2) (t : Fin 2048) (j : Fin 384) : val_main_v90 (F := Ideal) x0 x1 x2 (Idealize.ShloMosaic.ix3 b t j) = dev (S.v (rw_ b t)) j := by
  pointwise [val_main_cst_16, val_main_v85, val_main_v86, val_main_cst_17, val_main_v87, val_main_v88, val_main_v89,
    val_main_v90]
  simp only [ref_v hS]
  rfl

theorem ref_vrstd (b : Fin 2) (t : Fin 2048) : val_main_v98 (F := Ideal) x0 x1 x2 (Idealize.ShloMosaic.ix3 b t 0) = rstd (S.v (rw_ b t)) := by
  pointwise [val_main_v91, val_main_cst_18, val_main_v92, val_main_v93, val_main_cst_19, val_main_v94, val_main_v95,
    val_main_cst_20, val_main_v96, val_main_v97, val_main_v98]
  simp only [ref_vdev hS]
  rfl

theorem ref_vhat (b : Fin 2) (t : Fin 2048) (j : Fin 384) : val_main_v100 (F := Ideal) x0 x1 x2 (Idealize.ShloMosaic.ix3 b t j) = hat (S.v (rw_ b t)) j := by
  pointwise [val_main_v99, val_main_v100]
  simp only [ref_vdev hS, ref_vrstd hS]
  rfl

theorem ref_vn (b : Fin 2) (t : Fin 2048) (j : Fin 384) : val_main_v106 (F := Ideal) x0 x1 x2 x8 x9 (Idealize.ShloMosaic.ix3 b t j) = S.vn (rw_ b t) j := by
  pointwise [val_main_v101, val_main_v102, val_main_v103, val_main_v104, val_main_v105, val_main_v106]
  simp only [ref_vhat hS, ref_slng hS, ref_slnb hS]
  rfl

theorem ref_dsg (b : Fin 2) (t : Fin 2048) (j : Fin 384) : val_main_v217 (F := Ideal) x0 x1 x2 x14 x15 (Idealize.ShloMosaic.ix3 b t j) = S.dsg (rw_ b t) j := by
  pointwise [val_main_v217]
  simp only [ref_u hS, ref_dyb hS]
  exact mul_comm _ _

theorem ref_wm (h : Fin 4) (s t : Fin 128) : val_main_v112_0 (F := Ideal) x10 (Idealize.ShloMosaic.ix3 h t s) = S.wm h t s := by
  pointwise [val_main_c_21, val_main_v108, val_main_call1_v0, val_main_call1_c, val_main_call1_v1, val_main_call1_v2,
    val_main_call1_v3, val_main_call1_v4, val_main_call1_c_0, val_main_call1_v5, val_main_v109, val_main_v110,
    val_main_cst_22, val_main_v111, val_main_v112_1, val_main_v112_0]
  rw [bit_le, select_bit, hS]
  exact if_congr ⟨fun h => h, fun h => h⟩ rfl rfl

theorem ref_dvn (b : Fin 2) (t : Fin 2048) (j : Fin 384) : val_main_v230 (F := Ideal) x0 x1 x2 x10 x14 x15 (Idealize.ShloMosaic.ix3 b t j) = S.dvn (rw_ b t / 128) ⟨rw_ b t % 128, Nat.mod_lt _ (by norm_num)⟩ j := by
  pointwise [val_main_v230, val_main_v228, val_main_v227, val_main_v225, val_main_v218]
  simp only [ref_wm hS, ref_dsg hS]
  unfold Src.dvn
  refine Finset.sum_congr rfl fun x _ => (mul_comm _ _).trans ?_
  have e1 : (⟨t.val % 128, Nat.mod_lt _ (by norm_num)⟩ : Fin 128) = ⟨rw_ b t % 128, Nat.mod_lt _ (by norm_num)⟩ :=
    Fin.ext (by unfold rw_; simp; omega)
  have e2 (h) : rw_ b ⟨t.val / 128 * 128 + x.val, h⟩ = 128 * (rw_ b t / 128) + x.val := by unfold rw_; simp; omega
  rw [e1, e2]

theorem ref_q (b : Fin 2) (t : Fin 2048) (j : Fin 256) : val_main_v198 (F := Ideal) x0 x1 x2 x12 (Idealize.ShloMosaic.ix3 b t j) = ∑ k, S.p (rw_ b t) k * S.wbd k j := by
  pointwise [val_main_v193, val_main_v194, val_main_v195, val_main_v196, val_main_v197, val_main_v198, val_main_v0,
    val_main_v1, val_main_cst, val_main_cst_0]
  simp only [mul_zero, Finset.sum_const_zero, add_zero]
  rw [sum_groups, Finset.sum_eq_single_of_mem (⟨j.val / 64, by omega⟩ : Fin 4) (Finset.mem_univ _)]
  · refine Finset.sum_congr rfl fun x _ => ?_
    rw [ref_wbd hS, ← ref_p hS, if_pos (by simp; omega), mul_comm]
    have e1 (h) : (⟨(64 * (j.val / 64) + x.val) / 64, h⟩ : Fin 4) = ⟨j.val / 64, by omega⟩ := Fin.ext (by simp; omega)
    have e2 (h) : (⟨(64 * (j.val / 64) + x.val) % 64, h⟩ : Fin 64) = x := Fin.ext (by simp)
    simp only [e1, e2]
  · intro a _ ha
    refine Finset.sum_eq_zero fun x _ => ?_
    rw [ref_wbd hS, if_neg (fun e => ha (Fin.ext (by simp at e ⊢; omega))), mul_zero]

theorem ref_dpool (b : Fin 2) (t : Fin 2048) (j : Fin 256) : val_main_v213 (F := Ideal) x13 x14 x15 (Idealize.ShloMosaic.ix3 b t j) = S.dyc (rw_ b t) j * S.ps j := by
  pointwise [val_main_v199, val_main_v212, val_main_v213]
  rw [ref_dyc hS, ref_ps hS]

theorem ref_dps_row (b : Fin 2) (t : Fin 2048) (j : Fin 256) : val_main_v209 (F := Ideal) x0 x1 x2 x12 x14 x15 (Idealize.ShloMosaic.ix3 b t j) = S.dps (rw_ b t) j := by
  pointwise [val_main_v209]
  rw [ref_q hS, ref_dyc hS]
  exact mul_comm _ _

theorem ref_flat (b : Fin 2) (t : Fin 2048) (k : Fin 256) : val_main_v196 (F := Ideal) x0 x1 x2 (Idealize.ShloMosaic.ix3 b t k) = S.p (rw_ b t) k := by
  pointwise [val_main_v196]
  exact ref_p hS b t k

end Cert.Proof.Mixer
end
-- ==== Proof.Mixer.Norm.lean ====
/- Hand-written: the rows of the reference that need finite arguments: the gate's sigmoid and the normalisation's derivative. -/
module

public import proofs.«01_k».proof.Proof.Mixer.Rows
public import proofs.«01_k».proof.Proof.Ffn.Reference

@[expose] public section

set_option maxRecDepth 16384

noncomputable section

namespace Cert.Proof.Mixer

open Idealize.ShloMosaic Idealize.SL.Sem
open Cert.MixerReferenceIdeal Cert.MixerReferenceIdeal.Read
open Cert.Proof.Reals

/-! ## A row's normalisation over the reals -/

theorem w384 : Ideal.ofBits .f32 0x43C00000#32 = ((384 : ℝ) : EReal) := by
  simp [Ideal.ofBits, Ideal.ieee, -EReal.coe_mul]; norm_num

theorem n384 : (384 : ℝ) ≠ 0 := by norm_num

/-- The word nearest to `1e-5`. -/
def eps5 : ℝ := 10995116 * (2 : ℝ) ^ (-40 : ℤ)

theorem weps5 : Ideal.ofBits .f32 0x3727C5AC#32 = ((eps5 : ℝ) : EReal) := by
  simp [Ideal.ofBits, Ideal.ieee, eps5, -EReal.coe_mul]

/-- The mean of a real row. -/
def mu (V : Fin 384 → ℝ) : ℝ := (∑ k, V k) / 384

/-- The variance of a real row, with the word for `1e-5`. -/
def var5 (V : Fin 384 → ℝ) : ℝ := (∑ k, (V k - mu V) * (V k - mu V)) / 384 + eps5

theorem var5_pos (V : Fin 384 → ℝ) : 0 < var5 V :=
  add_pos_of_nonneg_of_pos (div_nonneg (Finset.sum_nonneg fun k _ => mul_self_nonneg _) (by norm_num)) (by unfold eps5; positivity)

/-- The reciprocal root of the variance. -/
def rs5 (V : Fin 384 → ℝ) : ℝ := (Real.sqrt (var5 V))⁻¹

theorem rs5_div (V : Fin 384 → ℝ) : rs5 V / var5 V = rs5 V * rs5 V * rs5 V := by
  have h := var5_pos V
  unfold rs5
  have hs := Real.sq_sqrt h.le
  have h0 : Real.sqrt (var5 V) ≠ 0 := (Real.sqrt_pos.mpr h).ne'
  generalize Real.sqrt (var5 V) = q at *
  rw [← hs]
  field_simp

theorem mean_real (V : Fin 384 → ℝ) : mean (fun k => (V k : EReal)) = ((mu V : ℝ) : EReal) := by
  simp only [mean, coe_sum, w384, div_real _ n384]
  rfl

theorem dev_real (V : Fin 384 → ℝ) (j : Fin 384) : dev (fun k => (V k : EReal)) j = ((V j - mu V : ℝ) : EReal) := by
  simp only [dev, mean_real, ← EReal.coe_sub]

theorem rstd_real (V : Fin 384 → ℝ) : rstd (fun k => (V k : EReal)) = ((rs5 V : ℝ) : EReal) := by
  simp only [rstd, dev_real, ← EReal.coe_mul, coe_sum, w384, weps5, div_real _ n384, ← EReal.coe_add]
  exact rsqrt_pos (var5_pos V)

theorem hat_real (V : Fin 384 → ℝ) (j : Fin 384) : hat (fun k => (V k : EReal)) j = (((V j - mu V) * rs5 V : ℝ) : EReal) := by
  simp only [hat, dev_real, rstd_real, ← EReal.coe_mul]

/-- What is left of a row without its mean sums to zero. -/
theorem sum_dev (V : Fin 384 → ℝ) : ∑ k, (V k - mu V) = 0 := by
  rw [Finset.sum_sub_distrib, Finset.sum_const, Finset.card_univ, Fintype.card_fin, nsmul_eq_mul, mu]
  norm_num
  ring

/-- The derivative of the normalisation as the chain rule leaves it, and in closed form. -/
theorem norm_bwd (V d : Fin 384 → ℝ) (j : Fin 384) :
    d j * rs5 V + (V j - mu V) * (((∑ k, (V k - mu V) * d k) * (-(1 / 2) * (rs5 V * rs5 V * rs5 V))) / 384)
        + ((∑ k, (V k - mu V) * d k) * (-(1 / 2) * (rs5 V * rs5 V * rs5 V))) / 384 * (V j - mu V)
        + (∑ k, -(d k * rs5 V + (V k - mu V) * (((∑ k, (V k - mu V) * d k) * (-(1 / 2) * (rs5 V * rs5 V * rs5 V))) / 384)
          + ((∑ k, (V k - mu V) * d k) * (-(1 / 2) * (rs5 V * rs5 V * rs5 V))) / 384 * (V k - mu V))) / 384
      = rs5 V * (d j - mu d - (V j - mu V) * rs5 V * mu fun k => d k * ((V k - mu V) * rs5 V)) := by
  have h0 := sum_dev V
  have h1 : (∑ k, d k * ((V k - mu V) * rs5 V)) = (∑ k, (V k - mu V) * d k) * rs5 V := by
    rw [Finset.sum_mul]
    exact Finset.sum_congr rfl fun k _ => by ring
  generalize hq : (∑ k, (V k - mu V) * d k) * (-(1 / 2) * (rs5 V * rs5 V * rs5 V)) / 384 = q
  have h2 : (∑ k, -(d k * rs5 V + (V k - mu V) * q + q * (V k - mu V))) = -((∑ k, d k) * rs5 V) := by
    have e : ∀ k, -(d k * rs5 V + (V k - mu V) * q + q * (V k - mu V)) = -(d k * rs5 V) + (V k - mu V) * (-2 * q) := fun k => by ring
    simp only [e]
    rw [Finset.sum_add_distrib, ← Finset.sum_mul, h0, Finset.sum_neg_distrib, ← Finset.sum_mul]
    ring
  rw [h2]
  unfold mu at *
  rw [h1, ← hq]
  ring

/-- The sigmoid of a real. -/
theorem sgm_real (z : ℝ) : sgm (z : EReal) = ((Cert.Proof.Ffn.sgm z : ℝ) : EReal) := by
  simp only [sgm, whalf, ← EReal.coe_mul, Ideal.tanh_coe, ← EReal.coe_add]
  rfl

/-- The arrays that have to be real: the convolution's rows, and what the cotangent of its normalisation is made of. -/
structure Src.IsReal (S : Src) : Prop where
  yc : ∀ n, ∃ r : Fin 384 → ℝ, S.yc n = fun k => (r k : EReal)
  clng : ∃ r : Fin 384 → ℝ, S.clng = fun k => (r k : EReal)
  clnb : ∃ r : Fin 384 → ℝ, S.clnb = fun k => (r k : EReal)
  ct : ∀ n, ∃ r : Fin 1024 → ℝ, S.ct n = fun k => (r k : EReal)
  wout : ∃ r : Fin 1024 → Fin 1024 → ℝ, S.wout = fun j k => (r j k : EReal)
  wpw : ∃ r : Fin 384 → Fin 384 → ℝ, S.wpw = fun j k => (r j k : EReal)

section

variable {S : Src} (hR : S.IsReal)
include hR

theorem Src.IsReal.ln (n : ℕ) : ∃ r : Fin 384 → ℝ, S.ln n = fun k => (r k : EReal) := by
  obtain ⟨y, hy⟩ := hR.yc n
  obtain ⟨g, hg⟩ := hR.clng
  obtain ⟨b, hb⟩ := hR.clnb
  refine ⟨fun k => (y k - mu y) * rs5 y * g k + b k, funext fun k => ?_⟩
  simp only [Src.ln, hy, hg, hb, hat_real, ← EReal.coe_mul, ← EReal.coe_add]

theorem Src.IsReal.ds (n : ℕ) : ∃ r : Fin 384 → ℝ, S.ds n = fun k => (r k : EReal) := by
  obtain ⟨c, hc⟩ := hR.ct n
  obtain ⟨w, hw⟩ := hR.wout
  obtain ⟨p, hp⟩ := hR.wpw
  refine ⟨fun j => ∑ k : Fin 384, (∑ l, c l * w ⟨k.val, by omega⟩ l) * p j k, funext fun j => ?_⟩
  simp only [Src.ds, Src.dya, Src.dmix, hc, hw, hp, ← EReal.coe_mul, coe_sum]

theorem Src.IsReal.dln (n : ℕ) : ∃ r : Fin 384 → ℝ, S.dln n = fun k => (r k : EReal) := by
  obtain ⟨d, hd⟩ := hR.ds n
  obtain ⟨l, hl⟩ := hR.ln n
  refine ⟨fun k => d k * (Cert.Proof.Ffn.sgm (l k) * (1 + l k * (1 - Cert.Proof.Ffn.sgm (l k)))), funext fun k => ?_⟩
  simp only [Src.dln, hd, hl, sgm_real, ← EReal.coe_one, ← EReal.coe_sub, ← EReal.coe_mul, ← EReal.coe_add]

end

variable {x0 : FVec Ideal S2x2048x1024 .f32} {x1 : FVec Ideal S1024 .f32} {x2 : FVec Ideal S1024x1792 .f32}
  {x3 : FVec Ideal S31x384 .f32} {x4 x5 x6 : FVec Ideal S384 .f32} {x7 : FVec Ideal S384x384 .f32}
  {x8 x9 : FVec Ideal S384 .f32} {x10 : FVec Ideal S4x128x128 .f32} {x12 : FVec Ideal S4x64x64 .f32}
  {x13 : FVec Ideal S256 .f32} {x14 : FVec Ideal S1024x1024 .f32} {x15 : FVec Ideal S2x2048x1024 .f32}
  {S : Src} (hS : S = src x0 x1 x2 x3 x4 x5 x6 x7 x8 x9 x10 x12 x13 x14 x15) (hR : S.IsReal)
include hS hR

theorem ref_sg (b : Fin 2) (t : Fin 2048) (j : Fin 384) : val_main_v66_2 (F := Ideal) x0 x1 x2 x3 x4 x5 x6 (Idealize.ShloMosaic.ix3 b t j) = sgm (S.ln (rw_ b t) j) := by
  pointwise [val_main_call0_v0, val_main_call0_v1, val_main_call0_cst, val_main_call0_v2, val_main_call0_v3,
    val_main_call0_cst_0, val_main_call0_v4, val_main_v66_2]
  rw [ref_ln hS]
  obtain ⟨l, hl⟩ := hR.ln (rw_ b t)
  rw [hl, sgm_real, ← Cert.Proof.Ffn.sgm_eq]
  have hp : 1 + Real.exp (-l j) ≠ 0 := by positivity
  simp only [← EReal.coe_neg, Ideal.exp_coe, ← EReal.coe_one, ← EReal.coe_add, div_real _ hp]

theorem ref_s (b : Fin 2) (t : Fin 2048) (j : Fin 384) : val_main_v66_0 (F := Ideal) x0 x1 x2 x3 x4 x5 x6 (Idealize.ShloMosaic.ix3 b t j) = S.s (rw_ b t) j := by
  pointwise [val_main_v66_0]
  rw [ref_ln hS, ref_sg hS hR]
  rfl

theorem ref_dln (b : Fin 2) (t : Fin 2048) (j : Fin 384) : val_main_v239 (F := Ideal) x0 x1 x2 x3 x4 x5 x6 x7 x14 x15 (Idealize.ShloMosaic.ix3 b t j) = S.dln (rw_ b t) j := by
  pointwise [val_main_v66_1, val_main_call0_cst_1, val_main_call0_v6, val_main_call0_v7, val_main_call5_v0,
    val_main_call5_v1, val_main_call5_v2, val_main_v239]
  rw [ref_ln hS, ref_sg hS hR, ref_ds hS]
  obtain ⟨d, hd⟩ := hR.ds (rw_ b t)
  obtain ⟨l, hl⟩ := hR.ln (rw_ b t)
  simp only [Src.dln, hd, hl, sgm_real, ← EReal.coe_one, ← EReal.coe_sub, ← EReal.coe_mul, ← EReal.coe_add]
  exact congrArg _ (by ring)

theorem ref_dclng_row (b : Fin 2) (t : Fin 2048) (j : Fin 384) : val_main_v243 (F := Ideal) x0 x1 x2 x3 x4 x5 x6 x7 x14 x15 (Idealize.ShloMosaic.ix3 b t j) = S.dln (rw_ b t) j * hat (S.yc (rw_ b t)) j := by
  pointwise [val_main_v243]
  rw [ref_hat hS, ref_dln hS hR]
  exact mul_comm _ _

theorem ref_dnorm (b : Fin 2) (t : Fin 2048) (j : Fin 384) : val_main_v247 (F := Ideal) x0 x1 x2 x3 x4 x5 x6 x7 x14 x15 (Idealize.ShloMosaic.ix3 b t j) = S.dln (rw_ b t) j * S.clng j := by
  pointwise [val_main_v60, val_main_v246, val_main_v247]
  rw [ref_dln hS hR, ref_clng hS]

theorem ref_var (b : Fin 2) (t : Fin 2048) : val_main_v53 (F := Ideal) x0 x1 x2 x3 x4 (Idealize.ShloMosaic.ix3 b t 0)
    = Ideal.div (∑ k, dev (S.yc (rw_ b t)) k * dev (S.yc (rw_ b t)) k) (Ideal.ofBits .f32 0x43C00000#32)
      + Ideal.ofBits .f32 0x3727C5AC#32 := by
  pointwise [val_main_v47, val_main_cst_8, val_main_v48, val_main_v49, val_main_cst_9, val_main_v50, val_main_v51,
    val_main_cst_10, val_main_v52, val_main_v53]
  simp only [ref_dev hS]

theorem ref_dconv (b : Fin 2) (t : Fin 2048) (j : Fin 384) : val_main_v270 (F := Ideal) x0 x1 x2 x3 x4 x5 x6 x7 x14 x15 (Idealize.ShloMosaic.ix3 b t j) = S.dconv (rw_ b t) j := by
  pointwise [val_main_cst_9, val_main_cst_10, val_main_v55, val_main_cst_11, val_main_v56, val_main_v57,
    val_main_v249, val_main_cst_49, val_main_v250, val_main_v251, val_main_cst_48, val_main_cst_49, val_main_v252,
    val_main_v253, val_main_v254, val_main_cst_50, val_main_v255, val_main_v256, val_main_cst_51, val_main_v257,
    val_main_v258, val_main_v259, val_main_v260, val_main_v261, val_main_v262, val_main_v263, val_main_cst_52,
    val_main_v264, val_main_v265, val_main_cst_53, val_main_v266, val_main_v267, val_main_cst_54, val_main_v268,
    val_main_v269, val_main_v270]
  simp only [Fin.sum_univ_one, ref_dnorm hS hR, ref_dev hS, ref_rstd hS, ref_var hS hR]
  unfold Src.dconv lnBwd
  obtain ⟨d, hd⟩ := hR.dln (rw_ b t)
  obtain ⟨g, hg⟩ := hR.clng
  obtain ⟨y, hy⟩ := hR.yc (rw_ b t)
  have hv : var5 y ≠ 0 := (var5_pos y).ne'
  have hvar : (∑ k, (y k - mu y) * (y k - mu y)) / 384 + eps5 = var5 y := rfl
  simp only [hd, hg, hy, dev_real, rstd_real, hat_real, mean_real, wneghalf, w384, weps5, ← EReal.coe_mul, ← EReal.coe_add,
    ← EReal.coe_sub, ← EReal.coe_neg, coe_sum, div_real _ n384, hvar, div_real _ hv, rs5_div]
  refine congrArg _ ?_
  exact norm_bwd y (fun k => d k * g k) j

end Cert.Proof.Mixer
end
-- ==== Proof.Mixer.Totals.lean ====
/- Hand-written: the reference's gradients of the weights as sums over all the rows. -/
module

public import proofs.«01_k».proof.Proof.Mixer.Norm
public import proofs.«01_k».proof.Proof.Mixer.Acc
public import proofs.«01_k».proof.Proof.Sums

@[expose] public section

set_option maxRecDepth 16384

noncomputable section

namespace Cert.Proof.Mixer

open Idealize.ShloMosaic Idealize.SL.Sem
open Cert.MixerReferenceIdeal Cert.MixerReferenceIdeal.Read
open Cert.Proof.Reals

/-- A sum over the two sequences is the sum over all the rows. -/
theorem rows_sum (f : ℕ → EReal) : ∑ b : Fin 2, ∑ t : Fin 2048, f (rw_ b t) = ∑ n ∈ Finset.range 4096, f n := by
  rw [show (4096 : ℕ) = 2 * 2048 from rfl, ← range_mul 2 2048, Finset.sum_range]
  rfl

/-- A sum over the chunks of the two sequences is the sum over all the chunks. -/
theorem chunks_sum (f : ℕ → EReal) : ∑ b : Fin 2, ∑ n : Fin 16, f (16 * b.val + n.val) = ∑ c ∈ Finset.range 32, f c := by
  rw [show (32 : ℕ) = 2 * 16 from rfl, ← range_mul 2 16, Finset.sum_range]

/-- The padding's value. -/
theorem zero_word : (FloatOps.sitofp FTy.f32 0#32 : Ideal .f32) = 0 := by
  show (((0#32).toInt : ℝ) : EReal) = 0
  simp

/-- A chunk's row, counted through both sequences. -/
theorem row_chunk (b : Fin 2) (n : Fin 16) (t : Fin 128) (h) : rw_ b ⟨n.val * 128 + t.val, h⟩ = 128 * (16 * b.val + n.val) + t.val := by
  unfold rw_
  simp
  omega

/-- A head's column. -/
theorem col_head (h : Fin 4) (d : Fin 96) (q) : (⟨h.val * 96 + d.val, q⟩ : Fin 384) = ⟨96 * h.val + d.val, by omega⟩ :=
  Fin.ext (by simp; omega)

/-- The host's sum over axes 0, 1 and 4 of an array of rank 5. -/
theorem hostSum_014 {A B C D E : ℕ} (h : (⟨5, ![A, B, C, D, E]⟩ : Shape).ReducesTo [0, 1, 4] ⟨2, ![C, D]⟩)
    (x : (⟨5, ![A, B, C, D, E]⟩ : Shape).Idx → EReal) (z : EReal) (c : Fin C) (d : Fin D) :
    Ideal.hostReduceAdd h x z (ix2 c d) = z + ∑ a : Fin A, ∑ b : Fin B, ∑ e : Fin E, x (ix5 a b c d e) := by
  unfold Ideal.hostReduceAdd
  refine congrArg (z + ·) ?_
  trans ∑ p : Fin A × Fin B × Fin E, x (ix5 p.1 p.2.1 c d p.2.2)
  · refine Finset.sum_nbij' (fun i => (i 0, i 1, i 4)) (fun p => ix5 p.1 p.2.1 c d p.2.2) ?_ ?_ ?_ ?_ ?_
    · exact fun i _ => Finset.mem_univ _
    · intro p _
      refine Finset.mem_filter.mpr ⟨Finset.mem_univ _, funext fun b => ?_⟩
      match b with | ⟨0, _⟩ => rfl | ⟨1, _⟩ => rfl
    · intro i hi
      have e0 := congrFun (Finset.mem_filter.mp hi).2 0
      have e1 := congrFun (Finset.mem_filter.mp hi).2 1
      funext a
      match a with | ⟨0, _⟩ => rfl | ⟨1, _⟩ => rfl | ⟨2, _⟩ => exact e0.symm | ⟨3, _⟩ => exact e1.symm | ⟨4, _⟩ => rfl
    · exact fun p _ => rfl
    · intro i hi
      have e0 := congrFun (Finset.mem_filter.mp hi).2 0
      have e1 := congrFun (Finset.mem_filter.mp hi).2 1
      refine congrArg x (funext fun a => ?_)
      match a with | ⟨0, _⟩ => rfl | ⟨1, _⟩ => rfl | ⟨2, _⟩ => exact e0 | ⟨3, _⟩ => exact e1 | ⟨4, _⟩ => rfl
  · simp only [Fintype.sum_prod_type]

/-- The dimension numbers of the head matrices' gradient, which sums over sequence, chunk and column of a head. -/
abbrev hd := dot_S4x2x16x96x128_S2x16x128x4x96_S4x128x128_123_014_4_2_0_3

/-- The indices it sums over. -/
def hdEquiv : hd.contr.Idx ≃ Fin 2 × Fin 16 × Fin 96 where
  toFun q := (q ⟨0, by decide⟩, q ⟨1, by decide⟩, q ⟨2, by decide⟩)
  invFun p := fun a => match a with
    | ⟨0, _⟩ => p.1
    | ⟨1, _⟩ => p.2.1
    | ⟨2, _⟩ => p.2.2
    | ⟨n + 3, h⟩ => absurd h (by show ¬ n + 3 < 3; omega)
  left_inv q := funext fun a => match a with
    | ⟨0, _⟩ => rfl
    | ⟨1, _⟩ => rfl
    | ⟨2, _⟩ => rfl
    | ⟨n + 3, h⟩ => absurd h (by show ¬ n + 3 < 3; omega)
  right_inv p := rfl

theorem hd_lhs (h : Fin 4) (a c : Fin 128) (p : Fin 2 × Fin 16 × Fin 96) :
    hd.lhsIdx (Idealize.ShloMosaic.ix3 h a c) (hdEquiv.symm p) = ix5 h p.1 p.2.1 p.2.2 a := by
  funext x
  rcases (by decide : ∀ a : Fin 5, a = 0 ∨ a = 1 ∨ a = 2 ∨ a = 3 ∨ a = 4) x with rfl | rfl | rfl | rfl | rfl
  · unfold DotDims.lhsIdx; rw [dif_pos (by decide)]; rfl
  · unfold DotDims.lhsIdx; rw [dif_neg (by decide), dif_neg (by decide)]; rfl
  · unfold DotDims.lhsIdx; rw [dif_neg (by decide), dif_neg (by decide)]; rfl
  · unfold DotDims.lhsIdx; rw [dif_neg (by decide), dif_neg (by decide)]; rfl
  · unfold DotDims.lhsIdx; rw [dif_neg (by decide), dif_pos (by decide)]; rfl

theorem hd_rhs (h : Fin 4) (a c : Fin 128) (p : Fin 2 × Fin 16 × Fin 96) :
    hd.rhsIdx (Idealize.ShloMosaic.ix3 h a c) (hdEquiv.symm p) = ix5 p.1 p.2.1 c h p.2.2 := by
  funext x
  rcases (by decide : ∀ a : Fin 5, a = 0 ∨ a = 1 ∨ a = 2 ∨ a = 3 ∨ a = 4) x with rfl | rfl | rfl | rfl | rfl
  · unfold DotDims.rhsIdx; rw [dif_neg (by decide), dif_neg (by decide)]; rfl
  · unfold DotDims.rhsIdx; rw [dif_neg (by decide), dif_neg (by decide)]; rfl
  · unfold DotDims.rhsIdx; rw [dif_neg (by decide), dif_pos (by decide)]; rfl
  · unfold DotDims.rhsIdx; rw [dif_pos (by decide)]; rfl
  · unfold DotDims.rhsIdx; rw [dif_neg (by decide), dif_neg (by decide)]; rfl

variable {x0 : FVec Ideal S2x2048x1024 .f32} {x1 : FVec Ideal S1024 .f32} {x2 : FVec Ideal S1024x1792 .f32}
  {x3 : FVec Ideal S31x384 .f32} {x4 x5 x6 : FVec Ideal S384 .f32} {x7 : FVec Ideal S384x384 .f32}
  {x8 x9 : FVec Ideal S384 .f32} {x10 : FVec Ideal S4x128x128 .f32} {x12 : FVec Ideal S4x64x64 .f32}
  {x13 : FVec Ideal S256 .f32} {x14 : FVec Ideal S1024x1024 .f32} {x15 : FVec Ideal S2x2048x1024 .f32}
  {S : Src} (hS : S = src x0 x1 x2 x3 x4 x5 x6 x7 x8 x9 x10 x12 x13 x14 x15)
include hS

theorem ref_dslng_row (b : Fin 2) (t : Fin 2048) (j : Fin 384) : val_main_v234 (F := Ideal) x0 x1 x2 x10 x14 x15 (Idealize.ShloMosaic.ix3 b t j)
    = dvnAt S (rw_ b t) j * hat (S.v (rw_ b t)) j := by
  pointwise [val_main_v234]
  rw [ref_vhat hS, ref_dvn hS]
  exact mul_comm _ _

theorem ref_dslnb_row (b : Fin 2) (t : Fin 2048) (j : Fin 384) : val_main_v230 (F := Ideal) x0 x1 x2 x10 x14 x15 (Idealize.ShloMosaic.ix3 b t j)
    = dvnAt S (rw_ b t) j := ref_dvn hS b t j

theorem ref_dslnb (j : Fin 384) : val_main_v284 (F := Ideal) x0 x1 x2 x10 x14 x15 (ix2 0 j) = ∑ n ∈ Finset.range 4096, dvnAt S n j := by
  have e1 : val_main_v231 (F := Ideal) x0 x1 x2 x10 x14 x15 (ix1 j) = ∑ n ∈ Finset.range 4096, dvnAt S n j := by
    unfold val_main_v231 Host.reduceAdd
    rw [Ideal.hostReduceAdd_def, hostSum_lead2, ← rows_sum]
    simp only [ref_dslnb_row hS]
    pointwise [val_main_cst_41]
  have e2 : val_main_v233 (F := Ideal) x0 x1 x2 x10 x14 x15 (ix1 j) = val_main_v231 (F := Ideal) x0 x1 x2 x10 x14 x15 (ix1 j) := by
    unfold val_main_v233 Host.reduceAdd
    rw [Ideal.hostReduceAdd_def, hostSum_lead2]
    unfold val_main_v232
    generalize val_main_v231 (F := Ideal) x0 x1 x2 x10 x14 x15 = y
    pointwise [val_main_cst_42]
    simp only [Fin.sum_univ_one]
  rw [← e1, ← e2]
  unfold val_main_v284
  generalize val_main_v233 (F := Ideal) x0 x1 x2 x10 x14 x15 = y
  pointwise []

theorem ref_dslng (j : Fin 384) : val_main_v283 (F := Ideal) x0 x1 x2 x10 x14 x15 (ix2 0 j) = ∑ n ∈ Finset.range 4096, dvnAt S n j * hat (S.v n) j := by
  have e1 : val_main_v235 (F := Ideal) x0 x1 x2 x10 x14 x15 (ix1 j) = ∑ n ∈ Finset.range 4096, dvnAt S n j * hat (S.v n) j := by
    unfold val_main_v235 Host.reduceAdd
    rw [Ideal.hostReduceAdd_def, hostSum_lead2, ← rows_sum]
    simp only [ref_dslng_row hS]
    pointwise [val_main_cst_43]
  have e2 : val_main_v237 (F := Ideal) x0 x1 x2 x10 x14 x15 (ix1 j) = val_main_v235 (F := Ideal) x0 x1 x2 x10 x14 x15 (ix1 j) := by
    unfold val_main_v237 Host.reduceAdd
    rw [Ideal.hostReduceAdd_def, hostSum_lead2]
    unfold val_main_v236
    generalize val_main_v235 (F := Ideal) x0 x1 x2 x10 x14 x15 = y
    pointwise [val_main_cst_44]
    simp only [Fin.sum_univ_one]
  rw [← e1, ← e2]
  unfold val_main_v283
  generalize val_main_v237 (F := Ideal) x0 x1 x2 x10 x14 x15 = y
  pointwise []

theorem ref_dps (j : Fin 256) : val_main_v287 (F := Ideal) x0 x1 x2 x12 x14 x15 (ix2 0 j) = ∑ n ∈ Finset.range 4096, S.dps n j := by
  have e1 : val_main_v210 (F := Ideal) x0 x1 x2 x12 x14 x15 (ix1 j) = ∑ n ∈ Finset.range 4096, S.dps n j := by
    unfold val_main_v210 Host.reduceAdd
    rw [Ideal.hostReduceAdd_def, hostSum_lead2, ← rows_sum]
    simp only [ref_dps_row hS]
    pointwise [val_main_cst_36]
  have e2 : val_main_v214 (F := Ideal) x0 x1 x2 x12 x14 x15 (ix1 j) = val_main_v210 (F := Ideal) x0 x1 x2 x12 x14 x15 (ix1 j) := by
    unfold val_main_v214 Host.reduceAdd
    rw [Ideal.hostReduceAdd_def, hostSum_lead2]
    unfold val_main_v211
    generalize val_main_v210 (F := Ideal) x0 x1 x2 x12 x14 x15 = y
    pointwise [val_main_cst_37]
    simp only [Fin.sum_univ_one]
  rw [← e1, ← e2]
  unfold val_main_v287
  generalize val_main_v214 (F := Ideal) x0 x1 x2 x12 x14 x15 = y
  pointwise []

theorem ref_dwbd (i j : Fin 256) : val_main_v216 (F := Ideal) x0 x1 x2 x13 x14 x15 (ix2 i j) = ∑ n ∈ Finset.range 4096, S.dwbd n i j := by
  pointwise [val_main_v215, val_main_v216]
  simp only [ref_dpool hS, ref_flat hS]
  rw [← rows_sum]
  exact Finset.sum_congr rfl fun b _ => Finset.sum_congr rfl fun t _ => mul_comm _ _

theorem ref_dwm (h : Fin 4) (t s : Fin 128) : val_main_v229 (F := Ideal) x0 x1 x2 x8 x9 x14 x15 (Idealize.ShloMosaic.ix3 h t s)
    = ∑ n ∈ Finset.range 32, if s ≤ t then S.dwm n h t s else 0 := by
  have e : val_main_v226 (F := Ideal) x0 x1 x2 x8 x9 x14 x15 (Idealize.ShloMosaic.ix3 h t s) = ∑ n ∈ Finset.range 32, S.dwm n h t s := by
    unfold val_main_v226
    rw [show Host.dotGeneral (F := Ideal) (φ₁ := .f32) (φ₂ := .f32) hd none (val_main_v225 (F := Ideal) x0 x1 x2 x14 x15)
      (val_main_v107 (F := Ideal) x0 x1 x2 x8 x9) (Idealize.ShloMosaic.ix3 h t s) = _ from Ideal.dotGeneral_apply _ _ _ _ _ _,
      ← hdEquiv.symm.sum_comp]
    simp only [hd_lhs, hd_rhs, Fintype.sum_prod_type]
    rw [← chunks_sum]
    refine Finset.sum_congr rfl fun b _ => Finset.sum_congr rfl fun n _ => Finset.sum_congr rfl fun d _ => ?_
    pointwise [val_main_v225, val_main_v218, val_main_v107]
    rw [ref_dsg hS, ref_vn hS, row_chunk, row_chunk, col_head]
  pointwise [val_main_c_21, val_main_v108, val_main_call1_v0, val_main_call1_c, val_main_call1_v1, val_main_call1_v2,
    val_main_call1_v3, val_main_call1_v4, val_main_call1_c_0, val_main_call1_v5, val_main_v109, val_main_v110,
    val_main_cst_22, val_main_v111, val_main_v112_1, val_main_call4_cst, val_main_call4_v0, val_main_v229]
  rw [bit_le, select_bit, e]
  by_cases q : s ≤ t <;> simp [q]

theorem ref_dbs (t k : Fin 128) : val_main_v286 (F := Ideal) x0 x1 x2 x14 x15 (ix2 t k) = ∑ n ∈ Finset.range 32, biasRow (S.dbs n t) k := by
  have e1 (h : Fin 4) : val_main_v219 (F := Ideal) x0 x1 x2 x14 x15 (ix2 t h) = ∑ n ∈ Finset.range 32, S.dbs n t h := by
    unfold val_main_v219 Host.reduceAdd
    rw [Ideal.hostReduceAdd_def, hostSum_014, ← chunks_sum]
    pointwise [val_main_cst_38, val_main_v218]
    refine Finset.sum_congr rfl fun b _ => Finset.sum_congr rfl fun n _ => Finset.sum_congr rfl fun d _ => ?_
    rw [ref_dsg hS, row_chunk, col_head]
  have e2 (h : Fin 4) : val_main_v221 (F := Ideal) x0 x1 x2 x14 x15 (ix2 t h) = val_main_v219 (F := Ideal) x0 x1 x2 x14 x15 (ix2 t h) := by
    unfold val_main_v221 Host.reduceAdd
    rw [Ideal.hostReduceAdd_def, hostSum_014]
    unfold val_main_v220
    generalize val_main_v219 (F := Ideal) x0 x1 x2 x14 x15 = y
    pointwise [val_main_cst_39]
    simp only [Fin.sum_univ_one]
  have e3 (h : Fin 4) : val_main_v224 (F := Ideal) x0 x1 x2 x14 x15 (ix2 h t) = ∑ n ∈ Finset.range 32, S.dbs n t h := by
    rw [← e1, ← e2]
    unfold val_main_v224 val_main_v223 val_main_v222
    generalize val_main_v221 (F := Ideal) x0 x1 x2 x14 x15 = y
    pointwise [val_main_cst_40]
    simp only [Fin.sum_univ_one]
  unfold biasRow
  by_cases q : k.val < 4
  · simp only [dif_pos q]
    rw [← e3]
    unfold val_main_v286 val_main_v285
    generalize val_main_v224 (F := Ideal) x0 x1 x2 x14 x15 = y
    pointwise [val_main_call6_v0, val_main_c_57]
    exact dif_pos q
  · simp only [dif_neg q, Finset.sum_const_zero]
    unfold val_main_v286
    generalize val_main_v285 (F := Ideal) x0 x1 x2 x14 x15 = y
    pointwise [val_main_call6_v0, val_main_c_57]
    rw [dif_neg q]
    exact zero_word

section

variable (hR : S.IsReal)
include hR

theorem ref_dclnb (j : Fin 384) : val_main_v282 (F := Ideal) x0 x1 x2 x3 x4 x5 x6 x7 x14 x15 (ix2 0 j) = ∑ n ∈ Finset.range 4096, S.dln n j := by
  have e1 : val_main_v240 (F := Ideal) x0 x1 x2 x3 x4 x5 x6 x7 x14 x15 (ix1 j) = ∑ n ∈ Finset.range 4096, S.dln n j := by
    unfold val_main_v240 Host.reduceAdd
    rw [Ideal.hostReduceAdd_def, hostSum_lead2, ← rows_sum]
    simp only [ref_dln hS hR]
    pointwise [val_main_cst_45]
  have e2 : val_main_v242 (F := Ideal) x0 x1 x2 x3 x4 x5 x6 x7 x14 x15 (ix1 j) = val_main_v240 (F := Ideal) x0 x1 x2 x3 x4 x5 x6 x7 x14 x15 (ix1 j) := by
    unfold val_main_v242 Host.reduceAdd
    rw [Ideal.hostReduceAdd_def, hostSum_lead2]
    unfold val_main_v241
    generalize val_main_v240 (F := Ideal) x0 x1 x2 x3 x4 x5 x6 x7 x14 x15 = y
    pointwise [val_main_cst_46]
    simp only [Fin.sum_univ_one]
  rw [← e1, ← e2]
  unfold val_main_v282
  generalize val_main_v242 (F := Ideal) x0 x1 x2 x3 x4 x5 x6 x7 x14 x15 = y
  pointwise []

theorem ref_dclng (j : Fin 384) : val_main_v281 (F := Ideal) x0 x1 x2 x3 x4 x5 x6 x7 x14 x15 (ix2 0 j) = ∑ n ∈ Finset.range 4096, S.dln n j * hat (S.yc n) j := by
  have e1 : val_main_v244 (F := Ideal) x0 x1 x2 x3 x4 x5 x6 x7 x14 x15 (ix1 j) = ∑ n ∈ Finset.range 4096, S.dln n j * hat (S.yc n) j := by
    unfold val_main_v244 Host.reduceAdd
    rw [Ideal.hostReduceAdd_def, hostSum_lead2, ← rows_sum]
    simp only [ref_dclng_row hS hR]
    pointwise [val_main_cst_47]
  have e2 : val_main_v248 (F := Ideal) x0 x1 x2 x3 x4 x5 x6 x7 x14 x15 (ix1 j) = val_main_v244 (F := Ideal) x0 x1 x2 x3 x4 x5 x6 x7 x14 x15 (ix1 j) := by
    unfold val_main_v248 Host.reduceAdd
    rw [Ideal.hostReduceAdd_def, hostSum_lead2]
    unfold val_main_v245
    generalize val_main_v244 (F := Ideal) x0 x1 x2 x3 x4 x5 x6 x7 x14 x15 = y
    pointwise [val_main_cst_48]
    simp only [Fin.sum_univ_one]
  rw [← e1, ← e2]
  unfold val_main_v281
  generalize val_main_v248 (F := Ideal) x0 x1 x2 x3 x4 x5 x6 x7 x14 x15 = y
  pointwise []

theorem ref_dconvb (j : Fin 384) : val_main_v280 (F := Ideal) x0 x1 x2 x3 x4 x5 x6 x7 x14 x15 (ix2 0 j) = ∑ n ∈ Finset.range 4096, S.dconv n j := by
  have e1 : val_main_v271 (F := Ideal) x0 x1 x2 x3 x4 x5 x6 x7 x14 x15 (ix1 j) = ∑ n ∈ Finset.range 4096, S.dconv n j := by
    unfold val_main_v271 Host.reduceAdd
    rw [Ideal.hostReduceAdd_def, hostSum_lead2, ← rows_sum]
    simp only [ref_dconv hS hR]
    pointwise [val_main_cst_55]
  have e2 : val_main_v273 (F := Ideal) x0 x1 x2 x3 x4 x5 x6 x7 x14 x15 (ix1 j) = val_main_v271 (F := Ideal) x0 x1 x2 x3 x4 x5 x6 x7 x14 x15 (ix1 j) := by
    unfold val_main_v273 Host.reduceAdd
    rw [Ideal.hostReduceAdd_def, hostSum_lead2]
    unfold val_main_v272
    generalize val_main_v271 (F := Ideal) x0 x1 x2 x3 x4 x5 x6 x7 x14 x15 = y
    pointwise [val_main_cst_56]
    simp only [Fin.sum_univ_one]
  rw [← e1, ← e2]
  unfold val_main_v280
  generalize val_main_v273 (F := Ideal) x0 x1 x2 x3 x4 x5 x6 x7 x14 x15 = y
  pointwise []

end

end Cert.Proof.Mixer
end
-- ==== Proof.Mixer.RefResult.lean ====
/- Hand-written: the reference's twelve results in closed form, and where its rows are real. -/
module

public import proofs.«01_k».proof.Proof.Mixer.Totals
public import proofs.«01_k».proof.Proof.Mixer.Out
public import proofs.«01_k».proof.Proof.Mixer.Host

@[expose] public section

set_option maxRecDepth 16384

noncomputable section

namespace Cert.Proof.Mixer

open Idealize.ShloMosaic Idealize.SL.Sem
open Cert.MixerReferenceIdeal Cert.MixerReferenceIdeal.Read
open Cert.Proof.Reals

/-- Equal arrays give equal sources. -/
theorem src_congr {x0 y0 : FVec Ideal S2x2048x1024 .f32} {x1 y1 : FVec Ideal S1024 .f32} {x2 y2 : FVec Ideal S1024x1792 .f32}
    {x3 y3 : FVec Ideal S31x384 .f32} {x4 y4 x5 y5 x6 y6 : FVec Ideal S384 .f32} {x7 y7 : FVec Ideal S384x384 .f32}
    {x8 y8 x9 y9 : FVec Ideal S384 .f32} {x10 y10 : FVec Ideal S4x128x128 .f32} {x12 y12 : FVec Ideal S4x64x64 .f32}
    {x13 y13 : FVec Ideal S256 .f32} {x14 y14 : FVec Ideal S1024x1024 .f32} {x15 y15 : FVec Ideal S2x2048x1024 .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h12 : x12 = y12) (h13 : x13 = y13) (h14 : x14 = y14) (h15 : x15 = y15) :
    src x0 x1 x2 x3 x4 x5 x6 x7 x8 x9 x10 x12 x13 x14 x15 = src y0 y1 y2 y3 y4 y5 y6 y7 y8 y9 y10 y12 y13 y14 y15 := by
  subst h0 h1 h2 h3 h4 h5 h6 h7 h8 h9 h10 h12 h13 h14 h15
  rfl

/-- A row by its sequence and its place there. -/
theorem rw_div (n : Fin 4096) (h0) (h1) : rw_ ⟨n.val / 2048, h0⟩ ⟨n.val % 2048, h1⟩ = n.val := Nat.div_add_mod _ _

/-- A real sigmoid times a real is a real. -/
theorem glu_real {a b : EReal} (ha : ∃ r : ℝ, a = r) (hb : ∃ r : ℝ, b = r) : ∃ r : ℝ, a * Ideal.div 1 (1 + Ideal.exp (-b)) = r := by
  obtain ⟨a, rfl⟩ := ha
  obtain ⟨b, rfl⟩ := hb
  have hp : 1 + Real.exp (-b) ≠ 0 := by positivity
  exact ⟨a * (1 / (1 + Real.exp (-b))), by
    simp only [← EReal.coe_neg, Ideal.exp_coe, ← EReal.coe_one, ← EReal.coe_add, div_real _ hp, ← EReal.coe_mul]⟩

variable {x0 : FVec Ideal S2x2048x1024 .f32} {x1 : FVec Ideal S1024 .f32} {x2 : FVec Ideal S1024x1792 .f32}
  {x3 : FVec Ideal S31x384 .f32} {x4 x5 x6 : FVec Ideal S384 .f32} {x7 : FVec Ideal S384x384 .f32}
  {x8 x9 : FVec Ideal S384 .f32} {x10 : FVec Ideal S4x128x128 .f32} {x12 : FVec Ideal S4x64x64 .f32}
  {x13 : FVec Ideal S256 .f32} {x14 : FVec Ideal S1024x1024 .f32} {x15 : FVec Ideal S2x2048x1024 .f32}
  {S : Src} (hS : S = src x0 x1 x2 x3 x4 x5 x6 x7 x8 x9 x10 x12 x13 x14 x15)
include hS

theorem res_h : val_main_v275 (F := Ideal) x0 x1 = Out.h S := funext fun i => by
  rw [eq_ix2 i]
  pointwise [val_main_v274, val_main_v275]
  exact (ref_h hS _ _ _).trans (congrArg (fun n => S.h n (i 1)) (rw_div (i 0) _ _))

theorem res_dya : val_main_v279 (F := Ideal) x14 x15 = Out.dya S := funext fun i => by
  rw [eq_ix2 i]
  pointwise [val_main_v278, val_main_v279]
  exact (ref_dya hS _ _ _).trans (congrArg (fun n => S.dya n (i 1)) (rw_div (i 0) _ _))

theorem res_s (hR : S.IsReal) : val_main_v277 (F := Ideal) x0 x1 x2 x3 x4 x5 x6 = Out.s S := funext fun i => by
  rw [eq_ix2 i]
  pointwise [val_main_v276, val_main_v277]
  exact (ref_s hS hR _ _ _).trans (congrArg (fun n => S.s n (i 1)) (rw_div (i 0) _ _))

theorem res_dconvb (hR : S.IsReal) : val_main_v280 (F := Ideal) x0 x1 x2 x3 x4 x5 x6 x7 x14 x15 = Out.dconvb S := funext fun i => by
  rw [eq_ix2 i, show i 0 = (0 : Fin 1) from Subsingleton.elim (α := Fin 1) _ _]
  exact ref_dconvb hS hR _

theorem res_dclng (hR : S.IsReal) : val_main_v281 (F := Ideal) x0 x1 x2 x3 x4 x5 x6 x7 x14 x15 = Out.dclng S := funext fun i => by
  rw [eq_ix2 i, show i 0 = (0 : Fin 1) from Subsingleton.elim (α := Fin 1) _ _]
  exact ref_dclng hS hR _

theorem res_dclnb (hR : S.IsReal) : val_main_v282 (F := Ideal) x0 x1 x2 x3 x4 x5 x6 x7 x14 x15 = Out.dclnb S := funext fun i => by
  rw [eq_ix2 i, show i 0 = (0 : Fin 1) from Subsingleton.elim (α := Fin 1) _ _]
  exact ref_dclnb hS hR _

theorem res_dslng : val_main_v283 (F := Ideal) x0 x1 x2 x10 x14 x15 = Out.dslng S := funext fun i => by
  rw [eq_ix2 i, show i 0 = (0 : Fin 1) from Subsingleton.elim (α := Fin 1) _ _]
  exact ref_dslng hS _

theorem res_dslnb : val_main_v284 (F := Ideal) x0 x1 x2 x10 x14 x15 = Out.dslnb S := funext fun i => by
  rw [eq_ix2 i, show i 0 = (0 : Fin 1) from Subsingleton.elim (α := Fin 1) _ _]
  exact ref_dslnb hS _

theorem res_dps : val_main_v287 (F := Ideal) x0 x1 x2 x12 x14 x15 = Out.dps S := funext fun i => by
  rw [eq_ix2 i, show i 0 = (0 : Fin 1) from Subsingleton.elim (α := Fin 1) _ _]
  exact ref_dps hS _

theorem res_dwm : val_main_v229 (F := Ideal) x0 x1 x2 x8 x9 x14 x15 = Out.dwm S := funext fun i => by
  rw [eq_ix3 i]; exact ref_dwm hS _ _ _

theorem res_dbs : val_main_v286 (F := Ideal) x0 x1 x2 x14 x15 = Out.dbs S := funext fun i => by
  rw [eq_ix2 i]; exact ref_dbs hS _ _

theorem res_dwbd : val_main_v216 (F := Ideal) x0 x1 x2 x13 x14 x15 = Out.dwbd S := funext fun i => by
  rw [eq_ix2 i]; exact ref_dwbd hS _ _

/-! ## Real rows from real arguments -/

variable (h0 : ∃ r : S2x2048x1024.Idx → ℝ, x0 = fun i => (r i : EReal)) (h1 : ∃ r : S1024.Idx → ℝ, x1 = fun i => (r i : EReal))
  (h2 : ∃ r : S1024x1792.Idx → ℝ, x2 = fun i => (r i : EReal)) (h3 : ∃ r : S31x384.Idx → ℝ, x3 = fun i => (r i : EReal))
  (h4 : ∃ r : S384.Idx → ℝ, x4 = fun i => (r i : EReal)) (h5 : ∃ r : S384.Idx → ℝ, x5 = fun i => (r i : EReal))
  (h6 : ∃ r : S384.Idx → ℝ, x6 = fun i => (r i : EReal)) (h7 : ∃ r : S384x384.Idx → ℝ, x7 = fun i => (r i : EReal))
  (h14 : ∃ r : S1024x1024.Idx → ℝ, x14 = fun i => (r i : EReal))
  (h15 : ∃ r : S2x2048x1024.Idx → ℝ, x15 = fun i => (r i : EReal))

include h0 h1 in
theorem real_h (b : Fin 2) (t : Fin 2048) : ∃ r : Fin 1024 → ℝ, S.h (rw_ b t) = fun k => (r k : EReal) := by
  obtain ⟨X, hX⟩ := h0
  obtain ⟨G, hG⟩ := h1
  have ex (k) : S.x (rw_ b t) k = (X (Idealize.ShloMosaic.ix3 b t k) : EReal) := by rw [← ref_x hS, hX]
  have eg (k) : S.g1 k = (G (ix1 k) : EReal) := by rw [← ref_g1 hS, hG]
  refine ⟨fun k => X (Idealize.ShloMosaic.ix3 b t k) * rs (fun k => X (Idealize.ShloMosaic.ix3 b t k)) * G (ix1 k), funext fun k => ?_⟩
  simp only [Src.h, ex, eg, ← EReal.coe_mul, coe_sum, w1024, weps, div_real _ (by norm_num : (1024 : ℝ) ≠ 0), ← EReal.coe_add]
  rw [rsqrt_row fun k => X (Idealize.ShloMosaic.ix3 b t k)]
  simp only [← EReal.coe_mul]

include h0 h1 h2 in
theorem real_z (b : Fin 2) (t : Fin 2048) (k : Fin 1792) : ∃ r : ℝ, val_main_v15 (F := Ideal) x0 x1 x2 (Idealize.ShloMosaic.ix3 b t k) = r := by
  obtain ⟨H, hH⟩ := real_h hS h0 h1 b t
  obtain ⟨W, hW⟩ := h2
  refine ⟨∑ l, H l * W (ix2 l k), ?_⟩
  pointwise [val_main_v15]
  simp only [ref_h hS, hH, hW, ← EReal.coe_mul, coe_sum]

include h0 h1 h2 in
theorem real_glu (b : Fin 2) (t : Fin 2048) (k : Fin 384) : ∃ r : ℝ, val_main_v25 (F := Ideal) x0 x1 x2 (Idealize.ShloMosaic.ix3 b t k) = r := by
  have e := glu_real (real_z hS h0 h1 h2 b t ⟨k.val, by omega⟩) (real_z hS h0 h1 h2 b t ⟨384 + k.val, by omega⟩)
  obtain ⟨r, hr⟩ := e
  refine ⟨r, ?_⟩
  rw [← hr]
  pointwise [val_main_v16, val_main_v17, val_main_v18, val_main_v19, val_main_v20, val_main_cst_4, val_main_v21,
    val_main_v22, val_main_cst_5, val_main_v23, val_main_v24, val_main_v25]

include h0 h1 h2 h3 h4 in
theorem real_yc (b : Fin 2) (t : Fin 2048) (k : Fin 384) : ∃ r : ℝ, val_main_v40 (F := Ideal) x0 x1 x2 x3 x4 (Idealize.ShloMosaic.ix3 b t k) = r := by
  choose G hG using real_glu hS h0 h1 h2
  obtain ⟨W, hW⟩ := h3
  obtain ⟨B, hB⟩ := h4
  refine ⟨(∑ a : Fin 31, W (ix2 a k) * ∑ t' : Fin 2048, G b t' k * (if t'.val + 30 = t.val + a.val then 1 else 0)) + B (ix1 k), ?_⟩
  have ei (p : Prop) [Decidable p] : (if p then (1 : EReal) else 0) = (((if p then 1 else 0) : ℝ) : EReal) := by split <;> simp
  pointwise [val_main_v40, val_main_v39, val_main_v38, val_main_v37, val_main_v36, val_main_v35, val_main_v34]
  simp only [ref_tap, hG, hW, hB, ei, ← EReal.coe_mul, coe_sum, ← EReal.coe_add]

include h0 h1 h2 h3 h4 h5 h6 h7 h14 h15 in
/-- Real arguments make everything the normalisation's derivative reads real. -/
theorem isReal : S.IsReal := by
  choose Y hY using real_yc hS h0 h1 h2 h3 h4
  subst hS
  obtain ⟨G, hG⟩ := h5
  obtain ⟨B, hB⟩ := h6
  obtain ⟨P, hP⟩ := h7
  obtain ⟨W, hW⟩ := h14
  obtain ⟨C, hC⟩ := h15
  exact ⟨fun n => ⟨fun k => Y (sq n) (at_ n) k, funext fun k => hY _ _ k⟩, ⟨fun k => G (ix1 k), funext fun k => congrFun hG _⟩,
    ⟨fun k => B (ix1 k), funext fun k => congrFun hB _⟩,
    fun n => ⟨fun k => C (Idealize.ShloMosaic.ix3 (sq n) (at_ n) k), funext fun k => congrFun hC _⟩,
    ⟨fun j k => W (ix2 j k), funext fun j => funext fun k => congrFun hW _⟩,
    ⟨fun j k => P (ix2 j k), funext fun j => funext fun k => congrFun hP _⟩⟩

end Cert.Proof.Mixer
end
-- ==== Proof.Mixer.Claim.lean ====
/- Hand-written: the mixer backward's claims, from the runs and the value lemmas. -/
module

public import proofs.«01_k».proof.Defs
public import proofs.«01_k».proof.Proof.Finite
public import proofs.«01_k».proof.Proof.Gen.Pre_fin_mixer
public import proofs.«01_k».proof.Proof.Gen.MixerReferenceIdeal.Run
public import proofs.«01_k».proof.Proof.Mixer.KernelResult
public import proofs.«01_k».proof.Proof.Mixer.RefResult

@[expose] public section

set_option maxRecDepth 16384
set_option maxHeartbeats 4000000

noncomputable section

namespace Cert.Proof.Mixer

open Cert.Proof.Reals Idealize.ShloMosaic Idealize.SL.Sem

instance scalar_subsingleton : Subsingleton Cert.Pre_fin_mixer.S_.Idx := ⟨fun i j => funext fun a => a.elim0⟩

/-- The precondition makes everything the normalisation's derivative reads real. -/
theorem real_rows (m : (ℓ : Loc Cert.MixerKernelIdeal.nD Cert.MixerKernelIdeal.τ Cert.MixerKernelIdeal.sig) → Buf (Elt Ideal) ℓ)
    (h : Cert.Pre_MixerKernelIdeal_fin_mixer m) (c : Dev Cert.MixerKernelIdeal.nD) : (srcOf m c).IsReal := by
  have e := congrFun (h c) ix0
  obtain ⟨e, e9⟩ := Idealize.ShloMosaic.IntOp.andi_eq_one.mp e
  obtain ⟨e, e8⟩ := Idealize.ShloMosaic.IntOp.andi_eq_one.mp e
  obtain ⟨e, e7⟩ := Idealize.ShloMosaic.IntOp.andi_eq_one.mp e
  obtain ⟨e, e6⟩ := Idealize.ShloMosaic.IntOp.andi_eq_one.mp e
  obtain ⟨e, e5⟩ := Idealize.ShloMosaic.IntOp.andi_eq_one.mp e
  obtain ⟨e, e4⟩ := Idealize.ShloMosaic.IntOp.andi_eq_one.mp e
  obtain ⟨e, e3⟩ := Idealize.ShloMosaic.IntOp.andi_eq_one.mp e
  obtain ⟨e, e2⟩ := Idealize.ShloMosaic.IntOp.andi_eq_one.mp e
  obtain ⟨e0, e1⟩ := Idealize.ShloMosaic.IntOp.andi_eq_one.mp e
  exact isReal (S := srcOf m c) rfl (real_of_all _ _ _ _ _ _ _ e0) (real_of_all _ _ _ _ _ _ _ e1) (real_of_all _ _ _ _ _ _ _ e2) (real_of_all _ _ _ _ _ _ _ e3) (real_of_all _ _ _ _ _ _ _ e4) (real_of_all _ _ _ _ _ _ _ e5) (real_of_all _ _ _ _ _ _ _ e6) (real_of_all _ _ _ _ _ _ _ e7) (real_of_all _ _ _ _ _ _ _ e8) (real_of_all _ _ _ _ _ _ _ e9)

/-- The reference runs, its arguments unchanged; it has no counter. -/
theorem frame_reference : Cert.quiescent_MixerReferenceIdeal := fun m g _ =>
  (θ_run Cert.MixerReferenceIdeal.defs _ _).mono
    (fun r h => ⟨fun c => (h c).2.2.2.2.2.2.2.2.2.2.2.2, sem_eq_zero_of_no_sems (by decide) r.2⟩)
    (Cert.MixerReferenceIdeal.Value.run (F := Ideal) m g)

theorem value : Cert.algebraic_MixerKernelIdeal_MixerReferenceIdeal_pre_fin_mixer := by
  intro m g m' g' hpre hargs
  refine ⟨fun c => Out.h (srcOf m c), fun c => Out.s (srcOf m c), fun c => Out.dya (srcOf m c), fun c => Out.dconvb (srcOf m c), fun c => Out.dclng (srcOf m c), fun c => Out.dclnb (srcOf m c), fun c => Out.dslng (srcOf m c), fun c => Out.dslnb (srcOf m c), fun c => Out.dwm (srcOf m c), fun c => Out.dbs (srcOf m c), fun c => Out.dwbd (srcOf m c), fun c => Out.dps (srcOf m c), ?_, ?_⟩
  · refine (θ_run _ _ _).mono (fun r h c => ?_) (θ_run_and (kernel_run m g) (frame m g))
    obtain ⟨h0, h1, h2, h3, h4, h5, h6, h7, h8, h9, h10, h11⟩ := h.1 c
    exact ⟨h0, h1, h2, h3, h4, h5, h6, h7, h8, h9, h10, h11, h.2.1 c⟩
  · refine (θ_run _ _ _).mono (fun r h c => ?_) (Cert.MixerReferenceIdeal.Value.run (F := Ideal) m' g')
    obtain ⟨h0, h1, h2, h3, h4, h5, h6, h7, h8, h9, h10, h11, k⟩ := h c
    obtain ⟨a0, a1, a2, a3, a4, a5, a6, a7, a8, a9, a10, a11, a12, a13, a14, a15⟩ := hargs c
    have hS := src_congr a0.symm a1.symm a2.symm a3.symm a4.symm a5.symm a6.symm a7.symm a8.symm a9.symm a10.symm a12.symm a13.symm a14.symm a15.symm
    have hR := real_rows m hpre c
    exact ⟨(h0.trans (Cert.MixerReferenceIdeal.Read.val_main_v275_eq _)).trans (res_h (S := srcOf m c) hS),
      (h1.trans (Cert.MixerReferenceIdeal.Read.val_main_v277_eq _)).trans (res_s (S := srcOf m c) hS hR),
      (h2.trans (Cert.MixerReferenceIdeal.Read.val_main_v279_eq _)).trans (res_dya (S := srcOf m c) hS),
      (h3.trans (Cert.MixerReferenceIdeal.Read.val_main_v280_eq _)).trans (res_dconvb (S := srcOf m c) hS hR),
      (h4.trans (Cert.MixerReferenceIdeal.Read.val_main_v281_eq _)).trans (res_dclng (S := srcOf m c) hS hR),
      (h5.trans (Cert.MixerReferenceIdeal.Read.val_main_v282_eq _)).trans (res_dclnb (S := srcOf m c) hS hR),
      (h6.trans (Cert.MixerReferenceIdeal.Read.val_main_v283_eq _)).trans (res_dslng (S := srcOf m c) hS),
      (h7.trans (Cert.MixerReferenceIdeal.Read.val_main_v284_eq _)).trans (res_dslnb (S := srcOf m c) hS),
      (h8.trans (Cert.MixerReferenceIdeal.Read.val_main_v229_eq _)).trans (res_dwm (S := srcOf m c) hS),
      (h9.trans (Cert.MixerReferenceIdeal.Read.val_main_v286_eq _)).trans (res_dbs (S := srcOf m c) hS),
      (h10.trans (Cert.MixerReferenceIdeal.Read.val_main_v216_eq _)).trans (res_dwbd (S := srcOf m c) hS),
      (h11.trans (Cert.MixerReferenceIdeal.Read.val_main_v287_eq _)).trans (res_dps (S := srcOf m c) hS), k⟩

end Cert.Proof.Mixer

end
-- ==== Proof.Fwd.Body.lean ====
/- Hand-written: what one grid point of the feed-forward leaves in its output blocks and in its two scratch buffers, as
   plain functions of the input blocks and of what the point before left. -/
module

public import proofs.«01_k».proof.Proof.Gen.FwdKernelIdeal.Value
public import Idealize.ShloMosaic.Lib.Tactic
public import Idealize.ShloMosaic.Lib.WritesUnit
public import Idealize.ShloMosaic.Lib.Pointwise

@[expose] public section

set_option maxRecDepth 16384

noncomputable section

namespace Cert.Proof.Fwd

open Cert.FwdKernelIdeal Cert.FwdKernelIdeal.Gen Cert.FwdKernelIdeal.Value
open Idealize.ShloMosaic Idealize.ShloMosaic.TcCoe Idealize.SL.Sem

variable {F : FTy → Type} [FloatOps F]

theorem hz : (![0, 0] : Fin 2 → Nat) = fun _ => 0 := funext fun a => by fin_cases a <;> rfl

/-- The block's rows of the transposed gate projection. -/
abbrev wgAt (w : Vec F S2x1408x1024 .bf16) : Vec F S1x1408x1024 .bf16 :=
  View.ld w (Rect.unit (s := S2x1408x1024) ![0, 0, 0] S1x1408x1024.size inb_S2x1408x1024_S1x1408x1024_0_0_0)

/-- The same of the up projection. -/
abbrev wuAt (w : Vec F S2x1408x1024 .bf16) : Vec F S1x1408x1024 .bf16 :=
  View.ld w (Rect.unit (s := S2x1408x1024) ![1, 0, 0] S1x1408x1024.size inb_S2x1408x1024_S1x1408x1024_1_0_0)

/-- The block's product of the two activations, `h` the normalised rows. -/
abbrev fB (h : Vec F S512x1024 .bf16) (w : Vec F S2x1408x1024 .bf16) : Vec F S512x1408 .bf16 :=
  k0_pay1 (k0_pay7 h (wuAt w)) (k0_pay9 h (wgAt w))

/-- Its product with the block's rows of the down projection, added to the carried sum. -/
abbrev accStep (h : Vec F S512x1024 .bf16) (w : Vec F S2x1408x1024 .bf16) (wd : Vec F S1408x1024 .bf16)
    (s : Vec F S512x1024 .f32) : Vec F S512x1024 .f32 :=
  k0_pay2 (k0_pay7 h (wuAt w)) (k0_pay9 h (wgAt w)) s wd

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S2x1408x1024 .bf16) (h3 : a3.IsWhole)
  (a4 : Memref sig .tc .vmem S1408x1024 .bf16) (h4 : a4.IsWhole) (a5 : Memref sig .tc .vmem S512x1024 .f32) (h5 : a5.IsWhole)
  (a6 : Memref sig .tc .vmem S2x512x1408 .bf16) (h6 : a6.IsWhole) (a7 : Memref sig .tc .vmem S512x1408 .bf16) (h7 : a7.IsWhole)
  (a8 : Memref sig .tc .vmem S512x1024 .bf16) (h8 : a8.IsWhole) (a9 : Memref sig .tc .vmem S512x1024 .f32) (h9 : a9.IsWhole)

section A
variable (hc0 : cond0_0 i) (hc1 : ¬cond0_1 i) (x : Vec F S512x1024 .f32) (g : Vec F S1x1024 .f32)
  (w : Vec F S2x1408x1024 .bf16) (wd : Vec F S1408x1024 .bf16)

theorem hbuf_A : sout0_A_0 c i a1 h1 a2 h2 a3 h3 a4 h4 a5 h5 a6 h6 a7 h7 a8 h8 a9 h9 hc0 hc1 x g w wd = (k0_pay4 x g) := by
  unfold sout0_A_0
  rw [View.read_writes_eq_canon _ _ _ (scover0_A_0 c i a1 h1 a2 h2 a3 h3 a4 h4 a5 h5 a6 h6 a7 h7 a8 h8 a9 h9 hc0 hc1 x g w wd)]
  unfold kernelRun0_A
  dsimp only
  sl_unfold_words
  rw [View.canon_unit_zero hz]
  try simp only [View.readCov_unit_zero (S := S512x1024) _ hz]
  simp only [View.readAt_eq_ld, h1.read_unread, h2.read_unread, h3.read_unread, h4.read_unread, h8.read_unread,
    h9.read_unread, View.ld_unit_zero (S := S512x1024) hz, View.ld_unit_zero (S := S1x1024) hz,
    View.ld_unit_zero (S := S1408x1024) hz, View.ld_unit_zero (S := S512x1408) hz]
  try rfl

theorem acc_A : sout0_A_1 c i a1 h1 a2 h2 a3 h3 a4 h4 a5 h5 a6 h6 a7 h7 a8 h8 a9 h9 hc0 hc1 x g w wd = accStep (k0_pay4 x g) w wd (k0_pay5 x) := by
  unfold sout0_A_1
  rw [View.read_writes_eq_canon _ _ _ (scover0_A_1 c i a1 h1 a2 h2 a3 h3 a4 h4 a5 h5 a6 h6 a7 h7 a8 h8 a9 h9 hc0 hc1 x g w wd)]
  unfold kernelRun0_A
  dsimp only
  sl_unfold_words
  rw [View.canon_cons_unit_zero (S := S512x1024) hz]
  try simp only [View.readCov_unit_zero (S := S512x1024) _ hz]
  simp only [View.readAt_eq_ld, h1.read_unread, h2.read_unread, h3.read_unread, h4.read_unread, h8.read_unread,
    h9.read_unread, View.ld_unit_zero (S := S512x1024) hz, View.ld_unit_zero (S := S1x1024) hz,
    View.ld_unit_zero (S := S1408x1024) hz, View.ld_unit_zero (S := S512x1408) hz]
  try rfl

theorem f_A : out0_A_6 c i a1 h1 a2 h2 a3 h3 a4 h4 a5 h5 a6 h6 a7 h7 a8 h8 a9 h9 hc0 hc1 x g w wd = fB (k0_pay4 x g) w := by
  unfold out0_A_6
  rw [View.read_writes_eq_canon _ _ _ (cover0_A_6 c i a1 h1 a2 h2 a3 h3 a4 h4 a5 h5 a6 h6 a7 h7 a8 h8 a9 h9 hc0 hc1 x g w wd)]
  unfold kernelRun0_A
  dsimp only
  sl_unfold_words
  rw [View.canon_unit_zero hz]
  try simp only [View.readCov_unit_zero (S := S512x1024) _ hz]
  simp only [View.readAt_eq_ld, h1.read_unread, h2.read_unread, h3.read_unread, h4.read_unread, h8.read_unread,
    h9.read_unread, View.ld_unit_zero (S := S512x1024) hz, View.ld_unit_zero (S := S1x1024) hz,
    View.ld_unit_zero (S := S1408x1024) hz, View.ld_unit_zero (S := S512x1408) hz]
  try rfl

theorem fac0_A (p : Fin 512) (q : Fin 1408) : out0_A_5 c i a1 h1 a2 h2 a3 h3 a4 h4 a5 h5 a6 h6 a7 h7 a8 h8 a9 h9 hc0 hc1 x g w wd (ix3 0 p q)
    = k0_pay10 (k0_pay4 x g) (wgAt w) (ix3 0 p q) := by
  unfold out0_A_5 kernelRun0_A
  dsimp only
  sl_unfold_words
  refine Eq.trans (View.read_writes_cons_unit_of_not_mem _ _ _ _ _ _ rfl 0 (Or.inl Nat.zero_lt_one)) ?_
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · try simp only [View.readCov_unit_zero (S := S512x1024) _ hz]
    simp only [View.readAt_eq_ld, h1.read_unread, h2.read_unread, h3.read_unread, h4.read_unread, h8.read_unread,
      h9.read_unread, View.ld_unit_zero (S := S512x1024) hz, View.ld_unit_zero (S := S1x1024) hz,
      View.ld_unit_zero (S := S1408x1024) hz, View.ld_unit_zero (S := S512x1408) hz]

theorem fac1_A (p : Fin 512) (q : Fin 1408) : out0_A_5 c i a1 h1 a2 h2 a3 h3 a4 h4 a5 h5 a6 h6 a7 h7 a8 h8 a9 h9 hc0 hc1 x g w wd (ix3 1 p q)
    = k0_pay11 (k0_pay4 x g) (wgAt w) (wuAt w) (ix3 0 p q) := by
  unfold out0_A_5 kernelRun0_A
  dsimp only
  sl_unfold_words
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · try simp only [View.readCov_unit_zero (S := S512x1024) _ hz]
    simp only [View.readAt_eq_ld, h1.read_unread, h2.read_unread, h3.read_unread, h4.read_unread, h8.read_unread,
      h9.read_unread, View.ld_unit_zero (S := S512x1024) hz, View.ld_unit_zero (S := S1x1024) hz,
      View.ld_unit_zero (S := S1408x1024) hz, View.ld_unit_zero (S := S512x1408) hz]

end A

section B
variable (hc0 : ¬cond0_0 i) (hc1 : cond0_1 i) (x : Vec F S512x1024 .f32) (g : Vec F S1x1024 .f32)
  (w : Vec F S2x1408x1024 .bf16) (wd : Vec F S1408x1024 .bf16) (h : Vec F S512x1024 .bf16) (s : Vec F S512x1024 .f32)

theorem acc_B : sout0_B_1 c i a1 h1 a2 h2 a3 h3 a4 h4 a5 h5 a6 h6 a7 h7 a8 h8 a9 h9 hc0 hc1 x g w wd h s = accStep h w wd s := by
  unfold sout0_B_1
  rw [View.read_writes_eq_canon _ _ _ (scover0_B_1 c i a1 h1 a2 h2 a3 h3 a4 h4 a5 h5 a6 h6 a7 h7 a8 h8 a9 h9 hc0 hc1 x g w wd h s)]
  unfold kernelRun0_B
  dsimp only
  sl_unfold_words
  rw [View.canon_unit_zero hz]
  try simp only [View.readCov_unit_zero (S := S512x1024) _ hz]
  simp only [View.readAt_eq_ld, h1.read_unread, h2.read_unread, h3.read_unread, h4.read_unread, h8.read_unread,
    h9.read_unread, View.ld_unit_zero (S := S512x1024) hz, View.ld_unit_zero (S := S1x1024) hz,
    View.ld_unit_zero (S := S1408x1024) hz, View.ld_unit_zero (S := S512x1408) hz]
  try rfl

theorem x2_B : out0_B_4 c i a1 h1 a2 h2 a3 h3 a4 h4 a5 h5 a6 h6 a7 h7 a8 h8 a9 h9 hc0 hc1 x g w wd h s = accStep h w wd s := by
  unfold out0_B_4
  rw [View.read_writes_eq_canon _ _ _ (cover0_B_4 c i a1 h1 a2 h2 a3 h3 a4 h4 a5 h5 a6 h6 a7 h7 a8 h8 a9 h9 hc0 hc1 x g w wd h s)]
  unfold kernelRun0_B
  dsimp only
  sl_unfold_words
  rw [View.canon_unit_zero hz]
  try simp only [View.readCov_unit_zero (S := S512x1024) _ hz]
  simp only [View.readAt_eq_ld, h1.read_unread, h2.read_unread, h3.read_unread, h4.read_unread, h8.read_unread,
    h9.read_unread, View.ld_unit_zero (S := S512x1024) hz, View.ld_unit_zero (S := S1x1024) hz,
    View.ld_unit_zero (S := S1408x1024) hz, View.ld_unit_zero (S := S512x1408) hz]
  try rfl

theorem f_B : out0_B_6 c i a1 h1 a2 h2 a3 h3 a4 h4 a5 h5 a6 h6 a7 h7 a8 h8 a9 h9 hc0 hc1 x g w wd h s = fB h w := by
  unfold out0_B_6
  rw [View.read_writes_eq_canon _ _ _ (cover0_B_6 c i a1 h1 a2 h2 a3 h3 a4 h4 a5 h5 a6 h6 a7 h7 a8 h8 a9 h9 hc0 hc1 x g w wd h s)]
  unfold kernelRun0_B
  dsimp only
  sl_unfold_words
  rw [View.canon_unit_zero hz]
  try simp only [View.readCov_unit_zero (S := S512x1024) _ hz]
  simp only [View.readAt_eq_ld, h1.read_unread, h2.read_unread, h3.read_unread, h4.read_unread, h8.read_unread,
    h9.read_unread, View.ld_unit_zero (S := S512x1024) hz, View.ld_unit_zero (S := S1x1024) hz,
    View.ld_unit_zero (S := S1408x1024) hz, View.ld_unit_zero (S := S512x1408) hz]
  try rfl

theorem fac0_B (p : Fin 512) (q : Fin 1408) : out0_B_5 c i a1 h1 a2 h2 a3 h3 a4 h4 a5 h5 a6 h6 a7 h7 a8 h8 a9 h9 hc0 hc1 x g w wd h s (ix3 0 p q)
    = k0_pay10 h (wgAt w) (ix3 0 p q) := by
  unfold out0_B_5 kernelRun0_B
  dsimp only
  sl_unfold_words
  refine Eq.trans (View.read_writes_cons_unit_of_not_mem _ _ _ _ _ _ rfl 0 (Or.inl Nat.zero_lt_one)) ?_
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · try simp only [View.readCov_unit_zero (S := S512x1024) _ hz]
    simp only [View.readAt_eq_ld, h1.read_unread, h2.read_unread, h3.read_unread, h4.read_unread, h8.read_unread,
      h9.read_unread, View.ld_unit_zero (S := S512x1024) hz, View.ld_unit_zero (S := S1x1024) hz,
      View.ld_unit_zero (S := S1408x1024) hz, View.ld_unit_zero (S := S512x1408) hz]

theorem fac1_B (p : Fin 512) (q : Fin 1408) : out0_B_5 c i a1 h1 a2 h2 a3 h3 a4 h4 a5 h5 a6 h6 a7 h7 a8 h8 a9 h9 hc0 hc1 x g w wd h s (ix3 1 p q)
    = k0_pay11 h (wgAt w) (wuAt w) (ix3 0 p q) := by
  unfold out0_B_5 kernelRun0_B
  dsimp only
  sl_unfold_words
  refine Eq.trans (View.read_writes_cons_unit_of_mem _ _ _ _ _ _ (ix3 0 p q) rfl ?_) ?_
  · intro a; match a with | ⟨0, _⟩ => rfl | ⟨1, _⟩ => exact (Nat.zero_add _).symm | ⟨2, _⟩ => exact (Nat.zero_add _).symm
  · try simp only [View.readCov_unit_zero (S := S512x1024) _ hz]
    simp only [View.readAt_eq_ld, h1.read_unread, h2.read_unread, h3.read_unread, h4.read_unread, h8.read_unread,
      h9.read_unread, View.ld_unit_zero (S := S512x1024) hz, View.ld_unit_zero (S := S1x1024) hz,
      View.ld_unit_zero (S := S1408x1024) hz, View.ld_unit_zero (S := S512x1408) hz]

end B

end Cert.Proof.Fwd

end
-- ==== Proof.Fwd.Kernel.lean ====
/- Hand-written: the feed-forward's three result arrays, on any arguments, by induction over its sixteen points: eight blocks
   of 512 rows, each in two halves of the hidden units. Rows are numbered through both sequences. -/
module

public import proofs.«01_k».proof.Proof.Fwd.Body
public import proofs.«01_k».proof.Proof.Head.Kernel

@[expose] public section

set_option maxRecDepth 16384

noncomputable section

namespace Cert.Proof.Fwd

open Cert.FwdKernelIdeal Cert.FwdKernelIdeal.Gen Cert.FwdKernelIdeal.Value Cert.Proof.Reals
open Cert.Proof.Head (rowOf flat)
open Idealize.ShloMosaic Idealize.ShloMosaic.TcCoe Idealize.SL.Sem

/-! ## The results over the extended reals -/

/-- What one row of 1024 numbers is scaled by. -/
def rsE (v : Fin 1024 → EReal) : EReal :=
  Ideal.rsqrt (Ideal.div (∑ k, v k * v k) ((1024 : ℝ) : EReal) + ((eps : ℝ) : EReal))

/-- The sigmoid, by the hyperbolic tangent. -/
def sgE (z : EReal) : EReal := ((1 / 2 : ℝ) : EReal) * Ideal.tanh (((1 / 2 : ℝ) : EReal) * z) + ((1 / 2 : ℝ) : EReal)

/-- The derivative of `z` times its sigmoid. -/
def dsE (z : EReal) : EReal := sgE z * (((1 : ℝ) : EReal) + z * (((1 : ℝ) : EReal) - sgE z))

section Results

variable (x : Vec Ideal S2x2048x1024 .f32) (g : Vec Ideal S1024 .f32) (w : Vec Ideal S1024x5632 .f32)
  (wd : Vec Ideal S2816x1024 .f32)

/-- Row `p` of the input. -/
def rowE (p : ℕ) (k : Fin 1024) : EReal := x (rowOf p k)

/-- Entry `k` of the normalised row `p`, times the gain. -/
def hnE (p : ℕ) (k : Fin 1024) : EReal := rowE x p k * rsE (rowE x p) * g (ix1 k)

/-- The gate activation. -/
def gzE (p f : ℕ) : EReal := ∑ k, hnE x g p k * w (ix2 k (Fin.ofNat 5632 f))

/-- The up activation. -/
def uzE (p f : ℕ) : EReal := ∑ k, hnE x g p k * w (ix2 k (Fin.ofNat 5632 (2816 + f)))

/-- The gated product of the two activations. -/
def fE (p f : ℕ) : EReal := gzE x g w p f * sgE (gzE x g w p f) * uzE x g w p f

/-- The two factors the backward call is handed. -/
def facE (b : Fin 2) (p f : ℕ) : EReal :=
  if b = 0 then gzE x g w p f * sgE (gzE x g w p f) else uzE x g w p f * dsE (gzE x g w p f)

/-- The row with the first `n` hidden units' share of the layer's output added. -/
def accE (n p : ℕ) (k : Fin 1024) : EReal :=
  rowE x p k + ∑ f ∈ Finset.range n, fE x g w p f * wd (ix2 (Fin.ofNat 2816 f) k)

theorem accE_add (n p : ℕ) (k : Fin 1024) : accE x g w wd (1408 * n + 1408) p k = accE x g w wd (1408 * n) p k
    + ∑ q : Fin 1408, fE x g w p (1408 * n + q.val) * wd (ix2 (Fin.ofNat 2816 (1408 * n + q.val)) k) := by
  unfold accE
  rw [Finset.sum_range_add, Finset.sum_range (n := 1408), add_assoc]

end Results

/-! ## One block -/

section Block

variable (x s : Vec Ideal S512x1024 .f32) (h : Vec Ideal S512x1024 .bf16) (g : Vec Ideal S1x1024 .f32)
  (w : Vec Ideal S2x1408x1024 .bf16) (wd : Vec Ideal S1408x1024 .bf16)
  (xr sr hr : Fin 512 → Fin 1024 → EReal) (gr : Fin 1024 → EReal) (wgr wur wdr : Fin 1408 → Fin 1024 → EReal)
  (hx : ∀ p k, x (ix2 p k) = xr p k) (hs : ∀ p k, s (ix2 p k) = sr p k) (hh : ∀ p k, h (ix2 p k) = hr p k)
  (hg : ∀ k, g (ix2 0 k) = gr k) (hwg : ∀ q k, wgAt w (ix3 0 q k) = wgr q k) (hwu : ∀ q k, wuAt w (ix3 0 q k) = wur q k)
  (hwd : ∀ q k, wd (ix2 q k) = wdr q k)

include hx hg in
theorem h_block (p : Fin 512) (k : Fin 1024) : k0_pay4 x g (ix2 p k) = xr p k * rsE (xr p) * gr k := by
  pointwise [k0_pay4, k0_pay3]
  simp only [hx, hg, w1024, weps]
  rfl

theorem t_block (p : Fin 512) (k : Fin 1024) : k0_pay5 x (ix2 p k) = x (ix2 p k) := by
  pointwise [k0_pay5, k0_pay3]

include hh hwg

theorem fac0_block (p : Fin 512) (q : Fin 1408) : k0_pay10 h (wgAt w) (ix3 0 p q)
    = (∑ k, hr p k * wgr q k) * sgE (∑ k, hr p k * wgr q k) := by
  generalize wgAt w = w0 at *
  pointwise [k0_pay10, k0_pay9, k0_pay8, k0_pay6]
  simp only [hh, hwg, whalf]
  rfl

include hwu

theorem fac1_block (p : Fin 512) (q : Fin 1408) : k0_pay11 h (wgAt w) (wuAt w) (ix3 0 p q)
    = (∑ k, hr p k * wur q k) * dsE (∑ k, hr p k * wgr q k) := by
  generalize wgAt w = w0 at *
  generalize wuAt w = w1 at *
  pointwise [k0_pay11, k0_pay8, k0_pay7, k0_pay6]
  simp only [hh, hwg, hwu, whalf, wone]
  rfl

theorem f_block (p : Fin 512) (q : Fin 1408) : fB h w (ix2 p q)
    = (∑ k, hr p k * wgr q k) * sgE (∑ k, hr p k * wgr q k) * (∑ k, hr p k * wur q k) := by
  unfold fB
  generalize wgAt w = w0 at *
  generalize wuAt w = w1 at *
  pointwise [k0_pay1, k0_pay9, k0_pay8, k0_pay7, k0_pay6]
  simp only [hh, hwg, hwu, whalf]
  rfl

include hs hwd in
theorem acc_block (p : Fin 512) (k : Fin 1024) : accStep h w wd s (ix2 p k)
    = sr p k + ∑ q, (∑ k, hr p k * wgr q k) * sgE (∑ k, hr p k * wgr q k) * (∑ k, hr p k * wur q k) * wdr q k := by
  have e := f_block h w hr wgr wur hh hwg hwu
  unfold accStep
  unfold fB at e
  generalize k0_pay7 h (wuAt w) = y1 at *
  generalize k0_pay9 h (wgAt w) = y0 at *
  unfold k0_pay2
  generalize k0_pay1 y1 y0 = y at *
  pointwise []
  simp only [e, hs, hwd]

end Block

/-! ## The host arrays and the blocks the points read -/

/-- The two halves of the transposed gate-and-up projection. -/
def wT (w : FVec Ideal S1024x5632 .f32) : FVec Ideal S2x2816x1024 .bf16 :=
  shapeCast S2x2816x1024 (truncf .bf16 (transpose S5632x1024 [1, 0] w transposes_S1024x5632_S5632x1024_1_0) bitsLt_bf16_f32)
    shapeCasts_S5632x1024_S2x2816x1024

/-- The down projection. -/
def wdV (w : FVec Ideal S2816x1024 .f32) : FVec Ideal S2816x1024 .bf16 := truncf (F := Ideal) .bf16 w bitsLt_bf16_f32

theorem wT0 (w : FVec Ideal S1024x5632 .f32) (f : Fin 2816) (k : Fin 1024) :
    wT w (ix3 0 f k) = w (ix2 k (Fin.ofNat 5632 f.val)) := by
  pointwise [wT]
  exact congrArg (fun i => w (ix2 k i)) (Fin.ext (Nat.mod_eq_of_lt (by have := f.isLt; omega)).symm)

theorem wT1 (w : FVec Ideal S1024x5632 .f32) (f : Fin 2816) (k : Fin 1024) :
    wT w (ix3 1 f k) = w (ix2 k (Fin.ofNat 5632 (2816 + f.val))) := by
  pointwise [wT]
  exact congrArg (fun i => w (ix2 k i)) (Fin.ext (Nat.mod_eq_of_lt (by have := f.isLt; omega)).symm)

theorem idx0 : ∀ t : Fin cfg0.N, win0_0.index t 0 = t.val / 2 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 2 ∧ win0_2.index t 2 = 0 := by
  decide +kernel
theorem idx3 : ∀ t : Fin cfg0.N, win0_3.index t 0 = t.val % 2 ∧ win0_3.index t 1 = 0 := by decide +kernel

theorem bound (t : Fin cfg0.N) (p : Fin 512) : 512 * (t.val / 2) + p.val < 4096 := by
  have hN := lt_of_lt_of_eq t.isLt (show cfg0.N = 16 from N_0)
  have := p.isLt; omega

theorem hbound (t : Fin cfg0.N) (q : Fin 1408) : 1408 * (t.val % 2) + q.val < 2816 := by
  have := q.isLt; omega

variable (m : (ℓ : Loc nD τ sig) → Buf (Elt Ideal) ℓ) (c : Dev nD)

/-- The four arguments. -/
abbrev aX : Vec Ideal S2x2048x1024 .f32 := m ((c : Thread nD τ).loc main_arg0)
abbrev aG : Vec Ideal S1024 .f32 := m ((c : Thread nD τ).loc main_arg1)
abbrev aW : Vec Ideal S1024x5632 .f32 := m ((c : Thread nD τ).loc main_arg2)
abbrev aD : Vec Ideal S2816x1024 .f32 := m ((c : Thread nD τ).loc main_arg3)

theorem V2 : V m c main_v2 = wT (aW m c) := by unfold V hostOps0; after_results_simp <;> rfl
theorem V3 : V m c main_v3 = shapeCast S4096x1024 (aX m c) shapeCasts_S2x2048x1024_S4096x1024 := by
  unfold V hostOps0; after_results_simp <;> rfl
theorem V4 : V m c main_v4 = broadcastInDim S1x1024 ![1] bcast_S1024_S1x1024_1 (aG m c) := by
  unfold V hostOps0; after_results_simp <;> rfl
theorem V5 : V m c main_v5 = wdV (aD m c) := by unfold V hostOps0; after_results_simp <;> rfl

theorem b0 (t : Fin cfg0.N) (p : Fin 512) (j : Fin 1024) : (iblk m c 0 t : Vec Ideal S512x1024 .f32) (ix2 p j)
    = rowE (aX m c) (512 * (t.val / 2) + p.val) j := by
  have e : (iblk m c 0 t : Vec Ideal S512x1024 .f32) (ix2 p j)
      = (V m c main_v3 : Vec Ideal S4096x1024 .f32) (ix2 ⟨512 * (t.val / 2) + p.val, bound t p⟩ j) := by
    unfold iblk
    rw [View.read_apply]
    refine congrArg (V m c main_v3 : Vec Ideal S4096x1024 .f32) (funext fun a => Fin.ext ?_)
    match a with
    | ⟨0, _⟩ => show win0_0.index t 0 * 512 + 1 * p.val = 512 * (t.val / 2) + p.val; rw [(idx0 t).1]; omega
    | ⟨1, _⟩ => show win0_0.index t 1 * 1024 + 1 * j.val = j.val; rw [(idx0 t).2]; omega
  rw [e, V3]
  exact flat (aX m c) _ j

theorem b1 (t : Fin cfg0.N) (j : Fin 1024) : (iblk m c 1 t : Vec Ideal S1x1024 .f32) (ix2 0 j) = aG m c (ix1 j) := by
  have e : (iblk m c 1 t : Vec Ideal S1x1024 .f32) (ix2 0 j) = (V m c main_v4 : Vec Ideal S1x1024 .f32) (ix2 0 j) := by
    unfold iblk
    rw [View.read_apply]
    refine congrArg (V m c main_v4 : Vec Ideal S1x1024 .f32) (funext fun a => Fin.ext ?_)
    match a with
    | ⟨0, _⟩ => show win0_1.index t 0 * 1 + 1 * 0 = 0; rw [(idx1 t).1]
    | ⟨1, _⟩ => show win0_1.index t 1 * 1024 + 1 * j.val = j.val; rw [(idx1 t).2]; omega
  rw [e, V4]
  have e (y : Vec Ideal S1024 .f32) : broadcastInDim S1x1024 ![1] bcast_S1024_S1x1024_1 y (ix2 0 j) = y (ix1 j) := by pointwise []
  exact e _

theorem b2g (t : Fin cfg0.N) (q : Fin 1408) (k : Fin 1024) : wgAt (iblk m c 2 t : Vec Ideal S2x1408x1024 .bf16) (ix3 0 q k)
    = aW m c (ix2 k (Fin.ofNat 5632 (1408 * (t.val % 2) + q.val))) := by
  have e : wgAt (iblk m c 2 t : Vec Ideal S2x1408x1024 .bf16) (ix3 0 q k)
      = (V m c main_v2 : Vec Ideal S2x2816x1024 .bf16) (ix3 0 ⟨1408 * (t.val % 2) + q.val, hbound t q⟩ k) := by
    unfold iblk
    show (View.read _ _ _ : Vec Ideal S2x1408x1024 .bf16) _ = _
    rw [View.read_apply]
    refine congrArg (V m c main_v2 : Vec Ideal S2x2816x1024 .bf16) (funext fun a => Fin.ext ?_)
    match a with
    | ⟨0, _⟩ => show win0_2.index t 0 * 2 + 1 * (0 + 1 * 0) = 0; rw [(idx2 t).1]
    | ⟨1, _⟩ => show win0_2.index t 1 * 1408 + 1 * (0 + 1 * q.val) = 1408 * (t.val % 2) + q.val; rw [(idx2 t).2.1]; omega
    | ⟨2, _⟩ => show win0_2.index t 2 * 1024 + 1 * (0 + 1 * k.val) = k.val; rw [(idx2 t).2.2]; omega
  rw [e, V2]
  exact wT0 _ _ _

theorem b2u (t : Fin cfg0.N) (q : Fin 1408) (k : Fin 1024) : wuAt (iblk m c 2 t : Vec Ideal S2x1408x1024 .bf16) (ix3 0 q k)
    = aW m c (ix2 k (Fin.ofNat 5632 (2816 + (1408 * (t.val % 2) + q.val)))) := by
  have e : wuAt (iblk m c 2 t : Vec Ideal S2x1408x1024 .bf16) (ix3 0 q k)
      = (V m c main_v2 : Vec Ideal S2x2816x1024 .bf16) (ix3 1 ⟨1408 * (t.val % 2) + q.val, hbound t q⟩ k) := by
    unfold iblk
    show (View.read _ _ _ : Vec Ideal S2x1408x1024 .bf16) _ = _
    rw [View.read_apply]
    refine congrArg (V m c main_v2 : Vec Ideal S2x2816x1024 .bf16) (funext fun a => Fin.ext ?_)
    match a with
    | ⟨0, _⟩ => show win0_2.index t 0 * 2 + 1 * (1 + 1 * 0) = 1; rw [(idx2 t).1]
    | ⟨1, _⟩ => show win0_2.index t 1 * 1408 + 1 * (0 + 1 * q.val) = 1408 * (t.val % 2) + q.val; rw [(idx2 t).2.1]; omega
    | ⟨2, _⟩ => show win0_2.index t 2 * 1024 + 1 * (0 + 1 * k.val) = k.val; rw [(idx2 t).2.2]; omega
  rw [e, V2]
  exact wT1 _ _ _

theorem b3 (t : Fin cfg0.N) (q : Fin 1408) (k : Fin 1024) : (iblk m c 3 t : Vec Ideal S1408x1024 .bf16) (ix2 q k)
    = aD m c (ix2 (Fin.ofNat 2816 (1408 * (t.val % 2) + q.val)) k) := by
  have e : (iblk m c 3 t : Vec Ideal S1408x1024 .bf16) (ix2 q k)
      = (V m c main_v5 : Vec Ideal S2816x1024 .bf16) (ix2 ⟨1408 * (t.val % 2) + q.val, hbound t q⟩ k) := by
    unfold iblk
    rw [View.read_apply]
    refine congrArg (V m c main_v5 : Vec Ideal S2816x1024 .bf16) (funext fun a => Fin.ext ?_)
    match a with
    | ⟨0, _⟩ => show win0_3.index t 0 * 1408 + 1 * q.val = 1408 * (t.val % 2) + q.val; rw [(idx3 t).1]; omega
    | ⟨1, _⟩ => show win0_3.index t 1 * 1024 + 1 * k.val = k.val; rw [(idx3 t).2]; omega
  rw [e, V5]
  exact congrArg (fun i => aD m c (ix2 i k)) (Fin.ext (Nat.mod_eq_of_lt (hbound t q)).symm)

/-! ## The carried state -/

/-- A point's normalised rows. -/
theorem h_point (t : Fin cfg0.N) (p : Fin 512) (k : Fin 1024) : k0_pay4 (iblk m c 0 t) (iblk m c 1 t) (ix2 p k)
    = hnE (aX m c) (aG m c) (512 * (t.val / 2) + p.val) k :=
  h_block _ _ _ _ (b0 m c t) (b1 m c t) p k

/-- A block's sum before its first half of the hidden units. -/
theorem t_point (t : Fin cfg0.N) (ht : t.val % 2 = 0) (p : Fin 512) (k : Fin 1024) : k0_pay5 (iblk m c 0 t) (ix2 p k)
    = accE (aX m c) (aG m c) (aW m c) (aD m c) (1408 * (t.val % 2)) (512 * (t.val / 2) + p.val) k := by
  rw [t_block, b0, ht]
  unfold accE
  simp

/-- One point's step of the carried sum: half the hidden units. -/
theorem step (t : Fin cfg0.N) (h : Vec Ideal S512x1024 .bf16) (s : Vec Ideal S512x1024 .f32)
    (hh : ∀ p k, h (ix2 p k) = hnE (aX m c) (aG m c) (512 * (t.val / 2) + p.val) k)
    (hs : ∀ p k, s (ix2 p k) = accE (aX m c) (aG m c) (aW m c) (aD m c) (1408 * (t.val % 2)) (512 * (t.val / 2) + p.val) k)
    (p : Fin 512) (k : Fin 1024) : accStep h (iblk m c 2 t) (iblk m c 3 t) s (ix2 p k)
      = accE (aX m c) (aG m c) (aW m c) (aD m c) (1408 * (t.val % 2) + 1408) (512 * (t.val / 2) + p.val) k := by
  rw [accE_add]
  exact acc_block _ _ _ _ _ _ _ _ _ hs hh (b2g m c t) (b2u m c t) (b3 m c t) p k

/-- The normalised rows and the carried sum after point `n`. -/
theorem carried (n : ℕ) : ∀ hn : n < cfg0.N,
    (∀ p k, (outsAt0 m c n hn).2.2.2.1 (ix2 p k) = hnE (aX m c) (aG m c) (512 * (n / 2) + p.val) k)
    ∧ (∀ p k, (outsAt0 m c n hn).2.2.2.2 (ix2 p k)
      = accE (aX m c) (aG m c) (aW m c) (aD m c) (1408 * (n % 2) + 1408) (512 * (n / 2) + p.val) k) := by
  induction n with
  | zero =>
    intro hn
    rw [outsAt0_A m c ⟨0, hn⟩ (Nat.zero_mod _) (by simp)]
    refine ⟨fun p k => ?_, fun p k => ?_⟩ <;> dsimp only
    · rw [hbuf_A]; exact h_point m c ⟨0, hn⟩ p k
    · rw [acc_A]
      exact step m c ⟨0, hn⟩ _ _ (h_point m c ⟨0, hn⟩) (t_point m c ⟨0, hn⟩ (Nat.zero_mod _)) p k
  | succ n ih =>
    intro hn
    obtain ⟨i0, i1⟩ := ih (Nat.lt_of_succ_lt hn)
    by_cases h2 : (n + 1) % 2 = 1
    · rw [outsAt0_B m c ⟨n + 1, hn⟩ (by show ¬(n + 1) % 2 = 0; omega) h2]
      have e0 : 1408 * (n % 2) + 1408 = 1408 * ((n + 1) % 2) := by omega
      have e1 : n / 2 = (n + 1) / 2 := by omega
      rw [e0] at i1
      rw [e1] at i0 i1
      refine ⟨fun p k => ?_, fun p k => ?_⟩ <;> dsimp only
      · exact i0 p k
      · rw [acc_B]
        exact step m c ⟨n + 1, hn⟩ _ _ i0 i1 p k
    · have h1 : (n + 1) % 2 = 0 := by omega
      rw [outsAt0_A m c ⟨n + 1, hn⟩ h1 h2]
      refine ⟨fun p k => ?_, fun p k => ?_⟩ <;> dsimp only
      · rw [hbuf_A]; exact h_point m c ⟨n + 1, hn⟩ p k
      · rw [acc_A]
        exact step m c ⟨n + 1, hn⟩ _ _ (h_point m c ⟨n + 1, hn⟩) (t_point m c ⟨n + 1, hn⟩ h1) p k

/-- The two saved factors and the gated product a point leaves. -/
theorem fac_state (t : Fin cfg0.N) (p : Fin 512) (q : Fin 1408) :
    (outsAt0 m c t.val t.isLt).2.1 (ix3 0 p q) = facE (aX m c) (aG m c) (aW m c) 0 (512 * (t.val / 2) + p.val) (1408 * (t.val % 2) + q.val)
    ∧ (outsAt0 m c t.val t.isLt).2.1 (ix3 1 p q) = facE (aX m c) (aG m c) (aW m c) 1 (512 * (t.val / 2) + p.val) (1408 * (t.val % 2) + q.val)
    ∧ (outsAt0 m c t.val t.isLt).2.2.1 (ix2 p q) = fE (aX m c) (aG m c) (aW m c) (512 * (t.val / 2) + p.val) (1408 * (t.val % 2) + q.val) := by
  have key (h : Vec Ideal S512x1024 .bf16) (hh : ∀ p k, h (ix2 p k) = hnE (aX m c) (aG m c) (512 * (t.val / 2) + p.val) k) :
      k0_pay10 h (wgAt (iblk m c 2 t)) (ix3 0 p q)
        = facE (aX m c) (aG m c) (aW m c) 0 (512 * (t.val / 2) + p.val) (1408 * (t.val % 2) + q.val)
      ∧ k0_pay11 h (wgAt (iblk m c 2 t)) (wuAt (iblk m c 2 t)) (ix3 0 p q)
        = facE (aX m c) (aG m c) (aW m c) 1 (512 * (t.val / 2) + p.val) (1408 * (t.val % 2) + q.val)
      ∧ fB h (iblk m c 2 t) (ix2 p q)
        = fE (aX m c) (aG m c) (aW m c) (512 * (t.val / 2) + p.val) (1408 * (t.val % 2) + q.val) :=
    ⟨fac0_block _ _ _ _ hh (b2g m c t) p q, fac1_block _ _ _ _ _ hh (b2g m c t) (b2u m c t) p q,
      f_block _ _ _ _ _ hh (b2g m c t) (b2u m c t) p q⟩
  by_cases h0 : t.val % 2 = 0
  · rw [outsAt0_A m c t h0 (by omega)]
    dsimp only
    rw [fac0_A, fac1_A, f_A]
    exact key _ (h_point m c t)
  · have hN := lt_of_lt_of_eq t.isLt (show cfg0.N = 16 from N_0)
    have i := (carried m c (t.val - 1) (by have := t.isLt; omega)).1
    have e1 : (t.val - 1) / 2 = t.val / 2 := by omega
    rw [e1] at i
    rw [outsAt0_B m c t h0 (by omega)]
    dsimp only
    rw [fac0_B, fac1_B, f_B]
    exact key _ i

/-- A block's second half leaves its rows of the layer's output. -/
theorem x2_state (t : Fin cfg0.N) (h2 : t.val % 2 = 1) (p : Fin 512) (k : Fin 1024) :
    (outsAt0 m c t.val t.isLt).1 (ix2 p k)
      = accE (aX m c) (aG m c) (aW m c) (aD m c) 2816 (512 * (t.val / 2) + p.val) k := by
  have s := (carried m c t.val t.isLt).2 p k
  rw [outsAt0_B m c t (by omega) h2] at s ⊢
  dsimp only at s ⊢
  rw [acc_B, h2] at s
  rw [x2_B]
  exact s

/-! ## The three result arrays -/

theorem kernel_x2 (p : Fin 4096) (j : Fin 1024) :
    G4 m c (ix2 p j) = accE (aX m c) (aG m c) (aW m c) (aD m c) 2816 p.val j := by
  have hp : pt4Of (ix2 p j) = 2 * (p.val / 512) + 1 := by
    show 2 * (1 * (p.val / 512 - 0) + 1 * (j.val / 1024 - 0)) + 1 = _
    have := j.isLt; omega
  have hlt : pt4Of (ix2 p j) < cfg0.N := by
    rw [hp]; exact lt_of_lt_of_eq (by have := p.isLt; omega) N_0.symm
  unfold G4
  rw [dif_pos hlt, ← outsAt0_sweep m c (pt4Of (ix2 p j)) hlt]
  have e : loc4Of (ix2 p j) = ix2 (⟨p.val % 512, Nat.mod_lt _ (by decide)⟩ : Fin 512) j := by
    funext a; apply Fin.ext
    match a with
    | ⟨0, _⟩ => rfl
    | ⟨1, _⟩ => exact Nat.mod_eq_of_lt j.isLt
  rw [e]
  refine (x2_state m c ⟨pt4Of (ix2 p j), hlt⟩ (by show pt4Of (ix2 p j) % 2 = 1; omega) _ j).trans ?_
  have e : 512 * (pt4Of (ix2 p j) / 2) + p.val % 512 = p.val := by omega
  dsimp only
  rw [e]

theorem kernel_fac (b : Fin 2) (p : Fin 4096) (f : Fin 2816) :
    G5 m c (ix3 b p f) = facE (aX m c) (aG m c) (aW m c) b p.val f.val := by
  have hp : pt5Of (ix3 b p f) = 2 * (p.val / 512) + f.val / 1408 := by
    show 16 * (b.val / 2 - 0) + 2 * (p.val / 512 - 0) + 1 * (f.val / 1408 - 0) = _
    have := b.isLt; omega
  have hlt : pt5Of (ix3 b p f) < cfg0.N := by
    rw [hp]; exact lt_of_lt_of_eq (by have := p.isLt; have := f.isLt; omega) N_0.symm
  unfold G5
  rw [dif_pos hlt, ← outsAt0_sweep m c (pt5Of (ix3 b p f)) hlt]
  have e : loc5Of (ix3 b p f) = ix3 b (⟨p.val % 512, Nat.mod_lt _ (by decide)⟩ : Fin 512)
      (⟨f.val % 1408, Nat.mod_lt _ (by decide)⟩ : Fin 1408) := by
    funext a; apply Fin.ext
    match a with
    | ⟨0, _⟩ => exact Nat.mod_eq_of_lt b.isLt
    | ⟨1, _⟩ => rfl
    | ⟨2, _⟩ => rfl
  rw [e]
  have s := fac_state m c ⟨pt5Of (ix3 b p f), hlt⟩ ⟨p.val % 512, Nat.mod_lt _ (by decide)⟩
    ⟨f.val % 1408, Nat.mod_lt _ (by decide)⟩
  have hf := f.isLt
  have e0 : 512 * (pt5Of (ix3 b p f) / 2) + p.val % 512 = p.val := by omega
  have e1 : 1408 * (pt5Of (ix3 b p f) % 2) + f.val % 1408 = f.val := by omega
  dsimp only at s
  rw [e0, e1] at s
  match b with
  | 0 => exact s.1
  | 1 => exact s.2.1

theorem kernel_f (p : Fin 4096) (f : Fin 2816) : G6 m c (ix2 p f) = fE (aX m c) (aG m c) (aW m c) p.val f.val := by
  have hp : pt6Of (ix2 p f) = 2 * (p.val / 512) + f.val / 1408 := by
    show 2 * (p.val / 512 - 0) + 1 * (f.val / 1408 - 0) = _
    omega
  have hlt : pt6Of (ix2 p f) < cfg0.N := by
    rw [hp]; exact lt_of_lt_of_eq (by have := p.isLt; have := f.isLt; omega) N_0.symm
  unfold G6
  rw [dif_pos hlt, ← outsAt0_sweep m c (pt6Of (ix2 p f)) hlt]
  have e : loc6Of (ix2 p f) = ix2 (⟨p.val % 512, Nat.mod_lt _ (by decide)⟩ : Fin 512)
      (⟨f.val % 1408, Nat.mod_lt _ (by decide)⟩ : Fin 1408) := by
    funext a; apply Fin.ext
    match a with
    | ⟨0, _⟩ => rfl
    | ⟨1, _⟩ => rfl
  rw [e]
  have s := fac_state m c ⟨pt6Of (ix2 p f), hlt⟩ ⟨p.val % 512, Nat.mod_lt _ (by decide)⟩
    ⟨f.val % 1408, Nat.mod_lt _ (by decide)⟩
  have hf := f.isLt
  have e0 : 512 * (pt6Of (ix2 p f) / 2) + p.val % 512 = p.val := by omega
  have e1 : 1408 * (pt6Of (ix2 p f) % 2) + f.val % 1408 = f.val := by omega
  dsimp only at s
  rw [e0, e1] at s
  exact s.2.2

end Cert.Proof.Fwd

end
-- ==== Proof.Fwd.Reference.lean ====
/- Hand-written: the three results of the feed-forward's reference, on any arguments, as the expressions the kernel leaves. -/
module

public import proofs.«01_k».proof.Proof.Fwd.Kernel
public import proofs.«01_k».proof.Proof.Ffn.Reference
public import proofs.«01_k».proof.Proof.Gen.FwdReferenceIdeal.Read

@[expose] public section

set_option maxRecDepth 16384

noncomputable section

namespace Cert.Proof.Fwd

open Cert.FwdReferenceIdeal Cert.FwdReferenceIdeal.Gen Cert.FwdReferenceIdeal.Read Cert.Proof.Reals
open Cert.Proof.Head (rowOf rowOf_seq)
open Idealize.ShloMosaic

/-- The sigmoid of a real. -/
theorem sgE_coe (z : ℝ) : sgE (z : EReal) = ((Cert.Proof.Ffn.sgm z : ℝ) : EReal) := by
  unfold sgE
  rw [← EReal.coe_mul, Ideal.tanh_coe, ← EReal.coe_mul, ← EReal.coe_add]
  rfl

theorem sgE_top : sgE ⊤ = 1 := by
  unfold sgE
  rw [EReal.coe_mul_top_of_pos (by norm_num), Ideal.tanh_top, mul_one, ← EReal.coe_add]
  norm_num

theorem sgE_bot : sgE ⊥ = 0 := by
  unfold sgE
  rw [EReal.coe_mul_bot_of_pos (by norm_num), Ideal.tanh_bot, ← EReal.coe_one, ← EReal.coe_neg, ← EReal.coe_mul, ← EReal.coe_add]
  norm_num

/-- The logistic function is the sigmoid, at the infinities too. -/
theorem logistic_eq (z : EReal) : Ideal.div ((1 : ℝ) : EReal) (((1 : ℝ) : EReal) + Ideal.exp (-z)) = sgE z := by
  induction z with
  | bot =>
    rw [sgE_bot]
    simpa [Ideal.logistic] using Ideal.logistic_bot
  | top =>
    rw [sgE_top]
    simpa [Ideal.logistic] using Ideal.logistic_top
  | coe z =>
    rw [sgE_coe, ← EReal.coe_neg, Ideal.exp_coe, ← EReal.coe_add, div_real _ (Cert.Proof.Ffn.exp_pos' z), Cert.Proof.Ffn.sgm_eq]

/-- The derivative of `z` times its sigmoid by the product rule. -/
theorem dsE_eq (z : EReal) :
    ((1 : ℝ) : EReal) * sgE z + z * ((1 : ℝ) : EReal) * (sgE z * (((1 : ℝ) : EReal) - sgE z)) = dsE z := by
  unfold dsE
  induction z with
  | bot => simp [sgE_bot]
  | top =>
    have e : (1 : EReal) - 1 = 0 := by rw [← EReal.coe_one, ← EReal.coe_sub]; norm_num
    simp [sgE_top, e]
  | coe z =>
    rw [sgE_coe]
    simp only [← EReal.coe_mul, ← EReal.coe_add, ← EReal.coe_sub]
    exact congrArg _ (by ring)

variable (x : FVec Ideal S2x2048x1024 .f32) (g : FVec Ideal S1024 .f32) (w : FVec Ideal S1024x5632 .f32)
  (wd : FVec Ideal S2816x1024 .f32) (b : Fin 2) (s : Fin 2048)

theorem rowE_seq : rowE x (2048 * b.val + s.val) = fun k => x (ix3 b s k) := funext fun k => congrArg x (rowOf_seq b s k)

theorem ref_hn (k : Fin 1024) : val_main_v12 (F := Ideal) x g (ix3 b s k) = hnE x g (2048 * b.val + s.val) k := by
  unfold hnE
  rw [rowE_seq]
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [w1024, weps]
  rfl

theorem ref_z (f : Fin 5632) :
    val_main_v13 (F := Ideal) x g w (ix3 b s f) = ∑ k, hnE x g (2048 * b.val + s.val) k * w (ix2 k f) := by
  have h := ref_hn x g b s
  unfold val_main_v13
  generalize val_main_v12 (F := Ideal) x g = y at *
  pointwise []
  simp only [h]

theorem ref_gz (f : Fin 2816) : val_main_v14 (F := Ideal) x g w (ix3 b s f) = gzE x g w (2048 * b.val + s.val) f.val := by
  refine Eq.trans ?_ (ref_z x g w b s (Fin.ofNat 5632 f.val))
  unfold val_main_v14
  generalize val_main_v13 (F := Ideal) x g w = y
  pointwise []
  exact congrArg (fun i => y (ix3 b s i)) (Fin.ext (Nat.mod_eq_of_lt (by have := f.isLt; omega)).symm)

theorem ref_uz (f : Fin 2816) : val_main_v15 (F := Ideal) x g w (ix3 b s f) = uzE x g w (2048 * b.val + s.val) f.val := by
  refine Eq.trans ?_ (ref_z x g w b s (Fin.ofNat 5632 (2816 + f.val)))
  unfold val_main_v15
  generalize val_main_v13 (F := Ideal) x g w = y
  pointwise []
  exact congrArg (fun i => y (ix3 b s i)) (Fin.ext (Nat.mod_eq_of_lt (by have := f.isLt; omega)).symm)

theorem ref_sg (f : Fin 2816) :
    val_main_v16_2 (F := Ideal) x g w (ix3 b s f) = sgE (gzE x g w (2048 * b.val + s.val) f.val) := by
  have h := ref_gz x g w b s f
  pointwise [val_main_v16_2, val_main_call0_v0, val_main_call0_v1, val_main_call0_v2, val_main_call0_v3, val_main_call0_v4,
    val_main_call0_cst, val_main_call0_cst_0]
  rw [h, ← logistic_eq]
  simp only [EReal.coe_one]

theorem ref_silu (f : Fin 2816) : val_main_v16_0 (F := Ideal) x g w (ix3 b s f)
    = gzE x g w (2048 * b.val + s.val) f.val * sgE (gzE x g w (2048 * b.val + s.val) f.val) := by
  have h := ref_gz x g w b s f
  have hs := ref_sg x g w b s f
  unfold val_main_v16_0
  pointwise []
  rw [h, hs]

theorem ref_dsilu (f : Fin 2816) : val_main_v20 (F := Ideal) x g w (ix3 b s f)
    = uzE x g w (2048 * b.val + s.val) f.val * dsE (gzE x g w (2048 * b.val + s.val) f.val) := by
  have h := ref_gz x g w b s f
  have hu := ref_uz x g w b s f
  have hs := ref_sg x g w b s f
  pointwise [val_main_v20, val_main_v19, val_main_call1_v0, val_main_call1_v1, val_main_call1_v2, val_main_v18, val_main_cst_2,
    val_main_v16_1, val_main_call0_v7, val_main_call0_v6, val_main_call0_cst_1]
  rw [h, hu, hs, ← dsE_eq]
  simp only [EReal.coe_one, one_mul, mul_one]

theorem ref_f (f : Fin 2816) : val_main_v17 (F := Ideal) x g w (ix3 b s f) = fE x g w (2048 * b.val + s.val) f.val := by
  have h := ref_silu x g w b s f
  have hu := ref_uz x g w b s f
  unfold val_main_v17
  pointwise []
  rw [h, hu]
  rfl

theorem ref_y (k : Fin 1024) : val_main_v25 (F := Ideal) x g w wd (ix3 b s k) = accE x g w wd 2816 (2048 * b.val + s.val) k := by
  have h := ref_f x g w b s
  unfold val_main_v25 val_main_v24
  generalize val_main_v17 (F := Ideal) x g w = y at *
  pointwise []
  simp only [h]
  unfold accE
  rw [rowE_seq, Finset.sum_range (n := 2816)]
  refine congrArg _ (Finset.sum_congr rfl fun f _ => ?_)
  exact congrArg (fun i => fE x g w (2048 * b.val + s.val) f.val * wd (ix2 i k)) (Fin.ext (Nat.mod_eq_of_lt f.isLt).symm)

omit b s

theorem ref_x2 (p : Fin 4096) (j : Fin 1024) : val_main_v26 (F := Ideal) x g w wd (ix2 p j) = accE x g w wd 2816 p.val j := by
  have q0 : p.val / 2048 < 2 := by have := p.isLt; omega
  have q1 : p.val % 2048 < 2048 := Nat.mod_lt _ (by decide)
  have e := ref_y x g w wd ⟨p.val / 2048, q0⟩ ⟨p.val % 2048, q1⟩ j
  simp only [Nat.div_add_mod] at e
  refine Eq.trans ?_ e
  unfold val_main_v26
  generalize val_main_v25 (F := Ideal) x g w wd = y
  pointwise []

theorem ref_fb (p : Fin 4096) (f : Fin 2816) : val_main_v30 (F := Ideal) x g w (ix2 p f) = fE x g w p.val f.val := by
  have q0 : p.val / 2048 < 2 := by have := p.isLt; omega
  have q1 : p.val % 2048 < 2048 := Nat.mod_lt _ (by decide)
  have e := ref_f x g w ⟨p.val / 2048, q0⟩ ⟨p.val % 2048, q1⟩ f
  simp only [Nat.div_add_mod] at e
  refine Eq.trans ?_ e
  unfold val_main_v30 val_main_v29
  generalize val_main_v17 (F := Ideal) x g w = y
  pointwise []

theorem ref_fac (b : Fin 2) (p : Fin 4096) (f : Fin 2816) : val_main_v28 (F := Ideal) x g w (ix3 b p f) = facE x g w b p.val f.val := by
  have q0 : p.val / 2048 < 2 := by have := p.isLt; omega
  have q1 : p.val % 2048 < 2048 := Nat.mod_lt _ (by decide)
  have e0 := ref_silu x g w ⟨p.val / 2048, q0⟩ ⟨p.val % 2048, q1⟩ f
  have e1 := ref_dsilu x g w ⟨p.val / 2048, q0⟩ ⟨p.val % 2048, q1⟩ f
  simp only [Nat.div_add_mod] at e0 e1
  unfold val_main_v28 val_main_v27 val_main_v23 val_main_v22 val_main_v21
  generalize val_main_v16_0 (F := Ideal) x g w = y0 at *
  generalize val_main_v20 (F := Ideal) x g w = y1 at *
  match b with
  | ⟨0, _⟩ =>
    refine Eq.trans ?_ e0
    pointwise []
  | ⟨1, _⟩ =>
    refine Eq.trans ?_ e1
    pointwise []

end Cert.Proof.Fwd

end
-- ==== Proof.Fwd.Claim.lean ====
/- Hand-written: the feed-forward's claims, from the generated runs and the value lemmas. -/
module

public import proofs.«01_k».proof.Defs
public import proofs.«01_k».proof.Proof.Gen.FwdKernel
public import proofs.«01_k».proof.Proof.Gen.FwdKernel.Frame
public import proofs.«01_k».proof.Proof.Fwd.Reference

@[expose] public section

set_option maxRecDepth 16384

noncomputable section

namespace Cert.Proof.Fwd

open Idealize.ShloMosaic Idealize.SL.Sem

/-- The reference runs, its arguments unchanged; it has no counter. -/
theorem frame_reference : Cert.quiescent_FwdReferenceIdeal := fun m g _ =>
  (θ_run Cert.FwdReferenceIdeal.defs _ _).mono
    (fun r h => ⟨fun c => (h c).2.2.2, sem_eq_zero_of_no_sems (by decide) r.2⟩)
    (Cert.FwdReferenceIdeal.Value.run (F := Ideal) m g)

theorem value : Cert.algebraic_FwdKernelIdeal_FwdReferenceIdeal := by
  intro m g m' g' _ hargs
  refine ⟨fun c i => accE (aX m c) (aG m c) (aW m c) (aD m c) 2816 (i 0).val (i 1),
    fun c i => facE (aX m c) (aG m c) (aW m c) (i 0) (i 1).val (i 2).val,
    fun c i => fE (aX m c) (aG m c) (aW m c) (i 0).val (i 1).val, ?_, ?_⟩
  · refine (θ_run _ _ _).mono (fun r h c => ?_) (Cert.FwdKernelIdeal.Value.run (F := Ideal) m g)
    obtain ⟨h0, h1, h2, k⟩ := h c
    refine ⟨h0.trans (funext fun i => ?_), h1.trans (funext fun i => ?_), h2.trans (funext fun i => ?_), k⟩
    · rw [eq_ix2 i]; exact kernel_x2 m c _ _
    · rw [eq_ix3 i]; exact kernel_fac m c _ _ _
    · rw [eq_ix2 i]; exact kernel_f m c _ _
  · refine (θ_run _ _ _).mono (fun r h c => ?_) (Cert.FwdReferenceIdeal.Value.run (F := Ideal) m' g')
    obtain ⟨h0, h1, h2, k⟩ := h c
    obtain ⟨a0, a1, a2, a3⟩ := hargs c
    refine ⟨(h0.trans (Cert.FwdReferenceIdeal.Read.val_main_v26_eq _ _ _ _)).trans (funext fun i => ?_),
      (h1.trans (Cert.FwdReferenceIdeal.Read.val_main_v28_eq m' c)).trans (funext fun i => ?_),
      (h2.trans (Cert.FwdReferenceIdeal.Read.val_main_v30_eq _ _ _)).trans (funext fun i => ?_), k⟩
    · rw [eq_ix2 i, a0, a1, a2, a3]; exact ref_x2 _ _ _ _ _ _
    · rw [eq_ix3 i, a0, a1, a2]; exact ref_fac _ _ _ _ _ _
    · rw [eq_ix2 i, a0, a1, a2]; exact ref_fb _ _ _ _ _

end Cert.Proof.Fwd

end
-- ==== Proof.Wgrad.Body.lean ====
/- Hand-written: what one grid point of the weight-gradient product leaves in its output block and in its carried sum, as
   plain functions of the input blocks and of what the point before left. -/
module

public import proofs.«01_k».proof.Proof.Gen.WgradKernelIdeal.Value
public import Idealize.ShloMosaic.Lib.Tactic
public import Idealize.ShloMosaic.Lib.WritesUnit
public import Idealize.ShloMosaic.Lib.Pointwise

@[expose] public section

set_option maxRecDepth 16384

noncomputable section

namespace Cert.Proof.Wgrad

open Cert.WgradKernelIdeal Cert.WgradKernelIdeal.Gen Cert.WgradKernelIdeal.Value
open Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a1 : Memref sig .tc .vmem S1x2048x1408 .bf16) (h1 : a1.IsWhole)
  (a2 : Memref sig .tc .vmem S2048x1024 .bf16) (h2 : a2.IsWhole) (a3 : Memref sig .tc .vmem S1x1408x1024 .bf16) (h3 : a3.IsWhole)
  (a4 : Memref sig .tc .vmem S1408x1024 .f32) (h4 : a4.IsWhole) (x : Vec F S1x2048x1408 .bf16) (y : Vec F S2048x1024 .bf16)

/-- The first half of the rows: the product of the two blocks, added to zeros. -/
theorem acc_A (hc0 : cond0_0 i) (hc1 : ¬cond0_1 i) :
    sout0_A_0 c i a1 h1 a2 h2 a3 h3 a4 h4 hc0 hc1 x y = k0_pay2 k0_pay1 x y := by
  unfold sout0_A_0
  rw [View.read_writes_eq_canon _ _ _ (scover0_A_0 c i a1 h1 a2 h2 a3 h3 a4 h4 hc0 hc1 x y)]
  unfold kernelRun0_A
  dsimp only
  sl_unfold_words
  rw [View.canon_cons_unit_zero (S := S1408x1024) hz]
  try simp only [View.readCov_unit_zero (S := S1408x1024) _ hz]
  simp only [View.readAt_eq_ld, h1.read_unread, h2.read_unread, h4.read_unread, View.ld_unit_zero (S := S1408x1024) hz,
    View.ld_unit_zero (S := S2048x1024) hz, View.ld_unit_zero (S := S1x2048x1408) hz3]
  try rfl

section B
variable (hc0 : ¬cond0_0 i) (hc1 : cond0_1 i) (s : Vec F S1408x1024 .f32)

/-- The second half: the product added to the carried sum. -/
theorem acc_B : sout0_B_0 c i a1 h1 a2 h2 a3 h3 a4 h4 hc0 hc1 x y s = k0_pay2 s x y := by
  unfold sout0_B_0
  rw [View.read_writes_eq_canon _ _ _ (scover0_B_0 c i a1 h1 a2 h2 a3 h3 a4 h4 hc0 hc1 x y s)]
  unfold kernelRun0_B
  dsimp only
  sl_unfold_words
  rw [View.canon_unit_zero hz]
  try simp only [View.readCov_unit_zero (S := S1408x1024) _ hz]
  simp only [View.readAt_eq_ld, h1.read_unread, h2.read_unread, h4.read_unread, View.ld_unit_zero (S := S1408x1024) hz,
    View.ld_unit_zero (S := S2048x1024) hz, View.ld_unit_zero (S := S1x2048x1408) hz3]
  try rfl

/-- The output block is that sum. -/
theorem out_B : out0_B_2 c i a1 h1 a2 h2 a3 h3 a4 h4 hc0 hc1 x y s = k0_pay3 (k0_pay2 s x y) := by
  unfold out0_B_2
  rw [View.read_writes_eq_canon _ _ _ (cover0_B_2 c i a1 h1 a2 h2 a3 h3 a4 h4 hc0 hc1 x y s)]
  unfold kernelRun0_B
  dsimp only
  sl_unfold_words
  rw [View.canon_unit_zero hz3]
  try simp only [View.readCov_unit_zero (S := S1408x1024) _ hz]
  simp only [View.readAt_eq_ld, h1.read_unread, h2.read_unread, h4.read_unread, View.ld_unit_zero (S := S1408x1024) hz,
    View.ld_unit_zero (S := S2048x1024) hz, View.ld_unit_zero (S := S1x2048x1408) hz3]
  try rfl

end B

end Cert.Proof.Wgrad

end
-- ==== Proof.Wgrad.Kernel.lean ====
/- Hand-written: the weight-gradient product's result array, on any arguments, by induction over its eight points: four
   blocks, each summed over two halves of the rows. -/
module

public import proofs.«01_k».proof.Proof.Wgrad.Body

@[expose] public section

set_option maxRecDepth 16384

noncomputable section

namespace Cert.Proof.Wgrad

open Cert.WgradKernelIdeal Cert.WgradKernelIdeal.Gen Cert.WgradKernelIdeal.Value
open Idealize.ShloMosaic Idealize.ShloMosaic.TcCoe Idealize.SL.Sem

/-- Entry (`f`, `k`) of half `b`'s product, over the first `n` rows. -/
def wE (x : Vec Ideal S2x4096x2816 .bf16) (y : Vec Ideal S4096x1024 .bf16) (n b f : ℕ) (k : Fin 1024) : EReal :=
  ∑ r ∈ Finset.range n, x (ix3 (Fin.ofNat 2 b) (Fin.ofNat 4096 r) (Fin.ofNat 2816 f)) * y (ix2 (Fin.ofNat 4096 r) k)

theorem wE_add (x : Vec Ideal S2x4096x2816 .bf16) (y : Vec Ideal S4096x1024 .bf16) (n b f : ℕ) (k : Fin 1024) :
    wE x y (2048 * n + 2048) b f k = wE x y (2048 * n) b f k
      + ∑ r : Fin 2048, x (ix3 (Fin.ofNat 2 b) (Fin.ofNat 4096 (2048 * n + r.val)) (Fin.ofNat 2816 f))
        * y (ix2 (Fin.ofNat 4096 (2048 * n + r.val)) k) := by
  unfold wE
  rw [Finset.sum_range_add, Finset.sum_range (n := 2048)]

/-! ## One block -/

theorem acc_block (x : Vec Ideal S1x2048x1408 .bf16) (y : Vec Ideal S2048x1024 .bf16) (s : Vec Ideal S1408x1024 .f32)
    (xr : Fin 2048 → Fin 1408 → EReal) (yr : Fin 2048 → Fin 1024 → EReal) (sr : Fin 1408 → Fin 1024 → EReal)
    (hx : ∀ r q, x (ix3 0 r q) = xr r q) (hy : ∀ r k, y (ix2 r k) = yr r k) (hs : ∀ q k, s (ix2 q k) = sr q k)
    (q : Fin 1408) (k : Fin 1024) : k0_pay2 s x y (ix2 q k) = sr q k + ∑ r, xr r q * yr r k := by
  pointwise [k0_pay2]
  simp only [hx, hy, hs]

theorem zero_block (q : Fin 1408) (k : Fin 1024) : k0_pay1 (F := Ideal) (ix2 q k) = 0 := by
  pointwise [k0_pay1]

theorem out_block (s : Vec Ideal S1408x1024 .f32) (q : Fin 1408) (k : Fin 1024) : k0_pay3 s (ix3 0 q k) = s (ix2 q k) := by
  pointwise [k0_pay3]

/-! ## The blocks the points read -/

theorem idx0 : ∀ t : Fin cfg0.N, win0_0.index t 0 = t.val / 4 ∧ win0_0.index t 1 = t.val % 2
    ∧ win0_0.index t 2 = t.val / 2 % 2 := by decide +kernel
theorem idx1 : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev aX : Vec Ideal S2x4096x2816 .bf16 := m ((c : Thread nD τ).loc main_arg0)
abbrev aY : Vec Ideal S4096x1024 .bf16 := m ((c : Thread nD τ).loc main_arg1)

theorem b0 (t : Fin cfg0.N) (r : Fin 2048) (q : Fin 1408) : (iblk m c 0 t : Vec Ideal S1x2048x1408 .bf16) (ix3 0 r q)
    = aX m c (ix3 (Fin.ofNat 2 (t.val / 4)) (Fin.ofNat 4096 (2048 * (t.val % 2) + r.val))
      (Fin.ofNat 2816 (1408 * (t.val / 2 % 2) + q.val))) := by
  have hN := lt_of_lt_of_eq t.isLt (show cfg0.N = 8 from N_0)
  have hr := r.isLt
  have hq := q.isLt
  unfold iblk
  rw [View.read_apply]
  refine congrArg (aX m c) (funext fun a => Fin.ext ?_)
  match a with
  | ⟨0, _⟩ => show win0_0.index t 0 * 1 + 1 * 0 = t.val / 4 % 2; rw [(idx0 t).1]; omega
  | ⟨1, _⟩ => show win0_0.index t 1 * 2048 + 1 * r.val = (2048 * (t.val % 2) + r.val) % 4096; rw [(idx0 t).2.1]; omega
  | ⟨2, _⟩ => show win0_0.index t 2 * 1408 + 1 * q.val = (1408 * (t.val / 2 % 2) + q.val) % 2816; rw [(idx0 t).2.2]; omega

theorem b1 (t : Fin cfg0.N) (r : Fin 2048) (k : Fin 1024) : (iblk m c 1 t : Vec Ideal S2048x1024 .bf16) (ix2 r k)
    = aY m c (ix2 (Fin.ofNat 4096 (2048 * (t.val % 2) + r.val)) k) := by
  have hr := r.isLt
  unfold iblk
  rw [View.read_apply]
  refine congrArg (aY m c) (funext fun a => Fin.ext ?_)
  match a with
  | ⟨0, _⟩ => show win0_1.index t 0 * 2048 + 1 * r.val = (2048 * (t.val % 2) + r.val) % 4096; rw [(idx1 t).1]; omega
  | ⟨1, _⟩ => show win0_1.index t 1 * 1024 + 1 * k.val = k.val; rw [(idx1 t).2]; omega

/-! ## The carried sum -/

/-- One point's step: half the rows. -/
theorem step (t : Fin cfg0.N) (s : Vec Ideal S1408x1024 .f32)
    (hs : ∀ q k, s (ix2 q k) = wE (aX m c) (aY m c) (2048 * (t.val % 2)) (t.val / 4) (1408 * (t.val / 2 % 2) + q.val) k)
    (q : Fin 1408) (k : Fin 1024) : k0_pay2 s (iblk m c 0 t) (iblk m c 1 t) (ix2 q k)
      = wE (aX m c) (aY m c) (2048 * (t.val % 2) + 2048) (t.val / 4) (1408 * (t.val / 2 % 2) + q.val) k := by
  rw [wE_add]
  exact acc_block _ _ _ _ _ _ (b0 m c t) (b1 m c t) hs q k

/-- The sum after a block's first half of the rows. -/
theorem first (t : Fin cfg0.N) (ht : t.val % 2 = 0) (q : Fin 1408) (k : Fin 1024) :
    (outsAt0 m c t.val t.isLt).2 (ix2 q k)
      = wE (aX m c) (aY m c) (2048 * (t.val % 2) + 2048) (t.val / 4) (1408 * (t.val / 2 % 2) + q.val) k := by
  rw [outsAt0_A m c t ht (by omega)]
  dsimp only
  rw [acc_A]
  refine step m c t _ (fun q k => ?_) q k
  rw [zero_block, ht]
  exact Finset.sum_range_zero _ |>.symm

/-- The block after its second half. -/
theorem out_state (t : Fin cfg0.N) (ht : t.val % 2 = 1) (q : Fin 1408) (k : Fin 1024) :
    (outsAt0 m c t.val t.isLt).1 (ix3 0 q k)
      = wE (aX m c) (aY m c) 4096 (t.val / 4) (1408 * (t.val / 2 % 2) + q.val) k := by
  have hl : t.val - 1 < cfg0.N := Nat.lt_of_le_of_lt (Nat.sub_le _ _) t.isLt
  have i := first m c ⟨t.val - 1, hl⟩ (by show (t.val - 1) % 2 = 0; omega)
  dsimp only at i
  have e0 : 2048 * ((t.val - 1) % 2) + 2048 = 2048 * (t.val % 2) := by omega
  have e1 : (t.val - 1) / 4 = t.val / 4 := by omega
  have e2 : (t.val - 1) / 2 = t.val / 2 := by omega
  rw [e0, e1, e2] at i
  rw [outsAt0_B m c t (by omega) ht]
  dsimp only
  rw [out_B, out_block, step m c t _ i q k, ht]

/-! ## The result array -/

theorem kernel_w (b : Fin 2) (f : Fin 2816) (k : Fin 1024) :
    G2 m c (ix3 b f k) = wE (aX m c) (aY m c) 4096 b.val f.val k := by
  have hf := f.isLt
  have hb := b.isLt
  have hp : pt2Of (ix3 b f k) = 2 * (2 * b.val + f.val / 1408) + 1 := by
    show 2 * (2 * (b.val / 1 - 0) + 1 * (f.val / 1408 - 0) + 1 * (k.val / 1024 - 0)) + 1 = _
    have := k.isLt; omega
  have hlt : pt2Of (ix3 b f k) < cfg0.N := by
    rw [hp]; exact lt_of_lt_of_eq (by omega) N_0.symm
  unfold G2
  rw [dif_pos hlt, ← outsAt0_sweep m c (pt2Of (ix3 b f k)) hlt]
  have e : loc2Of (ix3 b f k) = ix3 0 (⟨f.val % 1408, Nat.mod_lt _ (by decide)⟩ : Fin 1408) k := by
    funext a; apply Fin.ext
    match a with
    | ⟨0, _⟩ => exact Nat.mod_one _
    | ⟨1, _⟩ => rfl
    | ⟨2, _⟩ => exact Nat.mod_eq_of_lt k.isLt
  rw [e]
  refine (out_state m c ⟨pt2Of (ix3 b f k), hlt⟩ (by show pt2Of (ix3 b f k) % 2 = 1; omega) _ k).trans ?_
  have e0 : pt2Of (ix3 b f k) / 4 = b.val := by omega
  have e1 : 1408 * (pt2Of (ix3 b f k) / 2 % 2) + f.val % 1408 = f.val := by omega
  dsimp only
  rw [e0, e1]

end Cert.Proof.Wgrad

end
-- ==== Proof.Wgrad.Reference.lean ====
/- Hand-written: the weight-gradient product's reference, on any arguments, as the sum the kernel leaves. -/
module

public import proofs.«01_k».proof.Proof.Wgrad.Kernel
public import proofs.«01_k».proof.Proof.Gen.WgradReferenceIdeal.Read

@[expose] public section

set_option maxRecDepth 16384

noncomputable section

namespace Cert.Proof.Wgrad

open Cert.WgradReferenceIdeal Cert.WgradReferenceIdeal.Gen Cert.WgradReferenceIdeal.Read
open Idealize.ShloMosaic

theorem ref_w (x : Vec Ideal S2x4096x2816 .bf16) (y : Vec Ideal S4096x1024 .bf16) (b : Fin 2) (f : Fin 2816) (k : Fin 1024) :
    val_main_v3 (F := Ideal) x y (ix3 b f k) = wE x y 4096 b.val f.val k := by
  have e : val_main_v3 (F := Ideal) x y (ix3 b f k) = val_main_v2 (F := Ideal) x y (ix3 b f k) := rfl
  rw [e, val_main_v2_apply]
  unfold wE
  rw [Finset.sum_range]
  refine Finset.sum_congr rfl fun r _ => ?_
  refine congrArg₂ (fun u v : EReal => u * v) ?_ ?_
  · refine congrArg x (funext fun a => Fin.ext ?_)
    match a with
    | ⟨0, _⟩ => exact (Nat.mod_eq_of_lt b.isLt).symm
    | ⟨1, _⟩ => exact (Nat.mod_eq_of_lt r.isLt).symm
    | ⟨2, _⟩ => exact (Nat.mod_eq_of_lt f.isLt).symm
  · refine congrArg y (funext fun a => Fin.ext ?_)
    match a with
    | ⟨0, _⟩ => exact (Nat.mod_eq_of_lt r.isLt).symm
    | ⟨1, _⟩ => rfl

end Cert.Proof.Wgrad

end
-- ==== Proof.Wgrad.Claim.lean ====
/- Hand-written: the weight-gradient product's claims, from the generated runs and the value lemmas. -/
module

public import proofs.«01_k».proof.Defs
public import proofs.«01_k».proof.Proof.Gen.WgradKernel
public import proofs.«01_k».proof.Proof.Gen.WgradKernel.Frame
public import proofs.«01_k».proof.Proof.Wgrad.Reference

@[expose] public section

set_option maxRecDepth 16384

noncomputable section

namespace Cert.Proof.Wgrad

open Idealize.ShloMosaic Idealize.SL.Sem

/-- The reference runs, its arguments unchanged; it has no counter. -/
theorem frame_reference : Cert.quiescent_WgradReferenceIdeal := fun m g _ =>
  (θ_run Cert.WgradReferenceIdeal.defs _ _).mono
    (fun r h => ⟨fun c => (h c).2, sem_eq_zero_of_no_sems (by decide) r.2⟩)
    (Cert.WgradReferenceIdeal.Value.run (F := Ideal) m g)

theorem value : Cert.algebraic_WgradKernelIdeal_WgradReferenceIdeal := by
  intro m g m' g' _ hargs
  refine ⟨fun c i => wE (aX m c) (aY m c) 4096 (i 0).val (i 1).val (i 2), ?_, ?_⟩
  · refine (θ_run _ _ _).mono (fun r h c => ?_) (Cert.WgradKernelIdeal.Value.run (F := Ideal) m g)
    obtain ⟨h0, k⟩ := h c
    refine ⟨h0.trans (funext fun i => ?_), k⟩
    rw [eq_ix3 i]; exact kernel_w m c _ _ _
  · refine (θ_run _ _ _).mono (fun r h c => ?_) (Cert.WgradReferenceIdeal.Value.run (F := Ideal) m' g')
    obtain ⟨h0, k⟩ := h c
    obtain ⟨a0, a1⟩ := hargs c
    refine ⟨(h0.trans (Cert.WgradReferenceIdeal.Read.val_main_v3_eq _ _)).trans (funext fun i => ?_), k⟩
    rw [eq_ix3 i, a0, a1]; exact ref_w _ _ _ _ _

end Cert.Proof.Wgrad

end
-- ==== Proof.lean ====
module

public import proofs.«01_k».proof.Defs
public import proofs.«01_k».proof.Proof.Gen.HeadKernel
public import proofs.«01_k».proof.Proof.Gen.HeadKernel.Skeleton
public import proofs.«01_k».proof.Proof.Gen.HeadKernel.Launch
public import proofs.«01_k».proof.Proof.Gen.HeadKernel.Points
public import proofs.«01_k».proof.Proof.Gen.HeadKernel.Frame
public import proofs.«01_k».proof.Proof.Gen.HeadKernelIdeal
public import proofs.«01_k».proof.Proof.Gen.HeadKernelIdeal.Skeleton
public import proofs.«01_k».proof.Proof.Gen.HeadKernelIdeal.Launch
public import proofs.«01_k».proof.Proof.Gen.HeadKernelIdeal.Points
public import proofs.«01_k».proof.Proof.Gen.HeadKernelIdeal.Frame
public import proofs.«01_k».proof.Proof.Gen.HeadReferenceIdeal
public import proofs.«01_k».proof.Proof.Gen.Pre_fin
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.Pre_fin_ffn
public import proofs.«01_k».proof.Proof.Gen.HeadKernelIdeal.Value
public import proofs.«01_k».proof.Proof.Gen.HeadReferenceIdeal.Run
public import proofs.«01_k».proof.Proof.Gen.HeadReferenceIdeal.Read
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.MixerKernel
public import proofs.«01_k».proof.Proof.Gen.MixerKernelIdeal
public import proofs.«01_k».proof.Proof.Gen.MixerKernelIdeal.Skeleton
public import proofs.«01_k».proof.Proof.Gen.MixerKernelIdeal.Launch
public import proofs.«01_k».proof.Proof.Gen.MixerKernelIdeal.Points
public import proofs.«01_k».proof.Proof.Gen.MixerKernelIdeal.Frame.Runs
public import proofs.«01_k».proof.Proof.Gen.MixerReferenceIdeal
public import proofs.«01_k».proof.Proof.Gen.Pre_fin_mixer
public import proofs.«01_k».proof.Proof.Gen.MixerReferenceIdeal.Run
public import proofs.«01_k».proof.Proof.Gen.MixerReferenceIdeal.Read
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdKernelIdeal.Value
public import proofs.«01_k».proof.Proof.Gen.FwdReferenceIdeal.Run
public import proofs.«01_k».proof.Proof.Gen.FwdReferenceIdeal.Read
public import proofs.«01_k».proof.Proof.Gen.WgradKernel
public import proofs.«01_k».proof.Proof.Gen.WgradKernel.Skeleton
public import proofs.«01_k».proof.Proof.Gen.WgradKernel.Launch
public import proofs.«01_k».proof.Proof.Gen.WgradKernel.Points
public import proofs.«01_k».proof.Proof.Gen.WgradKernel.Frame
public import proofs.«01_k».proof.Proof.Gen.WgradKernelIdeal
public import proofs.«01_k».proof.Proof.Gen.WgradKernelIdeal.Skeleton
public import proofs.«01_k».proof.Proof.Gen.WgradKernelIdeal.Launch
public import proofs.«01_k».proof.Proof.Gen.WgradKernelIdeal.Points
public import proofs.«01_k».proof.Proof.Gen.WgradKernelIdeal.Frame
public import proofs.«01_k».proof.Proof.Gen.WgradReferenceIdeal
public import proofs.«01_k».proof.Proof.Gen.WgradKernelIdeal.Value
public import proofs.«01_k».proof.Proof.Gen.WgradReferenceIdeal.Run
public import proofs.«01_k».proof.Proof.Gen.WgradReferenceIdeal.Read
public import proofs.«01_k».proof.Proof.Head.Claim
public import proofs.«01_k».proof.Proof.Ffn.Claim
public import proofs.«01_k».proof.Proof.Mixer.Launched
public import proofs.«01_k».proof.Proof.Mixer.Claim
public import proofs.«01_k».proof.Proof.Fwd.Claim
public import proofs.«01_k».proof.Proof.Wgrad.Claim
public import Idealize.ShloMosaic.Adequacy
public import Idealize.ShloMosaic.Init

@[expose] public section

noncomputable section

namespace Cert.Proof

open Idealize.ShloMosaic Idealize.SL.Sem Cert.HeadKernel

theorem claim : Cert.Claim := ⟨Cert.HeadKernel.Gen.facts, Cert.HeadKernelIdeal.Gen.facts, Cert.HeadReferenceIdeal.Gen.facts,
    Cert.FfnKernel.Gen.facts, Cert.FfnKernelIdeal.Gen.facts, Cert.FfnReferenceIdeal.Gen.facts,
    Cert.MixerKernel.Gen.facts, Cert.MixerKernelIdeal.Gen.facts, Cert.MixerReferenceIdeal.Gen.facts,
    Cert.FwdKernel.Gen.facts, Cert.FwdKernelIdeal.Gen.facts, Cert.FwdReferenceIdeal.Gen.facts,
    Cert.WgradKernel.Gen.facts, Cert.WgradKernelIdeal.Gen.facts, Cert.WgradReferenceIdeal.Gen.facts,
    Cert.Pre_fin.Gen.facts, Cert.Pre_fin_ffn.Gen.facts, Cert.Pre_fin_mixer.Gen.facts,
    fun m g _ => Cert.HeadKernel.Gen.frame m g, fun m g _ => Cert.HeadKernelIdeal.Gen.frame m g,
    fun m g _ => Cert.HeadKernelIdeal.Gen.frame m g, Head.frame_reference,
    fun m g _ => Head.frame_reference m g trivial,
    fun m g _ => Cert.FfnKernel.Gen.frame m g, fun m g _ => Cert.FfnKernelIdeal.Gen.frame m g,
    fun m g _ => Cert.FfnKernelIdeal.Gen.frame m g, Ffn.frame_reference,
    fun m g _ => Ffn.frame_reference m g trivial,
    fun m g _ => Mixer.frame_launched m g, fun m g _ => Mixer.frame m g, fun m g _ => Mixer.frame m g, Mixer.frame_reference,
    fun m g _ => Mixer.frame_reference m g trivial,
    fun m g _ => Cert.FwdKernel.Gen.frame m g, fun m g _ => Cert.FwdKernelIdeal.Gen.frame m g, Fwd.frame_reference,
    fun m g _ => Cert.WgradKernel.Gen.frame m g, fun m g _ => Cert.WgradKernelIdeal.Gen.frame m g, Wgrad.frame_reference,
    trivial, Head.value, trivial, Ffn.value, trivial, Mixer.value, trivial, Fwd.value, trivial, Wgrad.value⟩

end Cert.Proof

end
